-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8))
      ∧ r.2.sem = fun _ => 0)

def preserves_Kernel_KernelIdeal : Prop :=
  IdealRules.bf16_pair.PackStatement Cert.KernelIdeal.S64x512
  ∧ IdealRules.bf16_pair.Statement Cert.KernelIdeal.S64x2x128 Cert.KernelIdeal.S64x1x128

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v21)) (v4 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v242) = v0 c
          ∧ r.2.mem ((c.tc : Thread Cert.RefIdeal.nD Cert.RefIdeal.τ).loc Cert.RefIdeal.main_v244) = v1 c
          ∧ r.2.mem ((c.tc : Thread Cert.RefIdeal.nD Cert.RefIdeal.τ).loc Cert.RefIdeal.main_v246) = v2 c
          ∧ r.2.mem ((c.tc : Thread Cert.RefIdeal.nD Cert.RefIdeal.τ).loc Cert.RefIdeal.main_v240) = v3 c
          ∧ r.2.mem ((c.tc : Thread Cert.RefIdeal.nD Cert.RefIdeal.τ).loc Cert.RefIdeal.main_v239) = v4 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8))

def Claim : Prop :=
  ∃ (hKernel : Cert.Kernel.Facts) (hKernelIdeal : Cert.KernelIdeal.Facts) (hRefIdeal : Cert.RefIdeal.Facts),
    quiescent_Kernel (hKernel := hKernel)
    ∧ quiescent_KernelIdeal (hKernelIdeal := hKernelIdeal)
    ∧ quiescent_RefIdeal (hRefIdeal := hRefIdeal)
    ∧ preserves_Kernel_KernelIdeal
    ∧ algebraic_KernelIdeal_RefIdeal (hKernelIdeal := hKernelIdeal) (hRefIdeal := hRefIdeal)
-- ==== Kernel.lean ====
abbrev S3x640x4x256 : Shape := ⟨4, ![3, 640, 4, 256]⟩
abbrev S3x10x4 : Shape := ⟨3, ![3, 10, 4]⟩
abbrev S3x640x4x512 : Shape := ⟨4, ![3, 640, 4, 512]⟩
abbrev S3x640x4 : Shape := ⟨3, ![3, 640, 4]⟩
abbrev S3x640x4x4x128 : Shape := ⟨5, ![3, 640, 4, 4, 128]⟩
abbrev S30720x128 : Shape := ⟨2, ![30720, 128]⟩
abbrev S3x640x4x2x128 : Shape := ⟨5, ![3, 640, 4, 2, 128]⟩
abbrev S3x640x2x4x128 : Shape := ⟨5, ![3, 640, 2, 4, 128]⟩
abbrev S15360x128 : Shape := ⟨2, ![15360, 128]⟩
abbrev S1x640x4x256 : Shape := ⟨4, ![1, 640, 4, 256]⟩
abbrev S10240x128 : Shape := ⟨2, ![10240, 128]⟩
abbrev S5120x128 : Shape := ⟨2, ![5120, 128]⟩
abbrev S1x640x4 : Shape := ⟨3, ![1, 640, 4]⟩
abbrev S640x8x128 : Shape := ⟨3, ![640, 8, 128]⟩
abbrev S512x128 : Shape := ⟨2, ![512, 128]⟩
abbrev S4x640x256 : Shape := ⟨3, ![4, 640, 256]⟩
abbrev S4x640x512 : Shape := ⟨3, ![4, 640, 512]⟩
abbrev S4x640x64 : Shape := ⟨3, ![4, 640, 64]⟩
abbrev S80x128 : Shape := ⟨2, ![80, 128]⟩
abbrev S4x512x256 : Shape := ⟨3, ![4, 512, 256]⟩
abbrev S64x64 : Shape := ⟨2, ![64, 64]⟩
abbrev S1x64x4x128 : Shape := ⟨4, ![1, 64, 4, 128]⟩
abbrev S64x4x128 : Shape := ⟨3, ![64, 4, 128]⟩
abbrev S8x128 : Shape := ⟨2, ![8, 128]⟩
abbrev S64x8x128 : Shape := ⟨3, ![64, 8, 128]⟩
abbrev S1x1x1 : Shape := ⟨3, ![1, 1, 1]⟩
abbrev S1x8x128 : Shape := ⟨3, ![1, 8, 128]⟩
abbrev S64x128 : Shape := ⟨2, ![64, 128]⟩
abbrev S64x256 : Shape := ⟨2, ![64, 256]⟩
abbrev S1024x128 : Shape := ⟨2, ![1024, 128]⟩
abbrev S64x16x128 : Shape := ⟨3, ![64, 16, 128]⟩
abbrev S1x64x4 : Shape := ⟨3, ![1, 64, 4]⟩
abbrev S64x4 : Shape := ⟨2, ![64, 4]⟩
abbrev S1x64x256 : Shape := ⟨3, ![1, 64, 256]⟩
abbrev S64x1x128 : Shape := ⟨3, ![64, 1, 128]⟩
abbrev S64x512 : Shape := ⟨2, ![64, 512]⟩
abbrev S64x1 : Shape := ⟨2, ![64, 1]⟩
abbrev S1x64x512 : Shape := ⟨3, ![1, 64, 512]⟩
abbrev S1x64x64 : Shape := ⟨3, ![1, 64, 64]⟩
abbrev S1x512x256 : Shape := ⟨3, ![1, 512, 256]⟩
abbrev S512x256 : Shape := ⟨2, ![512, 256]⟩
abbrev S1x128 : Shape := ⟨2, ![1, 128]⟩
abbrev S1x256 : Shape := ⟨2, ![1, 256]⟩
abbrev S5120x2x128 : Shape := ⟨3, ![5120, 2, 128]⟩
abbrev S64x2x128 : Shape := ⟨3, ![64, 2, 128]⟩

abbrev nBuf : Space → Nat
  | .hbm => 38
  | .vmem => 36
  | .smem => 3
  | _ => 0

abbrev bufTy : (tb : Table) → Fin (tcTables nBuf tb) → BufTy
  | .hbm, ⟨0, _⟩ => ⟨S3x640x4x256, .fp8e4m3⟩
  | .hbm, ⟨1, _⟩ => ⟨S3x640x4x256, .fp8e4m3⟩
  | .hbm, ⟨2, _⟩ => ⟨S3x10x4, .f32⟩
  | .hbm, ⟨3, _⟩ => ⟨S3x10x4, .f32⟩
  | .hbm, ⟨4, _⟩ => ⟨S3x640x4x512, .fp8e4m3⟩
  | .hbm, ⟨5, _⟩ => ⟨S3x10x4, .f32⟩
  | .hbm, ⟨6, _⟩ => ⟨S3x640x4x512, .fp8e5m2⟩
  | .hbm, ⟨7, _⟩ => ⟨S3x640x4, .f32⟩
  | .hbm, ⟨8, _⟩ => ⟨S3x640x4x256, .f32⟩
  | .hbm, ⟨9, _⟩ => ⟨S3x640x4x4x128, .fp8e4m3⟩
  | .hbm, ⟨10, _⟩ => ⟨S3x640x4x4x128, .fp8e4m3⟩
  | .hbm, ⟨11, _⟩ => ⟨S30720x128, .fp8e4m3⟩
  | .hbm, ⟨12, _⟩ => ⟨S3x640x4x4x128, .fp8e5m2⟩
  | .hbm, ⟨13, _⟩ => ⟨S3x640x4x4x128, .fp8e5m2⟩
  | .hbm, ⟨14, _⟩ => ⟨S30720x128, .fp8e5m2⟩
  | .hbm, ⟨15, _⟩ => ⟨S3x640x4x2x128, .f32⟩
  | .hbm, ⟨16, _⟩ => ⟨S3x640x2x4x128, .f32⟩
  | .hbm, ⟨17, _⟩ => ⟨S15360x128, .f32⟩
  | .hbm, ⟨18, _⟩ => ⟨S15360x128, .bf16⟩
  | .hbm, ⟨19, _⟩ => ⟨S15360x128, .bf16⟩
  | .hbm, ⟨20, _⟩ => ⟨S30720x128, .bf16⟩
  | .hbm, ⟨21, _⟩ => ⟨S15360x128, .f32⟩
  | .hbm, ⟨22, _⟩ => ⟨S15360x128, .f32⟩
  | .hbm, ⟨23, _⟩ => ⟨S3x640x2x4x128, .bf16⟩
  | .hbm, ⟨24, _⟩ => ⟨S3x640x4x2x128, .bf16⟩
  | .hbm, ⟨25, _⟩ => ⟨S3x640x4x256, .bf16⟩
  | .hbm, ⟨26, _⟩ => ⟨S3x640x2x4x128, .bf16⟩
  | .hbm, ⟨27, _⟩ => ⟨S3x640x4x2x128, .bf16⟩
  | .hbm, ⟨28, _⟩ => ⟨S3x640x4x256, .bf16⟩
  | .hbm, ⟨29, _⟩ => ⟨S3x640x4x4x128, .bf16⟩
  | .hbm, ⟨30, _⟩ => ⟨S3x640x4x4x128, .bf16⟩
  | .hbm, ⟨31, _⟩ => ⟨S3x640x4x512, .bf16⟩
  | .hbm, ⟨32, _⟩ => ⟨S3x640x2x4x128, .f32⟩
  | .hbm, ⟨33, _⟩ => ⟨S3x640x4x2x128, .f32⟩
  | .hbm, ⟨34, _⟩ => ⟨S3x640x4x256, .f32⟩
  | .hbm, ⟨35, _⟩ => ⟨S3x640x2x4x128, .f32⟩
  | .hbm, ⟨36, _⟩ => ⟨S3x640x4x2x128, .f32⟩
  | .hbm, ⟨37, _⟩ => ⟨S3x640x4x256, .f32⟩
  | .local _ .vmem, ⟨0, _⟩ => ⟨S1x640x4x256, .fp8e4m3⟩
  | .local _ .vmem, ⟨1, _⟩ => ⟨S1x640x4x256, .fp8e4m3⟩
  | .local _ .vmem, ⟨2, _⟩ => ⟨S1x640x4x256, .fp8e4m3⟩
  | .local _ .vmem, ⟨3, _⟩ => ⟨S1x640x4x256, .fp8e4m3⟩
  | .local _ .vmem, ⟨4, _⟩ => ⟨S10240x128, .fp8e4m3⟩
  | .local _ .vmem, ⟨5, _⟩ => ⟨S10240x128, .fp8e4m3⟩
  | .local _ .vmem, ⟨6, _⟩ => ⟨S10240x128, .fp8e5m2⟩
  | .local _ .vmem, ⟨7, _⟩ => ⟨S10240x128, .fp8e5m2⟩
  | .local _ .vmem, ⟨8, _⟩ => ⟨S5120x128, .f32⟩
  | .local _ .vmem, ⟨9, _⟩ => ⟨S5120x128, .f32⟩
  | .local _ .vmem, ⟨10, _⟩ => ⟨S1x640x4, .f32⟩
  | .local _ .vmem, ⟨11, _⟩ => ⟨S1x640x4, .f32⟩
  | .local _ .vmem, ⟨12, _⟩ => ⟨S5120x128, .bf16⟩
  | .local _ .vmem, ⟨13, _⟩ => ⟨S5120x128, .bf16⟩
  | .local _ .vmem, ⟨14, _⟩ => ⟨S5120x128, .bf16⟩
  | .local _ .vmem, ⟨15, _⟩ => ⟨S5120x128, .bf16⟩
  | .local _ .vmem, ⟨16, _⟩ => ⟨S10240x128, .bf16⟩
  | .local _ .vmem, ⟨17, _⟩ => ⟨S10240x128, .bf16⟩
  | .local _ .vmem, ⟨18, _⟩ => ⟨S5120x128, .f32⟩
  | .local _ .vmem, ⟨19, _⟩ => ⟨S5120x128, .f32⟩
  | .local _ .vmem, ⟨20, _⟩ => ⟨S5120x128, .f32⟩
  | .local _ .vmem, ⟨21, _⟩ => ⟨S5120x128, .f32⟩
  | .local _ .vmem, ⟨22, _⟩ => ⟨S640x8x128, .fp8e4m3⟩
  | .local _ .vmem, ⟨23, _⟩ => ⟨S640x8x128, .fp8e4m3⟩
  | .local _ .vmem, ⟨24, _⟩ => ⟨S5120x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S4x640x256, .bf16⟩
  | .local _ .vmem, ⟨29, _⟩ => ⟨S4x640x256, .bf16⟩
  | .local _ .vmem, ⟨30, _⟩ => ⟨S4x640x512, .bf16⟩
  | .local _ .vmem, ⟨31, _⟩ => ⟨S4x640x512, .bf16⟩
  | .local _ .vmem, ⟨32, _⟩ => ⟨S4x640x64, .bf16⟩
  | .local _ .vmem, ⟨33, _⟩ => ⟨S4x640x64, .bf16⟩
  | .local _ .vmem, ⟨34, _⟩ => ⟨S80x128, .f32⟩
  | .local _ .vmem, ⟨35, _⟩ => ⟨S4x512x256, .f32⟩
  | .local _ .smem, ⟨0, _⟩ => ⟨S3x10x4, .f32⟩
  | .local _ .smem, ⟨1, _⟩ => ⟨S3x10x4, .f32⟩
  | .local _ .smem, ⟨2, _⟩ => ⟨S3x10x4, .f32⟩
  | _, _ => ⟨S3x640x4x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [BitOps F]

abbrev grid0 : Pipeline.Grid := ⟨1, ![3], ![false]⟩

@[reducible] def k0_t1_loop : Scf.Loop 32 :=
  let c0_i32 : BitVec 32 := 0#32
  let c10_i32 : BitVec 32 := 10#32
  let v6 : BitVec 32 := Scalar.addi c0_i32 c10_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg29 : BitVec 32 := Scf.iv c0_i32 c1_i32 k0_t1
  let c512_i32 : BitVec 32 := 512#32
  let v14 : BitVec 32 := Scalar.muli arg29 c512_i32
  v14
def k0_mult2 (k0_t1 : Fin k0_t1_loop.trips) : BitVec 32 :=
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  v16
def k0_off1 (k0_t1 : Fin k0_t1_loop.trips) : Fin 4 → Nat :=
  let c0_12 : Index := 0#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v18 : Index := Scalar.indexCast v17
  let c0_13 : Index := 0#32
  let c0_14 : Index := 0#32
  ![0, v18.toNat, 0, 0]
def k0_off2 (k0_t1 : Fin k0_t1_loop.trips) : Fin 3 → Nat :=
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v21 : Index := Scalar.indexCast v17
  let c0_15 : Index := 0#32
  let c0_16 : Index := 0#32
  ![v21.toNat, 0, 0]
def k0_off3 (k0_t1 : Fin k0_t1_loop.trips) : Fin 4 → Nat :=
  let c0_17 : Index := 0#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v25 : Index := Scalar.indexCast v17
  let c0_18 : Index := 0#32
  let c128 : Index := 128#32
  ![0, v25.toNat, 0, 128]
def k0_off4 (k0_t1 : Fin k0_t1_loop.trips) : Fin 3 → Nat :=
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v28 : Index := Scalar.indexCast v17
  let c4 : Index := 4#32
  let c0_19 : Index := 0#32
  ![v28.toNat, 4, 0]
def k0_off5 (k0_t1 : Fin k0_t1_loop.trips) (c0_i32_31 : BitVec 32) : Fin 2 → Nat :=
  let c0_i32 : BitVec 32 := 0#32
  let c1_i32 : BitVec 32 := 1#32
  let arg29 : BitVec 32 := Scf.iv c0_i32 c1_i32 k0_t1
  let c512_i32 : BitVec 32 := 512#32
  let v14 : BitVec 32 := Scalar.muli arg29 c512_i32
  let v15 : BitVec 32 := v14
  let v47 : BitVec 32 := Scalar.addi v15 c0_i32_31
  let v48 : Index := Scalar.indexCast v47
  let c0_32 : Index := 0#32
  ![v48.toNat, 0]
def k0_mult3 (k0_t1 : Fin k0_t1_loop.trips) : BitVec 32 :=
  let c0_i32 : BitVec 32 := 0#32
  let c1_i32 : BitVec 32 := 1#32
  let arg29 : BitVec 32 := Scf.iv c0_i32 c1_i32 k0_t1
  let c8_i32_225 : BitVec 32 := 8#32
  let v688 : BitVec 32 := Scalar.muli arg29 c8_i32_225
  v688
def k0_off6 (k0_t1 : Fin k0_t1_loop.trips) : Fin 2 → Nat :=
  let c0_i32 : BitVec 32 := 0#32
  let c1_i32 : BitVec 32 := 1#32
  let arg29 : BitVec 32 := Scf.iv c0_i32 c1_i32 k0_t1
  let c8_i32_225 : BitVec 32 := 8#32
  let v688 : BitVec 32 := Scalar.muli arg29 c8_i32_225
  let v689 : BitVec 32 := v688
  let v690 : Index := Scalar.indexCast v689
  let c0_226 : Index := 0#32
  ![v690.toNat, 0]
def k0_off7 (k0_t1 : Fin k0_t1_loop.trips) : Fin 2 → Nat :=
  let c0_i32 : BitVec 32 := 0#32
  let c1_i32 : BitVec 32 := 1#32
  let arg29 : BitVec 32 := Scf.iv c0_i32 c1_i32 k0_t1
  let c512_i32 : BitVec 32 := 512#32
  let v14 : BitVec 32 := Scalar.muli arg29 c512_i32
  let v15 : BitVec 32 := v14
  let v694 : Index := Scalar.indexCast v15
  let c0_227 : Index := 0#32
  ![v694.toNat, 0]
def k0_mult4 (k0_t1 : Fin k0_t1_loop.trips) : BitVec 32 :=
  let c0_i32 : BitVec 32 := 0#32
  let c1_i32 : BitVec 32 := 1#32
  let arg29 : BitVec 32 := Scf.iv c0_i32 c1_i32 k0_t1
  let c64_i32_228 : BitVec 32 := 64#32
  let v697 : BitVec 32 := Scalar.muli arg29 c64_i32_228
  v697
def k0_off8 (k0_t1 : Fin k0_t1_loop.trips) : Fin 3 → Nat :=
  let c0_i32 : BitVec 32 := 0#32
  let c1_i32 : BitVec 32 := 1#32
  let arg29 : BitVec 32 := Scf.iv c0_i32 c1_i32 k0_t1
  let c64_i32_228 : BitVec 32 := 64#32
  let v697 : BitVec 32 := Scalar.muli arg29 c64_i32_228
  let v698 : BitVec 32 := v697
  let v699 : Index := Scalar.indexCast v698
  let c0_229 : Index := 0#32
  let c0_230 : Index := 0#32
  ![v699.toNat, 0, 0]
def k0_off9 (i : grid0.Coords) (k0_t1 : Fin k0_t1_loop.trips) : Fin 3 → Nat :=
  let arg0 : BitVec 32 := BitVec.ofNat 32 (i 0).val
  let v705 : Index := Scalar.indexCast arg0
  let c0_i32 : BitVec 32 := 0#32
  let c1_i32 : BitVec 32 := 1#32
  let arg29 : BitVec 32 := Scf.iv c0_i32 c1_i32 k0_t1
  let v706 : Index := Scalar.indexCast arg29
  let c0_231 : Index := 0#32
  ![v705.toNat, v706.toNat, 0]
def k0_off10 (i : grid0.Coords) (k0_t1 : Fin k0_t1_loop.trips) : Fin 3 → Nat :=
  let arg0 : BitVec 32 := BitVec.ofNat 32 (i 0).val
  let v711 : Index := Scalar.indexCast arg0
  let c0_i32 : BitVec 32 := 0#32
  let c1_i32 : BitVec 32 := 1#32
  let arg29 : BitVec 32 := Scf.iv c0_i32 c1_i32 k0_t1
  let v712 : Index := Scalar.indexCast arg29
  let c1 : Index := 1#32
  ![v711.toNat, v712.toNat, 1]
def k0_off11 (i : grid0.Coords) (k0_t1 : Fin k0_t1_loop.trips) : Fin 3 → Nat :=
  let arg0 : BitVec 32 := BitVec.ofNat 32 (i 0).val
  let v718 : Index := Scalar.indexCast arg0
  let c0_i32 : BitVec 32 := 0#32
  let c1_i32 : BitVec 32 := 1#32
  let arg29 : BitVec 32 := Scf.iv c0_i32 c1_i32 k0_t1
  let v719 : Index := Scalar.indexCast arg29
  let c2 : Index := 2#32
  ![v718.toNat, v719.toNat, 2]
def k0_off12 (i : grid0.Coords) (k0_t1 : Fin k0_t1_loop.trips) : Fin 3 → Nat :=
  let arg0 : BitVec 32 := BitVec.ofNat 32 (i 0).val
  let v725 : Index := Scalar.indexCast arg0
  let c0_i32 : BitVec 32 := 0#32
  let c1_i32 : BitVec 32 := 1#32
  let arg29 : BitVec 32 := Scf.iv c0_i32 c1_i32 k0_t1
  let v726 : Index := Scalar.indexCast arg29
  let c3 : Index := 3#32
  ![v725.toNat, v726.toNat, 3]
def k0_mult5 (k0_t1 : Fin k0_t1_loop.trips) : BitVec 32 :=
  let c0_i32 : BitVec 32 := 0#32
  let c1_i32 : BitVec 32 := 1#32
  let arg29 : BitVec 32 := Scf.iv c0_i32 c1_i32 k0_t1
  let c64_i32_234 : BitVec 32 := 64#32
  let v733 : BitVec 32 := Scalar.muli arg29 c64_i32_234
  v733
def k0_mult6 (k0_t1 : Fin k0_t1_loop.trips) : BitVec 32 :=
  let c0_i32 : BitVec 32 := 0#32
  let c1_i32 : BitVec 32 := 1#32
  let arg29 : BitVec 32 := Scf.iv c0_i32 c1_i32 k0_t1
  let c1024_i32 : BitVec 32 := 1024#32
  let v842 : BitVec 32 := Scalar.muli arg29 c1024_i32
  v842
def k0_off13 (k0_t1 : Fin k0_t1_loop.trips) : Fin 2 → Nat :=
  let c0_i32 : BitVec 32 := 0#32
  let c1_i32 : BitVec 32 := 1#32
  let arg29 : BitVec 32 := Scf.iv c0_i32 c1_i32 k0_t1
  let c1024_i32 : BitVec 32 := 1024#32
  let v842 : BitVec 32 := Scalar.muli arg29 c1024_i32
  let v843 : BitVec 32 := v842
  let v844 : Index := Scalar.indexCast v843
  let c0_298 : Index := 0#32
  ![v844.toNat, 0]
def k0_mult7 (k0_t1 : Fin k0_t1_loop.trips) : BitVec 32 :=
  let c0_i32 : BitVec 32 := 0#32
  let c1_i32 : BitVec 32 := 1#32
  let arg29 : BitVec 32 := Scf.iv c0_i32 c1_i32 k0_t1
  let c1024_i32_299 : BitVec 32 := 1024#32
  let v848 : BitVec 32 := Scalar.muli arg29 c1024_i32_299
  v848
def k0_off14 (k0_t1 : Fin k0_t1_loop.trips) : Fin 3 → Nat :=
  let c0_301 : Index := 0#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v854 : Index := Scalar.indexCast v17
  let c0_302 : Index := 0#32
  ![0, v854.toNat, 0]
def k0_off15 (k0_t1 : Fin k0_t1_loop.trips) : Fin 3 → Nat :=
  let c0_303 : Index := 0#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v857 : Index := Scalar.indexCast v17
  let c0_304 : Index := 0#32
  ![0, v857.toNat, 0]
def k0_off16 (k0_t1 : Fin k0_t1_loop.trips) : Fin 3 → Nat :=
  let c0_307 : Index := 0#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v886 : Index := Scalar.indexCast v17
  let c0_308 : Index := 0#32
  ![0, v886.toNat, 0]
def k0_off17 (k0_t1 : Fin k0_t1_loop.trips) : Fin 3 → Nat :=
  let c0_314 : Index := 0#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v909 : Index := Scalar.indexCast v17
  let c0_315 : Index := 0#32
  ![0, v909.toNat, 0]
def k0_off18 (k0_t1 : Fin k0_t1_loop.trips) (c0_i32_330 : BitVec 32) (c0_i32_331 : BitVec 32) : Fin 2 → Nat :=
  let c0_i32 : BitVec 32 := 0#32
  let c1_i32 : BitVec 32 := 1#32
  let arg29 : BitVec 32 := Scf.iv c0_i32 c1_i32 k0_t1
  let c8_i32_329 : BitVec 32 := 8#32
  let v938 : BitVec 32 := Scalar.muli arg29 c8_i32_329
  let v939 : BitVec 32 := Scalar.addi v938 c0_i32_330
  let v940 : BitVec 32 := Scalar.addi v939 c0_i32_331
  let v941 : Index := Scalar.indexCast v940
  let c0_332 : Index := 0#32
  ![v941.toNat, 0]
def k0_off19 (k0_t1 : Fin k0_t1_loop.trips) : Fin 3 → Nat :=
  let c1_340 : Index := 1#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v958 : Index := Scalar.indexCast v17
  let c0_341 : Index := 0#32
  ![1, v958.toNat, 0]
def k0_off20 (k0_t1 : Fin k0_t1_loop.trips) : Fin 3 → Nat :=
  let c1_344 : Index := 1#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v987 : Index := Scalar.indexCast v17
  let c0_345 : Index := 0#32
  ![1, v987.toNat, 0]
def k0_off21 (k0_t1 : Fin k0_t1_loop.trips) : Fin 3 → Nat :=
  let c1_351 : Index := 1#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1010 : Index := Scalar.indexCast v17
  let c0_352 : Index := 0#32
  ![1, v1010.toNat, 0]
def k0_off22 (k0_t1 : Fin k0_t1_loop.trips) : Fin 3 → Nat :=
  let c2_378 : Index := 2#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1059 : Index := Scalar.indexCast v17
  let c0_379 : Index := 0#32
  ![2, v1059.toNat, 0]
def k0_off23 (k0_t1 : Fin k0_t1_loop.trips) : Fin 3 → Nat :=
  let c2_382 : Index := 2#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1088 : Index := Scalar.indexCast v17
  let c0_383 : Index := 0#32
  ![2, v1088.toNat, 0]
def k0_off24 (k0_t1 : Fin k0_t1_loop.trips) : Fin 3 → Nat :=
  let c2_389 : Index := 2#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1111 : Index := Scalar.indexCast v17
  let c0_390 : Index := 0#32
  ![2, v1111.toNat, 0]
def k0_off25 (k0_t1 : Fin k0_t1_loop.trips) : Fin 3 → Nat :=
  let c3_416 : Index := 3#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1160 : Index := Scalar.indexCast v17
  let c0_417 : Index := 0#32
  ![3, v1160.toNat, 0]
def k0_off26 (k0_t1 : Fin k0_t1_loop.trips) : Fin 3 → Nat :=
  let c3_420 : Index := 3#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1189 : Index := Scalar.indexCast v17
  let c0_421 : Index := 0#32
  ![3, v1189.toNat, 0]
def k0_off27 (k0_t1 : Fin k0_t1_loop.trips) : Fin 3 → Nat :=
  let c3_427 : Index := 3#32
  let c0_i32 : BitVec 32 := 0#32
  let c1_i32 : BitVec 32 := 1#32
  let arg29 : BitVec 32 := Scf.iv c0_i32 c1_i32 k0_t1
  let c64_i32 : BitVec 32 := 64#32
  let v16 : BitVec 32 := Scalar.muli arg29 c64_i32
  let v17 : BitVec 32 := v16
  let v1212 : Index := Scalar.indexCast v17
  let c0_428 : Index := 0#32
  ![3, v1212.toNat, 0]
@[reducible] def k0_t2_loop : Scf.Loop 32 :=
  let c0_i32_8 : BitVec 32 := 0#32
  let c10_i32_9 : BitVec 32 := 10#32
  let v12 : BitVec 32 := Scalar.addi c0_i32_8 c10_i32_9
  let c1_i32_10 : BitVec 32 := 1#32
  ⟨c0_i32_8, v12, c1_i32_10⟩
def k0_mult8 (k0_t2 : Fin k0_t2_loop.trips) : BitVec 32 :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c512_i32 : BitVec 32 := 512#32
  let v15 : BitVec 32 := Scalar.muli v14 c512_i32
  v15
def k0_mult9 (k0_t2 : Fin k0_t2_loop.trips) : BitVec 32 :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  v17
def k0_off28 (k0_t2 : Fin k0_t2_loop.trips) : Fin 3 → Nat :=
  let c0_15 : Index := 0#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v22 : Index := Scalar.indexCast v18
  let c0_16 : Index := 0#32
  ![0, v22.toNat, 0]
def k0_off29 (k0_t2 : Fin k0_t2_loop.trips) : Fin 3 → Nat :=
  let c0_19 : Index := 0#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v28 : Index := Scalar.indexCast v18
  let c0_20 : Index := 0#32
  ![0, v28.toNat, 0]
def k0_off30 (k0_t2 : Fin k0_t2_loop.trips) : Fin 3 → Nat :=
  let c0_23 : Index := 0#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v34 : Index := Scalar.indexCast v18
  let c0_24 : Index := 0#32
  ![0, v34.toNat, 0]
def k0_off31 (i : grid0.Coords) (k0_t2 : Fin k0_t2_loop.trips) : Fin 3 → Nat :=
  let arg0 : BitVec 32 := BitVec.ofNat 32 (i 0).val
  let v41 : Index := Scalar.indexCast arg0
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let v42 : Index := Scalar.indexCast v14
  let c0_28 : Index := 0#32
  ![v41.toNat, v42.toNat, 0]
def k0_off32 (k0_t2 : Fin k0_t2_loop.trips) (c0_i32_39 : BitVec 32) (c0_i32_40 : BitVec 32) : Fin 2 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c8_i32 : BitVec 32 := 8#32
  let v66 : BitVec 32 := Scalar.muli v14 c8_i32
  let v67 : BitVec 32 := Scalar.addi v66 c0_i32_39
  let v68 : BitVec 32 := Scalar.addi v67 c0_i32_40
  let v69 : Index := Scalar.indexCast v68
  let c0_41 : Index := 0#32
  ![v69.toNat, 0]
def k0_off33 (k0_t2 : Fin k0_t2_loop.trips) : Fin 3 → Nat :=
  let c1_51 : Index := 1#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v87 : Index := Scalar.indexCast v18
  let c0_52 : Index := 0#32
  ![1, v87.toNat, 0]
def k0_off34 (k0_t2 : Fin k0_t2_loop.trips) : Fin 3 → Nat :=
  let c1_55 : Index := 1#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v93 : Index := Scalar.indexCast v18
  let c0_56 : Index := 0#32
  ![1, v93.toNat, 0]
def k0_off35 (k0_t2 : Fin k0_t2_loop.trips) : Fin 3 → Nat :=
  let c1_59 : Index := 1#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v99 : Index := Scalar.indexCast v18
  let c0_60 : Index := 0#32
  ![1, v99.toNat, 0]
def k0_off36 (i : grid0.Coords) (k0_t2 : Fin k0_t2_loop.trips) : Fin 3 → Nat :=
  let arg0 : BitVec 32 := BitVec.ofNat 32 (i 0).val
  let v106 : Index := Scalar.indexCast arg0
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let v107 : Index := Scalar.indexCast v14
  let c1_64 : Index := 1#32
  ![v106.toNat, v107.toNat, 1]
def k0_mult10 (k0_t2 : Fin k0_t2_loop.trips) : BitVec 32 :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_75 : BitVec 32 := 8#32
  let v132 : BitVec 32 := Scalar.muli v18 c8_i32_75
  v132
def k0_off37 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_75 : BitVec 32 := 8#32
  let v132 : BitVec 32 := Scalar.muli v18 c8_i32_75
  let v133 : BitVec 32 := v132
  let c0_i32_76 : BitVec 32 := 0#32
  ![v133.toNat, 0, 0]
def k0_off38 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_75 : BitVec 32 := 8#32
  let v132 : BitVec 32 := Scalar.muli v18 c8_i32_75
  let v133 : BitVec 32 := v132
  let c0_i32_79 : BitVec 32 := 0#32
  ![Nat.add v133.toNat 2, 0, 0]
def k0_off39 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_75 : BitVec 32 := 8#32
  let v132 : BitVec 32 := Scalar.muli v18 c8_i32_75
  let v133 : BitVec 32 := v132
  let c0_i32_81 : BitVec 32 := 0#32
  ![Nat.add v133.toNat 4, 0, 0]
def k0_off40 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_75 : BitVec 32 := 8#32
  let v132 : BitVec 32 := Scalar.muli v18 c8_i32_75
  let v133 : BitVec 32 := v132
  let c0_i32_84 : BitVec 32 := 0#32
  ![Nat.add v133.toNat 6, 0, 0]
def k0_off41 (k0_t2 : Fin k0_t2_loop.trips) : Fin 3 → Nat :=
  let c2_101 : Index := 2#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v171 : Index := Scalar.indexCast v18
  let c0_102 : Index := 0#32
  ![2, v171.toNat, 0]
def k0_off42 (k0_t2 : Fin k0_t2_loop.trips) : Fin 3 → Nat :=
  let c2_105 : Index := 2#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v177 : Index := Scalar.indexCast v18
  let c0_106 : Index := 0#32
  ![2, v177.toNat, 0]
def k0_off43 (k0_t2 : Fin k0_t2_loop.trips) : Fin 3 → Nat :=
  let c2_109 : Index := 2#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v183 : Index := Scalar.indexCast v18
  let c0_110 : Index := 0#32
  ![2, v183.toNat, 0]
def k0_off44 (i : grid0.Coords) (k0_t2 : Fin k0_t2_loop.trips) : Fin 3 → Nat :=
  let arg0 : BitVec 32 := BitVec.ofNat 32 (i 0).val
  let v190 : Index := Scalar.indexCast arg0
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let v191 : Index := Scalar.indexCast v14
  let c2_114 : Index := 2#32
  ![v190.toNat, v191.toNat, 2]
def k0_off45 (k0_t2 : Fin k0_t2_loop.trips) : Fin 3 → Nat :=
  let c3_139 : Index := 3#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v236 : Index := Scalar.indexCast v18
  let c0_140 : Index := 0#32
  ![3, v236.toNat, 0]
def k0_off46 (k0_t2 : Fin k0_t2_loop.trips) : Fin 3 → Nat :=
  let c3_143 : Index := 3#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v242 : Index := Scalar.indexCast v18
  let c0_144 : Index := 0#32
  ![3, v242.toNat, 0]
def k0_off47 (k0_t2 : Fin k0_t2_loop.trips) : Fin 3 → Nat :=
  let c3_147 : Index := 3#32
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let v248 : Index := Scalar.indexCast v18
  let c0_148 : Index := 0#32
  ![3, v248.toNat, 0]
def k0_off48 (i : grid0.Coords) (k0_t2 : Fin k0_t2_loop.trips) : Fin 3 → Nat :=
  let arg0 : BitVec 32 := BitVec.ofNat 32 (i 0).val
  let v255 : Index := Scalar.indexCast arg0
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let v256 : Index := Scalar.indexCast v14
  let c3_152 : Index := 3#32
  ![v255.toNat, v256.toNat, 3]
def k0_mult11 (k0_t2 : Fin k0_t2_loop.trips) : BitVec 32 :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_163 : BitVec 32 := 8#32
  let v281 : BitVec 32 := Scalar.muli v18 c8_i32_163
  v281
def k0_off49 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_163 : BitVec 32 := 8#32
  let v281 : BitVec 32 := Scalar.muli v18 c8_i32_163
  let v282 : BitVec 32 := v281
  let c0_i32_164 : BitVec 32 := 0#32
  ![Nat.add v282.toNat 1, 0, 0]
def k0_off50 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_163 : BitVec 32 := 8#32
  let v281 : BitVec 32 := Scalar.muli v18 c8_i32_163
  let v282 : BitVec 32 := v281
  let c0_i32_167 : BitVec 32 := 0#32
  ![Nat.add v282.toNat 3, 0, 0]
def k0_off51 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_163 : BitVec 32 := 8#32
  let v281 : BitVec 32 := Scalar.muli v18 c8_i32_163
  let v282 : BitVec 32 := v281
  let c0_i32_170 : BitVec 32 := 0#32
  ![Nat.add v282.toNat 5, 0, 0]
def k0_off52 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32 : BitVec 32 := 64#32
  let v17 : BitVec 32 := Scalar.muli v14 c64_i32
  let v18 : BitVec 32 := v17
  let c8_i32_163 : BitVec 32 := 8#32
  let v281 : BitVec 32 := Scalar.muli v18 c8_i32_163
  let v282 : BitVec 32 := v281
  let c0_i32_173 : BitVec 32 := 0#32
  ![Nat.add v282.toNat 7, 0, 0]
def k0_off53 (k0_t2 : Fin k0_t2_loop.trips) : Fin 2 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c512_i32 : BitVec 32 := 512#32
  let v15 : BitVec 32 := Scalar.muli v14 c512_i32
  let v16 : BitVec 32 := v15
  let v317 : Index := Scalar.indexCast v16
  let c0_187 : Index := 0#32
  ![v317.toNat, 0]
def k0_mult12 (k0_t2 : Fin k0_t2_loop.trips) : BitVec 32 :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32_188 : BitVec 32 := 64#32
  let v322 : BitVec 32 := Scalar.muli v14 c64_i32_188
  v322
def k0_off54 (k0_t2 : Fin k0_t2_loop.trips) : Fin 3 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c64_i32_188 : BitVec 32 := 64#32
  let v322 : BitVec 32 := Scalar.muli v14 c64_i32_188
  let v323 : BitVec 32 := v322
  let v324 : Index := Scalar.indexCast v323
  let c0_189 : Index := 0#32
  let c0_190 : Index := 0#32
  ![v324.toNat, 0, 0]
def k0_off55 (k0_t2 : Fin k0_t2_loop.trips) (c504_i32 : BitVec 32) : Fin 2 → Nat :=
  let c9_i32 : BitVec 32 := 9#32
  let c0_i32_8 : BitVec 32 := 0#32
  let c1_i32_10 : BitVec 32 := 1#32
  let arg29 : BitVec 32 := Scf.iv c0_i32_8 c1_i32_10 k0_t2
  let v14 : BitVec 32 := Scalar.subi c9_i32 arg29
  let c512_i32 : BitVec 32 := 512#32
  let v15 : BitVec 32 := Scalar.muli v14 c512_i32
  let v16 : BitVec 32 := v15
  let v384 : BitVec 32 := Scalar.addi v16 c504_i32
  let v385 : Index := Scalar.indexCast v384
  let c0_207 : Index := 0#32
  ![v385.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x640x4x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x4x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10240x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10240x128 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5120x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x640x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S3x10x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S3x10x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S3x10x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5120x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5120x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S10240x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5120x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5120x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F]
-- ==== RefIdeal.lean ====
abbrev S3x640x4x256 : Shape := ⟨4, ![3, 640, 4, 256]⟩
abbrev S3x10x4 : Shape := ⟨3, ![3, 10, 4]⟩
abbrev S3x640x4x512 : Shape := ⟨4, ![3, 640, 4, 512]⟩
abbrev S3x640x4 : Shape := ⟨3, ![3, 640, 4]⟩
abbrev S3x10x64x4x256 : Shape := ⟨5, ![3, 10, 64, 4, 256]⟩
abbrev S3x10x64x4x512 : Shape := ⟨5, ![3, 10, 64, 4, 512]⟩
abbrev S3x10x64x4 : Shape := ⟨4, ![3, 10, 64, 4]⟩
abbrev S3x10x1x4x1 : Shape := ⟨5, ![3, 10, 1, 4, 1]⟩
abbrev S_ : Shape := ⟨0, ![]⟩
abbrev S3x10x1x4x256 : Shape := ⟨5, ![3, 10, 1, 4, 256]⟩
abbrev S3x10x4x256 : Shape := ⟨4, ![3, 10, 4, 256]⟩
abbrev S3x10x64x4x1 : Shape := ⟨5, ![3, 10, 64, 4, 1]⟩
abbrev S64x64 : Shape := ⟨2, ![64, 64]⟩
abbrev S3x10x4x64x64 : Shape := ⟨5, ![3, 10, 4, 64, 64]⟩
abbrev S3x10x4x64 : Shape := ⟨4, ![3, 10, 4, 64]⟩
abbrev S3x10x4x64x1 : Shape := ⟨5, ![3, 10, 4, 64, 1]⟩
abbrev S3x10x4x1x1 : Shape := ⟨5, ![3, 10, 4, 1, 1]⟩
abbrev S10x3x4x256 : Shape := ⟨4, ![10, 3, 4, 256]⟩
abbrev S10x3x4x256x1 : Shape := ⟨5, ![10, 3, 4, 256, 1]⟩
abbrev S10x3x4x256x512 : Shape := ⟨5, ![10, 3, 4, 256, 512]⟩
abbrev S10x3x4 : Shape := ⟨3, ![10, 3, 4]⟩
abbrev S10x3x4x1x1 : Shape := ⟨5, ![10, 3, 4, 1, 1]⟩
abbrev S3x4x256x512 : Shape := ⟨4, ![3, 4, 256, 512]⟩
abbrev S1x3x4x256x1 : Shape := ⟨5, ![1, 3, 4, 256, 1]⟩
abbrev S3x4x256x1 : Shape := ⟨4, ![3, 4, 256, 1]⟩
abbrev S1x3x4x256x512 : Shape := ⟨5, ![1, 3, 4, 256, 512]⟩
abbrev S3x10x4x256x64 : Shape := ⟨5, ![3, 10, 4, 256, 64]⟩
abbrev S3x10x4x512x64 : Shape := ⟨5, ![3, 10, 4, 512, 64]⟩

abbrev nBuf : Space → Nat
  | .hbm => 283
  | .vmem => 8
  | .smem => 0
  | _ => 0

abbrev hbmTy0_0 (i : Nat) : BufTy := match i % 128 with
  | 0 => ⟨S3x640x4x256, .fp8e4m3⟩
  | 1 => ⟨S3x640x4x256, .fp8e4m3⟩
  | 2 => ⟨S3x10x4, .f32⟩
  | 3 => ⟨S3x10x4, .f32⟩
  | 4 => ⟨S3x640x4x512, .fp8e4m3⟩
  | 5 => ⟨S3x10x4, .f32⟩
  | 6 => ⟨S3x640x4x512, .fp8e5m2⟩
  | 7 => ⟨S3x640x4, .f32⟩
  | 8 => ⟨S3x640x4x256, .f32⟩
  | 9 => ⟨S3x640x4x256, .f32⟩
  | 10 => ⟨S3x640x4x256, .f32⟩
  | 11 => ⟨S3x640x4x512, .bf16⟩
  | 12 => ⟨S3x640x4x512, .bf16⟩
  | 13 => ⟨S3x10x64x4x256, .f32⟩
  | 14 => ⟨S3x10x64x4x256, .f32⟩
  | 15 => ⟨S3x10x64x4x512, .bf16⟩
  | 16 => ⟨S3x10x64x4x512, .bf16⟩
  | 17 => ⟨S3x10x64x4x256, .f32⟩
  | 18 => ⟨S3x10x64x4, .f32⟩
  | 19 => ⟨S3x10x1x4x1, .f32⟩
  | 20 => ⟨S3x10x1x4x1, .f32⟩
  | 21 => ⟨S3x10x64x4x256, .f32⟩
  | 22 => ⟨S3x10x64x4x256, .f32⟩
  | 23 => ⟨S3x10x1x4x1, .f32⟩
  | 24 => ⟨S3x10x64x4x256, .f32⟩
  | 25 => ⟨S3x10x64x4x256, .f32⟩
  | 26 => ⟨S_, .f32⟩
  | 27 => ⟨S_, .f32⟩
  | 28 => ⟨S3x10x64x4x256, .f32⟩
  | 29 => ⟨S3x10x1x4x256, .f32⟩
  | 30 => ⟨S3x10x4x256, .f32⟩
  | 31 => ⟨S3x10x64x4x256, .f32⟩
  | 32 => ⟨S3x10x64x4x256, .f32⟩
  | 33 => ⟨S3x10x64x4x256, .f32⟩
  | 34 => ⟨S3x10x1x4x256, .f32⟩
  | 35 => ⟨S3x10x64x4x256, .f32⟩
  | 36 => ⟨S3x10x64x4x256, .f32⟩
  | 37 => ⟨S3x10x64x4x256, .f32⟩
  | 38 => ⟨S_, .f32⟩
  | 39 => ⟨S3x10x64x4x256, .f32⟩
  | 40 => ⟨S3x10x64x4x256, .f32⟩
  | 41 => ⟨S3x10x64x4x256, .f32⟩
  | 42 => ⟨S3x10x64x4x256, .bf16⟩
  | 43 => ⟨S3x10x64x4x256, .f32⟩
  | 44 => ⟨S3x10x64x4x256, .bf16⟩
  | 45 => ⟨S3x10x64x4x256, .f32⟩
  | 46 => ⟨S3x10x64x4x256, .bf16⟩
  | 47 => ⟨S3x10x64x4, .bf16⟩
  | 48 => ⟨S3x10x64x4x1, .bf16⟩
  | 49 => ⟨S3x10x64x4x512, .bf16⟩
  | 50 => ⟨S3x10x64x4x512, .bf16⟩
  | 51 => ⟨S_, .i1⟩
  | 52 => ⟨S64x64, .i1⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i1⟩
  | 59 => ⟨S_, .i1⟩
  | 60 => ⟨S64x64, .i1⟩
  | 61 => ⟨S64x64, .i1⟩
  | 62 => ⟨S3x10x4x64x64, .f32⟩
  | 63 => ⟨S3x10x4x64, .f32⟩
  | 64 => ⟨S3x10x4x64x1, .f32⟩
  | 65 => ⟨S3x10x4x1x1, .f32⟩
  | 66 => ⟨S3x10x4x64x1, .f32⟩
  | 67 => ⟨S3x10x4x64x1, .f32⟩
  | 68 => ⟨S3x10x4x64x64, .f32⟩
  | 69 => ⟨S3x10x4x64x64, .f32⟩
  | 70 => ⟨S_, .f32⟩
  | 71 => ⟨S_, .f32⟩
  | 72 => ⟨S3x10x4x64x64, .i1⟩
  | 73 => ⟨S3x10x4x64x64, .f32⟩
  | 74 => ⟨S3x10x4x64x64, .f32⟩
  | 75 => ⟨S3x10x4x64x64, .bf16⟩
  | 76 => ⟨S3x10x4x64x64, .f32⟩
  | 77 => ⟨S_, .f32⟩
  | 78 => ⟨S_, .f32⟩
  | 79 => ⟨S3x10x4x64x64, .i1⟩
  | 80 => ⟨S3x10x4x64x64, .f32⟩
  | 81 => ⟨S3x10x4x64x64, .f32⟩
  | 82 => ⟨S3x10x4x64x64, .bf16⟩
  | 83 => ⟨S10x3x4x256, .f32⟩
  | 84 => ⟨S10x3x4x256, .f32⟩
  | 85 => ⟨S10x3x4x256x1, .f32⟩
  | 86 => ⟨S10x3x4x256x512, .f32⟩
  | 87 => ⟨S10x3x4, .f32⟩
  | 88 => ⟨S10x3x4x1x1, .f32⟩
  | 89 => ⟨S10x3x4x256x512, .f32⟩
  | 90 => ⟨S10x3x4x256x512, .f32⟩
  | 91 => ⟨S10x3x4x256x512, .f32⟩
  | 92 => ⟨S_, .f32⟩
  | 93 => ⟨S3x4x256x512, .f32⟩
  | 94 => ⟨S1x3x4x256x1, .f32⟩
  | 95 => ⟨S3x4x256x1, .f32⟩
  | 96 => ⟨S3x4x256x512, .f32⟩
  | 97 => ⟨S3x4x256x512, .f32⟩
  | 98 => ⟨S1x3x4x256x512, .f32⟩
  | 99 => ⟨S3x4x256x512, .f32⟩
  | 100 => ⟨S3x4x256x512, .f32⟩
  | 101 => ⟨S1x3x4x256x1, .f32⟩
  | 102 => ⟨S3x4x256x1, .f32⟩
  | 103 => ⟨S3x4x256x512, .f32⟩
  | 104 => ⟨S3x4x256x512, .f32⟩
  | 105 => ⟨S1x3x4x256x512, .f32⟩
  | 106 => ⟨S3x4x256x512, .f32⟩
  | 107 => ⟨S3x4x256x512, .f32⟩
  | 108 => ⟨S1x3x4x256x1, .f32⟩
  | 109 => ⟨S3x4x256x1, .f32⟩
  | 110 => ⟨S3x4x256x512, .f32⟩
  | 111 => ⟨S3x4x256x512, .f32⟩
  | 112 => ⟨S1x3x4x256x512, .f32⟩
  | 113 => ⟨S3x4x256x512, .f32⟩
  | 114 => ⟨S3x4x256x512, .f32⟩
  | 115 => ⟨S1x3x4x256x1, .f32⟩
  | 116 => ⟨S3x4x256x1, .f32⟩
  | 117 => ⟨S3x4x256x512, .f32⟩
  | 118 => ⟨S3x4x256x512, .f32⟩
  | 119 => ⟨S1x3x4x256x512, .f32⟩
  | 120 => ⟨S3x4x256x512, .f32⟩
  | 121 => ⟨S3x4x256x512, .f32⟩
  | 122 => ⟨S1x3x4x256x1, .f32⟩
  | 123 => ⟨S3x4x256x1, .f32⟩
  | 124 => ⟨S3x4x256x512, .f32⟩
  | 125 => ⟨S3x4x256x512, .f32⟩
  | 126 => ⟨S1x3x4x256x512, .f32⟩
  | 127 => ⟨S3x4x256x512, .f32⟩
  | _ => ⟨S3x640x4x256, .fp8e4m3⟩

abbrev hbmTy0_1 (i : Nat) : BufTy := match i % 128 with
  | 0 => ⟨S3x4x256x512, .f32⟩
  | 1 => ⟨S1x3x4x256x1, .f32⟩
  | 2 => ⟨S3x4x256x1, .f32⟩
  | 3 => ⟨S3x4x256x512, .f32⟩
  | 4 => ⟨S3x4x256x512, .f32⟩
  | 5 => ⟨S1x3x4x256x512, .f32⟩
  | 6 => ⟨S3x4x256x512, .f32⟩
  | 7 => ⟨S3x4x256x512, .f32⟩
  | 8 => ⟨S1x3x4x256x1, .f32⟩
  | 9 => ⟨S3x4x256x1, .f32⟩
  | 10 => ⟨S3x4x256x512, .f32⟩
  | 11 => ⟨S3x4x256x512, .f32⟩
  | 12 => ⟨S1x3x4x256x512, .f32⟩
  | 13 => ⟨S3x4x256x512, .f32⟩
  | 14 => ⟨S3x4x256x512, .f32⟩
  | 15 => ⟨S1x3x4x256x1, .f32⟩
  | 16 => ⟨S3x4x256x1, .f32⟩
  | 17 => ⟨S3x4x256x512, .f32⟩
  | 18 => ⟨S3x4x256x512, .f32⟩
  | 19 => ⟨S1x3x4x256x512, .f32⟩
  | 20 => ⟨S3x4x256x512, .f32⟩
  | 21 => ⟨S3x4x256x512, .f32⟩
  | 22 => ⟨S1x3x4x256x1, .f32⟩
  | 23 => ⟨S3x4x256x1, .f32⟩
  | 24 => ⟨S3x4x256x512, .f32⟩
  | 25 => ⟨S3x4x256x512, .f32⟩
  | 26 => ⟨S1x3x4x256x512, .f32⟩
  | 27 => ⟨S3x4x256x512, .f32⟩
  | 28 => ⟨S3x4x256x512, .f32⟩
  | 29 => ⟨S1x3x4x256x512, .f32⟩
  | 30 => ⟨S1x3x4x256x512, .f32⟩
  | 31 => ⟨S1x3x4x256x512, .f32⟩
  | 32 => ⟨S1x3x4x256x512, .f32⟩
  | 33 => ⟨S1x3x4x256x512, .f32⟩
  | 34 => ⟨S1x3x4x256x512, .f32⟩
  | 35 => ⟨S1x3x4x256x512, .f32⟩
  | 36 => ⟨S1x3x4x256x512, .f32⟩
  | 37 => ⟨S1x3x4x256x512, .f32⟩
  | 38 => ⟨S1x3x4x256x512, .f32⟩
  | 39 => ⟨S10x3x4x256x512, .f32⟩
  | 40 => ⟨S1x3x4x256x1, .f32⟩
  | 41 => ⟨S3x4x256x1, .f32⟩
  | 42 => ⟨S3x4x256x512, .f32⟩
  | 43 => ⟨S3x4x256x512, .f32⟩
  | 44 => ⟨S1x3x4x256x512, .f32⟩
  | 45 => ⟨S3x4x256x512, .f32⟩
  | 46 => ⟨S3x4x256x512, .f32⟩
  | 47 => ⟨S1x3x4x256x1, .f32⟩
  | 48 => ⟨S3x4x256x1, .f32⟩
  | 49 => ⟨S3x4x256x512, .f32⟩
  | 50 => ⟨S3x4x256x512, .f32⟩
  | 51 => ⟨S1x3x4x256x512, .f32⟩
  | 52 => ⟨S3x4x256x512, .f32⟩
  | 53 => ⟨S3x4x256x512, .f32⟩
  | 54 => ⟨S1x3x4x256x1, .f32⟩
  | 55 => ⟨S3x4x256x1, .f32⟩
  | 56 => ⟨S3x4x256x512, .f32⟩
  | 57 => ⟨S3x4x256x512, .f32⟩
  | 58 => ⟨S1x3x4x256x512, .f32⟩
  | 59 => ⟨S3x4x256x512, .f32⟩
  | 60 => ⟨S3x4x256x512, .f32⟩
  | 61 => ⟨S1x3x4x256x1, .f32⟩
  | 62 => ⟨S3x4x256x1, .f32⟩
  | 63 => ⟨S3x4x256x512, .f32⟩
  | 64 => ⟨S3x4x256x512, .f32⟩
  | 65 => ⟨S1x3x4x256x512, .f32⟩
  | 66 => ⟨S3x4x256x512, .f32⟩
  | 67 => ⟨S3x4x256x512, .f32⟩
  | 68 => ⟨S1x3x4x256x1, .f32⟩
  | 69 => ⟨S3x4x256x1, .f32⟩
  | 70 => ⟨S3x4x256x512, .f32⟩
  | 71 => ⟨S3x4x256x512, .f32⟩
  | 72 => ⟨S1x3x4x256x512, .f32⟩
  | 73 => ⟨S3x4x256x512, .f32⟩
  | 74 => ⟨S3x4x256x512, .f32⟩
  | 75 => ⟨S1x3x4x256x1, .f32⟩
  | 76 => ⟨S3x4x256x1, .f32⟩
  | 77 => ⟨S3x4x256x512, .f32⟩
  | 78 => ⟨S3x4x256x512, .f32⟩
  | 79 => ⟨S1x3x4x256x512, .f32⟩
  | 80 => ⟨S3x4x256x512, .f32⟩
  | 81 => ⟨S3x4x256x512, .f32⟩
  | 82 => ⟨S1x3x4x256x1, .f32⟩
  | 83 => ⟨S3x4x256x1, .f32⟩
  | 84 => ⟨S3x4x256x512, .f32⟩
  | 85 => ⟨S3x4x256x512, .f32⟩
  | 86 => ⟨S1x3x4x256x512, .f32⟩
  | 87 => ⟨S3x4x256x512, .f32⟩
  | 88 => ⟨S3x4x256x512, .f32⟩
  | 89 => ⟨S1x3x4x256x1, .f32⟩
  | 90 => ⟨S3x4x256x1, .f32⟩
  | 91 => ⟨S3x4x256x512, .f32⟩
  | 92 => ⟨S3x4x256x512, .f32⟩
  | 93 => ⟨S1x3x4x256x512, .f32⟩
  | 94 => ⟨S3x4x256x512, .f32⟩
  | 95 => ⟨S3x4x256x512, .f32⟩
  | 96 => ⟨S1x3x4x256x1, .f32⟩
  | 97 => ⟨S3x4x256x1, .f32⟩
  | 98 => ⟨S3x4x256x512, .f32⟩
  | 99 => ⟨S3x4x256x512, .f32⟩
  | 100 => ⟨S1x3x4x256x512, .f32⟩
  | 101 => ⟨S3x4x256x512, .f32⟩
  | 102 => ⟨S3x4x256x512, .f32⟩
  | 103 => ⟨S1x3x4x256x512, .f32⟩
  | 104 => ⟨S1x3x4x256x512, .f32⟩
  | 105 => ⟨S1x3x4x256x512, .f32⟩
  | 106 => ⟨S1x3x4x256x512, .f32⟩
  | 107 => ⟨S1x3x4x256x512, .f32⟩
  | 108 => ⟨S1x3x4x256x512, .f32⟩
  | 109 => ⟨S1x3x4x256x512, .f32⟩
  | 110 => ⟨S1x3x4x256x512, .f32⟩
  | 111 => ⟨S1x3x4x256x512, .f32⟩
  | 112 => ⟨S1x3x4x256x512, .f32⟩
  | 113 => ⟨S10x3x4x256x512, .f32⟩
  | 114 => ⟨S10x3x4x256x512, .bf16⟩
  | 115 => ⟨S10x3x4x256x512, .bf16⟩
  | 116 => ⟨S_, .f32⟩
  | 117 => ⟨S3x10x64x4x256, .f32⟩
  | 118 => ⟨S3x10x64x4x256, .f32⟩
  | 119 => ⟨S3x10x4x256x64, .f32⟩
  | 120 => ⟨S3x10x64x4x256, .f32⟩
  | 121 => ⟨S3x10x64x4x1, .f32⟩
  | 122 => ⟨S3x10x64x4x256, .f32⟩
  | 123 => ⟨S3x10x64x4x256, .f32⟩
  | 124 => ⟨S3x10x4x256x64, .f32⟩
  | 125 => ⟨S3x10x64x4x256, .f32⟩
  | 126 => ⟨S3x10x64x4x256, .f32⟩
  | 127 => ⟨S3x10x64x4x256, .f32⟩
  | _ => ⟨S3x640x4x256, .fp8e4m3⟩

abbrev hbmTy0_2 (i : Nat) : BufTy := match i % 128 with
  | 0 => ⟨S3x10x4x256x64, .f32⟩
  | 1 => ⟨S3x10x64x4x256, .f32⟩
  | 2 => ⟨S3x10x64x4x256, .f32⟩
  | 3 => ⟨S3x10x64x4x256, .f32⟩
  | 4 => ⟨S3x10x64x4x256, .f32⟩
  | 5 => ⟨S3x10x4x256x64, .f32⟩
  | 6 => ⟨S3x10x64x4x256, .f32⟩
  | 7 => ⟨S3x10x64x4x256, .f32⟩
  | 8 => ⟨S3x10x64x4x256, .f32⟩
  | 9 => ⟨S3x10x4x512x64, .f32⟩
  | 10 => ⟨S3x10x64x4x512, .f32⟩
  | 11 => ⟨S3x10x4x512x64, .f32⟩
  | 12 => ⟨S3x10x64x4x512, .f32⟩
  | 13 => ⟨S3x10x64x4x512, .f32⟩
  | 14 => ⟨S3x10x64x4x256, .f32⟩
  | 15 => ⟨S3x10x64x4x256, .f32⟩
  | 16 => ⟨S3x10x64x4x256, .f32⟩
  | 17 => ⟨S3x640x4x256, .f32⟩
  | 18 => ⟨S_, .f32⟩
  | 19 => ⟨S_, .f32⟩
  | 20 => ⟨S3x640x4x256, .f32⟩
  | 21 => ⟨S3x640x4x256, .f32⟩
  | 22 => ⟨S3x640x4x256, .bf16⟩
  | 23 => ⟨S3x640x4x256, .f32⟩
  | 24 => ⟨S3x640x4x256, .bf16⟩
  | 25 => ⟨S3x640x4x512, .f32⟩
  | 26 => ⟨S3x640x4x512, .bf16⟩
  | _ => ⟨S3x640x4x256, .fp8e4m3⟩

abbrev hbmTy (i : Nat) : BufTy := match i / 128 with
  | 0 => hbmTy0_0 i
  | 1 => hbmTy0_1 i
  | 2 => hbmTy0_2 i
  | _ => ⟨S3x640x4x256, .fp8e4m3⟩

abbrev bufTy : (tb : Table) → Fin (tcTables nBuf tb) → BufTy
  | .hbm, ⟨i, _⟩ => hbmTy i
  | .local _ .vmem, ⟨0, _⟩ => ⟨S3x640x4x256, .fp8e4m3⟩
  | .local _ .vmem, ⟨1, _⟩ => ⟨S3x640x4x256, .fp8e4m3⟩
  | .local _ .vmem, ⟨2, _⟩ => ⟨S3x640x4x512, .fp8e4m3⟩
  | .local _ .vmem, ⟨3, _⟩ => ⟨S3x640x4x512, .fp8e5m2⟩
  | .local _ .vmem, ⟨4, _⟩ => ⟨S3x640x4x256, .f32⟩
  | .local _ .vmem, ⟨5, _⟩ => ⟨S3x640x4x256, .f32⟩
  | .local _ .vmem, ⟨6, _⟩ => ⟨S3x640x4x512, .bf16⟩
  | .local _ .vmem, ⟨7, _⟩ => ⟨S3x640x4x512, .bf16⟩
  | _, _ => ⟨S3x640x4x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_0 : Ref sig .tc := ⟨.hbm, 59, rfl⟩
abbrev main_call1_v5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_0 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_1 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_2 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_cst_3 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_call4_cst : Ref sig .tc := ⟨.hbm, 274, rfl⟩
abbrev main_call4_v0 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x640x4x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x4x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x4x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x4x512 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x4x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x4x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.TripsKernel.lean ====
module

public import proofs.«01_k».proof.Proof.Gen.Kernel.Frame
public import proofs.«01_k».proof.Proof.Gen.Kernel.Loops
public import Idealize.ShloMosaic.Lib.Pipeline.Frame
public import Idealize.ShloMosaic.Lib.Pipeline.FrameSuffix
public import Idealize.ShloMosaic.Lib.Tactic

@[expose] public section

set_option maxRecDepth 65536

noncomputable section

namespace Cert.Proof.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Memref `M`'s buffer on core `c`. -/
abbrev Bf (c : Dev nD) {sp : Space} {S : Shape} {e : EltTy} (M : Memref sig .tc sp S e) : Type := Buf (Elt F) (M.view.loc (c : Thread nD τ))
/-- The buffer held whole at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The `dv` rows seen two bf16 rows to a group. -/
abbrev R12 (M : Memref sig .tc .vmem S10240x128 .bf16) (h : M.IsWhole) : Memref sig .tc .vmem S5120x2x128 .bf16 :=
  M.reshape S5120x2x128 reshapes_S10240x128_S5120x2x128.1 reshapes_S10240x128_S5120x2x128.2 h.contiguous

/-- Every buffer the body touches: the inputs' staging buffers at the contents they came with, the others at some contents. -/
abbrev Held (c : Dev nD) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) : sProp 𝕄 :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c (R12 arg12 harg12) f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f) ∗ (∃ f, pt c arg26 f) ∗ (∃ f, pt c arg27 f) ∗ (∃ f, pt c arg28 f))

variable (c : Dev nD) (i : grid0.Coords) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole)

set_option maxHeartbeats 0 in
/-- One trip of the forward sweep keeps `Held`. -/
theorem trip1 (arg0 : BitVec 32) (v0 v1 : IVec S64x64 32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (k : Fin k0_t1_loop.trips) :
    Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 ⊢ wp Idealize.ShloMosaic.frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 v0 v1 k ()) (fun _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9) := by
  unfold k0_t1_body
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  sl_step
  sl_close

set_option maxHeartbeats 0 in
/-- One trip of the backward sweep keeps `Held`. -/
theorem trip2 (arg0 : BitVec 32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (k : Fin k0_t2_loop.trips) (acc : FVec F S8x128 .f32) :
    Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 ⊢ wp Idealize.ShloMosaic.frame (wpE (defs₀ (F := F)) Variants.none (c : Thread nD τ) none) Set.univ
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k acc) (fun _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9) := by
  unfold k0_t2_body
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  sl_step
  sl_close

/-- The forward sweep's loop keeps `Held`. -/
@[sl_loop] def loop1 (arg0 : BitVec 32) (v0 v1 : IVec S64x64 32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 v0 v1 where
  inv := fun _ _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9
  step := fun k _ => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 v0 v1 f1 f2 f3 f4 f5 f6 f7 f8 f9 k

/-- The backward sweep's loop keeps `Held`. -/
@[sl_loop] def loop2 (arg0 : BitVec 32) (init : FVec F S8x128 .f32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 init where
  inv := fun _ _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9
  step := fun k acc => trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 f1 f2 f3 f4 f5 f6 f7 f8 f9 k acc

set_option maxHeartbeats 0 in
/-- The whole body keeps `Held`. -/
theorem body_run (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 ⊢ wp Idealize.ShloMosaic.frame (wpE (defs₀ (F := F)) Variants.none (c : Thread nD τ) none) Set.univ
      (cc0_gla_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9) := by
  rw [cc0_gla_bwd_eq_skeleton]; unfold cc0_gla_bwd_skel
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  sl_exec
  sl_step
  sl_close

end Cert.Proof.Kernel.Fr

end
-- ==== Proof.RunKernel.lean ====
module

public import proofs.«01_k».proof.Proof.Gen.Kernel.Frame
public import proofs.«01_k».proof.Proof.TripsKernel

@[expose] public section

set_option maxRecDepth 65536

noncomputable section

namespace Cert.Proof.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The five outputs: nothing here says what they hold. -/
def outs : Fin 14 → Bool := ![false, false, false, false, false, false, false, false, false, true, true, true, true, true]

/-- The proof data: each array as the region finds it, the inputs' blocks in place, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed (cfg := cfg0) 9 t
    | ⟨10, _⟩ => Dat.unnamed (cfg := cfg0) 10 t
    | ⟨11, _⟩ => Dat.unnamed (cfg := cfg0) 11 t
    | ⟨12, _⟩ => Dat.unnamed (cfg := cfg0) 12 t
    | ⟨13, _⟩ => Dat.unnamed (cfg := cfg0) 13 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

/-- Reshaping a buffer does not move its cells. -/
theorem pt_R12 (c : Dev nD) (M : Memref sig .tc .vmem S10240x128 .bf16) (h : M.IsWhole) (f : Bf (F := F) c M) :
    pt (F := F) c (R12 M h) f = pt c M f := by
  unfold pt; rw [show (R12 M h).view.set = M.view.set from Memref.set_view_reshape ..]

/-- A whole scratch buffer's cells are all of them. -/
theorem pt_whole (c : Dev nD) (b : Ref sig .tc) (f : Bf (F := F) c (Memref.whole b)) :
    pt (F := F) c (Memref.whole b) f = ((c.tc : Thread nD τ).loc b ↦{fullShare} f) := by
  have e : (Memref.whole b).view.set = Finset.univ := by rw [Memref.view_whole, View.set_whole]
  unfold pt; rw [e]

theorem of_whole (c : Dev nD) (b : Ref sig .tc) (f : Bf (F := F) c (Memref.whole b)) :
    pt (F := F) c (Memref.whole b) f ⊢ ((c.tc : Thread nD τ).loc b ↦{fullShare} f) := by rw [pt_whole]
theorem of_R12 (c : Dev nD) (M : Memref sig .tc .vmem S10240x128 .bf16) (h : M.IsWhole) (f : Bf (F := F) c M) :
    pt (F := F) c (R12 M h) f ⊢ pt c M f := by rw [pt_R12]

/-- What the body is called with, and what it returns. -/
def bodyPre (c : Dev nD) (t : Fin cfg0.N) : sProp 𝕄 :=
  iprop((dats m 0 c).Φ t.castSucc ∗ (dats m 0 c).owesAt () t.castSucc ∗ (∃ d : (cfg0.win 0).block.Idx → Elt F (cfg0.win 0).elt, owns (c : Thread nD τ) (win0_0.stage (cfg0.slots t 0)) fullShare ((dats m 0 c).before 0 t d)) ∗ (∃ d : (cfg0.win 1).block.Idx → Elt F (cfg0.win 1).elt, owns (c : Thread nD τ) (win0_1.stage (cfg0.slots t 1)) fullShare ((dats m 0 c).before 1 t d)) ∗ (∃ d : (cfg0.win 2).block.Idx → Elt F (cfg0.win 2).elt, owns (c : Thread nD τ) (win0_2.stage (cfg0.slots t 2)) fullShare ((dats m 0 c).before 2 t d)) ∗ (∃ d : (cfg0.win 3).block.Idx → Elt F (cfg0.win 3).elt, owns (c : Thread nD τ) (win0_3.stage (cfg0.slots t 3)) fullShare ((dats m 0 c).before 3 t d)) ∗ (∃ d : (cfg0.win 4).block.Idx → Elt F (cfg0.win 4).elt, owns (c : Thread nD τ) (win0_4.stage (cfg0.slots t 4)) fullShare ((dats m 0 c).before 4 t d)) ∗ (∃ d : (cfg0.win 5).block.Idx → Elt F (cfg0.win 5).elt, owns (c : Thread nD τ) (win0_5.stage (cfg0.slots t 5)) fullShare ((dats m 0 c).before 5 t d)) ∗ (∃ d : (cfg0.win 6).block.Idx → Elt F (cfg0.win 6).elt, owns (c : Thread nD τ) (win0_6.stage (cfg0.slots t 6)) fullShare ((dats m 0 c).before 6 t d)) ∗ (∃ d : (cfg0.win 7).block.Idx → Elt F (cfg0.win 7).elt, owns (c : Thread nD τ) (win0_7.stage (cfg0.slots t 7)) fullShare ((dats m 0 c).before 7 t d)) ∗ (∃ d : (cfg0.win 8).block.Idx → Elt F (cfg0.win 8).elt, owns (c : Thread nD τ) (win0_8.stage (cfg0.slots t 8)) fullShare ((dats m 0 c).before 8 t d)) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d))

set_option maxHeartbeats 0 in
/-- The body at a point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c)]
  simp only [after_0, after_1, after_2, after_3, after_4, after_5, after_6, after_7, after_8]
  unfold owns
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩⟩, Hg⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩⟩
  iapply (wp_wand_r Idealize.ShloMosaic.frame (wpE (defs₀ (F := F)) Variants.none (c : Thread nD τ) none) Set.univ)
  isplitl [H0 H1 H2 H3 H4 H5 H6 H7 H8 H9 H10 H11 H12 H13 S0 S1 S2 S3 S4 S5 S6 S7 S8 S9 S10 S11 S12 S13]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) f0 f1 f2 f3 f4 f5 f6 f7 f8)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists f9; iexact H9
    isplitl [H10]; · iexists f10; iexact H10
    isplitl [H11]; · iexists f11; rw [pt_R12]; iexact H11
    isplitl [H12]; · iexists f12; iexact H12
    isplitl [H13]; · iexists f13; iexact H13
    isplitl [S0]; · iexists s0; rw [pt_whole]; iexact S0
    isplitl [S1]; · iexists s1; rw [pt_whole]; iexact S1
    isplitl [S2]; · iexists s2; rw [pt_whole]; iexact S2
    isplitl [S3]; · iexists s3; rw [pt_whole]; iexact S3
    isplitl [S4]; · iexists s4; rw [pt_whole]; iexact S4
    isplitl [S5]; · iexists s5; rw [pt_whole]; iexact S5
    isplitl [S6]; · iexists s6; rw [pt_whole]; iexact S6
    isplitl [S7]; · iexists s7; rw [pt_whole]; iexact S7
    isplitl [S8]; · iexists s8; rw [pt_whole]; iexact S8
    isplitl [S9]; · iexists s9; rw [pt_whole]; iexact S9
    isplitl [S10]; · iexists s10; rw [pt_whole]; iexact S10
    isplitl [S11]; · iexists s11; rw [pt_whole]; iexact S11
    isplitl [S12]; · iexists s12; rw [pt_whole]; iexact S12
    iexists s13; rw [pt_whole]; iexact S13
  iintro %_ ⟨H0, H1, H2, H3, H4, H5, H6, H7, H8, ⟨%f9, H9⟩, ⟨%f10, H10⟩, ⟨%f11, H11⟩, ⟨%f12, H12⟩, ⟨%f13, H13⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩⟩
  isplitl [Hg S0 S1 S2 S3 S4 S5 S6 S7 S8 S9 S10 S11 S12 S13]
  · isplitl [S0 S1 S2 S3 S4 S5 S6 S7 S8 S9 S10 S11 S12 S13]
    · isplitl [S0]; · iexists s0; iapply (of_whole c _ s0); iexact S0
      isplitl [S1]; · iexists s1; iapply (of_whole c _ s1); iexact S1
      isplitl [S2]; · iexists s2; iapply (of_whole c _ s2); iexact S2
      isplitl [S3]; · iexists s3; iapply (of_whole c _ s3); iexact S3
      isplitl [S4]; · iexists s4; iapply (of_whole c _ s4); iexact S4
      isplitl [S5]; · iexists s5; iapply (of_whole c _ s5); iexact S5
      isplitl [S6]; · iexists s6; iapply (of_whole c _ s6); iexact S6
      isplitl [S7]; · iexists s7; iapply (of_whole c _ s7); iexact S7
      isplitl [S8]; · iexists s8; iapply (of_whole c _ s8); iexact S8
      isplitl [S9]; · iexists s9; iapply (of_whole c _ s9); iexact S9
      isplitl [S10]; · iexists s10; iapply (of_whole c _ s10); iexact S10
      isplitl [S11]; · iexists s11; iapply (of_whole c _ s11); iexact S11
      isplitl [S12]; · iexists s12; iapply (of_whole c _ s12); iexact S12
      iexists s13; iapply (of_whole c _ s13); iexact S13
    iexact Hg
  isplitl [HO]; · iexact HO
  isplitl [H0]
  · iexists f0; isplitr
    · ipureintro; exact h0
    iexact H0
  isplitl [H1]
  · iexists f1; isplitr
    · ipureintro; exact h1
    iexact H1
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists f5; isplitr
    · ipureintro; exact h5
    iexact H5
  isplitl [H6]
  · iexists f6; isplitr
    · ipureintro; exact h6
    iexact H6
  isplitl [H7]
  · iexists f7; isplitr
    · ipureintro; exact h7
    iexact H7
  isplitl [H8]
  · iexists f8; isplitr
    · ipureintro; exact h8
    iexact H8
  isplitl [H9]
  · iexists _; iexists f9; isplitr
    · ipureintro; rfl
    iexact H9
  isplitl [H10]
  · iexists _; iexists f10; isplitr
    · ipureintro; rfl
    iexact H10
  isplitl [H11]
  · iexists _; iexists f11; isplitr
    · ipureintro; rfl
    iapply (of_R12 c _ _ f11); iexact H11
  isplitl [H12]
  · iexists _; iexists f12; isplitr
    · ipureintro; rfl
    iexact H12
  iexists _; iexists f13; isplitr
  · ipureintro; rfl
  iexact H13

theorem defs₀_row (t : Fin cfg0.N) : defs₀ (F := F) .tc cfg0.body (cfg0.bodyArgs t (cfg0.slots t)) = bodyAt0 t := by
  unfold defs₀; rw [Defs.onTc_tc]

/-- The pipeline's obligation, the outputs forgotten. -/
theorem body_obligation (c : Dev nD) :
    BodyObligation (dats (F := F) m 0 c) (defs₀ (F := F)) Variants.none () Set.univ outs := fun t => by
  rw [bigSep_W0, bigSep_W0, defs₀_row]
  exact triple_restated (sound_body m c t) rfl .rfl fun _ => .rfl

/-- The buffers that the lines after the region write. -/
def tailW : Finset (Ref sig .tc) := {main_v10, main_v11, main_v12, main_v13, main_v14, main_v15, main_v16, main_v17, main_v18, main_v19, main_v20, main_v21, main_v22, main_v23, main_v24}

set_option maxHeartbeats 800000 in
theorem sfx_writes : ∀ ops ∈ ([hostOps1] : List (List (HloOp τ sig (Elt F)))), ∀ op ∈ ops, ∀ b : Ref sig .tc,
    Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    first
      | (obtain rfl := Proc.devRef_injective .tc hb; decide)

set_option backward.isDefEq.respectTransparency.types false in
/-- Every execution ends, the bypassed buffers as they were and every counter at zero. -/
theorem run_main : θ_run defs (onTc (τ := τ) (main (F := F))) (s₀ m ρ)
    (fun r => Pipeline.RDat.FramePostR (cfgs 0) (fun c => (dats m 0 c).toRForget outs) tailW (fun c b => V0 m c (Proc.devRef .tc b)) r ∧ r.2.sem = fun _ => 0) :=
  Pipeline.θ_run_frame_around_T_forget (Q' := _) cfgs (dats m) (0 : Fin 1) launch0 defs₀ Variants.none outs tailW m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The argument arrays of a final state are as launched. -/
theorem args_kept {r : PUnit × MemSt nD τ sig (Elt F)}
    (h : Pipeline.RDat.FramePostR (cfgs 0) (fun c => (dats m 0 c).toRForget outs) tailW (fun c b => V0 m c (Proc.devRef .tc b)) r) (c : Dev nD) :
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) :=
  ⟨(h.arr_in c 0 rfl).trans (V_main_arg0 m c),
    (h.arr_in c 1 rfl).trans (V_main_arg1 m c),
    (h.arr_in c 6 rfl).trans (V_main_arg2 m c),
    (h.arr_in c 7 rfl).trans (V_main_arg3 m c),
    ((h c).2 main_arg4 (Finset.mem_sdiff.mpr ⟨Pipeline.mem_restRefs_of main_arg4 (by decide) (by decide), by decide⟩)).trans (V_main_arg4 m c),
    (h.arr_in c 8 rfl).trans (V_main_arg5 m c),
    ((h c).2 main_arg6 (Finset.mem_sdiff.mpr ⟨Pipeline.mem_restRefs_of main_arg6 (by decide) (by decide), by decide⟩)).trans (V_main_arg6 m c),
    (h.arr_in c 5 rfl).trans (V_main_arg7 m c),
    ((h c).2 main_arg8 (Finset.mem_sdiff.mpr ⟨Pipeline.mem_restRefs_of main_arg8 (by decide) (by decide), by decide⟩)).trans (V_main_arg8 m c)⟩

/-- The frame. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8)) ∧ r.2.sem = fun _ => 0) :=
  (θ_run defs _ _).mono (fun _ h => ⟨fun c => args_kept m h.1 c, h.2⟩) (run_main m ρ)

end Cert.Proof.Kernel.Fr

end
-- ==== Proof.Names.lean ====
module

public import proofs.«01_k».proof.Proof.Gen.KernelIdeal.Frame
public import proofs.«01_k».proof.Proof.Gen.KernelIdeal.Loops
public import Idealize.ShloMosaic.Lib.Pipeline.Frame
public import Idealize.ShloMosaic.Lib.Pipeline.FrameSuffix
public import Idealize.ShloMosaic.Lib.Tactic

@[expose] public section

set_option maxRecDepth 65536

noncomputable section

namespace Cert.Proof.KernelIdeal.Vl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s buffer on core `c`. -/
abbrev Bf (c : Dev nD) {sp : Space} {S : Shape} {e : EltTy} (M : Memref sig .tc sp S e) : Type := Buf (Elt F) (M.view.loc (c : Thread nD τ))
/-- The buffer held whole at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The `dv` rows seen two bf16 rows to a group. -/
abbrev R12 (M : Memref sig .tc .vmem S10240x128 .bf16) (h : M.IsWhole) : Memref sig .tc .vmem S5120x2x128 .bf16 :=
  M.reshape S5120x2x128 reshapes_S10240x128_S5120x2x128.1 reshapes_S10240x128_S5120x2x128.2 h.contiguous

/-- Every buffer the body touches: the inputs' staging buffers at the contents they came with, the others at some contents. -/
abbrev Held (c : Dev nD) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) : sProp 𝕄 :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c (R12 arg12 harg12) f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f) ∗ (∃ f, pt c arg26 f) ∗ (∃ f, pt c arg27 f) ∗ (∃ f, pt c arg28 f))

variable (c : Dev nD) (i : grid0.Coords) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole)

set_option maxHeartbeats 0 in
/-- One trip of the forward sweep keeps `Held`. -/
theorem trip1 (arg0 : BitVec 32) (v0 v1 : IVec S64x64 32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (k : Fin k0_t1_loop.trips) :
    Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 ⊢ wp Idealize.ShloMosaic.frame (wpE (defs₀ (F := F)) Variants.none (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 v0 v1 k ()) (fun _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9) := by
  unfold k0_t1_body
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  set_option sl_exec.resultNames true in sl_exec
  sl_step
  sl_close

set_option maxHeartbeats 0 in
/-- One trip of the backward sweep keeps `Held`. -/
theorem trip2 (arg0 : BitVec 32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (k : Fin k0_t2_loop.trips) (acc : FVec F S8x128 .f32) :
    Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 ⊢ wp Idealize.ShloMosaic.frame (wpE (defs₀ (F := F)) Variants.none (c : Thread nD τ) none) Set.univ
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k acc) (fun _ => Held c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9) := by
  unfold k0_t2_body
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩
  set_option sl_exec.resultNames true in sl_exec
  sl_step
  sl_close

end Cert.Proof.KernelIdeal.Vl

end
-- ==== Proof.Spec.lean ====
module

public import Idealize.ShloMosaic.PureOps.Ideal.Laws

@[expose] public section

noncomputable section

namespace Cert.Proof.Spec

open Idealize.ShloMosaic
open scoped BigOperators

/-- One batch element's arguments, indexed by plain numbers: time, head, channel for the codes and the gate; time, head for
the row scales of the incoming gradient; chunk, head for the scales of `q`, `k` and `v`. -/
structure Inp where
  q : ℕ → ℕ → ℕ → EReal
  k : ℕ → ℕ → ℕ → EReal
  g : ℕ → ℕ → ℕ → EReal
  v : ℕ → ℕ → ℕ → EReal
  d : ℕ → ℕ → ℕ → EReal
  ds : ℕ → ℕ → EReal
  qs : ℕ → ℕ → EReal
  ks : ℕ → ℕ → EReal
  vs : ℕ → ℕ → EReal

/-- The softmax scale, one sixteenth, as the f32 constant both programs name. -/
def cS : EReal := Ideal.ofBits FTy.f32 1031798784#32

variable (D : Inp)

/-- The gate's running sum within chunk `n` up to its row `i`. -/
def cum (n : ℕ) : ℕ → ℕ → ℕ → EReal
  | 0, h, c => 0 + D.g (64 * n + 0) h c
  | i + 1, h, c => cum n i h c + D.g (64 * n + (i + 1)) h c

/-- The decoded query, -/
def Q (n i h c : ℕ) : EReal := D.q (64 * n + i) h c * D.qs n h
/-- and key. -/
def K (n i h c : ℕ) : EReal := D.k (64 * n + i) h c * D.ks n h
/-- The query against the chunk's start, -/
def qg (n i h c : ℕ) : EReal := cS * Q D n i h c * Ideal.exp (cum D n i h c)
/-- the key against the chunk's start -/
def kg (n i h c : ℕ) : EReal := K D n i h c * Ideal.exp (0 - cum D n i h c)
/-- and against its end. -/
def kd (n i h c : ℕ) : EReal := K D n i h c * Ideal.exp (cum D n 63 h c - cum D n i h c)
/-- The decoded incoming gradient. -/
def dod (n i h v : ℕ) : EReal := D.d (64 * n + i) h v * D.ds (64 * n + i) h
/-- The masked products of the incoming gradient and the values within a chunk. -/
def Am (n h i j : ℕ) : EReal :=
  if j ≤ i then (∑ v : Fin 512, D.d (64 * n + i) h v * D.v (64 * n + j) h v) * (D.ds (64 * n + i) h * D.vs n h) else 0
/-- The masked scores within a chunk, transposed. -/
def PT (n h j i : ℕ) : EReal := if j ≤ i then ∑ c : Fin 256, kg D n j h c * qg D n i h c else 0
/-- The state before chunk `n`. -/
def St : ℕ → ℕ → ℕ → ℕ → EReal
  | 0, _, _, _ => 0
  | n + 1, h, v, c => Ideal.exp (cum D n 63 h c) * St n h v c + (∑ i : Fin 64, D.v (64 * n + i) h v * kd D n i h c) * D.vs n h
/-- The gradient of the query before its gate and scale. -/
def X (n i h c : ℕ) : EReal :=
  (∑ v : Fin 512, D.d (64 * n + i) h v * St D n h v c) * D.ds (64 * n + i) h + ∑ j : Fin 64, Am D n h i j * kg D n j h c
/-- The gradient of the query. -/
def dq (n i h c : ℕ) : EReal := cS * Ideal.exp (cum D n i h c) * X D n i h c
/-- The gradient of the state after `m` chunks from the end. -/
def Dt : ℕ → ℕ → ℕ → ℕ → EReal
  | 0, _, _, _ => 0
  | m + 1, h, v, c => Ideal.exp (cum D (9 - m) 63 h c) * Dt m h v c + ∑ i : Fin 64, dod D (9 - m) i h v * qg D (9 - m) i h c
/-- The key's gradient through the state -/
def Y (n i h c : ℕ) : EReal := (∑ v : Fin 512, D.v (64 * n + i) h v * Dt D (9 - n) h v c) * D.vs n h
/-- and within the chunk. -/
def Z (n i h c : ℕ) : EReal := ∑ j : Fin 64, Am D n h j i * qg D n j h c
/-- The gradient of the key. -/
def dk (n i h c : ℕ) : EReal :=
  Ideal.exp (cum D n 63 h c - cum D n i h c) * Y D n i h c + Ideal.exp (0 - cum D n i h c) * Z D n i h c
/-- The gradient of the value. -/
def dv (n i h v : ℕ) : EReal :=
  (∑ c : Fin 256, kd D n i h c * Dt D (9 - n) h v c) + ∑ j : Fin 64, PT D n h i j * dod D n j h v
/-- The gradient of the gate's running sum. -/
def db (n i h c : ℕ) : EReal := Q D n i h c * dq D n i h c - K D n i h c * dk D n i h c
/-- The sum of the last `s` rows of `db`. -/
def suf : ℕ → ℕ → ℕ → EReal
  | 0, _, _ => 0
  | s + 1, h, c => suf s h c + db D ((639 - s) / 64) ((639 - s) % 64) h c
/-- The gradient of the gate. -/
def dg (t h c : ℕ) : EReal := suf D (640 - t) h c

/-- Row `r`, lane `l` of an array of eight rows a time step, two lane groups of four heads. -/
def row3 (φ : ℕ → ℕ → ℕ → EReal) (r l : ℕ) : EReal := φ (r / 8) (r % 4) (r / 4 % 2 * 128 + l)
/-- Row `r`, lane `l` of an array of sixteen rows a time step, four lane groups of four heads. -/
def row4 (φ : ℕ → ℕ → ℕ → EReal) (r l : ℕ) : EReal := φ (r / 16) (r % 4) (r / 4 % 4 * 128 + l)
/-- A chunked function by global time. -/
def tm (φ : ℕ → ℕ → ℕ → ℕ → EReal) (t h c : ℕ) : EReal := φ (t / 64) (t % 64) h c

end Cert.Proof.Spec

end
-- ==== Proof.Reads.lean ====
module

public import Idealize.ShloMosaic.Lib.WritesUnit
public import Idealize.ShloMosaic.Lib.Exec.Geometry
public import Idealize.ShloMosaic.Lib.Pointwise.Index

@[expose] public section

namespace Cert.Proof.Reads

open Idealize.ShloMosaic

variable {sig : RefSig} {κ : Kind} {sp : Space} {s : Shape} {e : EltTy} {Val : EltTy → Type}

/-- After writes that all agree with one function `φ` of the buffer's index, an element some piece covers, or that read `φ`
before, reads `φ`. -/
theorem read_writes_of_pieces (v : View sig κ sp s e) (f : v.ty.Contents Val) (φ : s.Idx → Val e) (y : s.Idx) :
    ∀ L : List (View.Piece Val s e), (∀ p ∈ L, ∀ x : p.1.shape.Idx, p.2 x = φ (p.1.emb x)) →
      ((∃ p ∈ L, y ∈ p.1.set) ∨ v.read Val f y = φ y) → v.read Val (v.writes Val f L) y = φ y
  | [], _, h => by
    rcases h with ⟨_, hm, _⟩ | h
    · exact absurd hm List.not_mem_nil
    · exact h
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_of_pieces v f φ y L (fun q hq => hP q (List.mem_cons_of_mem _ hq)) ?_
      rcases h with ⟨q, hq, hyq⟩ | h
      · rcases List.mem_cons.mp hq with rfl | hq'
        · exact absurd hyq hy
        · exact .inl ⟨q, hq', hyq⟩
      · exact .inr h

/-- A load covered by the writes before it, all agreeing with one function, reads that function. -/
theorem readCov_of_pieces [∀ e, Nonempty (Val e)] (v : View sig κ sp s e) (φ : s.Idx → Val e) (L : List (View.Piece Val s e))
    (B : LoadRect s) (x : B.shape.Idx) (hL : ∀ p ∈ L, ∀ x : p.1.shape.Idx, p.2 x = φ (p.1.emb x))
    (hc : ∃ p ∈ L, B.idx x ∈ p.1.set) : v.readCov L B x = φ (B.idx x) :=
  read_writes_of_pieces v v.junk φ (B.idx x) L hL (.inl hc)

/-- Membership in a rectangle by naming the position. -/
theorem mem_of {r : Rect s} {y : s.Idx} (x : r.shape.Idx) (h : ∀ a, r.off a + r.stride a * (x a).val = (y a).val) : y ∈ r.set := by
  rw [LoadRect.mem_set]
  exact fun a => ⟨(x a).val, (x a).isLt, (h a).symm⟩

/-- The same for a unit-stride rectangle whose offsets have a closed form. -/
theorem mem_unit {off off' size : Fin s.rank → ℕ} {inb : ∀ a, off a + size a ≤ s.size a} {y : s.Idx} (heq : off = off')
    (h : ∀ a, off' a ≤ (y a).val ∧ (y a).val < off' a + size a) : y ∈ (Rect.unit off size inb).set := by
  subst heq
  rw [Rect.mem_set_unit]
  exact h

end Cert.Proof.Reads
-- ==== Proof.Ctx.lean ====
module

public import proofs.«01_k».proof.Proof.Names
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

set_option maxHeartbeats 0
set_option genInjectivity false
set_option genSizeOf false
set_option genSizeOfSpec false
/-- The body's buffers and what they hold, at the extended reals. -/
structure Ctx where
  c : Dev nD
  i : grid0.Coords
  arg1 : Memref sig .tc .vmem S1x640x4x256 .fp8e4m3
  harg1 : arg1.IsWhole
  arg2 : Memref sig .tc .vmem S1x640x4x256 .fp8e4m3
  harg2 : arg2.IsWhole
  arg3 : Memref sig .tc .vmem S10240x128 .fp8e4m3
  harg3 : arg3.IsWhole
  arg4 : Memref sig .tc .vmem S10240x128 .fp8e5m2
  harg4 : arg4.IsWhole
  arg5 : Memref sig .tc .vmem S5120x128 .f32
  harg5 : arg5.IsWhole
  arg6 : Memref sig .tc .vmem S1x640x4 .f32
  harg6 : arg6.IsWhole
  arg7 : Memref sig .tc .smem S3x10x4 .f32
  harg7 : arg7.IsWhole
  arg8 : Memref sig .tc .smem S3x10x4 .f32
  harg8 : arg8.IsWhole
  arg9 : Memref sig .tc .smem S3x10x4 .f32
  harg9 : arg9.IsWhole
  arg10 : Memref sig .tc .vmem S5120x128 .bf16
  harg10 : arg10.IsWhole
  arg11 : Memref sig .tc .vmem S5120x128 .bf16
  harg11 : arg11.IsWhole
  arg12 : Memref sig .tc .vmem S10240x128 .bf16
  harg12 : arg12.IsWhole
  arg13 : Memref sig .tc .vmem S5120x128 .f32
  harg13 : arg13.IsWhole
  arg14 : Memref sig .tc .vmem S5120x128 .f32
  harg14 : arg14.IsWhole
  arg15 : Memref sig .tc .vmem S640x8x128 .fp8e4m3
  harg15 : arg15.IsWhole
  arg16 : Memref sig .tc .vmem S640x8x128 .fp8e4m3
  harg16 : arg16.IsWhole
  arg17 : Memref sig .tc .vmem S5120x128 .f32
  harg17 : arg17.IsWhole
  arg18 : Memref sig .tc .vmem S512x128 .f32
  harg18 : arg18.IsWhole
  arg19 : Memref sig .tc .vmem S512x128 .f32
  harg19 : arg19.IsWhole
  arg20 : Memref sig .tc .vmem S512x128 .f32
  harg20 : arg20.IsWhole
  arg21 : Memref sig .tc .vmem S4x640x256 .bf16
  harg21 : arg21.IsWhole
  arg22 : Memref sig .tc .vmem S4x640x256 .bf16
  harg22 : arg22.IsWhole
  arg23 : Memref sig .tc .vmem S4x640x512 .bf16
  harg23 : arg23.IsWhole
  arg24 : Memref sig .tc .vmem S4x640x512 .bf16
  harg24 : arg24.IsWhole
  arg25 : Memref sig .tc .vmem S4x640x64 .bf16
  harg25 : arg25.IsWhole
  arg26 : Memref sig .tc .vmem S4x640x64 .bf16
  harg26 : arg26.IsWhole
  arg27 : Memref sig .tc .vmem S80x128 .f32
  harg27 : arg27.IsWhole
  arg28 : Memref sig .tc .vmem S4x512x256 .f32
  harg28 : arg28.IsWhole
  f1 : Bf (F := Ideal) c arg1
  f2 : Bf (F := Ideal) c arg2
  f3 : Bf (F := Ideal) c arg3
  f4 : Bf (F := Ideal) c arg4
  f5 : Bf (F := Ideal) c arg5
  f6 : Bf (F := Ideal) c arg6
  f7 : Bf (F := Ideal) c arg7
  f8 : Bf (F := Ideal) c arg8
  f9 : Bf (F := Ideal) c arg9
  f10 : Bf (F := Ideal) c arg10
  f11 : Bf (F := Ideal) c arg11
  f12 : Bf (F := Ideal) c (R12 arg12 harg12)
  f13 : Bf (F := Ideal) c arg13
  f14 : Bf (F := Ideal) c arg14
  f15 : Bf (F := Ideal) c arg15
  f16 : Bf (F := Ideal) c arg16
  f17 : Bf (F := Ideal) c arg17
  f18 : Bf (F := Ideal) c arg18
  f19 : Bf (F := Ideal) c arg19
  f20 : Bf (F := Ideal) c arg20
  f21 : Bf (F := Ideal) c arg21
  f22 : Bf (F := Ideal) c arg22
  f23 : Bf (F := Ideal) c arg23
  f24 : Bf (F := Ideal) c arg24
  f25 : Bf (F := Ideal) c arg25
  f26 : Bf (F := Ideal) c arg26
  f27 : Bf (F := Ideal) c arg27
  f28 : Bf (F := Ideal) c arg28

/-- The input windows hold batch element `D`. -/
structure Inputs (D : Spec.Inp) (x : Ctx) : Prop where
  q : ∀ y, x.arg1.view.read (Elt Ideal) x.f1 y = D.q (y 1).val (y 2).val (y 3).val
  k : ∀ y, x.arg2.view.read (Elt Ideal) x.f2 y = D.k (y 1).val (y 2).val (y 3).val
  v : ∀ y, x.arg3.view.read (Elt Ideal) x.f3 y = Spec.row4 D.v (y 0).val (y 1).val
  d : ∀ y, x.arg4.view.read (Elt Ideal) x.f4 y = Spec.row4 D.d (y 0).val (y 1).val
  g : ∀ y, x.arg5.view.read (Elt Ideal) x.f5 y = Spec.row3 D.g (y 0).val (y 1).val
  ds : ∀ y, x.arg6.view.read (Elt Ideal) x.f6 y = D.ds (y 1).val (y 2).val
  qs : ∀ y, (y 0).val = (x.i 0).val → x.arg7.view.read (Elt Ideal) x.f7 y = D.qs (y 1).val (y 2).val
  ks : ∀ y, (y 0).val = (x.i 0).val → x.arg8.view.read (Elt Ideal) x.f8 y = D.ks (y 1).val (y 2).val
  vs : ∀ y, (y 0).val = (x.i 0).val → x.arg9.view.read (Elt Ideal) x.f9 y = D.vs (y 1).val (y 2).val

variable {D : Spec.Inp}
open Spec

theorem rows8 (φ : ℕ → ℕ → ℕ → ℕ → EReal) (n t u l r : ℕ) (ht : t < 64) (hu : u < 8) (hr : r = 512 * n + 8 * t + u) :
    row3 (tm φ) r l = φ n t (u % 4) (u / 4 * 128 + l) := by
  subst hr
  unfold row3 tm
  congr 1 <;> omega

theorem rows8' (φ : ℕ → ℕ → ℕ → EReal) (n t u l r : ℕ) (ht : t < 64) (hu : u < 8) (hr : r = 512 * n + 8 * t + u) :
    row3 φ r l = φ (64 * n + t) (u % 4) (u / 4 * 128 + l) := by
  subst hr
  unfold row3
  congr 1 <;> omega

end Cert.Proof.KernelIdeal.Vl

end
-- ==== Proof.StepA.lean ====
module

public import proofs.«01_k».proof.Proof.Ctx
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

open Spec
variable {D : Spec.Inp}

theorem off5 : ∀ k, ∀ t : Fin 64, k0_off5 k (BitVec.ofNat 32 (8 * t.val)) = ![512 * k.val + 8 * t.val, 0] := by decide
theorem off7 : ∀ k, k0_off7 k = ![512 * k.val, 0] := by decide
theorem off6 : ∀ k, k0_off6 k = ![8 * k.val, 0] := by decide

theorem fz : (FloatOps.ofBits (F := Ideal) FTy.f32 0#32 : EReal) = 0 := Ideal.ofBits_zero_f32

variable (x : Ctx) (H : Inputs D x) (k : Fin k0_t1_loop.trips)
section
include H k
/-- Time step `t` of the chunk's gate. -/
theorem ld5 (w : BitVec 32) (inb) (t : Fin 64) (hw : w = BitVec.ofNat 32 (8 * t.val)) (u : Fin 8) (l : Fin 128) :
    View.readAt (Elt Ideal) x.arg5.view (Rect.unit (s := S5120x128) (k0_off5 k w) S8x128.size inb).toLoadRect x.f5 (ix2 u l)
      = D.g (64 * k.val + t.val) (u.val % 4) (u.val / 4 * 128 + l.val) := by
  refine (H.g _).trans ?_
  show row3 D.g (k0_off5 k w 0 + 1 * u.val) (k0_off5 k w 1 + 1 * l.val) = _
  subst hw
  rw [off5 k t]
  show row3 D.g (512 * k.val + 8 * t.val + 1 * u.val) (0 + 1 * l.val) = _
  rw [Nat.zero_add, Nat.one_mul, Nat.one_mul]
  exact rows8' _ _ _ _ _ _ t.isLt u.isLt rfl

theorem hv81 (u : Fin 8) (l : Fin 128) :
    (trip1.sl.v81 (F := Ideal) x.c x.arg5 x.f5 k) (ix2 u l) = cum D k.val 3 (u.val % 4) (u.val / 4 * 128 + l.val) := by
  unfold trip1.sl.v81
  unfold_payloads
  pointwise
  simp only [ld5 x H k 0#32 _ 0 rfl, ld5 x H k 8#32 _ 1 rfl, ld5 x H k 16#32 _ 2 rfl, ld5 x H k 24#32 _ 3 rfl, trip1.sl.cst_30, fz]

  rfl
theorem hv121 (u : Fin 8) (l : Fin 128) :
    (trip1.sl.v121 (F := Ideal) x.c x.arg5 x.f5 k) (ix2 u l) = cum D k.val 7 (u.val % 4) (u.val / 4 * 128 + l.val) := by
  unfold trip1.sl.v121
  unfold_payloads
  pointwise
  simp only [ld5 x H k 32#32 _ 4 rfl, ld5 x H k 40#32 _ 5 rfl, ld5 x H k 48#32 _ 6 rfl, ld5 x H k 56#32 _ 7 rfl, hv81 x H k]

  rfl
theorem hv161 (u : Fin 8) (l : Fin 128) :
    (trip1.sl.v161 (F := Ideal) x.c x.arg5 x.f5 k) (ix2 u l) = cum D k.val 11 (u.val % 4) (u.val / 4 * 128 + l.val) := by
  unfold trip1.sl.v161
  unfold_payloads
  pointwise
  simp only [ld5 x H k 64#32 _ 8 rfl, ld5 x H k 72#32 _ 9 rfl, ld5 x H k 80#32 _ 10 rfl, ld5 x H k 88#32 _ 11 rfl, hv121 x H k]

  rfl
theorem hv201 (u : Fin 8) (l : Fin 128) :
    (trip1.sl.v201 (F := Ideal) x.c x.arg5 x.f5 k) (ix2 u l) = cum D k.val 15 (u.val % 4) (u.val / 4 * 128 + l.val) := by
  unfold trip1.sl.v201
  unfold_payloads
  pointwise
  simp only [ld5 x H k 96#32 _ 12 rfl, ld5 x H k 104#32 _ 13 rfl, ld5 x H k 112#32 _ 14 rfl, ld5 x H k 120#32 _ 15 rfl, hv161 x H k]

  rfl
theorem hv241 (u : Fin 8) (l : Fin 128) :
    (trip1.sl.v241 (F := Ideal) x.c x.arg5 x.f5 k) (ix2 u l) = cum D k.val 19 (u.val % 4) (u.val / 4 * 128 + l.val) := by
  unfold trip1.sl.v241
  unfold_payloads
  pointwise
  simp only [ld5 x H k 128#32 _ 16 rfl, ld5 x H k 136#32 _ 17 rfl, ld5 x H k 144#32 _ 18 rfl, ld5 x H k 152#32 _ 19 rfl, hv201 x H k]

  rfl
theorem hv281 (u : Fin 8) (l : Fin 128) :
    (trip1.sl.v281 (F := Ideal) x.c x.arg5 x.f5 k) (ix2 u l) = cum D k.val 23 (u.val % 4) (u.val / 4 * 128 + l.val) := by
  unfold trip1.sl.v281
  unfold_payloads
  pointwise
  simp only [ld5 x H k 160#32 _ 20 rfl, ld5 x H k 168#32 _ 21 rfl, ld5 x H k 176#32 _ 22 rfl, ld5 x H k 184#32 _ 23 rfl, hv241 x H k]

  rfl
theorem hv321 (u : Fin 8) (l : Fin 128) :
    (trip1.sl.v321 (F := Ideal) x.c x.arg5 x.f5 k) (ix2 u l) = cum D k.val 27 (u.val % 4) (u.val / 4 * 128 + l.val) := by
  unfold trip1.sl.v321
  unfold_payloads
  pointwise
  simp only [ld5 x H k 192#32 _ 24 rfl, ld5 x H k 200#32 _ 25 rfl, ld5 x H k 208#32 _ 26 rfl, ld5 x H k 216#32 _ 27 rfl, hv281 x H k]

  rfl
theorem hv361 (u : Fin 8) (l : Fin 128) :
    (trip1.sl.v361 (F := Ideal) x.c x.arg5 x.f5 k) (ix2 u l) = cum D k.val 31 (u.val % 4) (u.val / 4 * 128 + l.val) := by
  unfold trip1.sl.v361
  unfold_payloads
  pointwise
  simp only [ld5 x H k 224#32 _ 28 rfl, ld5 x H k 232#32 _ 29 rfl, ld5 x H k 240#32 _ 30 rfl, ld5 x H k 248#32 _ 31 rfl, hv321 x H k]

  rfl
theorem hv401 (u : Fin 8) (l : Fin 128) :
    (trip1.sl.v401 (F := Ideal) x.c x.arg5 x.f5 k) (ix2 u l) = cum D k.val 35 (u.val % 4) (u.val / 4 * 128 + l.val) := by
  unfold trip1.sl.v401
  unfold_payloads
  pointwise
  simp only [ld5 x H k 256#32 _ 32 rfl, ld5 x H k 264#32 _ 33 rfl, ld5 x H k 272#32 _ 34 rfl, ld5 x H k 280#32 _ 35 rfl, hv361 x H k]

  rfl
theorem hv441 (u : Fin 8) (l : Fin 128) :
    (trip1.sl.v441 (F := Ideal) x.c x.arg5 x.f5 k) (ix2 u l) = cum D k.val 39 (u.val % 4) (u.val / 4 * 128 + l.val) := by
  unfold trip1.sl.v441
  unfold_payloads
  pointwise
  simp only [ld5 x H k 288#32 _ 36 rfl, ld5 x H k 296#32 _ 37 rfl, ld5 x H k 304#32 _ 38 rfl, ld5 x H k 312#32 _ 39 rfl, hv401 x H k]

  rfl
theorem hv481 (u : Fin 8) (l : Fin 128) :
    (trip1.sl.v481 (F := Ideal) x.c x.arg5 x.f5 k) (ix2 u l) = cum D k.val 43 (u.val % 4) (u.val / 4 * 128 + l.val) := by
  unfold trip1.sl.v481
  unfold_payloads
  pointwise
  simp only [ld5 x H k 320#32 _ 40 rfl, ld5 x H k 328#32 _ 41 rfl, ld5 x H k 336#32 _ 42 rfl, ld5 x H k 344#32 _ 43 rfl, hv441 x H k]

  rfl
theorem hv521 (u : Fin 8) (l : Fin 128) :
    (trip1.sl.v521 (F := Ideal) x.c x.arg5 x.f5 k) (ix2 u l) = cum D k.val 47 (u.val % 4) (u.val / 4 * 128 + l.val) := by
  unfold trip1.sl.v521
  unfold_payloads
  pointwise
  simp only [ld5 x H k 352#32 _ 44 rfl, ld5 x H k 360#32 _ 45 rfl, ld5 x H k 368#32 _ 46 rfl, ld5 x H k 376#32 _ 47 rfl, hv481 x H k]

  rfl
theorem hv561 (u : Fin 8) (l : Fin 128) :
    (trip1.sl.v561 (F := Ideal) x.c x.arg5 x.f5 k) (ix2 u l) = cum D k.val 51 (u.val % 4) (u.val / 4 * 128 + l.val) := by
  unfold trip1.sl.v561
  unfold_payloads
  pointwise
  simp only [ld5 x H k 384#32 _ 48 rfl, ld5 x H k 392#32 _ 49 rfl, ld5 x H k 400#32 _ 50 rfl, ld5 x H k 408#32 _ 51 rfl, hv521 x H k]

  rfl
theorem hv601 (u : Fin 8) (l : Fin 128) :
    (trip1.sl.v601 (F := Ideal) x.c x.arg5 x.f5 k) (ix2 u l) = cum D k.val 55 (u.val % 4) (u.val / 4 * 128 + l.val) := by
  unfold trip1.sl.v601
  unfold_payloads
  pointwise
  simp only [ld5 x H k 416#32 _ 52 rfl, ld5 x H k 424#32 _ 53 rfl, ld5 x H k 432#32 _ 54 rfl, ld5 x H k 440#32 _ 55 rfl, hv561 x H k]

  rfl
theorem hv641 (u : Fin 8) (l : Fin 128) :
    (trip1.sl.v641 (F := Ideal) x.c x.arg5 x.f5 k) (ix2 u l) = cum D k.val 59 (u.val % 4) (u.val / 4 * 128 + l.val) := by
  unfold trip1.sl.v641
  unfold_payloads
  pointwise
  simp only [ld5 x H k 448#32 _ 56 rfl, ld5 x H k 456#32 _ 57 rfl, ld5 x H k 464#32 _ 58 rfl, ld5 x H k 472#32 _ 59 rfl, hv601 x H k]

  rfl
theorem hv681 (u : Fin 8) (l : Fin 128) :
    (trip1.sl.v681 (F := Ideal) x.c x.arg5 x.f5 k) (ix2 u l) = cum D k.val 63 (u.val % 4) (u.val / 4 * 128 + l.val) := by
  unfold trip1.sl.v681
  unfold_payloads
  pointwise
  simp only [ld5 x H k 480#32 _ 60 rfl, ld5 x H k 488#32 _ 61 rfl, ld5 x H k 496#32 _ 62 rfl, ld5 x H k 504#32 _ 63 rfl, hv641 x H k]

  rfl

end
/-- A stored row group of the running sum agrees with it. -/
theorem pc17 (k : Fin k0_t1_loop.trips) (w : BitVec 32) (t : Fin 64) (hw : w = BitVec.ofNat 32 (8 * t.val)) (inb) (P : S8x128.Idx → EReal)
    (hP : ∀ (u : Fin 8) (l : Fin 128), P (ix2 u l) = cum D k.val t.val (u.val % 4) (u.val / 4 * 128 + l.val))
    (z : (Rect.unit (s := S5120x128) (k0_off5 k w) S8x128.size inb).shape.Idx) :
    P z = row3 (tm (cum D)) ((Rect.unit (s := S5120x128) (k0_off5 k w) S8x128.size inb).emb z 0).val ((Rect.unit (s := S5120x128) (k0_off5 k w) S8x128.size inb).emb z 1).val := by
  obtain ⟨u, l, rfl⟩ : ∃ (u : Fin 8) (l : Fin 128), z = ix2 u l := ⟨z 0, z 1, eq_ix2 z⟩
  rw [hP]
  show _ = row3 (tm (cum D)) (k0_off5 k w 0 + 1 * u.val) (k0_off5 k w 1 + 1 * l.val)
  subst hw
  rw [off5 k t]
  show _ = row3 (tm (cum D)) (512 * k.val + 8 * t.val + 1 * u.val) (0 + 1 * l.val)
  rw [Nat.zero_add, Nat.one_mul, Nat.one_mul]
  exact (rows8 _ _ _ _ _ _ t.isLt u.isLt rfl).symm

set_option maxHeartbeats 0 in
section
include H k
theorem P17 : ∀ p ∈ (trip1.sl.H17_64 (F := Ideal) x.c x.arg5 x.f5 k), ∀ z : p.1.shape.Idx,
    p.2 z = row3 (tm (cum D)) (p.1.emb z 0).val (p.1.emb z 1).val := by
  unfold trip1.sl.H17_64
  refine List.forall_mem_cons.mpr ⟨pc17 k 504#32 63 rfl (k0_off5_inb k 63) _ ?_, ?_⟩
  · intro u l; unfold trip1.sl.v686; unfold_payloads; pointwise; simp only [ld5 x H k 480#32 _ 60 rfl, ld5 x H k 488#32 _ 61 rfl, ld5 x H k 496#32 _ 62 rfl, ld5 x H k 504#32 _ 63 rfl, hv641 x H k]; rfl
  refine List.forall_mem_cons.mpr ⟨pc17 k 496#32 62 rfl (k0_off5_inb k 62) _ ?_, ?_⟩
  · intro u l; unfold_payloads; pointwise; simp only [ld5 x H k 480#32 _ 60 rfl, ld5 x H k 488#32 _ 61 rfl, ld5 x H k 496#32 _ 62 rfl, hv641 x H k]; rfl
  refine List.forall_mem_cons.mpr ⟨pc17 k 488#32 61 rfl (k0_off5_inb k 61) _ ?_, ?_⟩
  · intro u l; unfold_payloads; pointwise; simp only [ld5 x H k 480#32 _ 60 rfl, ld5 x H k 488#32 _ 61 rfl, hv641 x H k]; rfl
  refine List.forall_mem_cons.mpr ⟨pc17 k 480#32 60 rfl (k0_off5_inb k 60) _ ?_, ?_⟩
  · intro u l; unfold_payloads; pointwise; simp only [ld5 x H k 480#32 _ 60 rfl, hv641 x H k]; rfl
  refine List.forall_mem_cons.mpr ⟨pc17 k 472#32 59 rfl (k0_off5_inb k 59) _ ?_, ?_⟩
  · intro u l; unfold trip1.sl.v646; unfold_payloads; pointwise; simp only [ld5 x H k 448#32 _ 56 rfl, ld5 x H k 456#32 _ 57 rfl, ld5 x H k 464#32 _ 58 rfl, ld5 x H k 472#32 _ 59 rfl, hv601 x H k]; rfl
  refine List.forall_mem_cons.mpr ⟨pc17 k 464#32 58 rfl (k0_off5_inb k 58) _ ?_, ?_⟩
  · intro u l; unfold_payloads; pointwise; simp only [ld5 x H k 448#32 _ 56 rfl, ld5 x H k 456#32 _ 57 rfl, ld5 x H k 464#32 _ 58 rfl, hv601 x H k]; rfl
  refine List.forall_mem_cons.mpr ⟨pc17 k 456#32 57 rfl (k0_off5_inb k 57) _ ?_, ?_⟩
  · intro u l; unfold_payloads; pointwise; simp only [ld5 x H k 448#32 _ 56 rfl, ld5 x H k 456#32 _ 57 rfl, hv601 x H k]; rfl
  refine List.forall_mem_cons.mpr ⟨pc17 k 448#32 56 rfl (k0_off5_inb k 56) _ ?_, ?_⟩
  · intro u l; unfold_payloads; pointwise; simp only [ld5 x H k 448#32 _ 56 rfl, hv601 x H k]; rfl
  refine List.forall_mem_cons.mpr ⟨pc17 k 440#32 55 rfl (k0_off5_inb k 55) _ ?_, ?_⟩
  · intro u l; unfold trip1.sl.v606; unfold_payloads; pointwise; simp only [ld5 x H k 416#32 _ 52 rfl, ld5 x H k 424#32 _ 53 rfl, ld5 x H k 432#32 _ 54 rfl, ld5 x H k 440#32 _ 55 rfl, hv561 x H k]; rfl
  refine List.forall_mem_cons.mpr ⟨pc17 k 432#32 54 rfl (k0_off5_inb k 54) _ ?_, ?_⟩
  · intro u l; unfold_payloads; pointwise; simp only [ld5 x H k 416#32 _ 52 rfl, ld5 x H k 424#32 _ 53 rfl, ld5 x H k 432#32 _ 54 rfl, hv561 x H k]; rfl
  refine List.forall_mem_cons.mpr ⟨pc17 k 424#32 53 rfl (k0_off5_inb k 53) _ ?_, ?_⟩
  · intro u l; unfold_payloads; pointwise; simp only [ld5 x H k 416#32 _ 52 rfl, ld5 x H k 424#32 _ 53 rfl, hv561 x H k]; rfl
  refine List.forall_mem_cons.mpr ⟨pc17 k 416#32 52 rfl (k0_off5_inb k 52) _ ?_, ?_⟩
  · intro u l; unfold_payloads; pointwise; simp only [ld5 x H k 416#32 _ 52 rfl, hv561 x H k]; rfl
  refine List.forall_mem_cons.mpr ⟨pc17 k 408#32 51 rfl (k0_off5_inb k 51) _ ?_, ?_⟩
  · intro u l; unfold trip1.sl.v566; unfold_payloads; pointwise; simp only [ld5 x H k 384#32 _ 48 rfl, ld5 x H k 392#32 _ 49 rfl, ld5 x H k 400#32 _ 50 rfl, ld5 x H k 408#32 _ 51 rfl, hv521 x H k]; rfl
  refine List.forall_mem_cons.mpr ⟨pc17 k 400#32 50 rfl (k0_off5_inb k 50) _ ?_, ?_⟩
  · intro u l; unfold_payloads; pointwise; simp only [ld5 x H k 384#32 _ 48 rfl, ld5 x H k 392#32 _ 49 rfl, ld5 x H k 400#32 _ 50 rfl, hv521 x H k]; rfl
  refine List.forall_mem_cons.mpr ⟨pc17 k 392#32 49 rfl (k0_off5_inb k 49) _ ?_, ?_⟩
  · intro u l; unfold_payloads; pointwise; simp only [ld5 x H k 384#32 _ 48 rfl, ld5 x H k 392#32 _ 49 rfl, hv521 x H k]; rfl
  refine List.forall_mem_cons.mpr ⟨pc17 k 384#32 48 rfl (k0_off5_inb k 48) _ ?_, ?_⟩
  · intro u l; unfold_payloads; pointwise; simp only [ld5 x H k 384#32 _ 48 rfl, hv521 x H k]; rfl
  refine List.forall_mem_cons.mpr ⟨pc17 k 376#32 47 rfl (k0_off5_inb k 47) _ ?_, ?_⟩
  · intro u l; unfold trip1.sl.v526; unfold_payloads; pointwise; simp only [ld5 x H k 352#32 _ 44 rfl, ld5 x H k 360#32 _ 45 rfl, ld5 x H k 368#32 _ 46 rfl, ld5 x H k 376#32 _ 47 rfl, hv481 x H k]; rfl
  refine List.forall_mem_cons.mpr ⟨pc17 k 368#32 46 rfl (k0_off5_inb k 46) _ ?_, ?_⟩
  · intro u l; unfold_payloads; pointwise; simp only [ld5 x H k 352#32 _ 44 rfl, ld5 x H k 360#32 _ 45 rfl, ld5 x H k 368#32 _ 46 rfl, hv481 x H k]; rfl
  refine List.forall_mem_cons.mpr ⟨pc17 k 360#32 45 rfl (k0_off5_inb k 45) _ ?_, ?_⟩
  · intro u l; unfold_payloads; pointwise; simp only [ld5 x H k 352#32 _ 44 rfl, ld5 x H k 360#32 _ 45 rfl, hv481 x H k]; rfl
  refine List.forall_mem_cons.mpr ⟨pc17 k 352#32 44 rfl (k0_off5_inb k 44) _ ?_, ?_⟩
  · intro u l; unfold_payloads; pointwise; simp only [ld5 x H k 352#32 _ 44 rfl, hv481 x H k]; rfl
  refine List.forall_mem_cons.mpr ⟨pc17 k 344#32 43 rfl (k0_off5_inb k 43) _ ?_, ?_⟩
  · intro u l; unfold trip1.sl.v486; unfold_payloads; pointwise; simp only [ld5 x H k 320#32 _ 40 rfl, ld5 x H k 328#32 _ 41 rfl, ld5 x H k 336#32 _ 42 rfl, ld5 x H k 344#32 _ 43 rfl, hv441 x H k]; rfl
  refine List.forall_mem_cons.mpr ⟨pc17 k 336#32 42 rfl (k0_off5_inb k 42) _ ?_, ?_⟩
  · intro u l; unfold_payloads; pointwise; simp only [ld5 x H k 320#32 _ 40 rfl, ld5 x H k 328#32 _ 41 rfl, ld5 x H k 336#32 _ 42 rfl, hv441 x H k]; rfl
  refine List.forall_mem_cons.mpr ⟨pc17 k 328#32 41 rfl (k0_off5_inb k 41) _ ?_, ?_⟩
  · intro u l; unfold_payloads; pointwise; simp only [ld5 x H k 320#32 _ 40 rfl, ld5 x H k 328#32 _ 41 rfl, hv441 x H k]; rfl
  refine List.forall_mem_cons.mpr ⟨pc17 k 320#32 40 rfl (k0_off5_inb k 40) _ ?_, ?_⟩
  · intro u l; unfold_payloads; pointwise; simp only [ld5 x H k 320#32 _ 40 rfl, hv441 x H k]; rfl
  refine List.forall_mem_cons.mpr ⟨pc17 k 312#32 39 rfl (k0_off5_inb k 39) _ ?_, ?_⟩
  · intro u l; unfold trip1.sl.v446; unfold_payloads; pointwise; simp only [ld5 x H k 288#32 _ 36 rfl, ld5 x H k 296#32 _ 37 rfl, ld5 x H k 304#32 _ 38 rfl, ld5 x H k 312#32 _ 39 rfl, hv401 x H k]; rfl
  refine List.forall_mem_cons.mpr ⟨pc17 k 304#32 38 rfl (k0_off5_inb k 38) _ ?_, ?_⟩
  · intro u l; unfold_payloads; pointwise; simp only [ld5 x H k 288#32 _ 36 rfl, ld5 x H k 296#32 _ 37 rfl, ld5 x H k 304#32 _ 38 rfl, hv401 x H k]; rfl
  refine List.forall_mem_cons.mpr ⟨pc17 k 296#32 37 rfl (k0_off5_inb k 37) _ ?_, ?_⟩
  · intro u l; unfold_payloads; pointwise; simp only [ld5 x H k 288#32 _ 36 rfl, ld5 x H k 296#32 _ 37 rfl, hv401 x H k]; rfl
  refine List.forall_mem_cons.mpr ⟨pc17 k 288#32 36 rfl (k0_off5_inb k 36) _ ?_, ?_⟩
  · intro u l; unfold_payloads; pointwise; simp only [ld5 x H k 288#32 _ 36 rfl, hv401 x H k]; rfl
  refine List.forall_mem_cons.mpr ⟨pc17 k 280#32 35 rfl (k0_off5_inb k 35) _ ?_, ?_⟩
  · intro u l; unfold trip1.sl.v406; unfold_payloads; pointwise; simp only [ld5 x H k 256#32 _ 32 rfl, ld5 x H k 264#32 _ 33 rfl, ld5 x H k 272#32 _ 34 rfl, ld5 x H k 280#32 _ 35 rfl, hv361 x H k]; rfl
  refine List.forall_mem_cons.mpr ⟨pc17 k 272#32 34 rfl (k0_off5_inb k 34) _ ?_, ?_⟩
  · intro u l; unfold_payloads; pointwise; simp only [ld5 x H k 256#32 _ 32 rfl, ld5 x H k 264#32 _ 33 rfl, ld5 x H k 272#32 _ 34 rfl, hv361 x H k]; rfl
  refine List.forall_mem_cons.mpr ⟨pc17 k 264#32 33 rfl (k0_off5_inb k 33) _ ?_, ?_⟩
  · intro u l; unfold_payloads; pointwise; simp only [ld5 x H k 256#32 _ 32 rfl, ld5 x H k 264#32 _ 33 rfl, hv361 x H k]; rfl
  refine List.forall_mem_cons.mpr ⟨pc17 k 256#32 32 rfl (k0_off5_inb k 32) _ ?_, ?_⟩
  · intro u l; unfold_payloads; pointwise; simp only [ld5 x H k 256#32 _ 32 rfl, hv361 x H k]; rfl
  refine List.forall_mem_cons.mpr ⟨pc17 k 248#32 31 rfl (k0_off5_inb k 31) _ ?_, ?_⟩
  · intro u l; unfold trip1.sl.v366; unfold_payloads; pointwise; simp only [ld5 x H k 224#32 _ 28 rfl, ld5 x H k 232#32 _ 29 rfl, ld5 x H k 240#32 _ 30 rfl, ld5 x H k 248#32 _ 31 rfl, hv321 x H k]; rfl
  refine List.forall_mem_cons.mpr ⟨pc17 k 240#32 30 rfl (k0_off5_inb k 30) _ ?_, ?_⟩
  · intro u l; unfold_payloads; pointwise; simp only [ld5 x H k 224#32 _ 28 rfl, ld5 x H k 232#32 _ 29 rfl, ld5 x H k 240#32 _ 30 rfl, hv321 x H k]; rfl
  refine List.forall_mem_cons.mpr ⟨pc17 k 232#32 29 rfl (k0_off5_inb k 29) _ ?_, ?_⟩
  · intro u l; unfold_payloads; pointwise; simp only [ld5 x H k 224#32 _ 28 rfl, ld5 x H k 232#32 _ 29 rfl, hv321 x H k]; rfl
  refine List.forall_mem_cons.mpr ⟨pc17 k 224#32 28 rfl (k0_off5_inb k 28) _ ?_, ?_⟩
  · intro u l; unfold_payloads; pointwise; simp only [ld5 x H k 224#32 _ 28 rfl, hv321 x H k]; rfl
  refine List.forall_mem_cons.mpr ⟨pc17 k 216#32 27 rfl (k0_off5_inb k 27) _ ?_, ?_⟩
  · intro u l; unfold trip1.sl.v326; unfold_payloads; pointwise; simp only [ld5 x H k 192#32 _ 24 rfl, ld5 x H k 200#32 _ 25 rfl, ld5 x H k 208#32 _ 26 rfl, ld5 x H k 216#32 _ 27 rfl, hv281 x H k]; rfl
  refine List.forall_mem_cons.mpr ⟨pc17 k 208#32 26 rfl (k0_off5_inb k 26) _ ?_, ?_⟩
  · intro u l; unfold_payloads; pointwise; simp only [ld5 x H k 192#32 _ 24 rfl, ld5 x H k 200#32 _ 25 rfl, ld5 x H k 208#32 _ 26 rfl, hv281 x H k]; rfl
  refine List.forall_mem_cons.mpr ⟨pc17 k 200#32 25 rfl (k0_off5_inb k 25) _ ?_, ?_⟩
  · intro u l; unfold_payloads; pointwise; simp only [ld5 x H k 192#32 _ 24 rfl, ld5 x H k 200#32 _ 25 rfl, hv281 x H k]; rfl
  refine List.forall_mem_cons.mpr ⟨pc17 k 192#32 24 rfl (k0_off5_inb k 24) _ ?_, ?_⟩
  · intro u l; unfold_payloads; pointwise; simp only [ld5 x H k 192#32 _ 24 rfl, hv281 x H k]; rfl
  refine List.forall_mem_cons.mpr ⟨pc17 k 184#32 23 rfl (k0_off5_inb k 23) _ ?_, ?_⟩
  · intro u l; unfold trip1.sl.v286; unfold_payloads; pointwise; simp only [ld5 x H k 160#32 _ 20 rfl, ld5 x H k 168#32 _ 21 rfl, ld5 x H k 176#32 _ 22 rfl, ld5 x H k 184#32 _ 23 rfl, hv241 x H k]; rfl
  refine List.forall_mem_cons.mpr ⟨pc17 k 176#32 22 rfl (k0_off5_inb k 22) _ ?_, ?_⟩
  · intro u l; unfold_payloads; pointwise; simp only [ld5 x H k 160#32 _ 20 rfl, ld5 x H k 168#32 _ 21 rfl, ld5 x H k 176#32 _ 22 rfl, hv241 x H k]; rfl
  refine List.forall_mem_cons.mpr ⟨pc17 k 168#32 21 rfl (k0_off5_inb k 21) _ ?_, ?_⟩
  · intro u l; unfold_payloads; pointwise; simp only [ld5 x H k 160#32 _ 20 rfl, ld5 x H k 168#32 _ 21 rfl, hv241 x H k]; rfl
  refine List.forall_mem_cons.mpr ⟨pc17 k 160#32 20 rfl (k0_off5_inb k 20) _ ?_, ?_⟩
  · intro u l; unfold_payloads; pointwise; simp only [ld5 x H k 160#32 _ 20 rfl, hv241 x H k]; rfl
  refine List.forall_mem_cons.mpr ⟨pc17 k 152#32 19 rfl (k0_off5_inb k 19) _ ?_, ?_⟩
  · intro u l; unfold trip1.sl.v246; unfold_payloads; pointwise; simp only [ld5 x H k 128#32 _ 16 rfl, ld5 x H k 136#32 _ 17 rfl, ld5 x H k 144#32 _ 18 rfl, ld5 x H k 152#32 _ 19 rfl, hv201 x H k]; rfl
  refine List.forall_mem_cons.mpr ⟨pc17 k 144#32 18 rfl (k0_off5_inb k 18) _ ?_, ?_⟩
  · intro u l; unfold_payloads; pointwise; simp only [ld5 x H k 128#32 _ 16 rfl, ld5 x H k 136#32 _ 17 rfl, ld5 x H k 144#32 _ 18 rfl, hv201 x H k]; rfl
  refine List.forall_mem_cons.mpr ⟨pc17 k 136#32 17 rfl (k0_off5_inb k 17) _ ?_, ?_⟩
  · intro u l; unfold_payloads; pointwise; simp only [ld5 x H k 128#32 _ 16 rfl, ld5 x H k 136#32 _ 17 rfl, hv201 x H k]; rfl
  refine List.forall_mem_cons.mpr ⟨pc17 k 128#32 16 rfl (k0_off5_inb k 16) _ ?_, ?_⟩
  · intro u l; unfold_payloads; pointwise; simp only [ld5 x H k 128#32 _ 16 rfl, hv201 x H k]; rfl
  refine List.forall_mem_cons.mpr ⟨pc17 k 120#32 15 rfl (k0_off5_inb k 15) _ ?_, ?_⟩
  · intro u l; unfold trip1.sl.v206; unfold_payloads; pointwise; simp only [ld5 x H k 96#32 _ 12 rfl, ld5 x H k 104#32 _ 13 rfl, ld5 x H k 112#32 _ 14 rfl, ld5 x H k 120#32 _ 15 rfl, hv161 x H k]; rfl
  refine List.forall_mem_cons.mpr ⟨pc17 k 112#32 14 rfl (k0_off5_inb k 14) _ ?_, ?_⟩
  · intro u l; unfold_payloads; pointwise; simp only [ld5 x H k 96#32 _ 12 rfl, ld5 x H k 104#32 _ 13 rfl, ld5 x H k 112#32 _ 14 rfl, hv161 x H k]; rfl
  refine List.forall_mem_cons.mpr ⟨pc17 k 104#32 13 rfl (k0_off5_inb k 13) _ ?_, ?_⟩
  · intro u l; unfold_payloads; pointwise; simp only [ld5 x H k 96#32 _ 12 rfl, ld5 x H k 104#32 _ 13 rfl, hv161 x H k]; rfl
  refine List.forall_mem_cons.mpr ⟨pc17 k 96#32 12 rfl (k0_off5_inb k 12) _ ?_, ?_⟩
  · intro u l; unfold_payloads; pointwise; simp only [ld5 x H k 96#32 _ 12 rfl, hv161 x H k]; rfl
  refine List.forall_mem_cons.mpr ⟨pc17 k 88#32 11 rfl (k0_off5_inb k 11) _ ?_, ?_⟩
  · intro u l; unfold trip1.sl.v166; unfold_payloads; pointwise; simp only [ld5 x H k 64#32 _ 8 rfl, ld5 x H k 72#32 _ 9 rfl, ld5 x H k 80#32 _ 10 rfl, ld5 x H k 88#32 _ 11 rfl, hv121 x H k]; rfl
  refine List.forall_mem_cons.mpr ⟨pc17 k 80#32 10 rfl (k0_off5_inb k 10) _ ?_, ?_⟩
  · intro u l; unfold_payloads; pointwise; simp only [ld5 x H k 64#32 _ 8 rfl, ld5 x H k 72#32 _ 9 rfl, ld5 x H k 80#32 _ 10 rfl, hv121 x H k]; rfl
  refine List.forall_mem_cons.mpr ⟨pc17 k 72#32 9 rfl (k0_off5_inb k 9) _ ?_, ?_⟩
  · intro u l; unfold_payloads; pointwise; simp only [ld5 x H k 64#32 _ 8 rfl, ld5 x H k 72#32 _ 9 rfl, hv121 x H k]; rfl
  refine List.forall_mem_cons.mpr ⟨pc17 k 64#32 8 rfl (k0_off5_inb k 8) _ ?_, ?_⟩
  · intro u l; unfold_payloads; pointwise; simp only [ld5 x H k 64#32 _ 8 rfl, hv121 x H k]; rfl
  refine List.forall_mem_cons.mpr ⟨pc17 k 56#32 7 rfl (k0_off5_inb k 7) _ ?_, ?_⟩
  · intro u l; unfold trip1.sl.v126; unfold_payloads; pointwise; simp only [ld5 x H k 32#32 _ 4 rfl, ld5 x H k 40#32 _ 5 rfl, ld5 x H k 48#32 _ 6 rfl, ld5 x H k 56#32 _ 7 rfl, hv81 x H k]; rfl
  refine List.forall_mem_cons.mpr ⟨pc17 k 48#32 6 rfl (k0_off5_inb k 6) _ ?_, ?_⟩
  · intro u l; unfold_payloads; pointwise; simp only [ld5 x H k 32#32 _ 4 rfl, ld5 x H k 40#32 _ 5 rfl, ld5 x H k 48#32 _ 6 rfl, hv81 x H k]; rfl
  refine List.forall_mem_cons.mpr ⟨pc17 k 40#32 5 rfl (k0_off5_inb k 5) _ ?_, ?_⟩
  · intro u l; unfold_payloads; pointwise; simp only [ld5 x H k 32#32 _ 4 rfl, ld5 x H k 40#32 _ 5 rfl, hv81 x H k]; rfl
  refine List.forall_mem_cons.mpr ⟨pc17 k 32#32 4 rfl (k0_off5_inb k 4) _ ?_, ?_⟩
  · intro u l; unfold_payloads; pointwise; simp only [ld5 x H k 32#32 _ 4 rfl, hv81 x H k]; rfl
  refine List.forall_mem_cons.mpr ⟨pc17 k 24#32 3 rfl (k0_off5_inb k 3) _ ?_, ?_⟩
  · intro u l; unfold trip1.sl.v86; unfold_payloads; pointwise; simp only [ld5 x H k 0#32 _ 0 rfl, ld5 x H k 8#32 _ 1 rfl, ld5 x H k 16#32 _ 2 rfl, ld5 x H k 24#32 _ 3 rfl, trip1.sl.cst_30, fz]; rfl
  refine List.forall_mem_cons.mpr ⟨pc17 k 16#32 2 rfl (k0_off5_inb k 2) _ ?_, ?_⟩
  · intro u l; unfold_payloads; pointwise; simp only [ld5 x H k 0#32 _ 0 rfl, ld5 x H k 8#32 _ 1 rfl, ld5 x H k 16#32 _ 2 rfl, trip1.sl.cst_30, fz]; rfl
  refine List.forall_mem_cons.mpr ⟨pc17 k 8#32 1 rfl (k0_off5_inb k 1) _ ?_, ?_⟩
  · intro u l; unfold_payloads; pointwise; simp only [ld5 x H k 0#32 _ 0 rfl, ld5 x H k 8#32 _ 1 rfl, trip1.sl.cst_30, fz]; rfl
  refine List.forall_mem_cons.mpr ⟨pc17 k 0#32 0 rfl (k0_off5_inb k 0) _ ?_, ?_⟩
  · intro u l; unfold_payloads; pointwise; simp only [ld5 x H k 0#32 _ 0 rfl, trip1.sl.cst_30, fz]; rfl
  exact List.forall_mem_nil _

end
theorem g17 (x : Ctx) (k : Fin k0_t1_loop.trips) : ∀ t : Fin 64, ∃ p ∈ (trip1.sl.H17_64 (F := Ideal) x.c x.arg5 x.f5 k), ∃ inb, p.1 = Rect.unit (s := S5120x128) (k0_off5 k (BitVec.ofNat 32 (8 * t.val))) S8x128.size inb
  | ⟨0, _⟩ => ⟨_, List.getElem_mem (l := (trip1.sl.H17_64 (F := Ideal) x.c x.arg5 x.f5 k)) (n := 63) (by show 63 < 64; decide), k0_off5_inb k 0, rfl⟩
  | ⟨1, _⟩ => ⟨_, List.getElem_mem (l := (trip1.sl.H17_64 (F := Ideal) x.c x.arg5 x.f5 k)) (n := 62) (by show 62 < 64; decide), k0_off5_inb k 1, rfl⟩
  | ⟨2, _⟩ => ⟨_, List.getElem_mem (l := (trip1.sl.H17_64 (F := Ideal) x.c x.arg5 x.f5 k)) (n := 61) (by show 61 < 64; decide), k0_off5_inb k 2, rfl⟩
  | ⟨3, _⟩ => ⟨_, List.getElem_mem (l := (trip1.sl.H17_64 (F := Ideal) x.c x.arg5 x.f5 k)) (n := 60) (by show 60 < 64; decide), k0_off5_inb k 3, rfl⟩
  | ⟨4, _⟩ => ⟨_, List.getElem_mem (l := (trip1.sl.H17_64 (F := Ideal) x.c x.arg5 x.f5 k)) (n := 59) (by show 59 < 64; decide), k0_off5_inb k 4, rfl⟩
  | ⟨5, _⟩ => ⟨_, List.getElem_mem (l := (trip1.sl.H17_64 (F := Ideal) x.c x.arg5 x.f5 k)) (n := 58) (by show 58 < 64; decide), k0_off5_inb k 5, rfl⟩
  | ⟨6, _⟩ => ⟨_, List.getElem_mem (l := (trip1.sl.H17_64 (F := Ideal) x.c x.arg5 x.f5 k)) (n := 57) (by show 57 < 64; decide), k0_off5_inb k 6, rfl⟩
  | ⟨7, _⟩ => ⟨_, List.getElem_mem (l := (trip1.sl.H17_64 (F := Ideal) x.c x.arg5 x.f5 k)) (n := 56) (by show 56 < 64; decide), k0_off5_inb k 7, rfl⟩
  | ⟨8, _⟩ => ⟨_, List.getElem_mem (l := (trip1.sl.H17_64 (F := Ideal) x.c x.arg5 x.f5 k)) (n := 55) (by show 55 < 64; decide), k0_off5_inb k 8, rfl⟩
  | ⟨9, _⟩ => ⟨_, List.getElem_mem (l := (trip1.sl.H17_64 (F := Ideal) x.c x.arg5 x.f5 k)) (n := 54) (by show 54 < 64; decide), k0_off5_inb k 9, rfl⟩
  | ⟨10, _⟩ => ⟨_, List.getElem_mem (l := (trip1.sl.H17_64 (F := Ideal) x.c x.arg5 x.f5 k)) (n := 53) (by show 53 < 64; decide), k0_off5_inb k 10, rfl⟩
  | ⟨11, _⟩ => ⟨_, List.getElem_mem (l := (trip1.sl.H17_64 (F := Ideal) x.c x.arg5 x.f5 k)) (n := 52) (by show 52 < 64; decide), k0_off5_inb k 11, rfl⟩
  | ⟨12, _⟩ => ⟨_, List.getElem_mem (l := (trip1.sl.H17_64 (F := Ideal) x.c x.arg5 x.f5 k)) (n := 51) (by show 51 < 64; decide), k0_off5_inb k 12, rfl⟩
  | ⟨13, _⟩ => ⟨_, List.getElem_mem (l := (trip1.sl.H17_64 (F := Ideal) x.c x.arg5 x.f5 k)) (n := 50) (by show 50 < 64; decide), k0_off5_inb k 13, rfl⟩
  | ⟨14, _⟩ => ⟨_, List.getElem_mem (l := (trip1.sl.H17_64 (F := Ideal) x.c x.arg5 x.f5 k)) (n := 49) (by show 49 < 64; decide), k0_off5_inb k 14, rfl⟩
  | ⟨15, _⟩ => ⟨_, List.getElem_mem (l := (trip1.sl.H17_64 (F := Ideal) x.c x.arg5 x.f5 k)) (n := 48) (by show 48 < 64; decide), k0_off5_inb k 15, rfl⟩
  | ⟨16, _⟩ => ⟨_, List.getElem_mem (l := (trip1.sl.H17_64 (F := Ideal) x.c x.arg5 x.f5 k)) (n := 47) (by show 47 < 64; decide), k0_off5_inb k 16, rfl⟩
  | ⟨17, _⟩ => ⟨_, List.getElem_mem (l := (trip1.sl.H17_64 (F := Ideal) x.c x.arg5 x.f5 k)) (n := 46) (by show 46 < 64; decide), k0_off5_inb k 17, rfl⟩
  | ⟨18, _⟩ => ⟨_, List.getElem_mem (l := (trip1.sl.H17_64 (F := Ideal) x.c x.arg5 x.f5 k)) (n := 45) (by show 45 < 64; decide), k0_off5_inb k 18, rfl⟩
  | ⟨19, _⟩ => ⟨_, List.getElem_mem (l := (trip1.sl.H17_64 (F := Ideal) x.c x.arg5 x.f5 k)) (n := 44) (by show 44 < 64; decide), k0_off5_inb k 19, rfl⟩
  | ⟨20, _⟩ => ⟨_, List.getElem_mem (l := (trip1.sl.H17_64 (F := Ideal) x.c x.arg5 x.f5 k)) (n := 43) (by show 43 < 64; decide), k0_off5_inb k 20, rfl⟩
  | ⟨21, _⟩ => ⟨_, List.getElem_mem (l := (trip1.sl.H17_64 (F := Ideal) x.c x.arg5 x.f5 k)) (n := 42) (by show 42 < 64; decide), k0_off5_inb k 21, rfl⟩
  | ⟨22, _⟩ => ⟨_, List.getElem_mem (l := (trip1.sl.H17_64 (F := Ideal) x.c x.arg5 x.f5 k)) (n := 41) (by show 41 < 64; decide), k0_off5_inb k 22, rfl⟩
  | ⟨23, _⟩ => ⟨_, List.getElem_mem (l := (trip1.sl.H17_64 (F := Ideal) x.c x.arg5 x.f5 k)) (n := 40) (by show 40 < 64; decide), k0_off5_inb k 23, rfl⟩
  | ⟨24, _⟩ => ⟨_, List.getElem_mem (l := (trip1.sl.H17_64 (F := Ideal) x.c x.arg5 x.f5 k)) (n := 39) (by show 39 < 64; decide), k0_off5_inb k 24, rfl⟩
  | ⟨25, _⟩ => ⟨_, List.getElem_mem (l := (trip1.sl.H17_64 (F := Ideal) x.c x.arg5 x.f5 k)) (n := 38) (by show 38 < 64; decide), k0_off5_inb k 25, rfl⟩
  | ⟨26, _⟩ => ⟨_, List.getElem_mem (l := (trip1.sl.H17_64 (F := Ideal) x.c x.arg5 x.f5 k)) (n := 37) (by show 37 < 64; decide), k0_off5_inb k 26, rfl⟩
  | ⟨27, _⟩ => ⟨_, List.getElem_mem (l := (trip1.sl.H17_64 (F := Ideal) x.c x.arg5 x.f5 k)) (n := 36) (by show 36 < 64; decide), k0_off5_inb k 27, rfl⟩
  | ⟨28, _⟩ => ⟨_, List.getElem_mem (l := (trip1.sl.H17_64 (F := Ideal) x.c x.arg5 x.f5 k)) (n := 35) (by show 35 < 64; decide), k0_off5_inb k 28, rfl⟩
  | ⟨29, _⟩ => ⟨_, List.getElem_mem (l := (trip1.sl.H17_64 (F := Ideal) x.c x.arg5 x.f5 k)) (n := 34) (by show 34 < 64; decide), k0_off5_inb k 29, rfl⟩
  | ⟨30, _⟩ => ⟨_, List.getElem_mem (l := (trip1.sl.H17_64 (F := Ideal) x.c x.arg5 x.f5 k)) (n := 33) (by show 33 < 64; decide), k0_off5_inb k 30, rfl⟩
  | ⟨31, _⟩ => ⟨_, List.getElem_mem (l := (trip1.sl.H17_64 (F := Ideal) x.c x.arg5 x.f5 k)) (n := 32) (by show 32 < 64; decide), k0_off5_inb k 31, rfl⟩
  | ⟨32, _⟩ => ⟨_, List.getElem_mem (l := (trip1.sl.H17_64 (F := Ideal) x.c x.arg5 x.f5 k)) (n := 31) (by show 31 < 64; decide), k0_off5_inb k 32, rfl⟩
  | ⟨33, _⟩ => ⟨_, List.getElem_mem (l := (trip1.sl.H17_64 (F := Ideal) x.c x.arg5 x.f5 k)) (n := 30) (by show 30 < 64; decide), k0_off5_inb k 33, rfl⟩
  | ⟨34, _⟩ => ⟨_, List.getElem_mem (l := (trip1.sl.H17_64 (F := Ideal) x.c x.arg5 x.f5 k)) (n := 29) (by show 29 < 64; decide), k0_off5_inb k 34, rfl⟩
  | ⟨35, _⟩ => ⟨_, List.getElem_mem (l := (trip1.sl.H17_64 (F := Ideal) x.c x.arg5 x.f5 k)) (n := 28) (by show 28 < 64; decide), k0_off5_inb k 35, rfl⟩
  | ⟨36, _⟩ => ⟨_, List.getElem_mem (l := (trip1.sl.H17_64 (F := Ideal) x.c x.arg5 x.f5 k)) (n := 27) (by show 27 < 64; decide), k0_off5_inb k 36, rfl⟩
  | ⟨37, _⟩ => ⟨_, List.getElem_mem (l := (trip1.sl.H17_64 (F := Ideal) x.c x.arg5 x.f5 k)) (n := 26) (by show 26 < 64; decide), k0_off5_inb k 37, rfl⟩
  | ⟨38, _⟩ => ⟨_, List.getElem_mem (l := (trip1.sl.H17_64 (F := Ideal) x.c x.arg5 x.f5 k)) (n := 25) (by show 25 < 64; decide), k0_off5_inb k 38, rfl⟩
  | ⟨39, _⟩ => ⟨_, List.getElem_mem (l := (trip1.sl.H17_64 (F := Ideal) x.c x.arg5 x.f5 k)) (n := 24) (by show 24 < 64; decide), k0_off5_inb k 39, rfl⟩
  | ⟨40, _⟩ => ⟨_, List.getElem_mem (l := (trip1.sl.H17_64 (F := Ideal) x.c x.arg5 x.f5 k)) (n := 23) (by show 23 < 64; decide), k0_off5_inb k 40, rfl⟩
  | ⟨41, _⟩ => ⟨_, List.getElem_mem (l := (trip1.sl.H17_64 (F := Ideal) x.c x.arg5 x.f5 k)) (n := 22) (by show 22 < 64; decide), k0_off5_inb k 41, rfl⟩
  | ⟨42, _⟩ => ⟨_, List.getElem_mem (l := (trip1.sl.H17_64 (F := Ideal) x.c x.arg5 x.f5 k)) (n := 21) (by show 21 < 64; decide), k0_off5_inb k 42, rfl⟩
  | ⟨43, _⟩ => ⟨_, List.getElem_mem (l := (trip1.sl.H17_64 (F := Ideal) x.c x.arg5 x.f5 k)) (n := 20) (by show 20 < 64; decide), k0_off5_inb k 43, rfl⟩
  | ⟨44, _⟩ => ⟨_, List.getElem_mem (l := (trip1.sl.H17_64 (F := Ideal) x.c x.arg5 x.f5 k)) (n := 19) (by show 19 < 64; decide), k0_off5_inb k 44, rfl⟩
  | ⟨45, _⟩ => ⟨_, List.getElem_mem (l := (trip1.sl.H17_64 (F := Ideal) x.c x.arg5 x.f5 k)) (n := 18) (by show 18 < 64; decide), k0_off5_inb k 45, rfl⟩
  | ⟨46, _⟩ => ⟨_, List.getElem_mem (l := (trip1.sl.H17_64 (F := Ideal) x.c x.arg5 x.f5 k)) (n := 17) (by show 17 < 64; decide), k0_off5_inb k 46, rfl⟩
  | ⟨47, _⟩ => ⟨_, List.getElem_mem (l := (trip1.sl.H17_64 (F := Ideal) x.c x.arg5 x.f5 k)) (n := 16) (by show 16 < 64; decide), k0_off5_inb k 47, rfl⟩
  | ⟨48, _⟩ => ⟨_, List.getElem_mem (l := (trip1.sl.H17_64 (F := Ideal) x.c x.arg5 x.f5 k)) (n := 15) (by show 15 < 64; decide), k0_off5_inb k 48, rfl⟩
  | ⟨49, _⟩ => ⟨_, List.getElem_mem (l := (trip1.sl.H17_64 (F := Ideal) x.c x.arg5 x.f5 k)) (n := 14) (by show 14 < 64; decide), k0_off5_inb k 49, rfl⟩
  | ⟨50, _⟩ => ⟨_, List.getElem_mem (l := (trip1.sl.H17_64 (F := Ideal) x.c x.arg5 x.f5 k)) (n := 13) (by show 13 < 64; decide), k0_off5_inb k 50, rfl⟩
  | ⟨51, _⟩ => ⟨_, List.getElem_mem (l := (trip1.sl.H17_64 (F := Ideal) x.c x.arg5 x.f5 k)) (n := 12) (by show 12 < 64; decide), k0_off5_inb k 51, rfl⟩
  | ⟨52, _⟩ => ⟨_, List.getElem_mem (l := (trip1.sl.H17_64 (F := Ideal) x.c x.arg5 x.f5 k)) (n := 11) (by show 11 < 64; decide), k0_off5_inb k 52, rfl⟩
  | ⟨53, _⟩ => ⟨_, List.getElem_mem (l := (trip1.sl.H17_64 (F := Ideal) x.c x.arg5 x.f5 k)) (n := 10) (by show 10 < 64; decide), k0_off5_inb k 53, rfl⟩
  | ⟨54, _⟩ => ⟨_, List.getElem_mem (l := (trip1.sl.H17_64 (F := Ideal) x.c x.arg5 x.f5 k)) (n := 9) (by show 9 < 64; decide), k0_off5_inb k 54, rfl⟩
  | ⟨55, _⟩ => ⟨_, List.getElem_mem (l := (trip1.sl.H17_64 (F := Ideal) x.c x.arg5 x.f5 k)) (n := 8) (by show 8 < 64; decide), k0_off5_inb k 55, rfl⟩
  | ⟨56, _⟩ => ⟨_, List.getElem_mem (l := (trip1.sl.H17_64 (F := Ideal) x.c x.arg5 x.f5 k)) (n := 7) (by show 7 < 64; decide), k0_off5_inb k 56, rfl⟩
  | ⟨57, _⟩ => ⟨_, List.getElem_mem (l := (trip1.sl.H17_64 (F := Ideal) x.c x.arg5 x.f5 k)) (n := 6) (by show 6 < 64; decide), k0_off5_inb k 57, rfl⟩
  | ⟨58, _⟩ => ⟨_, List.getElem_mem (l := (trip1.sl.H17_64 (F := Ideal) x.c x.arg5 x.f5 k)) (n := 5) (by show 5 < 64; decide), k0_off5_inb k 58, rfl⟩
  | ⟨59, _⟩ => ⟨_, List.getElem_mem (l := (trip1.sl.H17_64 (F := Ideal) x.c x.arg5 x.f5 k)) (n := 4) (by show 4 < 64; decide), k0_off5_inb k 59, rfl⟩
  | ⟨60, _⟩ => ⟨_, List.getElem_mem (l := (trip1.sl.H17_64 (F := Ideal) x.c x.arg5 x.f5 k)) (n := 3) (by show 3 < 64; decide), k0_off5_inb k 60, rfl⟩
  | ⟨61, _⟩ => ⟨_, List.getElem_mem (l := (trip1.sl.H17_64 (F := Ideal) x.c x.arg5 x.f5 k)) (n := 2) (by show 2 < 64; decide), k0_off5_inb k 61, rfl⟩
  | ⟨62, _⟩ => ⟨_, List.getElem_mem (l := (trip1.sl.H17_64 (F := Ideal) x.c x.arg5 x.f5 k)) (n := 1) (by show 1 < 64; decide), k0_off5_inb k 62, rfl⟩
  | ⟨63, _⟩ => ⟨_, List.getElem_mem (l := (trip1.sl.H17_64 (F := Ideal) x.c x.arg5 x.f5 k)) (n := 0) (by show 0 < 64; decide), k0_off5_inb k 63, rfl⟩
  | ⟨n + 64, h⟩ => absurd h (by omega)

theorem c17 (x : Ctx) (k : Fin k0_t1_loop.trips) (y : S5120x128.Idx) (h : 512 * k.val ≤ (y 0).val) (h' : (y 0).val < 512 * k.val + 512) :
    ∃ p ∈ (trip1.sl.H17_64 (F := Ideal) x.c x.arg5 x.f5 k), y ∈ p.1.set := by
  have ht : ((y 0).val - 512 * k.val) / 8 < 64 := by omega
  obtain ⟨p, hp, inb, e⟩ := g17 x k ⟨((y 0).val - 512 * k.val) / 8, ht⟩
  refine ⟨p, hp, ?_⟩
  rw [e]
  refine Reads.mem_unit (off5 k ⟨_, ht⟩) fun a => ?_
  match a with
  | ⟨0, _⟩ =>
    show 512 * k.val + 8 * (((y 0).val - 512 * k.val) / 8) ≤ (y 0).val ∧ (y 0).val < 512 * k.val + 8 * (((y 0).val - 512 * k.val) / 8) + 8
    omega
  | ⟨1, _⟩ => exact ⟨Nat.zero_le _, by have := (y 1).isLt; show (y 1).val < 0 + 128; rw [Nat.zero_add]; exact this⟩

section
include H k
/-- The running sums the chunk's load reads. -/
theorem h695 (r : Fin 512) (l : Fin 128) :
    (trip1.sl.v695 (F := Ideal) x.c x.arg5 x.arg17 x.f5 k) (ix2 r l) = row3 (cum D k.val) r.val l.val := by
  unfold trip1.sl.v695
  refine (Reads.readCov_of_pieces x.arg17.view (fun y => row3 (tm (cum D)) (y 0).val (y 1).val) _ _ _ (P17 x H k) ?_).trans ?_
  · refine c17 x k _ ?_ ?_
    · show 512 * k.val ≤ k0_off7 k 0 + 1 * r.val
      rw [off7]; show 512 * k.val ≤ 512 * k.val + 1 * r.val; omega
    · show k0_off7 k 0 + 1 * r.val < _
      rw [off7]; show 512 * k.val + 1 * r.val < _; omega
  · show row3 (tm (cum D)) (k0_off7 k 0 + 1 * r.val) (k0_off7 k 1 + 1 * l.val) = _
    rw [off7]
    show row3 (tm (cum D)) (512 * k.val + 1 * r.val) (0 + 1 * l.val) = _
    unfold row3 tm
    congr 1 <;> omega

end
end Cert.Proof.KernelIdeal.Vl

end
-- ==== Proof.StepB.lean ====
module

public import proofs.«01_k».proof.Proof.StepA
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

open Spec
variable {D : Spec.Inp}

theorem off1 : ∀ k, k0_off1 k = ![0, 64 * k.val, 0, 0] := by decide
theorem off2 : ∀ k, k0_off2 k = ![64 * k.val, 0, 0] := by decide
theorem off3 : ∀ k, k0_off3 k = ![0, 64 * k.val, 0, 128] := by decide
theorem off4 : ∀ k, k0_off4 k = ![64 * k.val, 4, 0] := by decide
theorem off8 : ∀ k, k0_off8 k = ![64 * k.val, 0, 0] := by decide
theorem off13 : ∀ k, k0_off13 k = ![1024 * k.val, 0] := by decide
theorem off14 : ∀ k, k0_off14 k = ![0, 64 * k.val, 0] := by decide
theorem off9 (i : grid0.Coords) (k) : k0_off9 i k = ![(i 0).val, k.val, 0] := by
  unfold k0_off9; revert k; generalize i 0 = b; revert b; decide
theorem off10 (i : grid0.Coords) (k) : k0_off10 i k = ![(i 0).val, k.val, 1] := by
  unfold k0_off10; revert k; generalize i 0 = b; revert b; decide
theorem off11 (i : grid0.Coords) (k) : k0_off11 i k = ![(i 0).val, k.val, 2] := by
  unfold k0_off11; revert k; generalize i 0 = b; revert b; decide
theorem off12 (i : grid0.Coords) (k) : k0_off12 i k = ![(i 0).val, k.val, 3] := by
  unfold k0_off12; revert k; generalize i 0 = b; revert b; decide
theorem off18_0_0 : ∀ k, k0_off18 k 0#32 0#32 = ![8 * k.val + 0, 0] := by decide
theorem off18_0_1 : ∀ k, k0_off18 k 0#32 1#32 = ![8 * k.val + 1, 0] := by decide
theorem off18_0_2 : ∀ k, k0_off18 k 0#32 2#32 = ![8 * k.val + 2, 0] := by decide
theorem off18_0_3 : ∀ k, k0_off18 k 0#32 3#32 = ![8 * k.val + 3, 0] := by decide
theorem off18_4_0 : ∀ k, k0_off18 k 4#32 0#32 = ![8 * k.val + 4, 0] := by decide
theorem off18_4_1 : ∀ k, k0_off18 k 4#32 1#32 = ![8 * k.val + 5, 0] := by decide
theorem off18_4_2 : ∀ k, k0_off18 k 4#32 2#32 = ![8 * k.val + 6, 0] := by decide
theorem off18_4_3 : ∀ k, k0_off18 k 4#32 3#32 = ![8 * k.val + 7, 0] := by decide

/-- The index of a load that takes a whole two-axis buffer. -/
theorem readCov_whole {κ : Kind} {sp : Space} {e : EltTy} (v : View sig κ sp S512x128 e) (w : S512x128.Idx → Elt Ideal e) (inb) (B : LoadRect S512x128) (z : B.shape.Idx) :
    v.readCov [(⟨Rect.unit (s := S512x128) ![0, 0] S512x128.size inb, w⟩ : View.Piece (Elt Ideal) S512x128 e)] B z = w (B.idx z) := by
  refine Reads.readCov_of_pieces v w _ B z ?_ ?_
  · refine List.forall_mem_cons.mpr ⟨fun z => congrArg w ?_, List.forall_mem_nil _⟩
    funext a
    match a with
    | ⟨0, _⟩ => exact Fin.ext (show (z 0).val = 0 + 1 * (z 0).val by omega)
    | ⟨1, _⟩ => exact Fin.ext (show (z 1).val = 0 + 1 * (z 1).val by omega)
  · refine ⟨_, List.mem_singleton_self _, ?_⟩
    refine Reads.mem_unit (inb := inb) rfl fun a => ?_
    match a with
    | ⟨0, _⟩ => exact ⟨Nat.zero_le _, by have := (B.idx z 0).isLt; show _ < 0 + 512; rw [Nat.zero_add]; exact this⟩
    | ⟨1, _⟩ => exact ⟨Nat.zero_le _, by have := (B.idx z 1).isLt; show _ < 0 + 128; rw [Nat.zero_add]; exact this⟩

/-- One head's rows of a lane group. -/
theorem strided {κ : Kind} {sp : Space} (v : View sig κ sp S512x128 .f32) (w : S512x128.Idx → EReal) (φ : ℕ → ℕ → ℕ → EReal)
    (hw : ∀ y, w y = row3 φ (y 0).val (y 1).val) (inb) (off : ℕ) (ho : off < 8) (inb') (i : Fin 64) (l : Fin 128) :
    v.readCov [(⟨Rect.unit (s := S512x128) ![0, 0] S512x128.size inb, w⟩ : View.Piece (Elt Ideal) S512x128 .f32)]
      { off := ![off, 0], size := S64x128.size, stride := ![8, 1], inb := inb' } (ix2 i l) = φ i.val (off % 4) (off / 4 * 128 + l.val) := by
  rw [readCov_whole, hw]
  show row3 φ (off + 8 * i.val) (0 + 1 * l.val) = _
  unfold row3
  congr 1 <;> omega

theorem sel_le {α : Type} (j i : Fin 64) (a b : α) :
    Scalar.select (IntOp.cmpi CmpIPredicate.sle (BitVec.ofNat 32 j.val) (BitVec.ofNat 32 i.val)) a b = if j.val ≤ i.val then a else b := by
  have h : ∀ j i : Fin 64, IntOp.cmpi CmpIPredicate.sle (BitVec.ofNat 32 j.val) (BitVec.ofNat 32 i.val) = if j.val ≤ i.val then 1#1 else 0#1 := by decide
  rw [h]
  split <;> rfl

theorem sel4 (u : Fin 8) (f : ℕ → EReal) :
    Scalar.select (IntOp.cmpi CmpIPredicate.eq (IntOp.andi (BitVec.ofNat 32 u.val) 3#32) 3#32) (f 3)
      (Scalar.select (IntOp.cmpi CmpIPredicate.eq (IntOp.andi (BitVec.ofNat 32 u.val) 3#32) 2#32) (f 2)
        (Scalar.select (IntOp.cmpi CmpIPredicate.eq (IntOp.andi (BitVec.ofNat 32 u.val) 3#32) 1#32) (f 1) (f 0))) = f (u.val % 4) := by
  have h3 : ∀ u : Fin 8, IntOp.cmpi CmpIPredicate.eq (IntOp.andi (BitVec.ofNat 32 u.val) 3#32) 3#32 = if u.val % 4 = 3 then 1#1 else 0#1 := by decide
  have h2 : ∀ u : Fin 8, IntOp.cmpi CmpIPredicate.eq (IntOp.andi (BitVec.ofNat 32 u.val) 3#32) 2#32 = if u.val % 4 = 2 then 1#1 else 0#1 := by decide
  have h1 : ∀ u : Fin 8, IntOp.cmpi CmpIPredicate.eq (IntOp.andi (BitVec.ofNat 32 u.val) 3#32) 1#32 = if u.val % 4 = 1 then 1#1 else 0#1 := by decide
  rw [h3, h2, h1]
  obtain h | h | h | h : u.val % 4 = 0 ∨ u.val % 4 = 1 ∨ u.val % 4 = 2 ∨ u.val % 4 = 3 := by omega
  all_goals rw [h]; rfl

theorem rowm (r : ℕ) : r % 8 % 4 = r % 4 ∧ r % 8 / 4 = r / 4 % 2 := by omega

variable (x : Ctx) (H : Inputs D x) (k : Fin k0_t1_loop.trips)
section
include H k
theorem h707 : (trip1.sl.v707 (F := Ideal) x.c x.i x.arg7 x.f7 k) = D.qs k.val 0 := by
  unfold trip1.sl.v707
  refine (H.qs _ ?_).trans ?_
  · show k0_off9 x.i k 0 + 1 * 0 = _
    rw [off9]; rfl
  · show D.qs (k0_off9 x.i k 1 + 1 * 0) (k0_off9 x.i k 2 + 1 * 0) = _
    rw [off9]; rfl
theorem h713 : (trip1.sl.v713 (F := Ideal) x.c x.i x.arg7 x.f7 k) = D.qs k.val 1 := by
  unfold trip1.sl.v713
  refine (H.qs _ ?_).trans ?_
  · show k0_off10 x.i k 0 + 1 * 0 = _
    rw [off10]; rfl
  · show D.qs (k0_off10 x.i k 1 + 1 * 0) (k0_off10 x.i k 2 + 1 * 0) = _
    rw [off10]; rfl
theorem h720 : (trip1.sl.v720 (F := Ideal) x.c x.i x.arg7 x.f7 k) = D.qs k.val 2 := by
  unfold trip1.sl.v720
  refine (H.qs _ ?_).trans ?_
  · show k0_off11 x.i k 0 + 1 * 0 = _
    rw [off11]; rfl
  · show D.qs (k0_off11 x.i k 1 + 1 * 0) (k0_off11 x.i k 2 + 1 * 0) = _
    rw [off11]; rfl
theorem h727 : (trip1.sl.v727 (F := Ideal) x.c x.i x.arg7 x.f7 k) = D.qs k.val 3 := by
  unfold trip1.sl.v727
  refine (H.qs _ ?_).trans ?_
  · show k0_off12 x.i k 0 + 1 * 0 = _
    rw [off12]; rfl
  · show D.qs (k0_off12 x.i k 1 + 1 * 0) (k0_off12 x.i k 2 + 1 * 0) = _
    rw [off12]; rfl
theorem h743 : (trip1.sl.v743 (F := Ideal) x.c x.i x.arg8 x.f8 k) = D.ks k.val 0 := by
  unfold trip1.sl.v743
  refine (H.ks _ ?_).trans ?_
  · show k0_off9 x.i k 0 + 1 * 0 = _
    rw [off9]; rfl
  · show D.ks (k0_off9 x.i k 1 + 1 * 0) (k0_off9 x.i k 2 + 1 * 0) = _
    rw [off9]; rfl
theorem h749 : (trip1.sl.v749 (F := Ideal) x.c x.i x.arg8 x.f8 k) = D.ks k.val 1 := by
  unfold trip1.sl.v749
  refine (H.ks _ ?_).trans ?_
  · show k0_off10 x.i k 0 + 1 * 0 = _
    rw [off10]; rfl
  · show D.ks (k0_off10 x.i k 1 + 1 * 0) (k0_off10 x.i k 2 + 1 * 0) = _
    rw [off10]; rfl
theorem h756 : (trip1.sl.v756 (F := Ideal) x.c x.i x.arg8 x.f8 k) = D.ks k.val 2 := by
  unfold trip1.sl.v756
  refine (H.ks _ ?_).trans ?_
  · show k0_off11 x.i k 0 + 1 * 0 = _
    rw [off11]; rfl
  · show D.ks (k0_off11 x.i k 1 + 1 * 0) (k0_off11 x.i k 2 + 1 * 0) = _
    rw [off11]; rfl
theorem h763 : (trip1.sl.v763 (F := Ideal) x.c x.i x.arg8 x.f8 k) = D.ks k.val 3 := by
  unfold trip1.sl.v763
  refine (H.ks _ ?_).trans ?_
  · show k0_off12 x.i k 0 + 1 * 0 = _
    rw [off12]; rfl
  · show D.ks (k0_off12 x.i k 1 + 1 * 0) (k0_off12 x.i k 2 + 1 * 0) = _
    rw [off12]; rfl
theorem h899 : (trip1.sl.v899 (F := Ideal) x.c x.i x.arg9 x.f9 k) = D.vs k.val 0 := by
  unfold trip1.sl.v899
  refine (H.vs _ ?_).trans ?_
  · show k0_off9 x.i k 0 + 1 * 0 = _
    rw [off9]; rfl
  · show D.vs (k0_off9 x.i k 1 + 1 * 0) (k0_off9 x.i k 2 + 1 * 0) = _
    rw [off9]; rfl
theorem h1000 : (trip1.sl.v1000 (F := Ideal) x.c x.i x.arg9 x.f9 k) = D.vs k.val 1 := by
  unfold trip1.sl.v1000
  refine (H.vs _ ?_).trans ?_
  · show k0_off10 x.i k 0 + 1 * 0 = _
    rw [off10]; rfl
  · show D.vs (k0_off10 x.i k 1 + 1 * 0) (k0_off10 x.i k 2 + 1 * 0) = _
    rw [off10]; rfl
theorem h1101 : (trip1.sl.v1101 (F := Ideal) x.c x.i x.arg9 x.f9 k) = D.vs k.val 2 := by
  unfold trip1.sl.v1101
  refine (H.vs _ ?_).trans ?_
  · show k0_off11 x.i k 0 + 1 * 0 = _
    rw [off11]; rfl
  · show D.vs (k0_off11 x.i k 1 + 1 * 0) (k0_off11 x.i k 2 + 1 * 0) = _
    rw [off11]; rfl
theorem h1202 : (trip1.sl.v1202 (F := Ideal) x.c x.i x.arg9 x.f9 k) = D.vs k.val 3 := by
  unfold trip1.sl.v1202
  refine (H.vs _ ?_).trans ?_
  · show k0_off12 x.i k 0 + 1 * 0 = _
    rw [off12]; rfl
  · show D.vs (k0_off12 x.i k 1 + 1 * 0) (k0_off12 x.i k 2 + 1 * 0) = _
    rw [off12]; rfl
theorem P15 : ∀ p ∈ (trip1.sl.H15_2 (F := Ideal) x.c x.arg1 x.f1 k), ∀ z : p.1.shape.Idx,
    p.2 z = D.q (p.1.emb z 0).val ((p.1.emb z 1).val % 4) ((p.1.emb z 1).val / 4 * 128 + (p.1.emb z 2).val) := by
  unfold trip1.sl.H15_2
  refine List.forall_mem_cons.mpr ⟨fun z => ?_, List.forall_mem_cons.mpr ⟨fun z => ?_, List.forall_mem_nil _⟩⟩
  · obtain ⟨t, u, l, rfl⟩ : ∃ (t : Fin 64) (u : Fin 4) (l : Fin 128), z = ix3 t u l := ⟨z 0, z 1, z 2, eq_ix3 z⟩
    unfold_payloads
    pointwise
    refine (H.q _).trans ?_
    show D.q (k0_off3 k 1 + 1 * t.val) (k0_off3 k 2 + 1 * u.val) (k0_off3 k 3 + 1 * l.val)
      = D.q (k0_off4 k 0 + 1 * t.val) ((k0_off4 k 1 + 1 * u.val) % 4) ((k0_off4 k 1 + 1 * u.val) / 4 * 128 + (k0_off4 k 2 + 1 * l.val))
    rw [off3, off4]
    show D.q (64 * k.val + 1 * t.val) (0 + 1 * u.val) (128 + 1 * l.val)
      = D.q (64 * k.val + 1 * t.val) ((4 + 1 * u.val) % 4) ((4 + 1 * u.val) / 4 * 128 + (0 + 1 * l.val))
    congr 1 <;> omega
  · obtain ⟨t, u, l, rfl⟩ : ∃ (t : Fin 64) (u : Fin 4) (l : Fin 128), z = ix3 t u l := ⟨z 0, z 1, z 2, eq_ix3 z⟩
    unfold_payloads
    pointwise
    refine (H.q _).trans ?_
    show D.q (k0_off1 k 1 + 1 * t.val) (k0_off1 k 2 + 1 * u.val) (k0_off1 k 3 + 1 * l.val)
      = D.q (k0_off2 k 0 + 1 * t.val) ((k0_off2 k 1 + 1 * u.val) % 4) ((k0_off2 k 1 + 1 * u.val) / 4 * 128 + (k0_off2 k 2 + 1 * l.val))
    rw [off1, off2]
    show D.q (64 * k.val + 1 * t.val) (0 + 1 * u.val) (0 + 1 * l.val)
      = D.q (64 * k.val + 1 * t.val) ((0 + 1 * u.val) % 4) ((0 + 1 * u.val) / 4 * 128 + (0 + 1 * l.val))
    congr 1 <;> omega

end
theorem c15 (x : Ctx) (k : Fin k0_t1_loop.trips) (y : S640x8x128.Idx) (h : 64 * k.val ≤ (y 0).val) (h' : (y 0).val < 64 * k.val + 64) :
    ∃ p ∈ (trip1.sl.H15_2 (F := Ideal) x.c x.arg1 x.f1 k), y ∈ p.1.set := by
  unfold trip1.sl.H15_2
  have h1 : (y 1).val < 8 := (y 1).isLt
  have h2 : (y 2).val < 128 := (y 2).isLt
  by_cases hu : (y 1).val < 4
  · refine ⟨_, List.mem_cons_of_mem _ List.mem_cons_self, ?_⟩
    refine Reads.mem_unit (inb := k0_off2_inb k) (off2 k) fun a => ?_
    match a with
    | ⟨0, _⟩ => exact ⟨h, h'⟩
    | ⟨1, _⟩ => exact ⟨Nat.zero_le _, show (y 1).val < 0 + 4 by omega⟩
    | ⟨2, _⟩ => exact ⟨Nat.zero_le _, show (y 2).val < 0 + 128 by omega⟩
  · refine ⟨_, List.mem_cons_self, ?_⟩
    refine Reads.mem_unit (inb := k0_off4_inb k) (off4 k) fun a => ?_
    match a with
    | ⟨0, _⟩ => exact ⟨h, h'⟩
    | ⟨1, _⟩ => exact ⟨show 4 ≤ (y 1).val by omega, show (y 1).val < 4 + 4 by omega⟩
    | ⟨2, _⟩ => exact ⟨Nat.zero_le _, show (y 2).val < 0 + 128 by omega⟩

section
include H k
theorem h700 (t : Fin 64) (u : Fin 8) (l : Fin 128) :
    (trip1.sl.v700 (F := Ideal) x.c x.arg1 x.arg15 x.f1 k) (ix3 t u l) = D.q (64 * k.val + t.val) (u.val % 4) (u.val / 4 * 128 + l.val) := by
  unfold trip1.sl.v700
  refine (Reads.readCov_of_pieces x.arg15.view (fun y => D.q (y 0).val ((y 1).val % 4) ((y 1).val / 4 * 128 + (y 2).val)) _ _ _ (P15 x H k) ?_).trans ?_
  · refine c15 x k _ ?_ ?_
    · show 64 * k.val ≤ k0_off8 k 0 + 1 * t.val
      rw [off8]; show 64 * k.val ≤ 64 * k.val + 1 * t.val; omega
    · show k0_off8 k 0 + 1 * t.val < _
      rw [off8]; show 64 * k.val + 1 * t.val < _; omega
  · show D.q (k0_off8 k 0 + 1 * t.val) ((k0_off8 k 1 + 1 * u.val) % 4) ((k0_off8 k 1 + 1 * u.val) / 4 * 128 + (k0_off8 k 2 + 1 * l.val)) = _
    rw [off8]
    show D.q (64 * k.val + 1 * t.val) ((0 + 1 * u.val) % 4) ((0 + 1 * u.val) / 4 * 128 + (0 + 1 * l.val)) = _
    simp only [Nat.one_mul, Nat.zero_add]

theorem P16 : ∀ p ∈ (trip1.sl.H16_2 (F := Ideal) x.c x.arg2 x.f2 k), ∀ z : p.1.shape.Idx,
    p.2 z = D.k (p.1.emb z 0).val ((p.1.emb z 1).val % 4) ((p.1.emb z 1).val / 4 * 128 + (p.1.emb z 2).val) := by
  unfold trip1.sl.H16_2
  refine List.forall_mem_cons.mpr ⟨fun z => ?_, List.forall_mem_cons.mpr ⟨fun z => ?_, List.forall_mem_nil _⟩⟩
  · obtain ⟨t, u, l, rfl⟩ : ∃ (t : Fin 64) (u : Fin 4) (l : Fin 128), z = ix3 t u l := ⟨z 0, z 1, z 2, eq_ix3 z⟩
    unfold_payloads
    pointwise
    refine (H.k _).trans ?_
    show D.k (k0_off3 k 1 + 1 * t.val) (k0_off3 k 2 + 1 * u.val) (k0_off3 k 3 + 1 * l.val)
      = D.k (k0_off4 k 0 + 1 * t.val) ((k0_off4 k 1 + 1 * u.val) % 4) ((k0_off4 k 1 + 1 * u.val) / 4 * 128 + (k0_off4 k 2 + 1 * l.val))
    rw [off3, off4]
    show D.k (64 * k.val + 1 * t.val) (0 + 1 * u.val) (128 + 1 * l.val)
      = D.k (64 * k.val + 1 * t.val) ((4 + 1 * u.val) % 4) ((4 + 1 * u.val) / 4 * 128 + (0 + 1 * l.val))
    congr 1 <;> omega
  · obtain ⟨t, u, l, rfl⟩ : ∃ (t : Fin 64) (u : Fin 4) (l : Fin 128), z = ix3 t u l := ⟨z 0, z 1, z 2, eq_ix3 z⟩
    unfold_payloads
    pointwise
    refine (H.k _).trans ?_
    show D.k (k0_off1 k 1 + 1 * t.val) (k0_off1 k 2 + 1 * u.val) (k0_off1 k 3 + 1 * l.val)
      = D.k (k0_off2 k 0 + 1 * t.val) ((k0_off2 k 1 + 1 * u.val) % 4) ((k0_off2 k 1 + 1 * u.val) / 4 * 128 + (k0_off2 k 2 + 1 * l.val))
    rw [off1, off2]
    show D.k (64 * k.val + 1 * t.val) (0 + 1 * u.val) (0 + 1 * l.val)
      = D.k (64 * k.val + 1 * t.val) ((0 + 1 * u.val) % 4) ((0 + 1 * u.val) / 4 * 128 + (0 + 1 * l.val))
    congr 1 <;> omega

end
theorem c16 (x : Ctx) (k : Fin k0_t1_loop.trips) (y : S640x8x128.Idx) (h : 64 * k.val ≤ (y 0).val) (h' : (y 0).val < 64 * k.val + 64) :
    ∃ p ∈ (trip1.sl.H16_2 (F := Ideal) x.c x.arg2 x.f2 k), y ∈ p.1.set := by
  unfold trip1.sl.H16_2
  have h1 : (y 1).val < 8 := (y 1).isLt
  have h2 : (y 2).val < 128 := (y 2).isLt
  by_cases hu : (y 1).val < 4
  · refine ⟨_, List.mem_cons_of_mem _ List.mem_cons_self, ?_⟩
    refine Reads.mem_unit (inb := k0_off2_inb k) (off2 k) fun a => ?_
    match a with
    | ⟨0, _⟩ => exact ⟨h, h'⟩
    | ⟨1, _⟩ => exact ⟨Nat.zero_le _, show (y 1).val < 0 + 4 by omega⟩
    | ⟨2, _⟩ => exact ⟨Nat.zero_le _, show (y 2).val < 0 + 128 by omega⟩
  · refine ⟨_, List.mem_cons_self, ?_⟩
    refine Reads.mem_unit (inb := k0_off4_inb k) (off4 k) fun a => ?_
    match a with
    | ⟨0, _⟩ => exact ⟨h, h'⟩
    | ⟨1, _⟩ => exact ⟨show 4 ≤ (y 1).val by omega, show (y 1).val < 4 + 4 by omega⟩
    | ⟨2, _⟩ => exact ⟨Nat.zero_le _, show (y 2).val < 0 + 128 by omega⟩

section
include H k
theorem h736 (t : Fin 64) (u : Fin 8) (l : Fin 128) :
    (trip1.sl.v736 (F := Ideal) x.c x.arg2 x.arg16 x.f2 k) (ix3 t u l) = D.k (64 * k.val + t.val) (u.val % 4) (u.val / 4 * 128 + l.val) := by
  unfold trip1.sl.v736
  refine (Reads.readCov_of_pieces x.arg16.view (fun y => D.k (y 0).val ((y 1).val % 4) ((y 1).val / 4 * 128 + (y 2).val)) _ _ _ (P16 x H k) ?_).trans ?_
  · refine c16 x k _ ?_ ?_
    · show 64 * k.val ≤ k0_off8 k 0 + 1 * t.val
      rw [off8]; show 64 * k.val ≤ 64 * k.val + 1 * t.val; omega
    · show k0_off8 k 0 + 1 * t.val < _
      rw [off8]; show 64 * k.val + 1 * t.val < _; omega
  · show D.k (k0_off8 k 0 + 1 * t.val) ((k0_off8 k 1 + 1 * u.val) % 4) ((k0_off8 k 1 + 1 * u.val) / 4 * 128 + (k0_off8 k 2 + 1 * l.val)) = _
    rw [off8]
    show D.k (64 * k.val + 1 * t.val) ((0 + 1 * u.val) % 4) ((0 + 1 * u.val) / 4 * 128 + (0 + 1 * l.val)) = _
    simp only [Nat.one_mul, Nat.zero_add]

theorem h696 (t : Fin 64) (u : Fin 8) (l : Fin 128) :
    (trip1.sl.v696 (F := Ideal) x.c x.arg5 x.arg17 x.f5 k) (ix3 t u l) = cum D k.val t.val (u.val % 4) (u.val / 4 * 128 + l.val) := by
  unfold trip1.sl.v696
  unfold_payloads
  pointwise
  simp only [h695 x H k]
  unfold row3
  congr 1 <;> omega
theorem h730 (z : Fin 1) (u : Fin 8) (l : Fin 128) : (trip1.sl.v730 (F := Ideal) x.c x.i x.arg7 x.f7 k) (ix3 z u l) = D.qs k.val (u.val % 4) := by
  unfold trip1.sl.v730
  unfold_payloads
  pointwise
  simp only [h707 x H k, h713 x H k, h720 x H k, h727 x H k]
  exact sel4 u (D.qs k.val)
theorem h701 (t : Fin 64) (u : Fin 8) (l : Fin 128) :
    (trip1.sl.v701 (F := Ideal) x.c x.arg1 x.arg15 x.f1 k) (ix3 t u l) = D.q (64 * k.val + t.val) (u.val % 4) (u.val / 4 * 128 + l.val) := by
  unfold trip1.sl.v701
  unfold_payloads
  pointwise
  simp only [h700 x H k]
theorem h732 (t : Fin 64) (u : Fin 8) (l : Fin 128) :
    (trip1.sl.v732 (F := Ideal) x.c x.i x.arg1 x.arg7 x.arg15 x.f1 x.f7 k) (ix3 t u l) = Q D k.val t.val (u.val % 4) (u.val / 4 * 128 + l.val) := by
  unfold trip1.sl.v732
  unfold_payloads
  pointwise
  simp only [h701 x H k, h730 x H k]
  rfl
theorem h768 (t : Fin 64) (u : Fin 8) (l : Fin 128) : (trip1.sl.v768 (F := Ideal) x.c x.i x.arg2 x.arg8 x.arg16 x.f2 x.f8 k) (ix3 t u l) = K D k.val t.val (u.val % 4) (u.val / 4 * 128 + l.val) := by
  unfold trip1.sl.v768
  unfold_payloads
  pointwise
  simp only [h736 x H k, h743 x H k, h749 x H k, h756 x H k, h763 x H k]
  rw [sel4 u (D.ks k.val)]
  rfl
theorem h769 (t : Fin 64) (u : Fin 8) (l : Fin 128) :
    (trip1.sl.v769 (F := Ideal) x.c x.arg5 x.arg17 x.f5 k) (ix3 t u l) = Ideal.exp (cum D k.val t.val (u.val % 4) (u.val / 4 * 128 + l.val)) := by
  unfold trip1.sl.v769
  unfold_payloads
  pointwise
  simp only [h696 x H k]
theorem h776 (r : Fin 512) (l : Fin 128) :
    (trip1.sl.v776 (F := Ideal) x.c x.i x.arg1 x.arg5 x.arg7 x.arg15 x.arg17 x.f1 x.f5 x.f7 k) (ix2 r l) = row3 (qg D k.val) r.val l.val := by
  unfold trip1.sl.v776
  unfold_payloads
  pointwise
  simp only [h696 x H k, h701 x H k, h730 x H k]
  rw [(rowm r.val).1, (rowm r.val).2]
  rfl
theorem h147 (r : Fin 512) (l : Fin 128) : k0_pay147 (trip1.sl.v696 (F := Ideal) x.c x.arg5 x.arg17 x.f5 k) (trip1.sl.v768 (F := Ideal) x.c x.i x.arg2 x.arg8 x.arg16 x.f2 x.f8 k) (ix2 r l) = row3 (kg D k.val) r.val l.val := by
  unfold_payloads
  pointwise
  simp only [h696 x H k, h768 x H k]
  rw [(rowm r.val).1, (rowm r.val).2]
  rfl
theorem h148 (r : Fin 512) (l : Fin 128) : k0_pay148 (trip1.sl.v681 (F := Ideal) x.c x.arg5 x.f5 k) (trip1.sl.v696 (F := Ideal) x.c x.arg5 x.arg17 x.f5 k) (trip1.sl.v768 (F := Ideal) x.c x.i x.arg2 x.arg8 x.arg16 x.f2 x.f8 k) (ix2 r l) = row3 (kd D k.val) r.val l.val := by
  unfold_payloads
  pointwise
  simp only [h696 x H k, h768 x H k, hv681 x H k]
  rw [(rowm r.val).1, (rowm r.val).2]
  rfl
theorem y147 (y : S512x128.Idx) : k0_pay147 (trip1.sl.v696 (F := Ideal) x.c x.arg5 x.arg17 x.f5 k) (trip1.sl.v768 (F := Ideal) x.c x.i x.arg2 x.arg8 x.arg16 x.f2 x.f8 k) y = row3 (kg D k.val) (y 0).val (y 1).val := by
  rw [eq_ix2 y]; exact h147 x H k (y 0) (y 1)
theorem y148 (y : S512x128.Idx) : k0_pay148 (trip1.sl.v681 (F := Ideal) x.c x.arg5 x.f5 k) (trip1.sl.v696 (F := Ideal) x.c x.arg5 x.arg17 x.f5 k) (trip1.sl.v768 (F := Ideal) x.c x.i x.arg2 x.arg8 x.arg16 x.f2 x.f8 k) y = row3 (kd D k.val) (y 0).val (y 1).val := by
  rw [eq_ix2 y]; exact h148 x H k (y 0) (y 1)
theorem y776 (y : S512x128.Idx) : (trip1.sl.v776 (F := Ideal) x.c x.i x.arg1 x.arg5 x.arg7 x.arg15 x.arg17 x.f1 x.f5 x.f7 k) y = row3 (qg D k.val) (y 0).val (y 1).val := by
  rw [eq_ix2 y]; exact h776 x H k (y 0) (y 1)
theorem h794 (i : Fin 64) (l : Fin 128) : (trip1.sl.v794 (F := Ideal) x.c x.i x.arg1 x.arg5 x.arg7 x.arg15 x.arg17 x.arg18 x.f1 x.f5 x.f7 k) (ix2 i l) = qg D k.val i.val 0 (0 + l.val) := by
  unfold trip1.sl.v794
  exact strided x.arg18.view _ (qg D k.val) (y776 x H k) _ 0 (by omega) _ i l
theorem h795 (i : Fin 64) (l : Fin 128) : (trip1.sl.v795 (F := Ideal) x.c x.i x.arg1 x.arg5 x.arg7 x.arg15 x.arg17 x.arg18 x.f1 x.f5 x.f7 k) (ix2 i l) = qg D k.val i.val 0 (128 + l.val) := by
  unfold trip1.sl.v795
  exact strided x.arg18.view _ (qg D k.val) (y776 x H k) _ 4 (by omega) _ i l
theorem h797 (i : Fin 64) (c : Fin 256) :
    (trip1.sl.v797 (F := Ideal) x.c x.i x.arg1 x.arg5 x.arg7 x.arg15 x.arg17 x.arg18 x.f1 x.f5 x.f7 k) (ix2 i c) = qg D k.val i.val 0 c.val := by
  unfold trip1.sl.v797
  unfold_payloads
  pointwise
  simp only [h794 x H k, h795 x H k]
  split <;> congr 1 <;> omega
theorem h798 (i : Fin 64) (l : Fin 128) : (trip1.sl.v798 (F := Ideal) x.c x.i x.arg2 x.arg5 x.arg8 x.arg16 x.arg17 x.arg19 x.f2 x.f5 x.f8 k) (ix2 i l) = kg D k.val i.val 0 (0 + l.val) := by
  unfold trip1.sl.v798
  exact strided x.arg19.view _ (kg D k.val) (y147 x H k) _ 0 (by omega) _ i l
theorem h799 (i : Fin 64) (l : Fin 128) : (trip1.sl.v799 (F := Ideal) x.c x.i x.arg2 x.arg5 x.arg8 x.arg16 x.arg17 x.arg19 x.f2 x.f5 x.f8 k) (ix2 i l) = kg D k.val i.val 0 (128 + l.val) := by
  unfold trip1.sl.v799
  exact strided x.arg19.view _ (kg D k.val) (y147 x H k) _ 4 (by omega) _ i l
theorem h801 (i : Fin 64) (c : Fin 256) :
    (trip1.sl.v801 (F := Ideal) x.c x.i x.arg2 x.arg5 x.arg8 x.arg16 x.arg17 x.arg19 x.f2 x.f5 x.f8 k) (ix2 i c) = kg D k.val i.val 0 c.val := by
  unfold trip1.sl.v801
  unfold_payloads
  pointwise
  simp only [h798 x H k, h799 x H k]
  split <;> congr 1 <;> omega
theorem h802 (i : Fin 64) (l : Fin 128) : (trip1.sl.v802 (F := Ideal) x.c x.i x.arg2 x.arg5 x.arg8 x.arg16 x.arg17 x.arg20 x.f2 x.f5 x.f8 k) (ix2 i l) = kd D k.val i.val 0 (0 + l.val) := by
  unfold trip1.sl.v802
  exact strided x.arg20.view _ (kd D k.val) (y148 x H k) _ 0 (by omega) _ i l
theorem h803 (i : Fin 64) (l : Fin 128) : (trip1.sl.v803 (F := Ideal) x.c x.i x.arg2 x.arg5 x.arg8 x.arg16 x.arg17 x.arg20 x.f2 x.f5 x.f8 k) (ix2 i l) = kd D k.val i.val 0 (128 + l.val) := by
  unfold trip1.sl.v803
  exact strided x.arg20.view _ (kd D k.val) (y148 x H k) _ 4 (by omega) _ i l
theorem h805 (i : Fin 64) (c : Fin 256) :
    (trip1.sl.v805 (F := Ideal) x.c x.i x.arg2 x.arg5 x.arg8 x.arg16 x.arg17 x.arg20 x.f2 x.f5 x.f8 k) (ix2 i c) = kd D k.val i.val 0 c.val := by
  unfold trip1.sl.v805
  unfold_payloads
  pointwise
  simp only [h802 x H k, h803 x H k]
  split <;> congr 1 <;> omega
theorem h806 (i : Fin 64) (l : Fin 128) : (trip1.sl.v806 (F := Ideal) x.c x.i x.arg1 x.arg5 x.arg7 x.arg15 x.arg17 x.arg18 x.f1 x.f5 x.f7 k) (ix2 i l) = qg D k.val i.val 1 (0 + l.val) := by
  unfold trip1.sl.v806
  exact strided x.arg18.view _ (qg D k.val) (y776 x H k) _ 1 (by omega) _ i l
theorem h807 (i : Fin 64) (l : Fin 128) : (trip1.sl.v807 (F := Ideal) x.c x.i x.arg1 x.arg5 x.arg7 x.arg15 x.arg17 x.arg18 x.f1 x.f5 x.f7 k) (ix2 i l) = qg D k.val i.val 1 (128 + l.val) := by
  unfold trip1.sl.v807
  exact strided x.arg18.view _ (qg D k.val) (y776 x H k) _ 5 (by omega) _ i l
theorem h809 (i : Fin 64) (c : Fin 256) :
    (trip1.sl.v809 (F := Ideal) x.c x.i x.arg1 x.arg5 x.arg7 x.arg15 x.arg17 x.arg18 x.f1 x.f5 x.f7 k) (ix2 i c) = qg D k.val i.val 1 c.val := by
  unfold trip1.sl.v809
  unfold_payloads
  pointwise
  simp only [h806 x H k, h807 x H k]
  split <;> congr 1 <;> omega
theorem h810 (i : Fin 64) (l : Fin 128) : (trip1.sl.v810 (F := Ideal) x.c x.i x.arg2 x.arg5 x.arg8 x.arg16 x.arg17 x.arg19 x.f2 x.f5 x.f8 k) (ix2 i l) = kg D k.val i.val 1 (0 + l.val) := by
  unfold trip1.sl.v810
  exact strided x.arg19.view _ (kg D k.val) (y147 x H k) _ 1 (by omega) _ i l
theorem h811 (i : Fin 64) (l : Fin 128) : (trip1.sl.v811 (F := Ideal) x.c x.i x.arg2 x.arg5 x.arg8 x.arg16 x.arg17 x.arg19 x.f2 x.f5 x.f8 k) (ix2 i l) = kg D k.val i.val 1 (128 + l.val) := by
  unfold trip1.sl.v811
  exact strided x.arg19.view _ (kg D k.val) (y147 x H k) _ 5 (by omega) _ i l
theorem h813 (i : Fin 64) (c : Fin 256) :
    (trip1.sl.v813 (F := Ideal) x.c x.i x.arg2 x.arg5 x.arg8 x.arg16 x.arg17 x.arg19 x.f2 x.f5 x.f8 k) (ix2 i c) = kg D k.val i.val 1 c.val := by
  unfold trip1.sl.v813
  unfold_payloads
  pointwise
  simp only [h810 x H k, h811 x H k]
  split <;> congr 1 <;> omega
theorem h814 (i : Fin 64) (l : Fin 128) : (trip1.sl.v814 (F := Ideal) x.c x.i x.arg2 x.arg5 x.arg8 x.arg16 x.arg17 x.arg20 x.f2 x.f5 x.f8 k) (ix2 i l) = kd D k.val i.val 1 (0 + l.val) := by
  unfold trip1.sl.v814
  exact strided x.arg20.view _ (kd D k.val) (y148 x H k) _ 1 (by omega) _ i l
theorem h815 (i : Fin 64) (l : Fin 128) : (trip1.sl.v815 (F := Ideal) x.c x.i x.arg2 x.arg5 x.arg8 x.arg16 x.arg17 x.arg20 x.f2 x.f5 x.f8 k) (ix2 i l) = kd D k.val i.val 1 (128 + l.val) := by
  unfold trip1.sl.v815
  exact strided x.arg20.view _ (kd D k.val) (y148 x H k) _ 5 (by omega) _ i l
theorem h817 (i : Fin 64) (c : Fin 256) :
    (trip1.sl.v817 (F := Ideal) x.c x.i x.arg2 x.arg5 x.arg8 x.arg16 x.arg17 x.arg20 x.f2 x.f5 x.f8 k) (ix2 i c) = kd D k.val i.val 1 c.val := by
  unfold trip1.sl.v817
  unfold_payloads
  pointwise
  simp only [h814 x H k, h815 x H k]
  split <;> congr 1 <;> omega
theorem h818 (i : Fin 64) (l : Fin 128) : (trip1.sl.v818 (F := Ideal) x.c x.i x.arg1 x.arg5 x.arg7 x.arg15 x.arg17 x.arg18 x.f1 x.f5 x.f7 k) (ix2 i l) = qg D k.val i.val 2 (0 + l.val) := by
  unfold trip1.sl.v818
  exact strided x.arg18.view _ (qg D k.val) (y776 x H k) _ 2 (by omega) _ i l
theorem h819 (i : Fin 64) (l : Fin 128) : (trip1.sl.v819 (F := Ideal) x.c x.i x.arg1 x.arg5 x.arg7 x.arg15 x.arg17 x.arg18 x.f1 x.f5 x.f7 k) (ix2 i l) = qg D k.val i.val 2 (128 + l.val) := by
  unfold trip1.sl.v819
  exact strided x.arg18.view _ (qg D k.val) (y776 x H k) _ 6 (by omega) _ i l
theorem h821 (i : Fin 64) (c : Fin 256) :
    (trip1.sl.v821 (F := Ideal) x.c x.i x.arg1 x.arg5 x.arg7 x.arg15 x.arg17 x.arg18 x.f1 x.f5 x.f7 k) (ix2 i c) = qg D k.val i.val 2 c.val := by
  unfold trip1.sl.v821
  unfold_payloads
  pointwise
  simp only [h818 x H k, h819 x H k]
  split <;> congr 1 <;> omega
theorem h822 (i : Fin 64) (l : Fin 128) : (trip1.sl.v822 (F := Ideal) x.c x.i x.arg2 x.arg5 x.arg8 x.arg16 x.arg17 x.arg19 x.f2 x.f5 x.f8 k) (ix2 i l) = kg D k.val i.val 2 (0 + l.val) := by
  unfold trip1.sl.v822
  exact strided x.arg19.view _ (kg D k.val) (y147 x H k) _ 2 (by omega) _ i l
theorem h823 (i : Fin 64) (l : Fin 128) : (trip1.sl.v823 (F := Ideal) x.c x.i x.arg2 x.arg5 x.arg8 x.arg16 x.arg17 x.arg19 x.f2 x.f5 x.f8 k) (ix2 i l) = kg D k.val i.val 2 (128 + l.val) := by
  unfold trip1.sl.v823
  exact strided x.arg19.view _ (kg D k.val) (y147 x H k) _ 6 (by omega) _ i l
theorem h825 (i : Fin 64) (c : Fin 256) :
    (trip1.sl.v825 (F := Ideal) x.c x.i x.arg2 x.arg5 x.arg8 x.arg16 x.arg17 x.arg19 x.f2 x.f5 x.f8 k) (ix2 i c) = kg D k.val i.val 2 c.val := by
  unfold trip1.sl.v825
  unfold_payloads
  pointwise
  simp only [h822 x H k, h823 x H k]
  split <;> congr 1 <;> omega
theorem h826 (i : Fin 64) (l : Fin 128) : (trip1.sl.v826 (F := Ideal) x.c x.i x.arg2 x.arg5 x.arg8 x.arg16 x.arg17 x.arg20 x.f2 x.f5 x.f8 k) (ix2 i l) = kd D k.val i.val 2 (0 + l.val) := by
  unfold trip1.sl.v826
  exact strided x.arg20.view _ (kd D k.val) (y148 x H k) _ 2 (by omega) _ i l
theorem h827 (i : Fin 64) (l : Fin 128) : (trip1.sl.v827 (F := Ideal) x.c x.i x.arg2 x.arg5 x.arg8 x.arg16 x.arg17 x.arg20 x.f2 x.f5 x.f8 k) (ix2 i l) = kd D k.val i.val 2 (128 + l.val) := by
  unfold trip1.sl.v827
  exact strided x.arg20.view _ (kd D k.val) (y148 x H k) _ 6 (by omega) _ i l
theorem h829 (i : Fin 64) (c : Fin 256) :
    (trip1.sl.v829 (F := Ideal) x.c x.i x.arg2 x.arg5 x.arg8 x.arg16 x.arg17 x.arg20 x.f2 x.f5 x.f8 k) (ix2 i c) = kd D k.val i.val 2 c.val := by
  unfold trip1.sl.v829
  unfold_payloads
  pointwise
  simp only [h826 x H k, h827 x H k]
  split <;> congr 1 <;> omega
theorem h830 (i : Fin 64) (l : Fin 128) : (trip1.sl.v830 (F := Ideal) x.c x.i x.arg1 x.arg5 x.arg7 x.arg15 x.arg17 x.arg18 x.f1 x.f5 x.f7 k) (ix2 i l) = qg D k.val i.val 3 (0 + l.val) := by
  unfold trip1.sl.v830
  exact strided x.arg18.view _ (qg D k.val) (y776 x H k) _ 3 (by omega) _ i l
theorem h831 (i : Fin 64) (l : Fin 128) : (trip1.sl.v831 (F := Ideal) x.c x.i x.arg1 x.arg5 x.arg7 x.arg15 x.arg17 x.arg18 x.f1 x.f5 x.f7 k) (ix2 i l) = qg D k.val i.val 3 (128 + l.val) := by
  unfold trip1.sl.v831
  exact strided x.arg18.view _ (qg D k.val) (y776 x H k) _ 7 (by omega) _ i l
theorem h833 (i : Fin 64) (c : Fin 256) :
    (trip1.sl.v833 (F := Ideal) x.c x.i x.arg1 x.arg5 x.arg7 x.arg15 x.arg17 x.arg18 x.f1 x.f5 x.f7 k) (ix2 i c) = qg D k.val i.val 3 c.val := by
  unfold trip1.sl.v833
  unfold_payloads
  pointwise
  simp only [h830 x H k, h831 x H k]
  split <;> congr 1 <;> omega
theorem h834 (i : Fin 64) (l : Fin 128) : (trip1.sl.v834 (F := Ideal) x.c x.i x.arg2 x.arg5 x.arg8 x.arg16 x.arg17 x.arg19 x.f2 x.f5 x.f8 k) (ix2 i l) = kg D k.val i.val 3 (0 + l.val) := by
  unfold trip1.sl.v834
  exact strided x.arg19.view _ (kg D k.val) (y147 x H k) _ 3 (by omega) _ i l
theorem h835 (i : Fin 64) (l : Fin 128) : (trip1.sl.v835 (F := Ideal) x.c x.i x.arg2 x.arg5 x.arg8 x.arg16 x.arg17 x.arg19 x.f2 x.f5 x.f8 k) (ix2 i l) = kg D k.val i.val 3 (128 + l.val) := by
  unfold trip1.sl.v835
  exact strided x.arg19.view _ (kg D k.val) (y147 x H k) _ 7 (by omega) _ i l
theorem h837 (i : Fin 64) (c : Fin 256) :
    (trip1.sl.v837 (F := Ideal) x.c x.i x.arg2 x.arg5 x.arg8 x.arg16 x.arg17 x.arg19 x.f2 x.f5 x.f8 k) (ix2 i c) = kg D k.val i.val 3 c.val := by
  unfold trip1.sl.v837
  unfold_payloads
  pointwise
  simp only [h834 x H k, h835 x H k]
  split <;> congr 1 <;> omega
theorem h838 (i : Fin 64) (l : Fin 128) : (trip1.sl.v838 (F := Ideal) x.c x.i x.arg2 x.arg5 x.arg8 x.arg16 x.arg17 x.arg20 x.f2 x.f5 x.f8 k) (ix2 i l) = kd D k.val i.val 3 (0 + l.val) := by
  unfold trip1.sl.v838
  exact strided x.arg20.view _ (kd D k.val) (y148 x H k) _ 3 (by omega) _ i l
theorem h839 (i : Fin 64) (l : Fin 128) : (trip1.sl.v839 (F := Ideal) x.c x.i x.arg2 x.arg5 x.arg8 x.arg16 x.arg17 x.arg20 x.f2 x.f5 x.f8 k) (ix2 i l) = kd D k.val i.val 3 (128 + l.val) := by
  unfold trip1.sl.v839
  exact strided x.arg20.view _ (kd D k.val) (y148 x H k) _ 7 (by omega) _ i l
theorem h840 (i : Fin 64) (c : Fin 256) :
    (trip1.sl.v840 (F := Ideal) x.c x.i x.arg2 x.arg5 x.arg8 x.arg16 x.arg17 x.arg20 x.f2 x.f5 x.f8 k) (ix2 i c) = kd D k.val i.val 3 c.val := by
  unfold trip1.sl.v840
  unfold_payloads
  pointwise
  simp only [h838 x H k, h839 x H k]
  split <;> congr 1 <;> omega
theorem h841 (i : Fin 64) (c : Fin 256) :
    (trip1.sl.v841 (F := Ideal) x.c x.i x.arg2 x.arg5 x.arg8 x.arg16 x.arg17 x.arg20 x.f2 x.f5 x.f8 k) (ix2 i c) = kd D k.val i.val 3 c.val := by
  unfold trip1.sl.v841
  unfold_payloads
  pointwise
  simp only [h840 x H k]
theorem ld3 (r : Fin 1024) (l : Fin 128) :
    x.arg3.view.readAt (Elt Ideal) (Rect.unit (s := S10240x128) (k0_off13 k) S1024x128.size (k0_off13_inb k)).toLoadRect x.f3 (ix2 r l) = row4 D.v (1024 * k.val + r.val) l.val := by
  refine (H.v _).trans ?_
  show row4 D.v (k0_off13 k 0 + 1 * r.val) (k0_off13 k 1 + 1 * l.val) = _
  rw [off13]
  show row4 D.v (1024 * k.val + 1 * r.val) (0 + 1 * l.val) = _
  simp only [Nat.one_mul, Nat.zero_add]
theorem ld4 (r : Fin 1024) (l : Fin 128) :
    x.arg4.view.readAt (Elt Ideal) (Rect.unit (s := S10240x128) (k0_off13 k) S1024x128.size (k0_off13_inb k)).toLoadRect x.f4 (ix2 r l) = row4 D.d (1024 * k.val + r.val) l.val := by
  refine (H.d _).trans ?_
  show row4 D.d (k0_off13 k 0 + 1 * r.val) (k0_off13 k 1 + 1 * l.val) = _
  rw [off13]
  show row4 D.d (1024 * k.val + 1 * r.val) (0 + 1 * l.val) = _
  simp only [Nat.one_mul, Nat.zero_add]
theorem ld6 (z : Fin 1) (r : Fin 64) (l : Fin 4) :
    x.arg6.view.readAt (Elt Ideal) (Rect.unit (s := S1x640x4) (k0_off14 k) S1x64x4.size (k0_off14_inb k)).toLoadRect x.f6 (ix3 z r l) = D.ds (64 * k.val + r.val) l.val := by
  refine (H.ds _).trans ?_
  show D.ds (k0_off14 k 1 + 1 * r.val) (k0_off14 k 2 + 1 * l.val) = _
  rw [off14]
  show D.ds (64 * k.val + 1 * r.val) (0 + 1 * l.val) = _
  simp only [Nat.one_mul, Nat.zero_add]
theorem c17eg (u : Fin 8) (l : Fin 128) : k0_pay139 (trip1.sl.v681 (F := Ideal) x.c x.arg5 x.f5 k) (ix2 u l) = Ideal.exp (cum D k.val 63 (u.val % 4) (u.val / 4 * 128 + l.val)) := by
  unfold_payloads
  pointwise
  simp only [hv681 x H k]
theorem h847 (t : Fin 64) (u : Fin 16) (l : Fin 128) :
    (trip1.sl.v847 (F := Ideal) x.c x.arg3 x.f3 k) (ix3 t u l) = D.v (64 * k.val + t.val) (u.val % 4) (u.val / 4 * 128 + l.val) := by
  unfold trip1.sl.v847
  unfold_payloads
  pointwise
  simp only [ld3 x H k]
  unfold row4
  congr 1 <;> omega
theorem h853 (t : Fin 64) (u : Fin 16) (l : Fin 128) :
    (trip1.sl.v853 (F := Ideal) x.c x.arg4 x.f4 k) (ix3 t u l) = D.d (64 * k.val + t.val) (u.val % 4) (u.val / 4 * 128 + l.val) := by
  unfold trip1.sl.v853
  unfold_payloads
  pointwise
  simp only [ld4 x H k]
  unfold row4
  congr 1 <;> omega
theorem h856 (t : Fin 64) (l : Fin 4) :
    (trip1.sl.v856 (F := Ideal) x.c x.arg6 x.f6 k) (ix2 t l) = D.ds (64 * k.val + t.val) l.val := by
  unfold trip1.sl.v856
  unfold_payloads
  pointwise
  simp only [ld6 x H k]
theorem h874 (i : Fin 64) (c : Fin 512) :
    (trip1.sl.v874 (F := Ideal) x.c x.arg3 x.f3 k) (ix2 i c) = D.v (64 * k.val + i.val) 0 c.val := by
  unfold trip1.sl.v874
  unfold_payloads
  pointwise
  simp only [ld3 x H k, h847 x H k]
  unfold row4
  split_ifs <;> congr 1 <;> omega
theorem h884 (i : Fin 64) (c : Fin 512) :
    (trip1.sl.v884 (F := Ideal) x.c x.arg4 x.f4 k) (ix2 i c) = D.d (64 * k.val + i.val) 0 c.val := by
  unfold trip1.sl.v884
  unfold_payloads
  pointwise
  simp only [ld4 x H k, h853 x H k]
  unfold row4
  split_ifs <;> congr 1 <;> omega
theorem h885 (i : Fin 64) (z : Fin 1) :
    (trip1.sl.v885 (F := Ideal) x.c x.arg6 x.f6 k) (ix2 i z) = D.ds (64 * k.val + i.val) 0 := by
  unfold trip1.sl.v885
  unfold_payloads
  pointwise
  simp only [ld6 x H k, h856 x H k]
  all_goals rfl
theorem h975 (i : Fin 64) (c : Fin 512) :
    (trip1.sl.v975 (F := Ideal) x.c x.arg3 x.f3 k) (ix2 i c) = D.v (64 * k.val + i.val) 1 c.val := by
  unfold trip1.sl.v975
  unfold_payloads
  pointwise
  simp only [ld3 x H k, h847 x H k]
  split_ifs <;> congr 1 <;> omega
theorem h985 (i : Fin 64) (c : Fin 512) :
    (trip1.sl.v985 (F := Ideal) x.c x.arg4 x.f4 k) (ix2 i c) = D.d (64 * k.val + i.val) 1 c.val := by
  unfold trip1.sl.v985
  unfold_payloads
  pointwise
  simp only [ld4 x H k, h853 x H k]
  split_ifs <;> congr 1 <;> omega
theorem h986 (i : Fin 64) (z : Fin 1) :
    (trip1.sl.v986 (F := Ideal) x.c x.arg6 x.f6 k) (ix2 i z) = D.ds (64 * k.val + i.val) 1 := by
  unfold trip1.sl.v986
  unfold_payloads
  pointwise
  simp only [ld6 x H k, h856 x H k]
  all_goals rfl
theorem h1076 (i : Fin 64) (c : Fin 512) :
    (trip1.sl.v1076 (F := Ideal) x.c x.arg3 x.f3 k) (ix2 i c) = D.v (64 * k.val + i.val) 2 c.val := by
  unfold trip1.sl.v1076
  unfold_payloads
  pointwise
  simp only [ld3 x H k, h847 x H k]
  split_ifs <;> congr 1 <;> omega
theorem h1086 (i : Fin 64) (c : Fin 512) :
    (trip1.sl.v1086 (F := Ideal) x.c x.arg4 x.f4 k) (ix2 i c) = D.d (64 * k.val + i.val) 2 c.val := by
  unfold trip1.sl.v1086
  unfold_payloads
  pointwise
  simp only [ld4 x H k, h853 x H k]
  split_ifs <;> congr 1 <;> omega
theorem h1087 (i : Fin 64) (z : Fin 1) :
    (trip1.sl.v1087 (F := Ideal) x.c x.arg6 x.f6 k) (ix2 i z) = D.ds (64 * k.val + i.val) 2 := by
  unfold trip1.sl.v1087
  unfold_payloads
  pointwise
  simp only [ld6 x H k, h856 x H k]
  all_goals rfl
theorem h1177 (i : Fin 64) (c : Fin 512) :
    (trip1.sl.v1177 (F := Ideal) x.c x.arg3 x.f3 k) (ix2 i c) = D.v (64 * k.val + i.val) 3 c.val := by
  unfold trip1.sl.v1177
  unfold_payloads
  pointwise
  simp only [ld3 x H k, h847 x H k]
  split_ifs <;> congr 1 <;> omega
theorem h1187 (i : Fin 64) (c : Fin 512) :
    (trip1.sl.v1187 (F := Ideal) x.c x.arg4 x.f4 k) (ix2 i c) = D.d (64 * k.val + i.val) 3 c.val := by
  unfold trip1.sl.v1187
  unfold_payloads
  pointwise
  simp only [ld4 x H k, h853 x H k]
  split_ifs <;> congr 1 <;> omega
theorem h1188 (i : Fin 64) (z : Fin 1) :
    (trip1.sl.v1188 (F := Ideal) x.c x.arg6 x.f6 k) (ix2 i z) = D.ds (64 * k.val + i.val) 3 := by
  unfold trip1.sl.v1188
  unfold_payloads
  pointwise
  simp only [ld6 x H k, h856 x H k]
  all_goals rfl
/-- The row and column numbers the masks compare. -/
def rowI : IVec S64x64 32 := fun y => BitVec.ofNat 32 (y 0).val
def colI : IVec S64x64 32 := fun y => BitVec.ofNat 32 (y 1).val
end
theorem rowI_ix (i j : Fin 64) : rowI (ix2 i j) = BitVec.ofNat 32 i.val := rfl
theorem colI_ix (i j : Fin 64) : colI (ix2 i j) = BitVec.ofNat 32 j.val := rfl
theorem ite_fz (p : Prop) [Decidable p] (a : EReal) : (if p then a else (0 : EReal)) = if p then a else 0 := rfl
section
include H k
theorem h908 (i j : Fin 64) :
    (trip1.sl.v908 (F := Ideal) x.c x.i x.arg3 x.arg4 x.arg6 x.arg9 rowI colI x.f3 x.f4 x.f6 x.f9 k) (ix2 i j) = Am D k.val 0 i.val j.val := by
  unfold trip1.sl.v908
  unfold_payloads
  pointwise
  simp only [h847 x H k, h853 x H k, h856 x H k, h874 x H k, h884 x H k, h885 x H k, h899 x H k, sel_le, rowI_ix, colI_ix]
  rfl
theorem h1009 (i j : Fin 64) :
    (trip1.sl.v1009 (F := Ideal) x.c x.i x.arg3 x.arg4 x.arg6 x.arg9 rowI colI x.f3 x.f4 x.f6 x.f9 k) (ix2 i j) = Am D k.val 1 i.val j.val := by
  unfold trip1.sl.v1009
  unfold_payloads
  pointwise
  simp only [h847 x H k, h853 x H k, h856 x H k, h975 x H k, h985 x H k, h986 x H k, h1000 x H k, sel_le, rowI_ix, colI_ix]
  rfl
theorem h1211 (i j : Fin 64) :
    (trip1.sl.v1211 (F := Ideal) x.c x.i x.arg3 x.arg4 x.arg6 x.arg9 rowI colI x.f3 x.f4 x.f6 x.f9 k) (ix2 i j) = Am D k.val 3 i.val j.val := by
  unfold trip1.sl.v1211
  unfold_payloads
  pointwise
  simp only [h847 x H k, h853 x H k, h856 x H k, h1177 x H k, h1187 x H k, h1188 x H k, h1202 x H k, sel_le, rowI_ix, colI_ix]
  rfl

end
end Cert.Proof.KernelIdeal.Vl

end
-- ==== Proof.StepC.lean ====
module

public import proofs.«01_k».proof.Proof.StepB
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

open Spec
variable {D : Spec.Inp}

theorem off15 : ∀ k, k0_off15 k = ![0, 64 * k.val, 0] := by decide
theorem off16 : ∀ k, k0_off16 k = ![0, 64 * k.val, 0] := by decide
theorem off17 : ∀ k, k0_off17 k = ![0, 64 * k.val, 0] := by decide
theorem off19 : ∀ k, k0_off19 k = ![1, 64 * k.val, 0] := by decide
theorem off20 : ∀ k, k0_off20 k = ![1, 64 * k.val, 0] := by decide
theorem off21 : ∀ k, k0_off21 k = ![1, 64 * k.val, 0] := by decide
theorem off22 : ∀ k, k0_off22 k = ![2, 64 * k.val, 0] := by decide
theorem off23 : ∀ k, k0_off23 k = ![2, 64 * k.val, 0] := by decide
theorem off24 : ∀ k, k0_off24 k = ![2, 64 * k.val, 0] := by decide
theorem off25 : ∀ k, k0_off25 k = ![3, 64 * k.val, 0] := by decide
theorem off26 : ∀ k, k0_off26 k = ![3, 64 * k.val, 0] := by decide
theorem off27 : ∀ k, k0_off27 k = ![3, 64 * k.val, 0] := by decide

theorem writes_append {κ : Kind} {sp : Space} {s : Shape} {e : EltTy} (v : View sig κ sp s e) (f : v.ty.Contents (Elt Ideal)) (A B : List (View.Piece (Elt Ideal) s e)) :
    v.writes (Elt Ideal) f (A ++ B) = v.writes (Elt Ideal) (v.writes (Elt Ideal) f B) A := by
  induction A with
  | nil => rfl
  | cons p A ih => simp only [List.cons_append, View.writes_cons, ih]
/-- A load covered by the last `m` writes alone. -/
theorem readCov_take {κ : Kind} {sp : Space} {s : Shape} {e : EltTy} (v : View sig κ sp s e) (φ : s.Idx → Elt Ideal e) (L : List (View.Piece (Elt Ideal) s e)) (m : ℕ)
    (B : LoadRect s) (z : B.shape.Idx) (hL : ∀ p ∈ L.take m, ∀ x, p.2 x = φ (p.1.emb x)) (hc : ∃ p ∈ L.take m, B.idx z ∈ p.1.set) :
    v.readCov L B z = φ (B.idx z) := by
  rw [← List.take_append_drop m L]
  show v.read (Elt Ideal) (v.writes (Elt Ideal) _ (_ ++ _)) (B.idx z) = _
  rw [writes_append]
  exact Reads.read_writes_of_pieces v _ φ _ _ hL (Or.inl hc)
/-- What one trip adds to an array filled chunk by chunk. -/
theorem grow {κ : Kind} {sp : Space} {s : Shape} {e : EltTy} (v : View sig κ sp s e) (f : v.ty.Contents (Elt Ideal)) (φ : s.Idx → Elt Ideal e)
    (L : List (View.Piece (Elt Ideal) s e)) (P : s.Idx → ℕ) (N n : ℕ) (old : ∀ y, P y < N * n → v.read (Elt Ideal) f y = φ y)
    (hL : ∀ p ∈ L, ∀ x, p.2 x = φ (p.1.emb x)) (hc : ∀ y, N * n ≤ P y → P y < N * n + N → ∃ p ∈ L, y ∈ p.1.set) :
    ∀ y, P y < N * (n + 1) → v.read (Elt Ideal) (v.writes (Elt Ideal) f L) y = φ y := by
  intro y hy
  rw [Nat.mul_succ] at hy
  refine Reads.read_writes_of_pieces v f φ y L hL ?_
  by_cases h : P y < N * n
  · exact Or.inr (old y h)
  · exact Or.inl (hc y (not_lt.mp h) hy)
theorem row3_tm (φ : ℕ → ℕ → ℕ → ℕ → EReal) (n r l : ℕ) (h : r < 512) : row3 (tm φ) (512 * n + r) l = row3 (φ n) r l := by
  unfold row3 tm
  congr 1 <;> omega

variable (x : Ctx) (H : Inputs D x) (k : Fin k0_t1_loop.trips)
section
include H k
theorem P27 : ∀ p ∈ (trip1.sl.H27_1 (F := Ideal) x.c x.arg5 x.f5 k), ∀ z : p.1.shape.Idx,
    p.2 z = row3 (fun n h c => Ideal.exp (cum D n 63 h c)) (p.1.emb z 0).val (p.1.emb z 1).val := by
  unfold trip1.sl.H27_1
  refine List.forall_mem_cons.mpr ⟨fun z => ?_, List.forall_mem_nil _⟩
  obtain ⟨u, l, rfl⟩ : ∃ (u : Fin 8) (l : Fin 128), z = ix2 u l := ⟨z 0, z 1, eq_ix2 z⟩
  refine (c17eg x H k u l).trans ?_
  show _ = row3 _ (k0_off6 k 0 + 1 * u.val) (k0_off6 k 1 + 1 * l.val)
  rw [off6]
  show _ = row3 _ (8 * k.val + 1 * u.val) (0 + 1 * l.val)
  unfold row3
  congr! 2 <;> omega
end
theorem c27 (x : Ctx) (k : Fin k0_t1_loop.trips) (y : S80x128.Idx) (h : 8 * k.val ≤ (y 0).val) (h' : (y 0).val < 8 * k.val + 8) :
    ∃ p ∈ (trip1.sl.H27_1 (F := Ideal) x.c x.arg5 x.f5 k), y ∈ p.1.set := by
  unfold trip1.sl.H27_1
  refine ⟨_, List.mem_singleton_self _, ?_⟩
  refine Reads.mem_unit (inb := k0_off6_inb k) (off6 k) fun a => ?_
  have h2 : (y 1).val < 128 := (y 1).isLt
  match a with
  | ⟨0, _⟩ => exact ⟨h, h'⟩
  | ⟨1, _⟩ => exact ⟨Nat.zero_le _, show (y 1).val < 0 + 128 by omega⟩
section
include H k
theorem h942 (z : Fin 1) (l : Fin 128) : (trip1.sl.v942 (F := Ideal) x.c x.arg5 x.arg27 x.f5 k) (ix2 z l) = Ideal.exp (cum D k.val 63 0 (0 + l.val)) := by
  unfold trip1.sl.v942
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 0#32 0#32 0 + 1 * z.val
      rw [off18_0_0]; show 8 * k.val ≤ 8 * k.val + 0 + 1 * z.val; omega
    · show k0_off18 k 0#32 0#32 0 + 1 * z.val < _
      rw [off18_0_0]; show 8 * k.val + 0 + 1 * z.val < _; omega
  · show row3 _ (k0_off18 k 0#32 0#32 0 + 1 * z.val) (k0_off18 k 0#32 0#32 1 + 1 * l.val) = _
    rw [off18_0_0]
    show row3 _ (8 * k.val + 0 + 1 * z.val) (0 + 1 * l.val) = _
    unfold row3
    congr! 2 <;> omega
theorem h947 (z : Fin 1) (l : Fin 128) : (trip1.sl.v947 (F := Ideal) x.c x.arg5 x.arg27 x.f5 k) (ix2 z l) = Ideal.exp (cum D k.val 63 0 (128 + l.val)) := by
  unfold trip1.sl.v947
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 4#32 0#32 0 + 1 * z.val
      rw [off18_4_0]; show 8 * k.val ≤ 8 * k.val + 4 + 1 * z.val; omega
    · show k0_off18 k 4#32 0#32 0 + 1 * z.val < _
      rw [off18_4_0]; show 8 * k.val + 4 + 1 * z.val < _; omega
  · show row3 _ (k0_off18 k 4#32 0#32 0 + 1 * z.val) (k0_off18 k 4#32 0#32 1 + 1 * l.val) = _
    rw [off18_4_0]
    show row3 _ (8 * k.val + 4 + 1 * z.val) (0 + 1 * l.val) = _
    unfold row3
    congr! 2 <;> omega
theorem h1043 (z : Fin 1) (l : Fin 128) : (trip1.sl.v1043 (F := Ideal) x.c x.arg5 x.arg27 x.f5 k) (ix2 z l) = Ideal.exp (cum D k.val 63 1 (0 + l.val)) := by
  unfold trip1.sl.v1043
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 0#32 1#32 0 + 1 * z.val
      rw [off18_0_1]; show 8 * k.val ≤ 8 * k.val + 1 + 1 * z.val; omega
    · show k0_off18 k 0#32 1#32 0 + 1 * z.val < _
      rw [off18_0_1]; show 8 * k.val + 1 + 1 * z.val < _; omega
  · show row3 _ (k0_off18 k 0#32 1#32 0 + 1 * z.val) (k0_off18 k 0#32 1#32 1 + 1 * l.val) = _
    rw [off18_0_1]
    show row3 _ (8 * k.val + 1 + 1 * z.val) (0 + 1 * l.val) = _
    unfold row3
    congr! 2 <;> omega
theorem h1048 (z : Fin 1) (l : Fin 128) : (trip1.sl.v1048 (F := Ideal) x.c x.arg5 x.arg27 x.f5 k) (ix2 z l) = Ideal.exp (cum D k.val 63 1 (128 + l.val)) := by
  unfold trip1.sl.v1048
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 4#32 1#32 0 + 1 * z.val
      rw [off18_4_1]; show 8 * k.val ≤ 8 * k.val + 5 + 1 * z.val; omega
    · show k0_off18 k 4#32 1#32 0 + 1 * z.val < _
      rw [off18_4_1]; show 8 * k.val + 5 + 1 * z.val < _; omega
  · show row3 _ (k0_off18 k 4#32 1#32 0 + 1 * z.val) (k0_off18 k 4#32 1#32 1 + 1 * l.val) = _
    rw [off18_4_1]
    show row3 _ (8 * k.val + 5 + 1 * z.val) (0 + 1 * l.val) = _
    unfold row3
    congr! 2 <;> omega
theorem h1144 (z : Fin 1) (l : Fin 128) : (trip1.sl.v1144 (F := Ideal) x.c x.arg5 x.arg27 x.f5 k) (ix2 z l) = Ideal.exp (cum D k.val 63 2 (0 + l.val)) := by
  unfold trip1.sl.v1144
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 0#32 2#32 0 + 1 * z.val
      rw [off18_0_2]; show 8 * k.val ≤ 8 * k.val + 2 + 1 * z.val; omega
    · show k0_off18 k 0#32 2#32 0 + 1 * z.val < _
      rw [off18_0_2]; show 8 * k.val + 2 + 1 * z.val < _; omega
  · show row3 _ (k0_off18 k 0#32 2#32 0 + 1 * z.val) (k0_off18 k 0#32 2#32 1 + 1 * l.val) = _
    rw [off18_0_2]
    show row3 _ (8 * k.val + 2 + 1 * z.val) (0 + 1 * l.val) = _
    unfold row3
    congr! 2 <;> omega
theorem h1149 (z : Fin 1) (l : Fin 128) : (trip1.sl.v1149 (F := Ideal) x.c x.arg5 x.arg27 x.f5 k) (ix2 z l) = Ideal.exp (cum D k.val 63 2 (128 + l.val)) := by
  unfold trip1.sl.v1149
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 4#32 2#32 0 + 1 * z.val
      rw [off18_4_2]; show 8 * k.val ≤ 8 * k.val + 6 + 1 * z.val; omega
    · show k0_off18 k 4#32 2#32 0 + 1 * z.val < _
      rw [off18_4_2]; show 8 * k.val + 6 + 1 * z.val < _; omega
  · show row3 _ (k0_off18 k 4#32 2#32 0 + 1 * z.val) (k0_off18 k 4#32 2#32 1 + 1 * l.val) = _
    rw [off18_4_2]
    show row3 _ (8 * k.val + 6 + 1 * z.val) (0 + 1 * l.val) = _
    unfold row3
    congr! 2 <;> omega
theorem h1245 (z : Fin 1) (l : Fin 128) : (trip1.sl.v1245 (F := Ideal) x.c x.arg5 x.arg27 x.f5 k) (ix2 z l) = Ideal.exp (cum D k.val 63 3 (0 + l.val)) := by
  unfold trip1.sl.v1245
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 0#32 3#32 0 + 1 * z.val
      rw [off18_0_3]; show 8 * k.val ≤ 8 * k.val + 3 + 1 * z.val; omega
    · show k0_off18 k 0#32 3#32 0 + 1 * z.val < _
      rw [off18_0_3]; show 8 * k.val + 3 + 1 * z.val < _; omega
  · show row3 _ (k0_off18 k 0#32 3#32 0 + 1 * z.val) (k0_off18 k 0#32 3#32 1 + 1 * l.val) = _
    rw [off18_0_3]
    show row3 _ (8 * k.val + 3 + 1 * z.val) (0 + 1 * l.val) = _
    unfold row3
    congr! 2 <;> omega
theorem h1250 (z : Fin 1) (l : Fin 128) : (trip1.sl.v1250 (F := Ideal) x.c x.arg5 x.arg27 x.f5 k) (ix2 z l) = Ideal.exp (cum D k.val 63 3 (128 + l.val)) := by
  unfold trip1.sl.v1250
  refine (Reads.readCov_of_pieces x.arg27.view (fun y => row3 (fun n h c => Ideal.exp (cum D n 63 h c)) (y 0).val (y 1).val) _ _ _ (P27 x H k) ?_).trans ?_
  · refine c27 x k _ ?_ ?_
    · show 8 * k.val ≤ k0_off18 k 4#32 3#32 0 + 1 * z.val
      rw [off18_4_3]; show 8 * k.val ≤ 8 * k.val + 7 + 1 * z.val; omega
    · show k0_off18 k 4#32 3#32 0 + 1 * z.val < _
      rw [off18_4_3]; show 8 * k.val + 7 + 1 * z.val < _; omega
  · show row3 _ (k0_off18 k 4#32 3#32 0 + 1 * z.val) (k0_off18 k 4#32 3#32 1 + 1 * l.val) = _
    rw [off18_4_3]
    show row3 _ (8 * k.val + 7 + 1 * z.val) (0 + 1 * l.val) = _
    unfold row3
    congr! 2 <;> omega
theorem ldS0 (HS : ∀ y : S4x512x256.Idx, x.arg28.view.read (Elt Ideal) x.f28 y = St D k.val (y 0).val (y 1).val (y 2).val) (z : Fin 1) (v : Fin 512) (c : Fin 256) :
    x.arg28.view.readAt (Elt Ideal) (Rect.unit (s := S4x512x256) ![0, 0, 0] S1x512x256.size inb_S4x512x256_S1x512x256_0_0_0).toLoadRect x.f28 (ix3 z v c) = St D k.val 0 v.val c.val := by
  refine (HS _).trans ?_
  show St D k.val (0 + 1 * z.val) (0 + 1 * v.val) (0 + 1 * c.val) = _
  congr 1 <;> omega
theorem ldS1 (HS : ∀ y : S4x512x256.Idx, x.arg28.view.read (Elt Ideal) x.f28 y = St D k.val (y 0).val (y 1).val (y 2).val) (z : Fin 1) (v : Fin 512) (c : Fin 256) :
    x.arg28.view.readAt (Elt Ideal) (Rect.unit (s := S4x512x256) ![1, 0, 0] S1x512x256.size inb_S4x512x256_S1x512x256_1_0_0).toLoadRect x.f28 (ix3 z v c) = St D k.val 1 v.val c.val := by
  refine (HS _).trans ?_
  show St D k.val (1 + 1 * z.val) (0 + 1 * v.val) (0 + 1 * c.val) = _
  congr 1 <;> omega
theorem ldS2 (HS : ∀ y : S4x512x256.Idx, x.arg28.view.read (Elt Ideal) x.f28 y = St D k.val (y 0).val (y 1).val (y 2).val) (z : Fin 1) (v : Fin 512) (c : Fin 256) :
    x.arg28.view.readAt (Elt Ideal) (Rect.unit (s := S4x512x256) ![2, 0, 0] S1x512x256.size inb_S4x512x256_S1x512x256_2_0_0).toLoadRect x.f28 (ix3 z v c) = St D k.val 2 v.val c.val := by
  refine (HS _).trans ?_
  show St D k.val (2 + 1 * z.val) (0 + 1 * v.val) (0 + 1 * c.val) = _
  congr 1 <;> omega
theorem ldS3 (HS : ∀ y : S4x512x256.Idx, x.arg28.view.read (Elt Ideal) x.f28 y = St D k.val (y 0).val (y 1).val (y 2).val) (z : Fin 1) (v : Fin 512) (c : Fin 256) :
    x.arg28.view.readAt (Elt Ideal) (Rect.unit (s := S4x512x256) ![3, 0, 0] S1x512x256.size inb_S4x512x256_S1x512x256_3_0_0).toLoadRect x.f28 (ix3 z v c) = St D k.val 3 v.val c.val := by
  refine (HS _).trans ?_
  show St D k.val (3 + 1 * z.val) (0 + 1 * v.val) (0 + 1 * c.val) = _
  congr 1 <;> omega
theorem h923 (HS : ∀ y : S4x512x256.Idx, x.arg28.view.read (Elt Ideal) x.f28 y = St D k.val (y 0).val (y 1).val (y 2).val) (v : Fin 512) (c : Fin 256) :
    (trip1.sl.v923 (F := Ideal) x.c x.arg28 x.f28) (ix2 v c) = St D k.val 0 v.val c.val := by
  unfold trip1.sl.v923
  unfold_payloads
  pointwise
  simp only [ldS0 x H k HS]
theorem h1023 (HS : ∀ y : S4x512x256.Idx, x.arg28.view.read (Elt Ideal) x.f28 y = St D k.val (y 0).val (y 1).val (y 2).val) (z : Fin 1) (v : Fin 512) (c : Fin 256) : (trip1.sl.v1023 (F := Ideal) x.c x.arg28 x.f28) (ix3 z v c) = St D k.val 1 v.val c.val := by
  unfold trip1.sl.v1023
  exact ldS1 x H k HS z v c
theorem h1024 (HS : ∀ y : S4x512x256.Idx, x.arg28.view.read (Elt Ideal) x.f28 y = St D k.val (y 0).val (y 1).val (y 2).val) (v : Fin 512) (c : Fin 256) :
    (trip1.sl.v1024 (F := Ideal) x.c x.arg28 x.f28) (ix2 v c) = St D k.val 1 v.val c.val := by
  unfold trip1.sl.v1024
  unfold_payloads
  pointwise
  simp only [h1023 x H k HS]
theorem h1124 (HS : ∀ y : S4x512x256.Idx, x.arg28.view.read (Elt Ideal) x.f28 y = St D k.val (y 0).val (y 1).val (y 2).val) (z : Fin 1) (v : Fin 512) (c : Fin 256) : (trip1.sl.v1124 (F := Ideal) x.c x.arg28 x.f28) (ix3 z v c) = St D k.val 2 v.val c.val := by
  unfold trip1.sl.v1124
  exact ldS2 x H k HS z v c
theorem h1125 (HS : ∀ y : S4x512x256.Idx, x.arg28.view.read (Elt Ideal) x.f28 y = St D k.val (y 0).val (y 1).val (y 2).val) (v : Fin 512) (c : Fin 256) :
    (trip1.sl.v1125 (F := Ideal) x.c x.arg28 x.f28) (ix2 v c) = St D k.val 2 v.val c.val := by
  unfold trip1.sl.v1125
  unfold_payloads
  pointwise
  simp only [h1124 x H k HS]
theorem h1225 (HS : ∀ y : S4x512x256.Idx, x.arg28.view.read (Elt Ideal) x.f28 y = St D k.val (y 0).val (y 1).val (y 2).val) (z : Fin 1) (v : Fin 512) (c : Fin 256) : (trip1.sl.v1225 (F := Ideal) x.c x.arg28 x.f28) (ix3 z v c) = St D k.val 3 v.val c.val := by
  unfold trip1.sl.v1225
  exact ldS3 x H k HS z v c
theorem h1226 (HS : ∀ y : S4x512x256.Idx, x.arg28.view.read (Elt Ideal) x.f28 y = St D k.val (y 0).val (y 1).val (y 2).val) (v : Fin 512) (c : Fin 256) :
    (trip1.sl.v1226 (F := Ideal) x.c x.arg28 x.f28) (ix2 v c) = St D k.val 3 v.val c.val := by
  unfold trip1.sl.v1226
  unfold_payloads
  pointwise
  simp only [h1225 x H k HS]
theorem hx00 (HS : ∀ y : S4x512x256.Idx, x.arg28.view.read (Elt Ideal) x.f28 y = St D k.val (y 0).val (y 1).val (y 2).val) (i : Fin 64) (l : Fin 128) :
    k0_pay178 (trip1.sl.v801 (F := Ideal) x.c x.i x.arg2 x.arg5 x.arg8 x.arg16 x.arg17 x.arg19 x.f2 x.f5 x.f8 k) (trip1.sl.v908 (F := Ideal) x.c x.i x.arg3 x.arg4 x.arg6 x.arg9 rowI colI x.f3 x.f4 x.f6 x.f9 k) (trip1.sl.v927 (F := Ideal) x.c x.arg4 x.arg6 x.arg28 x.f4 x.f6 k x.f28) (ix2 i l) = X D k.val i.val 0 (0 + l.val) := by
  unfold trip1.sl.v927
  unfold_payloads
  pointwise
  simp only [ldS0 x H k HS, h801 x H k, h874 x H k, h884 x H k, h885 x H k, h899 x H k, h908 x H k]
  rfl
theorem hx01 (HS : ∀ y : S4x512x256.Idx, x.arg28.view.read (Elt Ideal) x.f28 y = St D k.val (y 0).val (y 1).val (y 2).val) (i : Fin 64) (l : Fin 128) :
    k0_pay179 (trip1.sl.v801 (F := Ideal) x.c x.i x.arg2 x.arg5 x.arg8 x.arg16 x.arg17 x.arg19 x.f2 x.f5 x.f8 k) (trip1.sl.v908 (F := Ideal) x.c x.i x.arg3 x.arg4 x.arg6 x.arg9 rowI colI x.f3 x.f4 x.f6 x.f9 k) (trip1.sl.v927 (F := Ideal) x.c x.arg4 x.arg6 x.arg28 x.f4 x.f6 k x.f28) (ix2 i l) = X D k.val i.val 0 (128 + l.val) := by
  unfold trip1.sl.v927
  unfold_payloads
  pointwise
  simp only [ldS0 x H k HS, h801 x H k, h874 x H k, h884 x H k, h885 x H k, h899 x H k, h908 x H k]
  rfl
theorem hx10 (HS : ∀ y : S4x512x256.Idx, x.arg28.view.read (Elt Ideal) x.f28 y = St D k.val (y 0).val (y 1).val (y 2).val) (i : Fin 64) (l : Fin 128) :
    k0_pay193 (trip1.sl.v813 (F := Ideal) x.c x.i x.arg2 x.arg5 x.arg8 x.arg16 x.arg17 x.arg19 x.f2 x.f5 x.f8 k) (trip1.sl.v985 (F := Ideal) x.c x.arg4 x.f4 k) (trip1.sl.v986 (F := Ideal) x.c x.arg6 x.f6 k) (trip1.sl.v1009 (F := Ideal) x.c x.i x.arg3 x.arg4 x.arg6 x.arg9 rowI colI x.f3 x.f4 x.f6 x.f9 k) (trip1.sl.v1023 (F := Ideal) x.c x.arg28 x.f28) (ix2 i l) = X D k.val i.val 1 (0 + l.val) := by
  skip
  unfold_payloads
  pointwise
  simp only [h1023 x H k HS, h813 x H k, h975 x H k, h985 x H k, h986 x H k, h1000 x H k, h1009 x H k]
  rfl
theorem hx11 (HS : ∀ y : S4x512x256.Idx, x.arg28.view.read (Elt Ideal) x.f28 y = St D k.val (y 0).val (y 1).val (y 2).val) (i : Fin 64) (l : Fin 128) :
    k0_pay194 (trip1.sl.v813 (F := Ideal) x.c x.i x.arg2 x.arg5 x.arg8 x.arg16 x.arg17 x.arg19 x.f2 x.f5 x.f8 k) (trip1.sl.v985 (F := Ideal) x.c x.arg4 x.f4 k) (trip1.sl.v986 (F := Ideal) x.c x.arg6 x.f6 k) (trip1.sl.v1009 (F := Ideal) x.c x.i x.arg3 x.arg4 x.arg6 x.arg9 rowI colI x.f3 x.f4 x.f6 x.f9 k) (trip1.sl.v1023 (F := Ideal) x.c x.arg28 x.f28) (ix2 i l) = X D k.val i.val 1 (128 + l.val) := by
  skip
  unfold_payloads
  pointwise
  simp only [h1023 x H k HS, h813 x H k, h975 x H k, h985 x H k, h986 x H k, h1000 x H k, h1009 x H k]
  rfl
theorem hx20 (HS : ∀ y : S4x512x256.Idx, x.arg28.view.read (Elt Ideal) x.f28 y = St D k.val (y 0).val (y 1).val (y 2).val) (i : Fin 64) (l : Fin 128) :
    k0_pay209 (trip1.sl.v1132 (F := Ideal) x.c x.i x.arg2 x.arg3 x.arg4 x.arg5 x.arg6 x.arg8 x.arg9 x.arg16 x.arg17 x.arg19 x.arg28 rowI colI x.f2 x.f3 x.f4 x.f5 x.f6 x.f8 x.f9 k x.f28) (ix2 i l) = X D k.val i.val 2 (0 + l.val) := by
  unfold trip1.sl.v1132
  unfold_payloads
  pointwise
  simp only [h1124 x H k HS, h825 x H k, h1076 x H k, h1086 x H k, h1087 x H k, h1101 x H k, sel_le, rowI_ix, colI_ix]
  unfold X
  congr 1
  refine Finset.sum_congr rfl fun x _ => ?_
  unfold Am
  split
  · rfl
  · exact (zero_mul _).symm
theorem hx21 (HS : ∀ y : S4x512x256.Idx, x.arg28.view.read (Elt Ideal) x.f28 y = St D k.val (y 0).val (y 1).val (y 2).val) (i : Fin 64) (l : Fin 128) :
    k0_pay210 (trip1.sl.v1131 (F := Ideal) x.c x.i x.arg2 x.arg3 x.arg4 x.arg5 x.arg6 x.arg8 x.arg9 x.arg16 x.arg17 x.arg19 x.arg28 rowI colI x.f2 x.f3 x.f4 x.f5 x.f6 x.f8 x.f9 k x.f28) (ix2 i l) = X D k.val i.val 2 (128 + l.val) := by
  unfold trip1.sl.v1131
  unfold_payloads
  pointwise
  simp only [h1124 x H k HS, h825 x H k, h1076 x H k, h1086 x H k, h1087 x H k, h1101 x H k, sel_le, rowI_ix, colI_ix]
  unfold X
  congr 1
  refine Finset.sum_congr rfl fun x _ => ?_
  unfold Am
  split
  · rfl
  · exact (zero_mul _).symm
theorem hx30 (HS : ∀ y : S4x512x256.Idx, x.arg28.view.read (Elt Ideal) x.f28 y = St D k.val (y 0).val (y 1).val (y 2).val) (i : Fin 64) (l : Fin 128) :
    k0_pay224 (trip1.sl.v837 (F := Ideal) x.c x.i x.arg2 x.arg5 x.arg8 x.arg16 x.arg17 x.arg19 x.f2 x.f5 x.f8 k) (trip1.sl.v1187 (F := Ideal) x.c x.arg4 x.f4 k) (trip1.sl.v1188 (F := Ideal) x.c x.arg6 x.f6 k) (trip1.sl.v1211 (F := Ideal) x.c x.i x.arg3 x.arg4 x.arg6 x.arg9 rowI colI x.f3 x.f4 x.f6 x.f9 k) (trip1.sl.v1225 (F := Ideal) x.c x.arg28 x.f28) (ix2 i l) = X D k.val i.val 3 (0 + l.val) := by
  skip
  unfold_payloads
  pointwise
  simp only [h1225 x H k HS, h837 x H k, h1177 x H k, h1187 x H k, h1188 x H k, h1202 x H k, h1211 x H k]
  rfl
theorem hx31 (HS : ∀ y : S4x512x256.Idx, x.arg28.view.read (Elt Ideal) x.f28 y = St D k.val (y 0).val (y 1).val (y 2).val) (i : Fin 64) (l : Fin 128) :
    k0_pay225 (trip1.sl.v837 (F := Ideal) x.c x.i x.arg2 x.arg5 x.arg8 x.arg16 x.arg17 x.arg19 x.f2 x.f5 x.f8 k) (trip1.sl.v1187 (F := Ideal) x.c x.arg4 x.f4 k) (trip1.sl.v1188 (F := Ideal) x.c x.arg6 x.f6 k) (trip1.sl.v1211 (F := Ideal) x.c x.i x.arg3 x.arg4 x.arg6 x.arg9 rowI colI x.f3 x.f4 x.f6 x.f9 k) (trip1.sl.v1225 (F := Ideal) x.c x.arg28 x.f28) (ix2 i l) = X D k.val i.val 3 (128 + l.val) := by
  skip
  unfold_payloads
  pointwise
  simp only [h1225 x H k HS, h837 x H k, h1177 x H k, h1187 x H k, h1188 x H k, h1202 x H k, h1211 x H k]
  rfl
theorem hs0 (HS : ∀ y : S4x512x256.Idx, x.arg28.view.read (Elt Ideal) x.f28 y = St D k.val (y 0).val (y 1).val (y 2).val) (z : Fin 1) (v : Fin 512) (c : Fin 256) :
    k0_pay180 (trip1.sl.v805 (F := Ideal) x.c x.i x.arg2 x.arg5 x.arg8 x.arg16 x.arg17 x.arg20 x.f2 x.f5 x.f8 k) (trip1.sl.v874 (F := Ideal) x.c x.arg3 x.f3 k) (trip1.sl.v899 (F := Ideal) x.c x.i x.arg9 x.f9 k) (trip1.sl.v923 (F := Ideal) x.c x.arg28 x.f28) (trip1.sl.v942 (F := Ideal) x.c x.arg5 x.arg27 x.f5 k) (trip1.sl.v947 (F := Ideal) x.c x.arg5 x.arg27 x.f5 k) (ix3 z v c) = St D (k.val + 1) 0 v.val c.val := by
  skip
  unfold_payloads
  pointwise
  simp only [h923 x H k HS, h805 x H k, h874 x H k, h899 x H k, h942 x H k, h947 x H k]
  show _ = Ideal.exp (cum D k.val 63 0 c.val) * St D k.val 0 v.val c.val + (∑ i : Fin 64, D.v (64 * k.val + i.val) 0 v.val * kd D k.val i.val 0 c.val) * D.vs k.val 0
  congr 2
  split <;> congr 2 <;> omega
theorem hs1 (HS : ∀ y : S4x512x256.Idx, x.arg28.view.read (Elt Ideal) x.f28 y = St D k.val (y 0).val (y 1).val (y 2).val) (z : Fin 1) (v : Fin 512) (c : Fin 256) :
    k0_pay195 (trip1.sl.v817 (F := Ideal) x.c x.i x.arg2 x.arg5 x.arg8 x.arg16 x.arg17 x.arg20 x.f2 x.f5 x.f8 k) (trip1.sl.v975 (F := Ideal) x.c x.arg3 x.f3 k) (trip1.sl.v1000 (F := Ideal) x.c x.i x.arg9 x.f9 k) (trip1.sl.v1024 (F := Ideal) x.c x.arg28 x.f28) (trip1.sl.v1043 (F := Ideal) x.c x.arg5 x.arg27 x.f5 k) (trip1.sl.v1048 (F := Ideal) x.c x.arg5 x.arg27 x.f5 k) (ix3 z v c) = St D (k.val + 1) 1 v.val c.val := by
  skip
  unfold_payloads
  pointwise
  simp only [h1024 x H k HS, h817 x H k, h975 x H k, h1000 x H k, h1043 x H k, h1048 x H k]
  show _ = Ideal.exp (cum D k.val 63 1 c.val) * St D k.val 1 v.val c.val + (∑ i : Fin 64, D.v (64 * k.val + i.val) 1 v.val * kd D k.val i.val 1 c.val) * D.vs k.val 1
  congr 2
  split <;> congr 2 <;> omega
theorem hs2 (HS : ∀ y : S4x512x256.Idx, x.arg28.view.read (Elt Ideal) x.f28 y = St D k.val (y 0).val (y 1).val (y 2).val) (z : Fin 1) (v : Fin 512) (c : Fin 256) :
    k0_pay211 (trip1.sl.v829 (F := Ideal) x.c x.i x.arg2 x.arg5 x.arg8 x.arg16 x.arg17 x.arg20 x.f2 x.f5 x.f8 k) (trip1.sl.v1076 (F := Ideal) x.c x.arg3 x.f3 k) (trip1.sl.v1101 (F := Ideal) x.c x.i x.arg9 x.f9 k) (trip1.sl.v1125 (F := Ideal) x.c x.arg28 x.f28) (trip1.sl.v1144 (F := Ideal) x.c x.arg5 x.arg27 x.f5 k) (trip1.sl.v1149 (F := Ideal) x.c x.arg5 x.arg27 x.f5 k) (ix3 z v c) = St D (k.val + 1) 2 v.val c.val := by
  skip
  unfold_payloads
  pointwise
  simp only [h1125 x H k HS, h829 x H k, h1076 x H k, h1101 x H k, h1144 x H k, h1149 x H k]
  show _ = Ideal.exp (cum D k.val 63 2 c.val) * St D k.val 2 v.val c.val + (∑ i : Fin 64, D.v (64 * k.val + i.val) 2 v.val * kd D k.val i.val 2 c.val) * D.vs k.val 2
  congr 2
  split <;> congr 2 <;> omega
theorem hs3 (HS : ∀ y : S4x512x256.Idx, x.arg28.view.read (Elt Ideal) x.f28 y = St D k.val (y 0).val (y 1).val (y 2).val) (z : Fin 1) (v : Fin 512) (c : Fin 256) :
    k0_pay227 (trip1.sl.v841 (F := Ideal) x.c x.i x.arg2 x.arg5 x.arg8 x.arg16 x.arg17 x.arg20 x.f2 x.f5 x.f8 k) (trip1.sl.v1177 (F := Ideal) x.c x.arg3 x.f3 k) (trip1.sl.v1202 (F := Ideal) x.c x.i x.arg9 x.f9 k) (trip1.sl.v1226 (F := Ideal) x.c x.arg28 x.f28) (trip1.sl.v1251 (F := Ideal) x.c x.arg5 x.arg27 x.f5 k) (ix3 z v c) = St D (k.val + 1) 3 v.val c.val := by
  unfold trip1.sl.v1251
  unfold_payloads
  pointwise
  simp only [h1226 x H k HS, h841 x H k, h1177 x H k, h1202 x H k, h1245 x H k, h1250 x H k]
  show _ = Ideal.exp (cum D k.val 63 3 c.val) * St D k.val 3 v.val c.val + (∑ i : Fin 64, D.v (64 * k.val + i.val) 3 v.val * kd D k.val i.val 3 c.val) * D.vs k.val 3
  congr 2
  split <;> congr 2 <;> omega
theorem hp0 (z : Fin 1) (i j : Fin 64) :
    k0_pay174 rowI colI (trip1.sl.v797 (F := Ideal) x.c x.i x.arg1 x.arg5 x.arg7 x.arg15 x.arg17 x.arg18 x.f1 x.f5 x.f7 k) (trip1.sl.v801 (F := Ideal) x.c x.i x.arg2 x.arg5 x.arg8 x.arg16 x.arg17 x.arg19 x.f2 x.f5 x.f8 k) (ix3 z i j) = PT D k.val 0 i.val j.val := by
  skip
  unfold_payloads
  pointwise
  simp only [h797 x H k, h801 x H k, sel_le, rowI_ix, colI_ix]
  rfl
theorem hp1 (z : Fin 1) (i j : Fin 64) :
    k0_pay190 rowI colI (trip1.sl.v809 (F := Ideal) x.c x.i x.arg1 x.arg5 x.arg7 x.arg15 x.arg17 x.arg18 x.f1 x.f5 x.f7 k) (trip1.sl.v813 (F := Ideal) x.c x.i x.arg2 x.arg5 x.arg8 x.arg16 x.arg17 x.arg19 x.f2 x.f5 x.f8 k) (ix3 z i j) = PT D k.val 1 i.val j.val := by
  skip
  unfold_payloads
  pointwise
  simp only [h809 x H k, h813 x H k, sel_le, rowI_ix, colI_ix]
  rfl
theorem hp2 (z : Fin 1) (i j : Fin 64) :
    k0_pay205 rowI colI (trip1.sl.v821 (F := Ideal) x.c x.i x.arg1 x.arg5 x.arg7 x.arg15 x.arg17 x.arg18 x.f1 x.f5 x.f7 k) (trip1.sl.v825 (F := Ideal) x.c x.i x.arg2 x.arg5 x.arg8 x.arg16 x.arg17 x.arg19 x.f2 x.f5 x.f8 k) (ix3 z i j) = PT D k.val 2 i.val j.val := by
  skip
  unfold_payloads
  pointwise
  simp only [h821 x H k, h825 x H k, sel_le, rowI_ix, colI_ix]
  rfl
theorem hp3 (z : Fin 1) (i j : Fin 64) :
    k0_pay221 rowI colI (trip1.sl.v833 (F := Ideal) x.c x.i x.arg1 x.arg5 x.arg7 x.arg15 x.arg17 x.arg18 x.f1 x.f5 x.f7 k) (trip1.sl.v837 (F := Ideal) x.c x.i x.arg2 x.arg5 x.arg8 x.arg16 x.arg17 x.arg19 x.f2 x.f5 x.f8 k) (ix3 z i j) = PT D k.val 3 i.val j.val := by
  skip
  unfold_payloads
  pointwise
  simp only [h833 x H k, h837 x H k, sel_le, rowI_ix, colI_ix]
  rfl
theorem hm0 (z : Fin 1) (i j : Fin 64) :
    k0_pay173 rowI colI (trip1.sl.v874 (F := Ideal) x.c x.arg3 x.f3 k) (trip1.sl.v884 (F := Ideal) x.c x.arg4 x.f4 k) (trip1.sl.v885 (F := Ideal) x.c x.arg6 x.f6 k) (trip1.sl.v899 (F := Ideal) x.c x.i x.arg9 x.f9 k) (ix3 z i j) = Am D k.val 0 i.val j.val := by
  skip
  unfold_payloads
  pointwise
  simp only [h1009 x H k, h847 x H k, h853 x H k, h856 x H k, h874 x H k, h884 x H k, h885 x H k, h899 x H k, sel_le, rowI_ix, colI_ix]
  rfl
theorem hm1 (z : Fin 1) (i j : Fin 64) :
    k0_pay189 (trip1.sl.v1009 (F := Ideal) x.c x.i x.arg3 x.arg4 x.arg6 x.arg9 rowI colI x.f3 x.f4 x.f6 x.f9 k) (ix3 z i j) = Am D k.val 1 i.val j.val := by
  skip
  unfold_payloads
  pointwise
  simp only [h1009 x H k, h847 x H k, h853 x H k, h856 x H k, h975 x H k, h985 x H k, h986 x H k, h1000 x H k, sel_le, rowI_ix, colI_ix]
theorem hm2 (z : Fin 1) (i j : Fin 64) :
    k0_pay204 rowI colI (trip1.sl.v1076 (F := Ideal) x.c x.arg3 x.f3 k) (trip1.sl.v1086 (F := Ideal) x.c x.arg4 x.f4 k) (trip1.sl.v1087 (F := Ideal) x.c x.arg6 x.f6 k) (trip1.sl.v1101 (F := Ideal) x.c x.i x.arg9 x.f9 k) (ix3 z i j) = Am D k.val 2 i.val j.val := by
  skip
  unfold_payloads
  pointwise
  simp only [h1009 x H k, h847 x H k, h853 x H k, h856 x H k, h1076 x H k, h1086 x H k, h1087 x H k, h1101 x H k, sel_le, rowI_ix, colI_ix]
  rfl
theorem hm3 (z : Fin 1) (i j : Fin 64) :
    k0_pay220 rowI colI (trip1.sl.v847 (F := Ideal) x.c x.arg3 x.f3 k) (trip1.sl.v853 (F := Ideal) x.c x.arg4 x.f4 k) (trip1.sl.v856 (F := Ideal) x.c x.arg6 x.f6 k) (trip1.sl.v1202 (F := Ideal) x.c x.i x.arg9 x.f9 k) (ix3 z i j) = Am D k.val 3 i.val j.val := by
  skip
  unfold_payloads
  pointwise
  simp only [h1009 x H k, h847 x H k, h853 x H k, h856 x H k, h1177 x H k, h1187 x H k, h1188 x H k, h1202 x H k, sel_le, rowI_ix, colI_ix]
  rfl
theorem hg0 (z : Fin 1) (i : Fin 64) (c : Fin 256) :
    k0_pay165 (trip1.sl.v797 (F := Ideal) x.c x.i x.arg1 x.arg5 x.arg7 x.arg15 x.arg17 x.arg18 x.f1 x.f5 x.f7 k) (ix3 z i c) = qg D k.val i.val 0 c.val := by
  skip
  unfold_payloads
  pointwise
  simp only [h797 x H k]
theorem hg1 (z : Fin 1) (i : Fin 64) (c : Fin 256) :
    k0_pay181 (trip1.sl.v809 (F := Ideal) x.c x.i x.arg1 x.arg5 x.arg7 x.arg15 x.arg17 x.arg18 x.f1 x.f5 x.f7 k) (ix3 z i c) = qg D k.val i.val 1 c.val := by
  skip
  unfold_payloads
  pointwise
  simp only [h809 x H k]
theorem hg2 (z : Fin 1) (i : Fin 64) (c : Fin 256) :
    k0_pay196 (trip1.sl.v821 (F := Ideal) x.c x.i x.arg1 x.arg5 x.arg7 x.arg15 x.arg17 x.arg18 x.f1 x.f5 x.f7 k) (ix3 z i c) = qg D k.val i.val 2 c.val := by
  skip
  unfold_payloads
  pointwise
  simp only [h821 x H k]
theorem hg3 (z : Fin 1) (i : Fin 64) (c : Fin 256) :
    k0_pay212 (trip1.sl.v833 (F := Ideal) x.c x.i x.arg1 x.arg5 x.arg7 x.arg15 x.arg17 x.arg18 x.f1 x.f5 x.f7 k) (ix3 z i c) = qg D k.val i.val 3 c.val := by
  skip
  unfold_payloads
  pointwise
  simp only [h833 x H k]
theorem hd0 (z : Fin 1) (i : Fin 64) (c : Fin 256) :
    k0_pay166 (trip1.sl.v805 (F := Ideal) x.c x.i x.arg2 x.arg5 x.arg8 x.arg16 x.arg17 x.arg20 x.f2 x.f5 x.f8 k) (ix3 z i c) = kd D k.val i.val 0 c.val := by
  skip
  unfold_payloads
  pointwise
  simp only [h805 x H k]
theorem hd1 (z : Fin 1) (i : Fin 64) (c : Fin 256) :
    k0_pay182 (trip1.sl.v817 (F := Ideal) x.c x.i x.arg2 x.arg5 x.arg8 x.arg16 x.arg17 x.arg20 x.f2 x.f5 x.f8 k) (ix3 z i c) = kd D k.val i.val 1 c.val := by
  skip
  unfold_payloads
  pointwise
  simp only [h817 x H k]
theorem hd2 (z : Fin 1) (i : Fin 64) (c : Fin 256) :
    k0_pay197 (trip1.sl.v829 (F := Ideal) x.c x.i x.arg2 x.arg5 x.arg8 x.arg16 x.arg17 x.arg20 x.f2 x.f5 x.f8 k) (ix3 z i c) = kd D k.val i.val 2 c.val := by
  skip
  unfold_payloads
  pointwise
  simp only [h829 x H k]
theorem hd3 (z : Fin 1) (i : Fin 64) (c : Fin 256) :
    k0_pay213 (trip1.sl.v841 (F := Ideal) x.c x.i x.arg2 x.arg5 x.arg8 x.arg16 x.arg17 x.arg20 x.f2 x.f5 x.f8 k) (ix3 z i c) = kd D k.val i.val 3 c.val := by
  skip
  unfold_payloads
  pointwise
  simp only [h841 x H k]
theorem hv0 (z : Fin 1) (i : Fin 64) (c : Fin 512) :
    k0_pay170 (trip1.sl.v874 (F := Ideal) x.c x.arg3 x.f3 k) (ix3 z i c) = D.v (64 * k.val + i.val) 0 c.val := by
  skip
  unfold_payloads
  pointwise
  simp only [h874 x H k]
theorem hv1 (z : Fin 1) (i : Fin 64) (c : Fin 512) :
    k0_pay186 (trip1.sl.v847 (F := Ideal) x.c x.arg3 x.f3 k) (ix3 z i c) = D.v (64 * k.val + i.val) 1 c.val := by
  skip
  unfold_payloads
  pointwise
  simp only [h847 x H k]
  split_ifs <;> congr 1 <;> omega
theorem hv2 (z : Fin 1) (i : Fin 64) (c : Fin 512) :
    k0_pay201 (trip1.sl.v847 (F := Ideal) x.c x.arg3 x.f3 k) (ix3 z i c) = D.v (64 * k.val + i.val) 2 c.val := by
  skip
  unfold_payloads
  pointwise
  simp only [h847 x H k]
  split_ifs <;> congr 1 <;> omega
theorem hv3 (z : Fin 1) (i : Fin 64) (c : Fin 512) :
    k0_pay217 (trip1.sl.v847 (F := Ideal) x.c x.arg3 x.f3 k) (ix3 z i c) = D.v (64 * k.val + i.val) 3 c.val := by
  skip
  unfold_payloads
  pointwise
  simp only [h847 x H k]
  split_ifs <;> congr 1 <;> omega
theorem ho0 (z : Fin 1) (i : Fin 64) (c : Fin 512) :
    k0_pay171 (trip1.sl.v884 (F := Ideal) x.c x.arg4 x.f4 k) (trip1.sl.v885 (F := Ideal) x.c x.arg6 x.f6 k) (ix3 z i c) = dod D k.val i.val 0 c.val := by
  skip
  unfold_payloads
  pointwise
  simp only [h884 x H k, h885 x H k, h1086 x H k, h1087 x H k, h853 x H k, h856 x H k]
  rfl
theorem ho1 (z : Fin 1) (i : Fin 64) (c : Fin 512) :
    k0_pay187 (trip1.sl.v853 (F := Ideal) x.c x.arg4 x.f4 k) (trip1.sl.v856 (F := Ideal) x.c x.arg6 x.f6 k) (ix3 z i c) = dod D k.val i.val 1 c.val := by
  skip
  unfold_payloads
  pointwise
  simp only [h884 x H k, h885 x H k, h1086 x H k, h1087 x H k, h853 x H k, h856 x H k]
  refine congrArg₂ (· * ·) ?_ rfl
  split_ifs <;> congr 1 <;> omega
theorem ho2 (z : Fin 1) (i : Fin 64) (c : Fin 512) :
    k0_pay202 (trip1.sl.v1086 (F := Ideal) x.c x.arg4 x.f4 k) (trip1.sl.v1087 (F := Ideal) x.c x.arg6 x.f6 k) (ix3 z i c) = dod D k.val i.val 2 c.val := by
  skip
  unfold_payloads
  pointwise
  simp only [h884 x H k, h885 x H k, h1086 x H k, h1087 x H k, h853 x H k, h856 x H k]
  rfl
theorem ho3 (z : Fin 1) (i : Fin 64) (c : Fin 512) :
    k0_pay218 (trip1.sl.v853 (F := Ideal) x.c x.arg4 x.f4 k) (trip1.sl.v856 (F := Ideal) x.c x.arg6 x.f6 k) (ix3 z i c) = dod D k.val i.val 3 c.val := by
  skip
  unfold_payloads
  pointwise
  simp only [h884 x H k, h885 x H k, h1086 x H k, h1087 x H k, h853 x H k, h856 x H k]
  refine congrArg₂ (· * ·) ?_ rfl
  split_ifs <;> congr 1 <;> omega
theorem P18 (HS : ∀ y : S4x512x256.Idx, x.arg28.view.read (Elt Ideal) x.f28 y = St D k.val (y 0).val (y 1).val (y 2).val) : ∀ p ∈ ((trip1.sl.H18_9 (F := Ideal) x.c x.i x.arg1 x.arg2 x.arg3 x.arg4 x.arg5 x.arg6 x.arg7 x.arg8 x.arg9 x.arg15 x.arg16 x.arg17 x.arg19 x.arg28 rowI colI x.f1 x.f2 x.f3 x.f4 x.f5 x.f6 x.f7 x.f8 x.f9 k x.f28)).take 8, ∀ z : p.1.shape.Idx, p.2 z = row3 (X D k.val) (p.1.emb z 0).val (p.1.emb z 1).val := by
  unfold trip1.sl.H18_9
  simp only [List.take_succ_cons, List.take_zero]
  refine List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩⟩⟩⟩⟩
  · obtain ⟨i, l, rfl⟩ : ∃ (i : Fin 64) (l : Fin 128), z = ix2 i l := ⟨z 0, z 1, eq_ix2 z⟩
    refine (hx31 x H k HS i l).trans ?_
    show _ = row3 _ (7 + 8 * i.val) (0 + 1 * l.val)
    unfold row3
    congr 1 <;> omega
  · obtain ⟨i, l, rfl⟩ : ∃ (i : Fin 64) (l : Fin 128), z = ix2 i l := ⟨z 0, z 1, eq_ix2 z⟩
    refine (hx30 x H k HS i l).trans ?_
    show _ = row3 _ (3 + 8 * i.val) (0 + 1 * l.val)
    unfold row3
    congr 1 <;> omega
  · obtain ⟨i, l, rfl⟩ : ∃ (i : Fin 64) (l : Fin 128), z = ix2 i l := ⟨z 0, z 1, eq_ix2 z⟩
    refine (hx21 x H k HS i l).trans ?_
    show _ = row3 _ (6 + 8 * i.val) (0 + 1 * l.val)
    unfold row3
    congr 1 <;> omega
  · obtain ⟨i, l, rfl⟩ : ∃ (i : Fin 64) (l : Fin 128), z = ix2 i l := ⟨z 0, z 1, eq_ix2 z⟩
    refine (hx20 x H k HS i l).trans ?_
    show _ = row3 _ (2 + 8 * i.val) (0 + 1 * l.val)
    unfold row3
    congr 1 <;> omega
  · obtain ⟨i, l, rfl⟩ : ∃ (i : Fin 64) (l : Fin 128), z = ix2 i l := ⟨z 0, z 1, eq_ix2 z⟩
    refine (hx11 x H k HS i l).trans ?_
    show _ = row3 _ (5 + 8 * i.val) (0 + 1 * l.val)
    unfold row3
    congr 1 <;> omega
  · obtain ⟨i, l, rfl⟩ : ∃ (i : Fin 64) (l : Fin 128), z = ix2 i l := ⟨z 0, z 1, eq_ix2 z⟩
    refine (hx10 x H k HS i l).trans ?_
    show _ = row3 _ (1 + 8 * i.val) (0 + 1 * l.val)
    unfold row3
    congr 1 <;> omega
  · obtain ⟨i, l, rfl⟩ : ∃ (i : Fin 64) (l : Fin 128), z = ix2 i l := ⟨z 0, z 1, eq_ix2 z⟩
    refine (hx01 x H k HS i l).trans ?_
    show _ = row3 _ (4 + 8 * i.val) (0 + 1 * l.val)
    unfold row3
    congr 1 <;> omega
  · obtain ⟨i, l, rfl⟩ : ∃ (i : Fin 64) (l : Fin 128), z = ix2 i l := ⟨z 0, z 1, eq_ix2 z⟩
    refine (hx00 x H k HS i l).trans ?_
    show _ = row3 _ (0 + 8 * i.val) (0 + 1 * l.val)
    unfold row3
    congr 1 <;> omega
end
theorem c18 (x : Ctx) (k : Fin k0_t1_loop.trips) (y : S512x128.Idx) : ∃ p ∈ ((trip1.sl.H18_9 (F := Ideal) x.c x.i x.arg1 x.arg2 x.arg3 x.arg4 x.arg5 x.arg6 x.arg7 x.arg8 x.arg9 x.arg15 x.arg16 x.arg17 x.arg19 x.arg28 rowI colI x.f1 x.f2 x.f3 x.f4 x.f5 x.f6 x.f7 x.f8 x.f9 k x.f28)).take 8, y ∈ p.1.set := by
  unfold trip1.sl.H18_9
  simp only [List.take_succ_cons, List.take_zero]
  have h0 : (y 0).val < 512 := (y 0).isLt
  have h1 : (y 1).val < 128 := (y 1).isLt
  obtain h | h | h | h | h | h | h | h : (y 0).val % 8 = 7 ∨ (y 0).val % 8 = 3 ∨ (y 0).val % 8 = 6 ∨ (y 0).val % 8 = 2 ∨ (y 0).val % 8 = 5 ∨ (y 0).val % 8 = 1 ∨ (y 0).val % 8 = 4 ∨ (y 0).val % 8 = 0 := by omega
  · refine ⟨_, List.mem_cons_self, ?_⟩
    refine Reads.mem_of (ix2 (n0 := 64) (n1 := 128) ⟨(y 0).val / 8, by omega⟩ (y 1)) fun a => ?_
    match a with
    | ⟨0, _⟩ => show 7 + 8 * ((y 0).val / 8) = (y 0).val; omega
    | ⟨1, _⟩ => show 0 + 1 * (y 1).val = (y 1).val; omega
  · refine ⟨_, List.mem_cons_of_mem _ (List.mem_cons_self), ?_⟩
    refine Reads.mem_of (ix2 (n0 := 64) (n1 := 128) ⟨(y 0).val / 8, by omega⟩ (y 1)) fun a => ?_
    match a with
    | ⟨0, _⟩ => show 3 + 8 * ((y 0).val / 8) = (y 0).val; omega
    | ⟨1, _⟩ => show 0 + 1 * (y 1).val = (y 1).val; omega
  · refine ⟨_, List.mem_cons_of_mem _ (List.mem_cons_of_mem _ (List.mem_cons_self)), ?_⟩
    refine Reads.mem_of (ix2 (n0 := 64) (n1 := 128) ⟨(y 0).val / 8, by omega⟩ (y 1)) fun a => ?_
    match a with
    | ⟨0, _⟩ => show 6 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_self))), ?_⟩
    refine Reads.mem_of (ix2 (n0 := 64) (n1 := 128) ⟨(y 0).val / 8, by omega⟩ (y 1)) fun a => ?_
    match a with
    | ⟨0, _⟩ => show 2 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_self)))), ?_⟩
    refine Reads.mem_of (ix2 (n0 := 64) (n1 := 128) ⟨(y 0).val / 8, by omega⟩ (y 1)) fun a => ?_
    match a with
    | ⟨0, _⟩ => show 5 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_self))))), ?_⟩
    refine Reads.mem_of (ix2 (n0 := 64) (n1 := 128) ⟨(y 0).val / 8, by omega⟩ (y 1)) fun a => ?_
    match a with
    | ⟨0, _⟩ => show 1 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_of_mem _ (List.mem_cons_self)))))), ?_⟩
    refine Reads.mem_of (ix2 (n0 := 64) (n1 := 128) ⟨(y 0).val / 8, by omega⟩ (y 1)) fun a => ?_
    match a with
    | ⟨0, _⟩ => show 4 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
    refine Reads.mem_of (ix2 (n0 := 64) (n1 := 128) ⟨(y 0).val / 8, by omega⟩ (y 1)) fun a => ?_
    match a with
    | ⟨0, _⟩ => show 0 + 8 * ((y 0).val / 8) = (y 0).val; omega
    | ⟨1, _⟩ => show 0 + 1 * (y 1).val = (y 1).val; omega
section
include H k
theorem h1263 (HS : ∀ y : S4x512x256.Idx, x.arg28.view.read (Elt Ideal) x.f28 y = St D k.val (y 0).val (y 1).val (y 2).val) (r : Fin 512) (l : Fin 128) : (trip1.sl.v1263 (F := Ideal) x.c x.i x.arg1 x.arg2 x.arg3 x.arg4 x.arg5 x.arg6 x.arg7 x.arg8 x.arg9 x.arg15 x.arg16 x.arg17 x.arg18 x.arg19 x.arg28 rowI colI x.f1 x.f2 x.f3 x.f4 x.f5 x.f6 x.f7 x.f8 x.f9 k x.f28) (ix2 r l) = row3 (X D k.val) r.val l.val := by
  unfold trip1.sl.v1263
  refine (readCov_take x.arg18.view (fun y => row3 (X D k.val) (y 0).val (y 1).val) _ 8 _ _ (P18 x H k HS) (c18 x k _)).trans ?_
  show row3 _ (0 + 1 * r.val) (0 + 1 * l.val) = _
  simp only [Nat.one_mul, Nat.zero_add]
theorem hdq (HS : ∀ y : S4x512x256.Idx, x.arg28.view.read (Elt Ideal) x.f28 y = St D k.val (y 0).val (y 1).val (y 2).val) (r : Fin 512) (l : Fin 128) :
    k0_pay229 (trip1.sl.v769 (F := Ideal) x.c x.arg5 x.arg17 x.f5 k) (trip1.sl.v1263 (F := Ideal) x.c x.i x.arg1 x.arg2 x.arg3 x.arg4 x.arg5 x.arg6 x.arg7 x.arg8 x.arg9 x.arg15 x.arg16 x.arg17 x.arg18 x.arg19 x.arg28 rowI colI x.f1 x.f2 x.f3 x.f4 x.f5 x.f6 x.f7 x.f8 x.f9 k x.f28) (ix2 r l) = row3 (dq D k.val) r.val l.val := by
  skip
  unfold_payloads
  pointwise
  simp only [h769 x H k, h1263 x H k HS]
  rw [(rowm r.val).1, (rowm r.val).2]
  rfl
theorem hqdq (HS : ∀ y : S4x512x256.Idx, x.arg28.view.read (Elt Ideal) x.f28 y = St D k.val (y 0).val (y 1).val (y 2).val) (r : Fin 512) (l : Fin 128) :
    k0_pay2 (trip1.sl.v1270 (F := Ideal) x.c x.i x.arg1 x.arg2 x.arg3 x.arg4 x.arg5 x.arg6 x.arg7 x.arg8 x.arg9 x.arg15 x.arg16 x.arg17 x.arg18 x.arg19 x.arg28 rowI colI x.f1 x.f2 x.f3 x.f4 x.f5 x.f6 x.f7 x.f8 x.f9 k x.f28) (ix2 r l) = row3 (fun i h c => Q D k.val i h c * dq D k.val i h c) r.val l.val := by
  unfold trip1.sl.v1270
  unfold_payloads
  pointwise
  simp only [h769 x H k, h732 x H k, h1263 x H k HS]
  rw [(rowm r.val).1, (rowm r.val).2]
  rfl

end
end Cert.Proof.KernelIdeal.Vl

end
-- ==== Proof.StepD.lean ====
module

public import proofs.«01_k».proof.Proof.StepC
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

set_option maxHeartbeats 0
open Spec
variable {D : Spec.Inp}

/-- The contents after one trip of the forward sweep. -/
def next1 (x : Ctx) (k : Fin k0_t1_loop.trips) : Ctx := { x with
  f10 := x.arg10.view.writes (Elt Ideal) x.f10 ([⟨Rect.unit (k0_off7 k) S512x128.size (k0_off7_inb k), k0_pay229 (trip1.sl.v769 (F := Ideal) x.c x.arg5 x.arg17 x.f5 k) (trip1.sl.v1263 (F := Ideal) x.c x.i x.arg1 x.arg2 x.arg3 x.arg4 x.arg5 x.arg6 x.arg7 x.arg8 x.arg9 x.arg15 x.arg16 x.arg17 x.arg18 x.arg19 x.arg28 rowI colI x.f1 x.f2 x.f3 x.f4 x.f5 x.f6 x.f7 x.f8 x.f9 k x.f28)⟩]),
  f14 := x.arg14.view.writes (Elt Ideal) x.f14 ([⟨Rect.unit (k0_off7 k) S512x128.size (k0_off7_inb k), k0_pay2 (trip1.sl.v1270 (F := Ideal) x.c x.i x.arg1 x.arg2 x.arg3 x.arg4 x.arg5 x.arg6 x.arg7 x.arg8 x.arg9 x.arg15 x.arg16 x.arg17 x.arg18 x.arg19 x.arg28 rowI colI x.f1 x.f2 x.f3 x.f4 x.f5 x.f6 x.f7 x.f8 x.f9 k x.f28)⟩]),
  f15 := x.arg15.view.writes (Elt Ideal) x.f15 ((trip1.sl.H15_2 (F := Ideal) x.c x.arg1 x.f1 k)),
  f16 := x.arg16.view.writes (Elt Ideal) x.f16 ((trip1.sl.H16_2 (F := Ideal) x.c x.arg2 x.f2 k)),
  f17 := x.arg17.view.writes (Elt Ideal) x.f17 ((trip1.sl.H17_64 (F := Ideal) x.c x.arg5 x.f5 k)),
  f18 := x.arg18.view.writes (Elt Ideal) x.f18 ((trip1.sl.H18_9 (F := Ideal) x.c x.i x.arg1 x.arg2 x.arg3 x.arg4 x.arg5 x.arg6 x.arg7 x.arg8 x.arg9 x.arg15 x.arg16 x.arg17 x.arg19 x.arg28 rowI colI x.f1 x.f2 x.f3 x.f4 x.f5 x.f6 x.f7 x.f8 x.f9 k x.f28)),
  f19 := x.arg19.view.writes (Elt Ideal) x.f19 ((trip1.sl.H19_1 (F := Ideal) x.c x.i x.arg2 x.arg5 x.arg8 x.arg16 x.arg17 x.f2 x.f5 x.f8 k)),
  f20 := x.arg20.view.writes (Elt Ideal) x.f20 ((trip1.sl.H20_1 (F := Ideal) x.c x.i x.arg2 x.arg5 x.arg8 x.arg16 x.arg17 x.f2 x.f5 x.f8 k)),
  f21 := x.arg21.view.writes (Elt Ideal) x.f21 ([⟨Rect.unit (k0_off25 k) S1x64x256.size (k0_off25_inb k), k0_pay212 (trip1.sl.v833 (F := Ideal) x.c x.i x.arg1 x.arg5 x.arg7 x.arg15 x.arg17 x.arg18 x.f1 x.f5 x.f7 k)⟩, ⟨Rect.unit (k0_off22 k) S1x64x256.size (k0_off22_inb k), k0_pay196 (trip1.sl.v821 (F := Ideal) x.c x.i x.arg1 x.arg5 x.arg7 x.arg15 x.arg17 x.arg18 x.f1 x.f5 x.f7 k)⟩, ⟨Rect.unit (k0_off19 k) S1x64x256.size (k0_off19_inb k), k0_pay181 (trip1.sl.v809 (F := Ideal) x.c x.i x.arg1 x.arg5 x.arg7 x.arg15 x.arg17 x.arg18 x.f1 x.f5 x.f7 k)⟩, ⟨Rect.unit (k0_off15 k) S1x64x256.size (k0_off15_inb k), k0_pay165 (trip1.sl.v797 (F := Ideal) x.c x.i x.arg1 x.arg5 x.arg7 x.arg15 x.arg17 x.arg18 x.f1 x.f5 x.f7 k)⟩]),
  f22 := x.arg22.view.writes (Elt Ideal) x.f22 ([⟨Rect.unit (k0_off25 k) S1x64x256.size (k0_off25_inb k), k0_pay213 (trip1.sl.v841 (F := Ideal) x.c x.i x.arg2 x.arg5 x.arg8 x.arg16 x.arg17 x.arg20 x.f2 x.f5 x.f8 k)⟩, ⟨Rect.unit (k0_off22 k) S1x64x256.size (k0_off22_inb k), k0_pay197 (trip1.sl.v829 (F := Ideal) x.c x.i x.arg2 x.arg5 x.arg8 x.arg16 x.arg17 x.arg20 x.f2 x.f5 x.f8 k)⟩, ⟨Rect.unit (k0_off19 k) S1x64x256.size (k0_off19_inb k), k0_pay182 (trip1.sl.v817 (F := Ideal) x.c x.i x.arg2 x.arg5 x.arg8 x.arg16 x.arg17 x.arg20 x.f2 x.f5 x.f8 k)⟩, ⟨Rect.unit (k0_off15 k) S1x64x256.size (k0_off15_inb k), k0_pay166 (trip1.sl.v805 (F := Ideal) x.c x.i x.arg2 x.arg5 x.arg8 x.arg16 x.arg17 x.arg20 x.f2 x.f5 x.f8 k)⟩]),
  f23 := x.arg23.view.writes (Elt Ideal) x.f23 ([⟨Rect.unit (k0_off26 k) S1x64x512.size (k0_off26_inb k), k0_pay217 (trip1.sl.v847 (F := Ideal) x.c x.arg3 x.f3 k)⟩, ⟨Rect.unit (k0_off23 k) S1x64x512.size (k0_off23_inb k), k0_pay201 (trip1.sl.v847 (F := Ideal) x.c x.arg3 x.f3 k)⟩, ⟨Rect.unit (k0_off20 k) S1x64x512.size (k0_off20_inb k), k0_pay186 (trip1.sl.v847 (F := Ideal) x.c x.arg3 x.f3 k)⟩, ⟨Rect.unit (k0_off16 k) S1x64x512.size (k0_off16_inb k), k0_pay170 (trip1.sl.v874 (F := Ideal) x.c x.arg3 x.f3 k)⟩]),
  f24 := x.arg24.view.writes (Elt Ideal) x.f24 ([⟨Rect.unit (k0_off26 k) S1x64x512.size (k0_off26_inb k), k0_pay218 (trip1.sl.v853 (F := Ideal) x.c x.arg4 x.f4 k) (trip1.sl.v856 (F := Ideal) x.c x.arg6 x.f6 k)⟩, ⟨Rect.unit (k0_off23 k) S1x64x512.size (k0_off23_inb k), k0_pay202 (trip1.sl.v1086 (F := Ideal) x.c x.arg4 x.f4 k) (trip1.sl.v1087 (F := Ideal) x.c x.arg6 x.f6 k)⟩, ⟨Rect.unit (k0_off20 k) S1x64x512.size (k0_off20_inb k), k0_pay187 (trip1.sl.v853 (F := Ideal) x.c x.arg4 x.f4 k) (trip1.sl.v856 (F := Ideal) x.c x.arg6 x.f6 k)⟩, ⟨Rect.unit (k0_off16 k) S1x64x512.size (k0_off16_inb k), k0_pay171 (trip1.sl.v884 (F := Ideal) x.c x.arg4 x.f4 k) (trip1.sl.v885 (F := Ideal) x.c x.arg6 x.f6 k)⟩]),
  f25 := x.arg25.view.writes (Elt Ideal) x.f25 ([⟨Rect.unit (k0_off27 k) S1x64x64.size (k0_off27_inb k), k0_pay220 rowI colI (trip1.sl.v847 (F := Ideal) x.c x.arg3 x.f3 k) (trip1.sl.v853 (F := Ideal) x.c x.arg4 x.f4 k) (trip1.sl.v856 (F := Ideal) x.c x.arg6 x.f6 k) (trip1.sl.v1202 (F := Ideal) x.c x.i x.arg9 x.f9 k)⟩, ⟨Rect.unit (k0_off24 k) S1x64x64.size (k0_off24_inb k), k0_pay204 rowI colI (trip1.sl.v1076 (F := Ideal) x.c x.arg3 x.f3 k) (trip1.sl.v1086 (F := Ideal) x.c x.arg4 x.f4 k) (trip1.sl.v1087 (F := Ideal) x.c x.arg6 x.f6 k) (trip1.sl.v1101 (F := Ideal) x.c x.i x.arg9 x.f9 k)⟩, ⟨Rect.unit (k0_off21 k) S1x64x64.size (k0_off21_inb k), k0_pay189 (trip1.sl.v1009 (F := Ideal) x.c x.i x.arg3 x.arg4 x.arg6 x.arg9 rowI colI x.f3 x.f4 x.f6 x.f9 k)⟩, ⟨Rect.unit (k0_off17 k) S1x64x64.size (k0_off17_inb k), k0_pay173 rowI colI (trip1.sl.v874 (F := Ideal) x.c x.arg3 x.f3 k) (trip1.sl.v884 (F := Ideal) x.c x.arg4 x.f4 k) (trip1.sl.v885 (F := Ideal) x.c x.arg6 x.f6 k) (trip1.sl.v899 (F := Ideal) x.c x.i x.arg9 x.f9 k)⟩]),
  f26 := x.arg26.view.writes (Elt Ideal) x.f26 ([⟨Rect.unit (k0_off27 k) S1x64x64.size (k0_off27_inb k), k0_pay221 rowI colI (trip1.sl.v833 (F := Ideal) x.c x.i x.arg1 x.arg5 x.arg7 x.arg15 x.arg17 x.arg18 x.f1 x.f5 x.f7 k) (trip1.sl.v837 (F := Ideal) x.c x.i x.arg2 x.arg5 x.arg8 x.arg16 x.arg17 x.arg19 x.f2 x.f5 x.f8 k)⟩, ⟨Rect.unit (k0_off24 k) S1x64x64.size (k0_off24_inb k), k0_pay205 rowI colI (trip1.sl.v821 (F := Ideal) x.c x.i x.arg1 x.arg5 x.arg7 x.arg15 x.arg17 x.arg18 x.f1 x.f5 x.f7 k) (trip1.sl.v825 (F := Ideal) x.c x.i x.arg2 x.arg5 x.arg8 x.arg16 x.arg17 x.arg19 x.f2 x.f5 x.f8 k)⟩, ⟨Rect.unit (k0_off21 k) S1x64x64.size (k0_off21_inb k), k0_pay190 rowI colI (trip1.sl.v809 (F := Ideal) x.c x.i x.arg1 x.arg5 x.arg7 x.arg15 x.arg17 x.arg18 x.f1 x.f5 x.f7 k) (trip1.sl.v813 (F := Ideal) x.c x.i x.arg2 x.arg5 x.arg8 x.arg16 x.arg17 x.arg19 x.f2 x.f5 x.f8 k)⟩, ⟨Rect.unit (k0_off17 k) S1x64x64.size (k0_off17_inb k), k0_pay174 rowI colI (trip1.sl.v797 (F := Ideal) x.c x.i x.arg1 x.arg5 x.arg7 x.arg15 x.arg17 x.arg18 x.f1 x.f5 x.f7 k) (trip1.sl.v801 (F := Ideal) x.c x.i x.arg2 x.arg5 x.arg8 x.arg16 x.arg17 x.arg19 x.f2 x.f5 x.f8 k)⟩]),
  f27 := x.arg27.view.writes (Elt Ideal) x.f27 ((trip1.sl.H27_1 (F := Ideal) x.c x.arg5 x.f5 k)),
  f28 := x.arg28.view.writes (Elt Ideal) x.f28 ([⟨Rect.unit (s := S4x512x256) ![3, 0, 0] S1x512x256.size inb_S4x512x256_S1x512x256_3_0_0, k0_pay227 (trip1.sl.v841 (F := Ideal) x.c x.i x.arg2 x.arg5 x.arg8 x.arg16 x.arg17 x.arg20 x.f2 x.f5 x.f8 k) (trip1.sl.v1177 (F := Ideal) x.c x.arg3 x.f3 k) (trip1.sl.v1202 (F := Ideal) x.c x.i x.arg9 x.f9 k) (trip1.sl.v1226 (F := Ideal) x.c x.arg28 x.f28) (trip1.sl.v1251 (F := Ideal) x.c x.arg5 x.arg27 x.f5 k)⟩, ⟨Rect.unit (s := S4x512x256) ![2, 0, 0] S1x512x256.size inb_S4x512x256_S1x512x256_2_0_0, k0_pay211 (trip1.sl.v829 (F := Ideal) x.c x.i x.arg2 x.arg5 x.arg8 x.arg16 x.arg17 x.arg20 x.f2 x.f5 x.f8 k) (trip1.sl.v1076 (F := Ideal) x.c x.arg3 x.f3 k) (trip1.sl.v1101 (F := Ideal) x.c x.i x.arg9 x.f9 k) (trip1.sl.v1125 (F := Ideal) x.c x.arg28 x.f28) (trip1.sl.v1144 (F := Ideal) x.c x.arg5 x.arg27 x.f5 k) (trip1.sl.v1149 (F := Ideal) x.c x.arg5 x.arg27 x.f5 k)⟩, ⟨Rect.unit (s := S4x512x256) ![1, 0, 0] S1x512x256.size inb_S4x512x256_S1x512x256_1_0_0, k0_pay195 (trip1.sl.v817 (F := Ideal) x.c x.i x.arg2 x.arg5 x.arg8 x.arg16 x.arg17 x.arg20 x.f2 x.f5 x.f8 k) (trip1.sl.v975 (F := Ideal) x.c x.arg3 x.f3 k) (trip1.sl.v1000 (F := Ideal) x.c x.i x.arg9 x.f9 k) (trip1.sl.v1024 (F := Ideal) x.c x.arg28 x.f28) (trip1.sl.v1043 (F := Ideal) x.c x.arg5 x.arg27 x.f5 k) (trip1.sl.v1048 (F := Ideal) x.c x.arg5 x.arg27 x.f5 k)⟩, ⟨Rect.unit (s := S4x512x256) ![0, 0, 0] S1x512x256.size inb_S4x512x256_S1x512x256_0_0_0, k0_pay180 (trip1.sl.v805 (F := Ideal) x.c x.i x.arg2 x.arg5 x.arg8 x.arg16 x.arg17 x.arg20 x.f2 x.f5 x.f8 k) (trip1.sl.v874 (F := Ideal) x.c x.arg3 x.f3 k) (trip1.sl.v899 (F := Ideal) x.c x.i x.arg9 x.f9 k) (trip1.sl.v923 (F := Ideal) x.c x.arg28 x.f28) (trip1.sl.v942 (F := Ideal) x.c x.arg5 x.arg27 x.f5 k) (trip1.sl.v947 (F := Ideal) x.c x.arg5 x.arg27 x.f5 k)⟩]) }

/-- What the buffers hold after `n` trips of the forward sweep. -/
structure S1 (D : Spec.Inp) (n : ℕ) (x : Ctx) : Prop where
  a10 : ∀ y, (y 0).val < 512 * n → x.arg10.view.read (Elt Ideal) x.f10 y = row3 (tm (dq D)) (y 0).val (y 1).val
  a14 : ∀ y, (y 0).val < 512 * n → x.arg14.view.read (Elt Ideal) x.f14 y = row3 (tm fun n i h c => Q D n i h c * dq D n i h c) (y 0).val (y 1).val
  a15 : ∀ y, (y 0).val < 64 * n → x.arg15.view.read (Elt Ideal) x.f15 y = D.q (y 0).val ((y 1).val % 4) ((y 1).val / 4 * 128 + (y 2).val)
  a16 : ∀ y, (y 0).val < 64 * n → x.arg16.view.read (Elt Ideal) x.f16 y = D.k (y 0).val ((y 1).val % 4) ((y 1).val / 4 * 128 + (y 2).val)
  a17 : ∀ y, (y 0).val < 512 * n → x.arg17.view.read (Elt Ideal) x.f17 y = row3 (tm (cum D)) (y 0).val (y 1).val
  a21 : ∀ y, (y 1).val < 64 * n → x.arg21.view.read (Elt Ideal) x.f21 y = qg D ((y 1).val / 64) ((y 1).val % 64) (y 0).val (y 2).val
  a22 : ∀ y, (y 1).val < 64 * n → x.arg22.view.read (Elt Ideal) x.f22 y = kd D ((y 1).val / 64) ((y 1).val % 64) (y 0).val (y 2).val
  a23 : ∀ y, (y 1).val < 64 * n → x.arg23.view.read (Elt Ideal) x.f23 y = D.v (y 1).val (y 0).val (y 2).val
  a24 : ∀ y, (y 1).val < 64 * n → x.arg24.view.read (Elt Ideal) x.f24 y = dod D ((y 1).val / 64) ((y 1).val % 64) (y 0).val (y 2).val
  a25 : ∀ y, (y 1).val < 64 * n → x.arg25.view.read (Elt Ideal) x.f25 y = Am D ((y 1).val / 64) (y 0).val ((y 1).val % 64) (y 2).val
  a26 : ∀ y, (y 1).val < 64 * n → x.arg26.view.read (Elt Ideal) x.f26 y = PT D ((y 1).val / 64) (y 0).val ((y 1).val % 64) (y 2).val
  a27 : ∀ y, (y 0).val < 8 * n → x.arg27.view.read (Elt Ideal) x.f27 y = row3 (fun n h c => Ideal.exp (cum D n 63 h c)) (y 0).val (y 1).val
  a28 : ∀ y : S4x512x256.Idx, x.arg28.view.read (Elt Ideal) x.f28 y = St D n (y 0).val (y 1).val (y 2).val

variable (x : Ctx) (H : Inputs D x) (k : Fin k0_t1_loop.trips)
section
include H k
theorem n15 (s : S1 D k.val x) : ∀ y, (y 0).val < 64 * (k.val + 1) → x.arg15.view.read (Elt Ideal) (next1 x k).f15 y = D.q (y 0).val ((y 1).val % 4) ((y 1).val / 4 * 128 + (y 2).val) := by
  dsimp only [next1]
  refine grow x.arg15.view x.f15 (fun y => D.q (y 0).val ((y 1).val % 4) ((y 1).val / 4 * 128 + (y 2).val)) _ (fun y => (y 0).val) 64 k.val s.a15 ?_ ?_
  · exact P15 x H k
  · exact fun y h h' => c15 x k y h h'

theorem n16 (s : S1 D k.val x) : ∀ y, (y 0).val < 64 * (k.val + 1) → x.arg16.view.read (Elt Ideal) (next1 x k).f16 y = D.k (y 0).val ((y 1).val % 4) ((y 1).val / 4 * 128 + (y 2).val) := by
  dsimp only [next1]
  refine grow x.arg16.view x.f16 (fun y => D.k (y 0).val ((y 1).val % 4) ((y 1).val / 4 * 128 + (y 2).val)) _ (fun y => (y 0).val) 64 k.val s.a16 ?_ ?_
  · exact P16 x H k
  · exact fun y h h' => c16 x k y h h'

theorem n17 (s : S1 D k.val x) : ∀ y, (y 0).val < 512 * (k.val + 1) → x.arg17.view.read (Elt Ideal) (next1 x k).f17 y = row3 (tm (cum D)) (y 0).val (y 1).val := by
  dsimp only [next1]
  refine grow x.arg17.view x.f17 (fun y => row3 (tm (cum D)) (y 0).val (y 1).val) _ (fun y => (y 0).val) 512 k.val s.a17 ?_ ?_
  · exact P17 x H k
  · exact fun y h h' => c17 x k y h h'

theorem n27 (s : S1 D k.val x) : ∀ y, (y 0).val < 8 * (k.val + 1) → x.arg27.view.read (Elt Ideal) (next1 x k).f27 y = row3 (fun n h c => Ideal.exp (cum D n 63 h c)) (y 0).val (y 1).val := by
  dsimp only [next1]
  refine grow x.arg27.view x.f27 (fun y => row3 (fun n h c => Ideal.exp (cum D n 63 h c)) (y 0).val (y 1).val) _ (fun y => (y 0).val) 8 k.val s.a27 ?_ ?_
  · exact P27 x H k
  · exact fun y h h' => c27 x k y h h'

theorem n10 (s : S1 D k.val x) : ∀ y, (y 0).val < 512 * (k.val + 1) → x.arg10.view.read (Elt Ideal) (next1 x k).f10 y = row3 (tm (dq D)) (y 0).val (y 1).val := by
  dsimp only [next1]
  refine grow x.arg10.view x.f10 (fun y => row3 (tm (dq D)) (y 0).val (y 1).val) _ (fun y => (y 0).val) 512 k.val s.a10 ?_ ?_
  · refine List.forall_mem_cons.mpr ⟨fun z => ?_, List.forall_mem_nil _⟩
    obtain ⟨r, l, rfl⟩ : ∃ (r : Fin 512) (l : Fin 128), z = ix2 r l := ⟨z 0, z 1, eq_ix2 z⟩
    refine (hdq x H k s.a28 r l).trans ?_
    show _ = row3 _ (k0_off7 k 0 + 1 * r.val) (k0_off7 k 1 + 1 * l.val)
    rw [off7]
    show _ = row3 _ (512 * k.val + 1 * r.val) (0 + 1 * l.val)
    rw [Nat.one_mul, Nat.one_mul, Nat.zero_add, row3_tm _ _ _ _ r.isLt]
  · intro y h h'
    refine ⟨_, List.mem_singleton_self _, ?_⟩
    refine Reads.mem_unit (inb := k0_off7_inb k) (off7 k) fun a => ?_
    have h2 : (y 1).val < 128 := (y 1).isLt
    match a with
    | ⟨0, _⟩ => exact ⟨h, h'⟩
    | ⟨1, _⟩ => exact ⟨Nat.zero_le _, show (y 1).val < 0 + 128 by omega⟩

theorem n14 (s : S1 D k.val x) : ∀ y, (y 0).val < 512 * (k.val + 1) → x.arg14.view.read (Elt Ideal) (next1 x k).f14 y = row3 (tm fun n i h c => Q D n i h c * dq D n i h c) (y 0).val (y 1).val := by
  dsimp only [next1]
  refine grow x.arg14.view x.f14 (fun y => row3 (tm fun n i h c => Q D n i h c * dq D n i h c) (y 0).val (y 1).val) _ (fun y => (y 0).val) 512 k.val s.a14 ?_ ?_
  · refine List.forall_mem_cons.mpr ⟨fun z => ?_, List.forall_mem_nil _⟩
    obtain ⟨r, l, rfl⟩ : ∃ (r : Fin 512) (l : Fin 128), z = ix2 r l := ⟨z 0, z 1, eq_ix2 z⟩
    refine (hqdq x H k s.a28 r l).trans ?_
    show _ = row3 _ (k0_off7 k 0 + 1 * r.val) (k0_off7 k 1 + 1 * l.val)
    rw [off7]
    show _ = row3 _ (512 * k.val + 1 * r.val) (0 + 1 * l.val)
    rw [Nat.one_mul, Nat.one_mul, Nat.zero_add, row3_tm _ _ _ _ r.isLt]
  · intro y h h'
    refine ⟨_, List.mem_singleton_self _, ?_⟩
    refine Reads.mem_unit (inb := k0_off7_inb k) (off7 k) fun a => ?_
    have h2 : (y 1).val < 128 := (y 1).isLt
    match a with
    | ⟨0, _⟩ => exact ⟨h, h'⟩
    | ⟨1, _⟩ => exact ⟨Nat.zero_le _, show (y 1).val < 0 + 128 by omega⟩

theorem n21 (s : S1 D k.val x) : ∀ y, (y 1).val < 64 * (k.val + 1) → x.arg21.view.read (Elt Ideal) (next1 x k).f21 y = qg D ((y 1).val / 64) ((y 1).val % 64) (y 0).val (y 2).val := by
  dsimp only [next1]
  refine grow x.arg21.view x.f21 (fun y => qg D ((y 1).val / 64) ((y 1).val % 64) (y 0).val (y 2).val) _ (fun y => (y 1).val) 64 k.val s.a21 ?_ ?_
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, i, c, rfl⟩ : ∃ (a : Fin 1) (i : Fin 64) (c : Fin 256), z = ix3 a i c := ⟨z 0, z 1, z 2, eq_ix3 z⟩
      refine (hg3 x H k a i c).trans ?_
      show _ = qg D ((k0_off25 k 1 + 1 * i.val) / 64) ((k0_off25 k 1 + 1 * i.val) % 64) (k0_off25 k 0 + 1 * a.val) (k0_off25 k 2 + 1 * c.val)
      rw [off25]
      show _ = qg D ((64 * k.val + 1 * i.val) / 64) ((64 * k.val + 1 * i.val) % 64) (3 + 1 * a.val) (0 + 1 * c.val)
      congr 1 <;> omega
    · obtain ⟨a, i, c, rfl⟩ : ∃ (a : Fin 1) (i : Fin 64) (c : Fin 256), z = ix3 a i c := ⟨z 0, z 1, z 2, eq_ix3 z⟩
      refine (hg2 x H k a i c).trans ?_
      show _ = qg D ((k0_off22 k 1 + 1 * i.val) / 64) ((k0_off22 k 1 + 1 * i.val) % 64) (k0_off22 k 0 + 1 * a.val) (k0_off22 k 2 + 1 * c.val)
      rw [off22]
      show _ = qg D ((64 * k.val + 1 * i.val) / 64) ((64 * k.val + 1 * i.val) % 64) (2 + 1 * a.val) (0 + 1 * c.val)
      congr 1 <;> omega
    · obtain ⟨a, i, c, rfl⟩ : ∃ (a : Fin 1) (i : Fin 64) (c : Fin 256), z = ix3 a i c := ⟨z 0, z 1, z 2, eq_ix3 z⟩
      refine (hg1 x H k a i c).trans ?_
      show _ = qg D ((k0_off19 k 1 + 1 * i.val) / 64) ((k0_off19 k 1 + 1 * i.val) % 64) (k0_off19 k 0 + 1 * a.val) (k0_off19 k 2 + 1 * c.val)
      rw [off19]
      show _ = qg D ((64 * k.val + 1 * i.val) / 64) ((64 * k.val + 1 * i.val) % 64) (1 + 1 * a.val) (0 + 1 * c.val)
      congr 1 <;> omega
    · obtain ⟨a, i, c, rfl⟩ : ∃ (a : Fin 1) (i : Fin 64) (c : Fin 256), z = ix3 a i c := ⟨z 0, z 1, z 2, eq_ix3 z⟩
      refine (hg0 x H k a i c).trans ?_
      show _ = qg D ((k0_off15 k 1 + 1 * i.val) / 64) ((k0_off15 k 1 + 1 * i.val) % 64) (k0_off15 k 0 + 1 * a.val) (k0_off15 k 2 + 1 * c.val)
      rw [off15]
      show _ = qg D ((64 * k.val + 1 * i.val) / 64) ((64 * k.val + 1 * i.val) % 64) (0 + 1 * a.val) (0 + 1 * c.val)
      congr 1 <;> omega
  · intro y h h'
    have h0 : (y 0).val < 4 := (y 0).isLt
    have h2 : (y 2).val < 256 := (y 2).isLt
    obtain e | e | e | e : (y 0).val = 3 ∨ (y 0).val = 2 ∨ (y 0).val = 1 ∨ (y 0).val = 0 := by omega
    · refine ⟨_, List.mem_cons_self, ?_⟩
      refine Reads.mem_unit (inb := k0_off25_inb k) (off25 k) fun a => ?_
      match a with
      | ⟨0, _⟩ => exact ⟨show 3 ≤ (y 0).val by omega, show (y 0).val < 3 + 1 by omega⟩
      | ⟨1, _⟩ => exact ⟨h, h'⟩
      | ⟨2, _⟩ => exact ⟨Nat.zero_le _, show (y 2).val < 0 + 256 by omega⟩
    · refine ⟨_, List.mem_cons_of_mem _ (List.mem_cons_self), ?_⟩
      refine Reads.mem_unit (inb := k0_off22_inb k) (off22 k) fun a => ?_
      match a with
      | ⟨0, _⟩ => exact ⟨show 2 ≤ (y 0).val by omega, show (y 0).val < 2 + 1 by omega⟩
      | ⟨1, _⟩ => exact ⟨h, h'⟩
      | ⟨2, _⟩ => exact ⟨Nat.zero_le _, show (y 2).val < 0 + 256 by omega⟩
    · refine ⟨_, List.mem_cons_of_mem _ (List.mem_cons_of_mem _ (List.mem_cons_self)), ?_⟩
      refine Reads.mem_unit (inb := k0_off19_inb k) (off19 k) fun a => ?_
      match a with
      | ⟨0, _⟩ => exact ⟨show 1 ≤ (y 0).val by omega, show (y 0).val < 1 + 1 by omega⟩
      | ⟨1, _⟩ => exact ⟨h, h'⟩
      | ⟨2, _⟩ => exact ⟨Nat.zero_le _, show (y 2).val < 0 + 256 by omega⟩
    · refine ⟨_, List.mem_cons_of_mem _ (List.mem_cons_of_mem _ (List.mem_cons_of_mem _ (List.mem_cons_self))), ?_⟩
      refine Reads.mem_unit (inb := k0_off15_inb k) (off15 k) fun a => ?_
      match a with
      | ⟨0, _⟩ => exact ⟨show 0 ≤ (y 0).val by omega, show (y 0).val < 0 + 1 by omega⟩
      | ⟨1, _⟩ => exact ⟨h, h'⟩
      | ⟨2, _⟩ => exact ⟨Nat.zero_le _, show (y 2).val < 0 + 256 by omega⟩

theorem n22 (s : S1 D k.val x) : ∀ y, (y 1).val < 64 * (k.val + 1) → x.arg22.view.read (Elt Ideal) (next1 x k).f22 y = kd D ((y 1).val / 64) ((y 1).val % 64) (y 0).val (y 2).val := by
  dsimp only [next1]
  refine grow x.arg22.view x.f22 (fun y => kd D ((y 1).val / 64) ((y 1).val % 64) (y 0).val (y 2).val) _ (fun y => (y 1).val) 64 k.val s.a22 ?_ ?_
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, i, c, rfl⟩ : ∃ (a : Fin 1) (i : Fin 64) (c : Fin 256), z = ix3 a i c := ⟨z 0, z 1, z 2, eq_ix3 z⟩
      refine (hd3 x H k a i c).trans ?_
      show _ = kd D ((k0_off25 k 1 + 1 * i.val) / 64) ((k0_off25 k 1 + 1 * i.val) % 64) (k0_off25 k 0 + 1 * a.val) (k0_off25 k 2 + 1 * c.val)
      rw [off25]
      show _ = kd D ((64 * k.val + 1 * i.val) / 64) ((64 * k.val + 1 * i.val) % 64) (3 + 1 * a.val) (0 + 1 * c.val)
      congr 1 <;> omega
    · obtain ⟨a, i, c, rfl⟩ : ∃ (a : Fin 1) (i : Fin 64) (c : Fin 256), z = ix3 a i c := ⟨z 0, z 1, z 2, eq_ix3 z⟩
      refine (hd2 x H k a i c).trans ?_
      show _ = kd D ((k0_off22 k 1 + 1 * i.val) / 64) ((k0_off22 k 1 + 1 * i.val) % 64) (k0_off22 k 0 + 1 * a.val) (k0_off22 k 2 + 1 * c.val)
      rw [off22]
      show _ = kd D ((64 * k.val + 1 * i.val) / 64) ((64 * k.val + 1 * i.val) % 64) (2 + 1 * a.val) (0 + 1 * c.val)
      congr 1 <;> omega
    · obtain ⟨a, i, c, rfl⟩ : ∃ (a : Fin 1) (i : Fin 64) (c : Fin 256), z = ix3 a i c := ⟨z 0, z 1, z 2, eq_ix3 z⟩
      refine (hd1 x H k a i c).trans ?_
      show _ = kd D ((k0_off19 k 1 + 1 * i.val) / 64) ((k0_off19 k 1 + 1 * i.val) % 64) (k0_off19 k 0 + 1 * a.val) (k0_off19 k 2 + 1 * c.val)
      rw [off19]
      show _ = kd D ((64 * k.val + 1 * i.val) / 64) ((64 * k.val + 1 * i.val) % 64) (1 + 1 * a.val) (0 + 1 * c.val)
      congr 1 <;> omega
    · obtain ⟨a, i, c, rfl⟩ : ∃ (a : Fin 1) (i : Fin 64) (c : Fin 256), z = ix3 a i c := ⟨z 0, z 1, z 2, eq_ix3 z⟩
      refine (hd0 x H k a i c).trans ?_
      show _ = kd D ((k0_off15 k 1 + 1 * i.val) / 64) ((k0_off15 k 1 + 1 * i.val) % 64) (k0_off15 k 0 + 1 * a.val) (k0_off15 k 2 + 1 * c.val)
      rw [off15]
      show _ = kd D ((64 * k.val + 1 * i.val) / 64) ((64 * k.val + 1 * i.val) % 64) (0 + 1 * a.val) (0 + 1 * c.val)
      congr 1 <;> omega
  · intro y h h'
    have h0 : (y 0).val < 4 := (y 0).isLt
    have h2 : (y 2).val < 256 := (y 2).isLt
    obtain e | e | e | e : (y 0).val = 3 ∨ (y 0).val = 2 ∨ (y 0).val = 1 ∨ (y 0).val = 0 := by omega
    · refine ⟨_, List.mem_cons_self, ?_⟩
      refine Reads.mem_unit (inb := k0_off25_inb k) (off25 k) fun a => ?_
      match a with
      | ⟨0, _⟩ => exact ⟨show 3 ≤ (y 0).val by omega, show (y 0).val < 3 + 1 by omega⟩
      | ⟨1, _⟩ => exact ⟨h, h'⟩
      | ⟨2, _⟩ => exact ⟨Nat.zero_le _, show (y 2).val < 0 + 256 by omega⟩
    · refine ⟨_, List.mem_cons_of_mem _ (List.mem_cons_self), ?_⟩
      refine Reads.mem_unit (inb := k0_off22_inb k) (off22 k) fun a => ?_
      match a with
      | ⟨0, _⟩ => exact ⟨show 2 ≤ (y 0).val by omega, show (y 0).val < 2 + 1 by omega⟩
      | ⟨1, _⟩ => exact ⟨h, h'⟩
      | ⟨2, _⟩ => exact ⟨Nat.zero_le _, show (y 2).val < 0 + 256 by omega⟩
    · refine ⟨_, List.mem_cons_of_mem _ (List.mem_cons_of_mem _ (List.mem_cons_self)), ?_⟩
      refine Reads.mem_unit (inb := k0_off19_inb k) (off19 k) fun a => ?_
      match a with
      | ⟨0, _⟩ => exact ⟨show 1 ≤ (y 0).val by omega, show (y 0).val < 1 + 1 by omega⟩
      | ⟨1, _⟩ => exact ⟨h, h'⟩
      | ⟨2, _⟩ => exact ⟨Nat.zero_le _, show (y 2).val < 0 + 256 by omega⟩
    · refine ⟨_, List.mem_cons_of_mem _ (List.mem_cons_of_mem _ (List.mem_cons_of_mem _ (List.mem_cons_self))), ?_⟩
      refine Reads.mem_unit (inb := k0_off15_inb k) (off15 k) fun a => ?_
      match a with
      | ⟨0, _⟩ => exact ⟨show 0 ≤ (y 0).val by omega, show (y 0).val < 0 + 1 by omega⟩
      | ⟨1, _⟩ => exact ⟨h, h'⟩
      | ⟨2, _⟩ => exact ⟨Nat.zero_le _, show (y 2).val < 0 + 256 by omega⟩

theorem n23 (s : S1 D k.val x) : ∀ y, (y 1).val < 64 * (k.val + 1) → x.arg23.view.read (Elt Ideal) (next1 x k).f23 y = D.v (y 1).val (y 0).val (y 2).val := by
  dsimp only [next1]
  refine grow x.arg23.view x.f23 (fun y => D.v (y 1).val (y 0).val (y 2).val) _ (fun y => (y 1).val) 64 k.val s.a23 ?_ ?_
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, i, c, rfl⟩ : ∃ (a : Fin 1) (i : Fin 64) (c : Fin 512), z = ix3 a i c := ⟨z 0, z 1, z 2, eq_ix3 z⟩
      refine (hv3 x H k a i c).trans ?_
      show _ = D.v (k0_off26 k 1 + 1 * i.val) (k0_off26 k 0 + 1 * a.val) (k0_off26 k 2 + 1 * c.val)
      rw [off26]
      show _ = D.v (64 * k.val + 1 * i.val) (3 + 1 * a.val) (0 + 1 * c.val)
      congr 1 <;> omega
    · obtain ⟨a, i, c, rfl⟩ : ∃ (a : Fin 1) (i : Fin 64) (c : Fin 512), z = ix3 a i c := ⟨z 0, z 1, z 2, eq_ix3 z⟩
      refine (hv2 x H k a i c).trans ?_
      show _ = D.v (k0_off23 k 1 + 1 * i.val) (k0_off23 k 0 + 1 * a.val) (k0_off23 k 2 + 1 * c.val)
      rw [off23]
      show _ = D.v (64 * k.val + 1 * i.val) (2 + 1 * a.val) (0 + 1 * c.val)
      congr 1 <;> omega
    · obtain ⟨a, i, c, rfl⟩ : ∃ (a : Fin 1) (i : Fin 64) (c : Fin 512), z = ix3 a i c := ⟨z 0, z 1, z 2, eq_ix3 z⟩
      refine (hv1 x H k a i c).trans ?_
      show _ = D.v (k0_off20 k 1 + 1 * i.val) (k0_off20 k 0 + 1 * a.val) (k0_off20 k 2 + 1 * c.val)
      rw [off20]
      show _ = D.v (64 * k.val + 1 * i.val) (1 + 1 * a.val) (0 + 1 * c.val)
      congr 1 <;> omega
    · obtain ⟨a, i, c, rfl⟩ : ∃ (a : Fin 1) (i : Fin 64) (c : Fin 512), z = ix3 a i c := ⟨z 0, z 1, z 2, eq_ix3 z⟩
      refine (hv0 x H k a i c).trans ?_
      show _ = D.v (k0_off16 k 1 + 1 * i.val) (k0_off16 k 0 + 1 * a.val) (k0_off16 k 2 + 1 * c.val)
      rw [off16]
      show _ = D.v (64 * k.val + 1 * i.val) (0 + 1 * a.val) (0 + 1 * c.val)
      congr 1 <;> omega
  · intro y h h'
    have h0 : (y 0).val < 4 := (y 0).isLt
    have h2 : (y 2).val < 512 := (y 2).isLt
    obtain e | e | e | e : (y 0).val = 3 ∨ (y 0).val = 2 ∨ (y 0).val = 1 ∨ (y 0).val = 0 := by omega
    · refine ⟨_, List.mem_cons_self, ?_⟩
      refine Reads.mem_unit (inb := k0_off26_inb k) (off26 k) fun a => ?_
      match a with
      | ⟨0, _⟩ => exact ⟨show 3 ≤ (y 0).val by omega, show (y 0).val < 3 + 1 by omega⟩
      | ⟨1, _⟩ => exact ⟨h, h'⟩
      | ⟨2, _⟩ => exact ⟨Nat.zero_le _, show (y 2).val < 0 + 512 by omega⟩
    · refine ⟨_, List.mem_cons_of_mem _ (List.mem_cons_self), ?_⟩
      refine Reads.mem_unit (inb := k0_off23_inb k) (off23 k) fun a => ?_
      match a with
      | ⟨0, _⟩ => exact ⟨show 2 ≤ (y 0).val by omega, show (y 0).val < 2 + 1 by omega⟩
      | ⟨1, _⟩ => exact ⟨h, h'⟩
      | ⟨2, _⟩ => exact ⟨Nat.zero_le _, show (y 2).val < 0 + 512 by omega⟩
    · refine ⟨_, List.mem_cons_of_mem _ (List.mem_cons_of_mem _ (List.mem_cons_self)), ?_⟩
      refine Reads.mem_unit (inb := k0_off20_inb k) (off20 k) fun a => ?_
      match a with
      | ⟨0, _⟩ => exact ⟨show 1 ≤ (y 0).val by omega, show (y 0).val < 1 + 1 by omega⟩
      | ⟨1, _⟩ => exact ⟨h, h'⟩
      | ⟨2, _⟩ => exact ⟨Nat.zero_le _, show (y 2).val < 0 + 512 by omega⟩
    · refine ⟨_, List.mem_cons_of_mem _ (List.mem_cons_of_mem _ (List.mem_cons_of_mem _ (List.mem_cons_self))), ?_⟩
      refine Reads.mem_unit (inb := k0_off16_inb k) (off16 k) fun a => ?_
      match a with
      | ⟨0, _⟩ => exact ⟨show 0 ≤ (y 0).val by omega, show (y 0).val < 0 + 1 by omega⟩
      | ⟨1, _⟩ => exact ⟨h, h'⟩
      | ⟨2, _⟩ => exact ⟨Nat.zero_le _, show (y 2).val < 0 + 512 by omega⟩

theorem n24 (s : S1 D k.val x) : ∀ y, (y 1).val < 64 * (k.val + 1) → x.arg24.view.read (Elt Ideal) (next1 x k).f24 y = dod D ((y 1).val / 64) ((y 1).val % 64) (y 0).val (y 2).val := by
  dsimp only [next1]
  refine grow x.arg24.view x.f24 (fun y => dod D ((y 1).val / 64) ((y 1).val % 64) (y 0).val (y 2).val) _ (fun y => (y 1).val) 64 k.val s.a24 ?_ ?_
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, i, c, rfl⟩ : ∃ (a : Fin 1) (i : Fin 64) (c : Fin 512), z = ix3 a i c := ⟨z 0, z 1, z 2, eq_ix3 z⟩
      refine (ho3 x H k a i c).trans ?_
      show _ = dod D ((k0_off26 k 1 + 1 * i.val) / 64) ((k0_off26 k 1 + 1 * i.val) % 64) (k0_off26 k 0 + 1 * a.val) (k0_off26 k 2 + 1 * c.val)
      rw [off26]
      show _ = dod D ((64 * k.val + 1 * i.val) / 64) ((64 * k.val + 1 * i.val) % 64) (3 + 1 * a.val) (0 + 1 * c.val)
      congr 1 <;> omega
    · obtain ⟨a, i, c, rfl⟩ : ∃ (a : Fin 1) (i : Fin 64) (c : Fin 512), z = ix3 a i c := ⟨z 0, z 1, z 2, eq_ix3 z⟩
      refine (ho2 x H k a i c).trans ?_
      show _ = dod D ((k0_off23 k 1 + 1 * i.val) / 64) ((k0_off23 k 1 + 1 * i.val) % 64) (k0_off23 k 0 + 1 * a.val) (k0_off23 k 2 + 1 * c.val)
      rw [off23]
      show _ = dod D ((64 * k.val + 1 * i.val) / 64) ((64 * k.val + 1 * i.val) % 64) (2 + 1 * a.val) (0 + 1 * c.val)
      congr 1 <;> omega
    · obtain ⟨a, i, c, rfl⟩ : ∃ (a : Fin 1) (i : Fin 64) (c : Fin 512), z = ix3 a i c := ⟨z 0, z 1, z 2, eq_ix3 z⟩
      refine (ho1 x H k a i c).trans ?_
      show _ = dod D ((k0_off20 k 1 + 1 * i.val) / 64) ((k0_off20 k 1 + 1 * i.val) % 64) (k0_off20 k 0 + 1 * a.val) (k0_off20 k 2 + 1 * c.val)
      rw [off20]
      show _ = dod D ((64 * k.val + 1 * i.val) / 64) ((64 * k.val + 1 * i.val) % 64) (1 + 1 * a.val) (0 + 1 * c.val)
      congr 1 <;> omega
    · obtain ⟨a, i, c, rfl⟩ : ∃ (a : Fin 1) (i : Fin 64) (c : Fin 512), z = ix3 a i c := ⟨z 0, z 1, z 2, eq_ix3 z⟩
      refine (ho0 x H k a i c).trans ?_
      show _ = dod D ((k0_off16 k 1 + 1 * i.val) / 64) ((k0_off16 k 1 + 1 * i.val) % 64) (k0_off16 k 0 + 1 * a.val) (k0_off16 k 2 + 1 * c.val)
      rw [off16]
      show _ = dod D ((64 * k.val + 1 * i.val) / 64) ((64 * k.val + 1 * i.val) % 64) (0 + 1 * a.val) (0 + 1 * c.val)
      congr 1 <;> omega
  · intro y h h'
    have h0 : (y 0).val < 4 := (y 0).isLt
    have h2 : (y 2).val < 512 := (y 2).isLt
    obtain e | e | e | e : (y 0).val = 3 ∨ (y 0).val = 2 ∨ (y 0).val = 1 ∨ (y 0).val = 0 := by omega
    · refine ⟨_, List.mem_cons_self, ?_⟩
      refine Reads.mem_unit (inb := k0_off26_inb k) (off26 k) fun a => ?_
      match a with
      | ⟨0, _⟩ => exact ⟨show 3 ≤ (y 0).val by omega, show (y 0).val < 3 + 1 by omega⟩
      | ⟨1, _⟩ => exact ⟨h, h'⟩
      | ⟨2, _⟩ => exact ⟨Nat.zero_le _, show (y 2).val < 0 + 512 by omega⟩
    · refine ⟨_, List.mem_cons_of_mem _ (List.mem_cons_self), ?_⟩
      refine Reads.mem_unit (inb := k0_off23_inb k) (off23 k) fun a => ?_
      match a with
      | ⟨0, _⟩ => exact ⟨show 2 ≤ (y 0).val by omega, show (y 0).val < 2 + 1 by omega⟩
      | ⟨1, _⟩ => exact ⟨h, h'⟩
      | ⟨2, _⟩ => exact ⟨Nat.zero_le _, show (y 2).val < 0 + 512 by omega⟩
    · refine ⟨_, List.mem_cons_of_mem _ (List.mem_cons_of_mem _ (List.mem_cons_self)), ?_⟩
      refine Reads.mem_unit (inb := k0_off20_inb k) (off20 k) fun a => ?_
      match a with
      | ⟨0, _⟩ => exact ⟨show 1 ≤ (y 0).val by omega, show (y 0).val < 1 + 1 by omega⟩
      | ⟨1, _⟩ => exact ⟨h, h'⟩
      | ⟨2, _⟩ => exact ⟨Nat.zero_le _, show (y 2).val < 0 + 512 by omega⟩
    · refine ⟨_, List.mem_cons_of_mem _ (List.mem_cons_of_mem _ (List.mem_cons_of_mem _ (List.mem_cons_self))), ?_⟩
      refine Reads.mem_unit (inb := k0_off16_inb k) (off16 k) fun a => ?_
      match a with
      | ⟨0, _⟩ => exact ⟨show 0 ≤ (y 0).val by omega, show (y 0).val < 0 + 1 by omega⟩
      | ⟨1, _⟩ => exact ⟨h, h'⟩
      | ⟨2, _⟩ => exact ⟨Nat.zero_le _, show (y 2).val < 0 + 512 by omega⟩

theorem n25 (s : S1 D k.val x) : ∀ y, (y 1).val < 64 * (k.val + 1) → x.arg25.view.read (Elt Ideal) (next1 x k).f25 y = Am D ((y 1).val / 64) (y 0).val ((y 1).val % 64) (y 2).val := by
  dsimp only [next1]
  refine grow x.arg25.view x.f25 (fun y => Am D ((y 1).val / 64) (y 0).val ((y 1).val % 64) (y 2).val) _ (fun y => (y 1).val) 64 k.val s.a25 ?_ ?_
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, i, c, rfl⟩ : ∃ (a : Fin 1) (i : Fin 64) (c : Fin 64), z = ix3 a i c := ⟨z 0, z 1, z 2, eq_ix3 z⟩
      refine (hm3 x H k a i c).trans ?_
      show _ = Am D ((k0_off27 k 1 + 1 * i.val) / 64) (k0_off27 k 0 + 1 * a.val) ((k0_off27 k 1 + 1 * i.val) % 64) (k0_off27 k 2 + 1 * c.val)
      rw [off27]
      show _ = Am D ((64 * k.val + 1 * i.val) / 64) (3 + 1 * a.val) ((64 * k.val + 1 * i.val) % 64) (0 + 1 * c.val)
      congr 1 <;> omega
    · obtain ⟨a, i, c, rfl⟩ : ∃ (a : Fin 1) (i : Fin 64) (c : Fin 64), z = ix3 a i c := ⟨z 0, z 1, z 2, eq_ix3 z⟩
      refine (hm2 x H k a i c).trans ?_
      show _ = Am D ((k0_off24 k 1 + 1 * i.val) / 64) (k0_off24 k 0 + 1 * a.val) ((k0_off24 k 1 + 1 * i.val) % 64) (k0_off24 k 2 + 1 * c.val)
      rw [off24]
      show _ = Am D ((64 * k.val + 1 * i.val) / 64) (2 + 1 * a.val) ((64 * k.val + 1 * i.val) % 64) (0 + 1 * c.val)
      congr 1 <;> omega
    · obtain ⟨a, i, c, rfl⟩ : ∃ (a : Fin 1) (i : Fin 64) (c : Fin 64), z = ix3 a i c := ⟨z 0, z 1, z 2, eq_ix3 z⟩
      refine (hm1 x H k a i c).trans ?_
      show _ = Am D ((k0_off21 k 1 + 1 * i.val) / 64) (k0_off21 k 0 + 1 * a.val) ((k0_off21 k 1 + 1 * i.val) % 64) (k0_off21 k 2 + 1 * c.val)
      rw [off21]
      show _ = Am D ((64 * k.val + 1 * i.val) / 64) (1 + 1 * a.val) ((64 * k.val + 1 * i.val) % 64) (0 + 1 * c.val)
      congr 1 <;> omega
    · obtain ⟨a, i, c, rfl⟩ : ∃ (a : Fin 1) (i : Fin 64) (c : Fin 64), z = ix3 a i c := ⟨z 0, z 1, z 2, eq_ix3 z⟩
      refine (hm0 x H k a i c).trans ?_
      show _ = Am D ((k0_off17 k 1 + 1 * i.val) / 64) (k0_off17 k 0 + 1 * a.val) ((k0_off17 k 1 + 1 * i.val) % 64) (k0_off17 k 2 + 1 * c.val)
      rw [off17]
      show _ = Am D ((64 * k.val + 1 * i.val) / 64) (0 + 1 * a.val) ((64 * k.val + 1 * i.val) % 64) (0 + 1 * c.val)
      congr 1 <;> omega
  · intro y h h'
    have h0 : (y 0).val < 4 := (y 0).isLt
    have h2 : (y 2).val < 64 := (y 2).isLt
    obtain e | e | e | e : (y 0).val = 3 ∨ (y 0).val = 2 ∨ (y 0).val = 1 ∨ (y 0).val = 0 := by omega
    · refine ⟨_, List.mem_cons_self, ?_⟩
      refine Reads.mem_unit (inb := k0_off27_inb k) (off27 k) fun a => ?_
      match a with
      | ⟨0, _⟩ => exact ⟨show 3 ≤ (y 0).val by omega, show (y 0).val < 3 + 1 by omega⟩
      | ⟨1, _⟩ => exact ⟨h, h'⟩
      | ⟨2, _⟩ => exact ⟨Nat.zero_le _, show (y 2).val < 0 + 64 by omega⟩
    · refine ⟨_, List.mem_cons_of_mem _ (List.mem_cons_self), ?_⟩
      refine Reads.mem_unit (inb := k0_off24_inb k) (off24 k) fun a => ?_
      match a with
      | ⟨0, _⟩ => exact ⟨show 2 ≤ (y 0).val by omega, show (y 0).val < 2 + 1 by omega⟩
      | ⟨1, _⟩ => exact ⟨h, h'⟩
      | ⟨2, _⟩ => exact ⟨Nat.zero_le _, show (y 2).val < 0 + 64 by omega⟩
    · refine ⟨_, List.mem_cons_of_mem _ (List.mem_cons_of_mem _ (List.mem_cons_self)), ?_⟩
      refine Reads.mem_unit (inb := k0_off21_inb k) (off21 k) fun a => ?_
      match a with
      | ⟨0, _⟩ => exact ⟨show 1 ≤ (y 0).val by omega, show (y 0).val < 1 + 1 by omega⟩
      | ⟨1, _⟩ => exact ⟨h, h'⟩
      | ⟨2, _⟩ => exact ⟨Nat.zero_le _, show (y 2).val < 0 + 64 by omega⟩
    · refine ⟨_, List.mem_cons_of_mem _ (List.mem_cons_of_mem _ (List.mem_cons_of_mem _ (List.mem_cons_self))), ?_⟩
      refine Reads.mem_unit (inb := k0_off17_inb k) (off17 k) fun a => ?_
      match a with
      | ⟨0, _⟩ => exact ⟨show 0 ≤ (y 0).val by omega, show (y 0).val < 0 + 1 by omega⟩
      | ⟨1, _⟩ => exact ⟨h, h'⟩
      | ⟨2, _⟩ => exact ⟨Nat.zero_le _, show (y 2).val < 0 + 64 by omega⟩

theorem n26 (s : S1 D k.val x) : ∀ y, (y 1).val < 64 * (k.val + 1) → x.arg26.view.read (Elt Ideal) (next1 x k).f26 y = PT D ((y 1).val / 64) (y 0).val ((y 1).val % 64) (y 2).val := by
  dsimp only [next1]
  refine grow x.arg26.view x.f26 (fun y => PT D ((y 1).val / 64) (y 0).val ((y 1).val % 64) (y 2).val) _ (fun y => (y 1).val) 64 k.val s.a26 ?_ ?_
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, i, c, rfl⟩ : ∃ (a : Fin 1) (i : Fin 64) (c : Fin 64), z = ix3 a i c := ⟨z 0, z 1, z 2, eq_ix3 z⟩
      refine (hp3 x H k a i c).trans ?_
      show _ = PT D ((k0_off27 k 1 + 1 * i.val) / 64) (k0_off27 k 0 + 1 * a.val) ((k0_off27 k 1 + 1 * i.val) % 64) (k0_off27 k 2 + 1 * c.val)
      rw [off27]
      show _ = PT D ((64 * k.val + 1 * i.val) / 64) (3 + 1 * a.val) ((64 * k.val + 1 * i.val) % 64) (0 + 1 * c.val)
      congr 1 <;> omega
    · obtain ⟨a, i, c, rfl⟩ : ∃ (a : Fin 1) (i : Fin 64) (c : Fin 64), z = ix3 a i c := ⟨z 0, z 1, z 2, eq_ix3 z⟩
      refine (hp2 x H k a i c).trans ?_
      show _ = PT D ((k0_off24 k 1 + 1 * i.val) / 64) (k0_off24 k 0 + 1 * a.val) ((k0_off24 k 1 + 1 * i.val) % 64) (k0_off24 k 2 + 1 * c.val)
      rw [off24]
      show _ = PT D ((64 * k.val + 1 * i.val) / 64) (2 + 1 * a.val) ((64 * k.val + 1 * i.val) % 64) (0 + 1 * c.val)
      congr 1 <;> omega
    · obtain ⟨a, i, c, rfl⟩ : ∃ (a : Fin 1) (i : Fin 64) (c : Fin 64), z = ix3 a i c := ⟨z 0, z 1, z 2, eq_ix3 z⟩
      refine (hp1 x H k a i c).trans ?_
      show _ = PT D ((k0_off21 k 1 + 1 * i.val) / 64) (k0_off21 k 0 + 1 * a.val) ((k0_off21 k 1 + 1 * i.val) % 64) (k0_off21 k 2 + 1 * c.val)
      rw [off21]
      show _ = PT D ((64 * k.val + 1 * i.val) / 64) (1 + 1 * a.val) ((64 * k.val + 1 * i.val) % 64) (0 + 1 * c.val)
      congr 1 <;> omega
    · obtain ⟨a, i, c, rfl⟩ : ∃ (a : Fin 1) (i : Fin 64) (c : Fin 64), z = ix3 a i c := ⟨z 0, z 1, z 2, eq_ix3 z⟩
      refine (hp0 x H k a i c).trans ?_
      show _ = PT D ((k0_off17 k 1 + 1 * i.val) / 64) (k0_off17 k 0 + 1 * a.val) ((k0_off17 k 1 + 1 * i.val) % 64) (k0_off17 k 2 + 1 * c.val)
      rw [off17]
      show _ = PT D ((64 * k.val + 1 * i.val) / 64) (0 + 1 * a.val) ((64 * k.val + 1 * i.val) % 64) (0 + 1 * c.val)
      congr 1 <;> omega
  · intro y h h'
    have h0 : (y 0).val < 4 := (y 0).isLt
    have h2 : (y 2).val < 64 := (y 2).isLt
    obtain e | e | e | e : (y 0).val = 3 ∨ (y 0).val = 2 ∨ (y 0).val = 1 ∨ (y 0).val = 0 := by omega
    · refine ⟨_, List.mem_cons_self, ?_⟩
      refine Reads.mem_unit (inb := k0_off27_inb k) (off27 k) fun a => ?_
      match a with
      | ⟨0, _⟩ => exact ⟨show 3 ≤ (y 0).val by omega, show (y 0).val < 3 + 1 by omega⟩
      | ⟨1, _⟩ => exact ⟨h, h'⟩
      | ⟨2, _⟩ => exact ⟨Nat.zero_le _, show (y 2).val < 0 + 64 by omega⟩
    · refine ⟨_, List.mem_cons_of_mem _ (List.mem_cons_self), ?_⟩
      refine Reads.mem_unit (inb := k0_off24_inb k) (off24 k) fun a => ?_
      match a with
      | ⟨0, _⟩ => exact ⟨show 2 ≤ (y 0).val by omega, show (y 0).val < 2 + 1 by omega⟩
      | ⟨1, _⟩ => exact ⟨h, h'⟩
      | ⟨2, _⟩ => exact ⟨Nat.zero_le _, show (y 2).val < 0 + 64 by omega⟩
    · refine ⟨_, List.mem_cons_of_mem _ (List.mem_cons_of_mem _ (List.mem_cons_self)), ?_⟩
      refine Reads.mem_unit (inb := k0_off21_inb k) (off21 k) fun a => ?_
      match a with
      | ⟨0, _⟩ => exact ⟨show 1 ≤ (y 0).val by omega, show (y 0).val < 1 + 1 by omega⟩
      | ⟨1, _⟩ => exact ⟨h, h'⟩
      | ⟨2, _⟩ => exact ⟨Nat.zero_le _, show (y 2).val < 0 + 64 by omega⟩
    · refine ⟨_, List.mem_cons_of_mem _ (List.mem_cons_of_mem _ (List.mem_cons_of_mem _ (List.mem_cons_self))), ?_⟩
      refine Reads.mem_unit (inb := k0_off17_inb k) (off17 k) fun a => ?_
      match a with
      | ⟨0, _⟩ => exact ⟨show 0 ≤ (y 0).val by omega, show (y 0).val < 0 + 1 by omega⟩
      | ⟨1, _⟩ => exact ⟨h, h'⟩
      | ⟨2, _⟩ => exact ⟨Nat.zero_le _, show (y 2).val < 0 + 64 by omega⟩

theorem n28 (s : S1 D k.val x) : ∀ y : S4x512x256.Idx, x.arg28.view.read (Elt Ideal) (next1 x k).f28 y = St D (k.val + 1) (y 0).val (y 1).val (y 2).val := by
  intro y
  dsimp only [next1]
  refine Reads.read_writes_of_pieces x.arg28.view x.f28 (fun y => St D (k.val + 1) (y 0).val (y 1).val (y 2).val) y _ ?_ (Or.inl ?_)
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, v, c, rfl⟩ : ∃ (a : Fin 1) (v : Fin 512) (c : Fin 256), z = ix3 a v c := ⟨z 0, z 1, z 2, eq_ix3 z⟩
      refine (hs3 x H k s.a28 a v c).trans ?_
      show _ = St D (k.val + 1) (3 + 1 * a.val) (0 + 1 * v.val) (0 + 1 * c.val)
      congr 1 <;> omega
    · obtain ⟨a, v, c, rfl⟩ : ∃ (a : Fin 1) (v : Fin 512) (c : Fin 256), z = ix3 a v c := ⟨z 0, z 1, z 2, eq_ix3 z⟩
      refine (hs2 x H k s.a28 a v c).trans ?_
      show _ = St D (k.val + 1) (2 + 1 * a.val) (0 + 1 * v.val) (0 + 1 * c.val)
      congr 1 <;> omega
    · obtain ⟨a, v, c, rfl⟩ : ∃ (a : Fin 1) (v : Fin 512) (c : Fin 256), z = ix3 a v c := ⟨z 0, z 1, z 2, eq_ix3 z⟩
      refine (hs1 x H k s.a28 a v c).trans ?_
      show _ = St D (k.val + 1) (1 + 1 * a.val) (0 + 1 * v.val) (0 + 1 * c.val)
      congr 1 <;> omega
    · obtain ⟨a, v, c, rfl⟩ : ∃ (a : Fin 1) (v : Fin 512) (c : Fin 256), z = ix3 a v c := ⟨z 0, z 1, z 2, eq_ix3 z⟩
      refine (hs0 x H k s.a28 a v c).trans ?_
      show _ = St D (k.val + 1) (0 + 1 * a.val) (0 + 1 * v.val) (0 + 1 * c.val)
      congr 1 <;> omega
  · have h0 : (y 0).val < 4 := (y 0).isLt
    have h1 : (y 1).val < 512 := (y 1).isLt
    have h2 : (y 2).val < 256 := (y 2).isLt
    obtain e | e | e | e : (y 0).val = 3 ∨ (y 0).val = 2 ∨ (y 0).val = 1 ∨ (y 0).val = 0 := by omega
    · refine ⟨_, List.mem_cons_self, ?_⟩
      refine Reads.mem_unit (inb := inb_S4x512x256_S1x512x256_3_0_0) rfl fun a => ?_
      match a with
      | ⟨0, _⟩ => exact ⟨show 3 ≤ (y 0).val by omega, show (y 0).val < 3 + 1 by omega⟩
      | ⟨1, _⟩ => exact ⟨Nat.zero_le _, show (y 1).val < 0 + 512 by omega⟩
      | ⟨2, _⟩ => exact ⟨Nat.zero_le _, show (y 2).val < 0 + 256 by omega⟩
    · refine ⟨_, List.mem_cons_of_mem _ (List.mem_cons_self), ?_⟩
      refine Reads.mem_unit (inb := inb_S4x512x256_S1x512x256_2_0_0) rfl fun a => ?_
      match a with
      | ⟨0, _⟩ => exact ⟨show 2 ≤ (y 0).val by omega, show (y 0).val < 2 + 1 by omega⟩
      | ⟨1, _⟩ => exact ⟨Nat.zero_le _, show (y 1).val < 0 + 512 by omega⟩
      | ⟨2, _⟩ => exact ⟨Nat.zero_le _, show (y 2).val < 0 + 256 by omega⟩
    · refine ⟨_, List.mem_cons_of_mem _ (List.mem_cons_of_mem _ (List.mem_cons_self)), ?_⟩
      refine Reads.mem_unit (inb := inb_S4x512x256_S1x512x256_1_0_0) rfl fun a => ?_
      match a with
      | ⟨0, _⟩ => exact ⟨show 1 ≤ (y 0).val by omega, show (y 0).val < 1 + 1 by omega⟩
      | ⟨1, _⟩ => exact ⟨Nat.zero_le _, show (y 1).val < 0 + 512 by omega⟩
      | ⟨2, _⟩ => exact ⟨Nat.zero_le _, show (y 2).val < 0 + 256 by omega⟩
    · refine ⟨_, List.mem_cons_of_mem _ (List.mem_cons_of_mem _ (List.mem_cons_of_mem _ (List.mem_cons_self))), ?_⟩
      refine Reads.mem_unit (inb := inb_S4x512x256_S1x512x256_0_0_0) rfl fun a => ?_
      match a with
      | ⟨0, _⟩ => exact ⟨show 0 ≤ (y 0).val by omega, show (y 0).val < 0 + 1 by omega⟩
      | ⟨1, _⟩ => exact ⟨Nat.zero_le _, show (y 1).val < 0 + 512 by omega⟩
      | ⟨2, _⟩ => exact ⟨Nat.zero_le _, show (y 2).val < 0 + 256 by omega⟩

/-- One trip of the forward sweep. -/
theorem step1 (s : S1 D k.val x) : S1 D (k.val + 1) (next1 x k) where
  a10 := n10 x H k s
  a14 := n14 x H k s
  a15 := n15 x H k s
  a16 := n16 x H k s
  a17 := n17 x H k s
  a21 := n21 x H k s
  a22 := n22 x H k s
  a23 := n23 x H k s
  a24 := n24 x H k s
  a25 := n25 x H k s
  a26 := n26 x H k s
  a27 := n27 x H k s
  a28 := n28 x H k s

end
end Cert.Proof.KernelIdeal.Vl

end
-- ==== Proof.Loop1.lean ====
module

public import proofs.«01_k».proof.Proof.StepD
public import proofs.«01_k».proof.Proof.Spec
public import proofs.«01_k».proof.Proof.Reads
public import Idealize.ShloMosaic.Lib.Tactic
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped BigOperators

open Spec

/-- One batch element's arguments, read from the windows' blocks. -/
def Dof (i : grid0.Coords) (d1 d2 : S1x640x4x256.Idx → EReal) (d3 d4 : S10240x128.Idx → EReal) (d5 : S5120x128.Idx → EReal)
    (d6 : S1x640x4.Idx → EReal) (d7 d8 d9 : S3x10x4.Idx → EReal) : Spec.Inp where
  q t h c := if e : t < 640 ∧ h < 4 ∧ c < 256 then d1 (ix4 (n0 := 1) (n1 := 640) (n2 := 4) (n3 := 256) 0 ⟨t, e.1⟩ ⟨h, e.2.1⟩ ⟨c, e.2.2⟩) else 0
  k t h c := if e : t < 640 ∧ h < 4 ∧ c < 256 then d2 (ix4 (n0 := 1) (n1 := 640) (n2 := 4) (n3 := 256) 0 ⟨t, e.1⟩ ⟨h, e.2.1⟩ ⟨c, e.2.2⟩) else 0
  v t h c := if e : t < 640 ∧ h < 4 ∧ c < 512 then d3 (ix2 (n0 := 10240) (n1 := 128) ⟨16 * t + c / 128 * 4 + h, by omega⟩ ⟨c % 128, by omega⟩) else 0
  d t h c := if e : t < 640 ∧ h < 4 ∧ c < 512 then d4 (ix2 (n0 := 10240) (n1 := 128) ⟨16 * t + c / 128 * 4 + h, by omega⟩ ⟨c % 128, by omega⟩) else 0
  g t h c := if e : t < 640 ∧ h < 4 ∧ c < 256 then d5 (ix2 (n0 := 5120) (n1 := 128) ⟨8 * t + c / 128 * 4 + h, by omega⟩ ⟨c % 128, by omega⟩) else 0
  ds t h := if e : t < 640 ∧ h < 4 then d6 (ix3 (n0 := 1) (n1 := 640) (n2 := 4) 0 ⟨t, e.1⟩ ⟨h, e.2⟩) else 0
  qs n h := if e : n < 10 ∧ h < 4 then d7 (ix3 (n0 := 3) (n1 := 10) (n2 := 4) (i 0) ⟨n, e.1⟩ ⟨h, e.2⟩) else 0
  ks n h := if e : n < 10 ∧ h < 4 then d8 (ix3 (n0 := 3) (n1 := 10) (n2 := 4) (i 0) ⟨n, e.1⟩ ⟨h, e.2⟩) else 0
  vs n h := if e : n < 10 ∧ h < 4 then d9 (ix3 (n0 := 3) (n1 := 10) (n2 := 4) (i 0) ⟨n, e.1⟩ ⟨h, e.2⟩) else 0

variable (c : Dev nD) (i : grid0.Coords) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole)

/-- Those arguments are what the inputs' buffers hold. -/
theorem inputs_of (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c (R12 arg12 harg12)) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19) (f20 : Bf (F := Ideal) c arg20) (f21 : Bf (F := Ideal) c arg21) (f22 : Bf (F := Ideal) c arg22) (f23 : Bf (F := Ideal) c arg23) (f24 : Bf (F := Ideal) c arg24) (f25 : Bf (F := Ideal) c arg25) (f26 : Bf (F := Ideal) c arg26) (f27 : Bf (F := Ideal) c arg27) (f28 : Bf (F := Ideal) c arg28) :
    Inputs (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28) where
  q y := by
    have h0 := (y 0).isLt; have h1 := (y 1).isLt; have h2 := (y 2).isLt; have h3 := (y 3).isLt
    refine Eq.trans ?_ (dif_pos ⟨h1, h2, h3⟩).symm
    refine congrArg (arg1.view.read (Elt Ideal) f1) ((eq_ix4 y).trans ?_)
    refine congrArg (fun z => ix4 (n0 := 1) (n1 := 640) (n2 := 4) (n3 := 256) z (y 1) (y 2) (y 3)) (Fin.ext ?_)
    show (y 0).val = 0
    exact Nat.lt_one_iff.mp h0
  k y := by
    have h0 := (y 0).isLt; have h1 := (y 1).isLt; have h2 := (y 2).isLt; have h3 := (y 3).isLt
    refine Eq.trans ?_ (dif_pos ⟨h1, h2, h3⟩).symm
    refine congrArg (arg2.view.read (Elt Ideal) f2) ((eq_ix4 y).trans ?_)
    refine congrArg (fun z => ix4 (n0 := 1) (n1 := 640) (n2 := 4) (n3 := 256) z (y 1) (y 2) (y 3)) (Fin.ext ?_)
    show (y 0).val = 0
    exact Nat.lt_one_iff.mp h0
  v y := by
    have h0 : (y 0).val < 10240 := (y 0).isLt
    have h1 : (y 1).val < 128 := (y 1).isLt
    unfold Spec.row4
    refine Eq.trans ?_ (dif_pos (show (y 0).val / 16 < 640 ∧ (y 0).val % 4 < 4 ∧ (y 0).val / 4 % 4 * 128 + (y 1).val < 512 by omega)).symm
    refine congrArg (arg3.view.read (Elt Ideal) f3) ((eq_ix2 y).trans ?_)
    refine congrArg₂ (ix2 (n0 := 10240) (n1 := 128)) (Fin.ext ?_) (Fin.ext ?_)
    · show (y 0).val = 16 * ((y 0).val / 16) + ((y 0).val / 4 % 4 * 128 + (y 1).val) / 128 * 4 + (y 0).val % 4
      omega
    · show (y 1).val = ((y 0).val / 4 % 4 * 128 + (y 1).val) % 128
      omega
  d y := by
    have h0 : (y 0).val < 10240 := (y 0).isLt
    have h1 : (y 1).val < 128 := (y 1).isLt
    unfold Spec.row4
    refine Eq.trans ?_ (dif_pos (show (y 0).val / 16 < 640 ∧ (y 0).val % 4 < 4 ∧ (y 0).val / 4 % 4 * 128 + (y 1).val < 512 by omega)).symm
    refine congrArg (arg4.view.read (Elt Ideal) f4) ((eq_ix2 y).trans ?_)
    refine congrArg₂ (ix2 (n0 := 10240) (n1 := 128)) (Fin.ext ?_) (Fin.ext ?_)
    · show (y 0).val = 16 * ((y 0).val / 16) + ((y 0).val / 4 % 4 * 128 + (y 1).val) / 128 * 4 + (y 0).val % 4
      omega
    · show (y 1).val = ((y 0).val / 4 % 4 * 128 + (y 1).val) % 128
      omega
  g y := by
    have h0 : (y 0).val < 5120 := (y 0).isLt
    have h1 : (y 1).val < 128 := (y 1).isLt
    unfold Spec.row3
    refine Eq.trans ?_ (dif_pos (show (y 0).val / 8 < 640 ∧ (y 0).val % 4 < 4 ∧ (y 0).val / 4 % 2 * 128 + (y 1).val < 256 by omega)).symm
    refine congrArg (arg5.view.read (Elt Ideal) f5) ((eq_ix2 y).trans ?_)
    refine congrArg₂ (ix2 (n0 := 5120) (n1 := 128)) (Fin.ext ?_) (Fin.ext ?_)
    · show (y 0).val = 8 * ((y 0).val / 8) + ((y 0).val / 4 % 2 * 128 + (y 1).val) / 128 * 4 + (y 0).val % 4
      omega
    · show (y 1).val = ((y 0).val / 4 % 2 * 128 + (y 1).val) % 128
      omega
  ds y := by
    have h0 := (y 0).isLt; have h1 := (y 1).isLt; have h2 := (y 2).isLt
    refine Eq.trans ?_ (dif_pos ⟨h1, h2⟩).symm
    refine congrArg (arg6.view.read (Elt Ideal) f6) ((eq_ix3 y).trans ?_)
    refine congrArg (fun z => ix3 (n0 := 1) (n1 := 640) (n2 := 4) z (y 1) (y 2)) (Fin.ext ?_)
    show (y 0).val = 0
    exact Nat.lt_one_iff.mp h0
  qs y e := by
    have h1 := (y 1).isLt; have h2 := (y 2).isLt
    refine Eq.trans ?_ (dif_pos ⟨h1, h2⟩).symm
    refine congrArg (arg7.view.read (Elt Ideal) f7) ((eq_ix3 y).trans ?_)
    exact congrArg (fun z => ix3 (n0 := 3) (n1 := 10) (n2 := 4) z (y 1) (y 2)) (Fin.ext e)
  ks y e := by
    have h1 := (y 1).isLt; have h2 := (y 2).isLt
    refine Eq.trans ?_ (dif_pos ⟨h1, h2⟩).symm
    refine congrArg (arg8.view.read (Elt Ideal) f8) ((eq_ix3 y).trans ?_)
    exact congrArg (fun z => ix3 (n0 := 3) (n1 := 10) (n2 := 4) z (y 1) (y 2)) (Fin.ext e)
  vs y e := by
    have h1 := (y 1).isLt; have h2 := (y 2).isLt
    refine Eq.trans ?_ (dif_pos ⟨h1, h2⟩).symm
    refine congrArg (arg9.view.read (Elt Ideal) f9) ((eq_ix3 y).trans ?_)
    exact congrArg (fun z => ix3 (n0 := 3) (n1 := 10) (n2 := 4) z (y 1) (y 2)) (Fin.ext e)
/-- The forward sweep's invariant: `n` chunks are done. -/
abbrev Inv1 (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (n : ℕ) : sProp (MT nD τ sig Unit (Elt Ideal) ℕ (UR sig nD τ) ℕ) :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ ∃ f10, ∃ f11, ∃ f12, ∃ f13, ∃ f14, ∃ f15, ∃ f16, ∃ f17, ∃ f18, ∃ f19, ∃ f20, ∃ f21, ∃ f22, ∃ f23, ∃ f24, ∃ f25, ∃ f26, ∃ f27, ∃ f28, ⌜S1 (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) n (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28)⌝ ∗ pt c arg10 f10 ∗ pt c arg11 f11 ∗ pt c (R12 arg12 harg12) f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28)

set_option maxHeartbeats 0 in
/-- One trip of the forward sweep, the contents named. -/
theorem trip1v (arg0 : BitVec 32) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (k : Fin k0_t1_loop.trips) :
    Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 k.val ⊢ wp Idealize.ShloMosaic.frame (wpE (defs₀ (F := Ideal)) Variants.none (c : Thread nD τ) none) Set.univ
      (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 rowI colI k ()) (fun _ => Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 (k.val + 1)) := by
  unfold k0_t1_body
  iintro ⟨H1, H2, H3, H4, H5, H6, H7, H8, H9, %f10, %f11, %f12, %f13, %f14, %f15, %f16, %f17, %f18, %f19, %f20, %f21, %f22, %f23, %f24, %f25, %f26, %f27, %f28, %hs, H10, H11, H12, H13, H14, H15, H16, H17, H18, H19, H20, H21, H22, H23, H24, H25, H26, H27, H28⟩
  set_option sl_exec.resultNames true in sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  let X : Ctx := Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28
  iexists (next1 X k).f10
  iexists (next1 X k).f11
  iexists (next1 X k).f12
  iexists (next1 X k).f13
  iexists (next1 X k).f14
  iexists (next1 X k).f15
  iexists (next1 X k).f16
  iexists (next1 X k).f17
  iexists (next1 X k).f18
  iexists (next1 X k).f19
  iexists (next1 X k).f20
  iexists (next1 X k).f21
  iexists (next1 X k).f22
  iexists (next1 X k).f23
  iexists (next1 X k).f24
  iexists (next1 X k).f25
  iexists (next1 X k).f26
  iexists (next1 X k).f27
  iexists (next1 X k).f28
  isplitr
  · ipureintro
    have h := step1 X (inputs_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28) k hs
    dsimp only [next1, X] at h ⊢
    exact h
  dsimp only [next1, X]
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The forward sweep's loop. -/
@[sl_loop] def loop1v (arg0 : BitVec 32) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) :
    LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 rowI colI where
  inv := fun n _ => Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 n
  step := fun k _ => trip1v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 f1 f2 f3 f4 f5 f6 f7 f8 f9 k

end Cert.Proof.KernelIdeal.Vl

end
-- ==== Proof.StepE.lean ====
module

public import proofs.«01_k».proof.Proof.StepD
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

set_option maxHeartbeats 0
open Spec
variable {D : Spec.Inp}

theorem off28 : ∀ k, k0_off28 k = ![0, 64 * (9 - k.val), 0] := by decide
theorem off29 : ∀ k, k0_off29 k = ![0, 64 * (9 - k.val), 0] := by decide
theorem off30 : ∀ k, k0_off30 k = ![0, 64 * (9 - k.val), 0] := by decide
theorem off33 : ∀ k, k0_off33 k = ![1, 64 * (9 - k.val), 0] := by decide
theorem off34 : ∀ k, k0_off34 k = ![1, 64 * (9 - k.val), 0] := by decide
theorem off35 : ∀ k, k0_off35 k = ![1, 64 * (9 - k.val), 0] := by decide
theorem off41 : ∀ k, k0_off41 k = ![2, 64 * (9 - k.val), 0] := by decide
theorem off42 : ∀ k, k0_off42 k = ![2, 64 * (9 - k.val), 0] := by decide
theorem off43 : ∀ k, k0_off43 k = ![2, 64 * (9 - k.val), 0] := by decide
theorem off45 : ∀ k, k0_off45 k = ![3, 64 * (9 - k.val), 0] := by decide
theorem off46 : ∀ k, k0_off46 k = ![3, 64 * (9 - k.val), 0] := by decide
theorem off47 : ∀ k, k0_off47 k = ![3, 64 * (9 - k.val), 0] := by decide
theorem off31 (i : grid0.Coords) (k) : k0_off31 i k = ![(i 0).val, 9 - k.val, 0] := by
  unfold k0_off31; revert k; generalize i 0 = b; revert b; decide
theorem off36 (i : grid0.Coords) (k) : k0_off36 i k = ![(i 0).val, 9 - k.val, 1] := by
  unfold k0_off36; revert k; generalize i 0 = b; revert b; decide
theorem off44 (i : grid0.Coords) (k) : k0_off44 i k = ![(i 0).val, 9 - k.val, 2] := by
  unfold k0_off44; revert k; generalize i 0 = b; revert b; decide
theorem off48 (i : grid0.Coords) (k) : k0_off48 i k = ![(i 0).val, 9 - k.val, 3] := by
  unfold k0_off48; revert k; generalize i 0 = b; revert b; decide
theorem off32_0_0 : ∀ k, k0_off32 k 0#32 0#32 = ![8 * (9 - k.val) + 0, 0] := by decide
theorem off32_0_1 : ∀ k, k0_off32 k 0#32 1#32 = ![8 * (9 - k.val) + 1, 0] := by decide
theorem off32_0_2 : ∀ k, k0_off32 k 0#32 2#32 = ![8 * (9 - k.val) + 2, 0] := by decide
theorem off32_0_3 : ∀ k, k0_off32 k 0#32 3#32 = ![8 * (9 - k.val) + 3, 0] := by decide
theorem off32_4_0 : ∀ k, k0_off32 k 4#32 0#32 = ![8 * (9 - k.val) + 4, 0] := by decide
theorem off32_4_1 : ∀ k, k0_off32 k 4#32 1#32 = ![8 * (9 - k.val) + 5, 0] := by decide
theorem off32_4_2 : ∀ k, k0_off32 k 4#32 2#32 = ![8 * (9 - k.val) + 6, 0] := by decide
theorem off32_4_3 : ∀ k, k0_off32 k 4#32 3#32 = ![8 * (9 - k.val) + 7, 0] := by decide
theorem off37 : ∀ k, k0_off37 k = ![512 * (9 - k.val) + 0, 0, 0] := by decide
theorem off49 : ∀ k, k0_off49 k = ![512 * (9 - k.val) + 1, 0, 0] := by decide
theorem off38 : ∀ k, k0_off38 k = ![512 * (9 - k.val) + 2, 0, 0] := by decide
theorem off50 : ∀ k, k0_off50 k = ![512 * (9 - k.val) + 3, 0, 0] := by decide
theorem off39 : ∀ k, k0_off39 k = ![512 * (9 - k.val) + 4, 0, 0] := by decide
theorem off51 : ∀ k, k0_off51 k = ![512 * (9 - k.val) + 5, 0, 0] := by decide
theorem off40 : ∀ k, k0_off40 k = ![512 * (9 - k.val) + 6, 0, 0] := by decide
theorem off52 : ∀ k, k0_off52 k = ![512 * (9 - k.val) + 7, 0, 0] := by decide
theorem off53 : ∀ k, k0_off53 k = ![512 * (9 - k.val), 0] := by decide
theorem off54 : ∀ k, k0_off54 k = ![64 * (9 - k.val), 0, 0] := by decide
theorem off55 : ∀ k, ∀ t : Fin 64, k0_off55 k (BitVec.ofNat 32 (8 * t.val)) = ![512 * (9 - k.val) + 8 * t.val, 0] := by decide
theorem kle : ∀ k : Fin k0_t2_loop.trips, k.val ≤ 9 := by decide
theorem nk (k : Fin k0_t2_loop.trips) : 9 - (9 - k.val) = k.val := by have := kle k; omega

/-- What the buffers hold after `n` trips of the backward sweep. -/
structure S2 (D : Spec.Inp) (n : ℕ) (x : Ctx) (acc : FVec Ideal S8x128 .f32) : Prop where
  a10 : ∀ y, x.arg10.view.read (Elt Ideal) x.f10 y = row3 (tm (dq D)) (y 0).val (y 1).val
  a15 : ∀ y, x.arg15.view.read (Elt Ideal) x.f15 y = D.q (y 0).val ((y 1).val % 4) ((y 1).val / 4 * 128 + (y 2).val)
  a16 : ∀ y, x.arg16.view.read (Elt Ideal) x.f16 y = D.k (y 0).val ((y 1).val % 4) ((y 1).val / 4 * 128 + (y 2).val)
  a17 : ∀ y, x.arg17.view.read (Elt Ideal) x.f17 y = row3 (tm (cum D)) (y 0).val (y 1).val
  a21 : ∀ y, x.arg21.view.read (Elt Ideal) x.f21 y = qg D ((y 1).val / 64) ((y 1).val % 64) (y 0).val (y 2).val
  a22 : ∀ y, x.arg22.view.read (Elt Ideal) x.f22 y = kd D ((y 1).val / 64) ((y 1).val % 64) (y 0).val (y 2).val
  a23 : ∀ y, x.arg23.view.read (Elt Ideal) x.f23 y = D.v (y 1).val (y 0).val (y 2).val
  a24 : ∀ y, x.arg24.view.read (Elt Ideal) x.f24 y = dod D ((y 1).val / 64) ((y 1).val % 64) (y 0).val (y 2).val
  a25 : ∀ y, x.arg25.view.read (Elt Ideal) x.f25 y = Am D ((y 1).val / 64) (y 0).val ((y 1).val % 64) (y 2).val
  a26 : ∀ y, x.arg26.view.read (Elt Ideal) x.f26 y = PT D ((y 1).val / 64) (y 0).val ((y 1).val % 64) (y 2).val
  a27 : ∀ y, x.arg27.view.read (Elt Ideal) x.f27 y = row3 (fun n h c => Ideal.exp (cum D n 63 h c)) (y 0).val (y 1).val
  a11 : ∀ y, 512 * (10 - n) ≤ (y 0).val → x.arg11.view.read (Elt Ideal) x.f11 y = row3 (tm (dk D)) (y 0).val (y 1).val
  a12 : ∀ y : S5120x2x128.Idx, 512 * (10 - n) ≤ (y 0).val → (R12 x.arg12 x.harg12).view.read (Elt Ideal) x.f12 y = tm (dv D) ((y 0).val / 8) (2 * ((y 0).val % 2) + (y 1).val) ((y 0).val / 2 % 4 * 128 + (y 2).val)
  a13 : ∀ y, 512 * (10 - n) ≤ (y 0).val → x.arg13.view.read (Elt Ideal) x.f13 y = row3 (dg D) (y 0).val (y 1).val
  a14 : ∀ y, x.arg14.view.read (Elt Ideal) x.f14 y = if (y 0).val < 512 * (10 - n) then row3 (tm fun n i h c => Q D n i h c * dq D n i h c) (y 0).val (y 1).val else row3 (tm (db D)) (y 0).val (y 1).val
  a28 : ∀ y : S4x512x256.Idx, x.arg28.view.read (Elt Ideal) x.f28 y = Dt D n (y 0).val (y 1).val (y 2).val
  acc : ∀ (u : Fin 8) (l : Fin 128), acc (ix2 u l) = suf D (64 * n) (u.val % 4) (u.val / 4 * 128 + l.val)

variable (x : Ctx) (H : Inputs D x) (k : Fin k0_t2_loop.trips) (acc : FVec Ideal S8x128 .f32) (s : S2 D k.val x acc)
section
include H k s
theorem l21_0 (z : Fin 1) (i : Fin 64) (c : Fin 256) :
    x.arg21.view.readAt (Elt Ideal) (Rect.unit (s := S4x640x256) (k0_off29 k) S1x64x256.size (k0_off29_inb k)).toLoadRect x.f21 (ix3 z i c) = qg D (9 - k.val) i.val 0 c.val := by
  refine (s.a21 _).trans ?_
  show qg D ((k0_off29 k 1 + 1 * i.val) / 64) ((k0_off29 k 1 + 1 * i.val) % 64) (k0_off29 k 0 + 1 * z.val) (k0_off29 k 2 + 1 * c.val) = _
  rw [off29]
  show qg D ((64 * (9 - k.val) + 1 * i.val) / 64) ((64 * (9 - k.val) + 1 * i.val) % 64) (0 + 1 * z.val) (0 + 1 * c.val) = _
  congr 1 <;> omega
theorem l21_1 (z : Fin 1) (i : Fin 64) (c : Fin 256) :
    x.arg21.view.readAt (Elt Ideal) (Rect.unit (s := S4x640x256) (k0_off34 k) S1x64x256.size (k0_off34_inb k)).toLoadRect x.f21 (ix3 z i c) = qg D (9 - k.val) i.val 1 c.val := by
  refine (s.a21 _).trans ?_
  show qg D ((k0_off34 k 1 + 1 * i.val) / 64) ((k0_off34 k 1 + 1 * i.val) % 64) (k0_off34 k 0 + 1 * z.val) (k0_off34 k 2 + 1 * c.val) = _
  rw [off34]
  show qg D ((64 * (9 - k.val) + 1 * i.val) / 64) ((64 * (9 - k.val) + 1 * i.val) % 64) (1 + 1 * z.val) (0 + 1 * c.val) = _
  congr 1 <;> omega
theorem l21_2 (z : Fin 1) (i : Fin 64) (c : Fin 256) :
    x.arg21.view.readAt (Elt Ideal) (Rect.unit (s := S4x640x256) (k0_off42 k) S1x64x256.size (k0_off42_inb k)).toLoadRect x.f21 (ix3 z i c) = qg D (9 - k.val) i.val 2 c.val := by
  refine (s.a21 _).trans ?_
  show qg D ((k0_off42 k 1 + 1 * i.val) / 64) ((k0_off42 k 1 + 1 * i.val) % 64) (k0_off42 k 0 + 1 * z.val) (k0_off42 k 2 + 1 * c.val) = _
  rw [off42]
  show qg D ((64 * (9 - k.val) + 1 * i.val) / 64) ((64 * (9 - k.val) + 1 * i.val) % 64) (2 + 1 * z.val) (0 + 1 * c.val) = _
  congr 1 <;> omega
theorem l21_3 (z : Fin 1) (i : Fin 64) (c : Fin 256) :
    x.arg21.view.readAt (Elt Ideal) (Rect.unit (s := S4x640x256) (k0_off46 k) S1x64x256.size (k0_off46_inb k)).toLoadRect x.f21 (ix3 z i c) = qg D (9 - k.val) i.val 3 c.val := by
  refine (s.a21 _).trans ?_
  show qg D ((k0_off46 k 1 + 1 * i.val) / 64) ((k0_off46 k 1 + 1 * i.val) % 64) (k0_off46 k 0 + 1 * z.val) (k0_off46 k 2 + 1 * c.val) = _
  rw [off46]
  show qg D ((64 * (9 - k.val) + 1 * i.val) / 64) ((64 * (9 - k.val) + 1 * i.val) % 64) (3 + 1 * z.val) (0 + 1 * c.val) = _
  congr 1 <;> omega
theorem l22_0 (z : Fin 1) (i : Fin 64) (c : Fin 256) :
    x.arg22.view.readAt (Elt Ideal) (Rect.unit (s := S4x640x256) (k0_off29 k) S1x64x256.size (k0_off29_inb k)).toLoadRect x.f22 (ix3 z i c) = kd D (9 - k.val) i.val 0 c.val := by
  refine (s.a22 _).trans ?_
  show kd D ((k0_off29 k 1 + 1 * i.val) / 64) ((k0_off29 k 1 + 1 * i.val) % 64) (k0_off29 k 0 + 1 * z.val) (k0_off29 k 2 + 1 * c.val) = _
  rw [off29]
  show kd D ((64 * (9 - k.val) + 1 * i.val) / 64) ((64 * (9 - k.val) + 1 * i.val) % 64) (0 + 1 * z.val) (0 + 1 * c.val) = _
  congr 1 <;> omega
theorem l22_1 (z : Fin 1) (i : Fin 64) (c : Fin 256) :
    x.arg22.view.readAt (Elt Ideal) (Rect.unit (s := S4x640x256) (k0_off34 k) S1x64x256.size (k0_off34_inb k)).toLoadRect x.f22 (ix3 z i c) = kd D (9 - k.val) i.val 1 c.val := by
  refine (s.a22 _).trans ?_
  show kd D ((k0_off34 k 1 + 1 * i.val) / 64) ((k0_off34 k 1 + 1 * i.val) % 64) (k0_off34 k 0 + 1 * z.val) (k0_off34 k 2 + 1 * c.val) = _
  rw [off34]
  show kd D ((64 * (9 - k.val) + 1 * i.val) / 64) ((64 * (9 - k.val) + 1 * i.val) % 64) (1 + 1 * z.val) (0 + 1 * c.val) = _
  congr 1 <;> omega
theorem l22_2 (z : Fin 1) (i : Fin 64) (c : Fin 256) :
    x.arg22.view.readAt (Elt Ideal) (Rect.unit (s := S4x640x256) (k0_off42 k) S1x64x256.size (k0_off42_inb k)).toLoadRect x.f22 (ix3 z i c) = kd D (9 - k.val) i.val 2 c.val := by
  refine (s.a22 _).trans ?_
  show kd D ((k0_off42 k 1 + 1 * i.val) / 64) ((k0_off42 k 1 + 1 * i.val) % 64) (k0_off42 k 0 + 1 * z.val) (k0_off42 k 2 + 1 * c.val) = _
  rw [off42]
  show kd D ((64 * (9 - k.val) + 1 * i.val) / 64) ((64 * (9 - k.val) + 1 * i.val) % 64) (2 + 1 * z.val) (0 + 1 * c.val) = _
  congr 1 <;> omega
theorem l22_3 (z : Fin 1) (i : Fin 64) (c : Fin 256) :
    x.arg22.view.readAt (Elt Ideal) (Rect.unit (s := S4x640x256) (k0_off46 k) S1x64x256.size (k0_off46_inb k)).toLoadRect x.f22 (ix3 z i c) = kd D (9 - k.val) i.val 3 c.val := by
  refine (s.a22 _).trans ?_
  show kd D ((k0_off46 k 1 + 1 * i.val) / 64) ((k0_off46 k 1 + 1 * i.val) % 64) (k0_off46 k 0 + 1 * z.val) (k0_off46 k 2 + 1 * c.val) = _
  rw [off46]
  show kd D ((64 * (9 - k.val) + 1 * i.val) / 64) ((64 * (9 - k.val) + 1 * i.val) % 64) (3 + 1 * z.val) (0 + 1 * c.val) = _
  congr 1 <;> omega
theorem l23_0 (z : Fin 1) (i : Fin 64) (c : Fin 512) :
    x.arg23.view.readAt (Elt Ideal) (Rect.unit (s := S4x640x512) (k0_off28 k) S1x64x512.size (k0_off28_inb k)).toLoadRect x.f23 (ix3 z i c) = D.v (64 * (9 - k.val) + i.val) 0 c.val := by
  refine (s.a23 _).trans ?_
  show D.v (k0_off28 k 1 + 1 * i.val) (k0_off28 k 0 + 1 * z.val) (k0_off28 k 2 + 1 * c.val) = _
  rw [off28]
  show D.v (64 * (9 - k.val) + 1 * i.val) (0 + 1 * z.val) (0 + 1 * c.val) = _
  congr 1 <;> omega
theorem l23_1 (z : Fin 1) (i : Fin 64) (c : Fin 512) :
    x.arg23.view.readAt (Elt Ideal) (Rect.unit (s := S4x640x512) (k0_off33 k) S1x64x512.size (k0_off33_inb k)).toLoadRect x.f23 (ix3 z i c) = D.v (64 * (9 - k.val) + i.val) 1 c.val := by
  refine (s.a23 _).trans ?_
  show D.v (k0_off33 k 1 + 1 * i.val) (k0_off33 k 0 + 1 * z.val) (k0_off33 k 2 + 1 * c.val) = _
  rw [off33]
  show D.v (64 * (9 - k.val) + 1 * i.val) (1 + 1 * z.val) (0 + 1 * c.val) = _
  congr 1 <;> omega
theorem l23_2 (z : Fin 1) (i : Fin 64) (c : Fin 512) :
    x.arg23.view.readAt (Elt Ideal) (Rect.unit (s := S4x640x512) (k0_off41 k) S1x64x512.size (k0_off41_inb k)).toLoadRect x.f23 (ix3 z i c) = D.v (64 * (9 - k.val) + i.val) 2 c.val := by
  refine (s.a23 _).trans ?_
  show D.v (k0_off41 k 1 + 1 * i.val) (k0_off41 k 0 + 1 * z.val) (k0_off41 k 2 + 1 * c.val) = _
  rw [off41]
  show D.v (64 * (9 - k.val) + 1 * i.val) (2 + 1 * z.val) (0 + 1 * c.val) = _
  congr 1 <;> omega
theorem l23_3 (z : Fin 1) (i : Fin 64) (c : Fin 512) :
    x.arg23.view.readAt (Elt Ideal) (Rect.unit (s := S4x640x512) (k0_off45 k) S1x64x512.size (k0_off45_inb k)).toLoadRect x.f23 (ix3 z i c) = D.v (64 * (9 - k.val) + i.val) 3 c.val := by
  refine (s.a23 _).trans ?_
  show D.v (k0_off45 k 1 + 1 * i.val) (k0_off45 k 0 + 1 * z.val) (k0_off45 k 2 + 1 * c.val) = _
  rw [off45]
  show D.v (64 * (9 - k.val) + 1 * i.val) (3 + 1 * z.val) (0 + 1 * c.val) = _
  congr 1 <;> omega
theorem l24_0 (z : Fin 1) (i : Fin 64) (c : Fin 512) :
    x.arg24.view.readAt (Elt Ideal) (Rect.unit (s := S4x640x512) (k0_off28 k) S1x64x512.size (k0_off28_inb k)).toLoadRect x.f24 (ix3 z i c) = dod D (9 - k.val) i.val 0 c.val := by
  refine (s.a24 _).trans ?_
  show dod D ((k0_off28 k 1 + 1 * i.val) / 64) ((k0_off28 k 1 + 1 * i.val) % 64) (k0_off28 k 0 + 1 * z.val) (k0_off28 k 2 + 1 * c.val) = _
  rw [off28]
  show dod D ((64 * (9 - k.val) + 1 * i.val) / 64) ((64 * (9 - k.val) + 1 * i.val) % 64) (0 + 1 * z.val) (0 + 1 * c.val) = _
  congr 1 <;> omega
theorem l24_1 (z : Fin 1) (i : Fin 64) (c : Fin 512) :
    x.arg24.view.readAt (Elt Ideal) (Rect.unit (s := S4x640x512) (k0_off33 k) S1x64x512.size (k0_off33_inb k)).toLoadRect x.f24 (ix3 z i c) = dod D (9 - k.val) i.val 1 c.val := by
  refine (s.a24 _).trans ?_
  show dod D ((k0_off33 k 1 + 1 * i.val) / 64) ((k0_off33 k 1 + 1 * i.val) % 64) (k0_off33 k 0 + 1 * z.val) (k0_off33 k 2 + 1 * c.val) = _
  rw [off33]
  show dod D ((64 * (9 - k.val) + 1 * i.val) / 64) ((64 * (9 - k.val) + 1 * i.val) % 64) (1 + 1 * z.val) (0 + 1 * c.val) = _
  congr 1 <;> omega
theorem l24_2 (z : Fin 1) (i : Fin 64) (c : Fin 512) :
    x.arg24.view.readAt (Elt Ideal) (Rect.unit (s := S4x640x512) (k0_off41 k) S1x64x512.size (k0_off41_inb k)).toLoadRect x.f24 (ix3 z i c) = dod D (9 - k.val) i.val 2 c.val := by
  refine (s.a24 _).trans ?_
  show dod D ((k0_off41 k 1 + 1 * i.val) / 64) ((k0_off41 k 1 + 1 * i.val) % 64) (k0_off41 k 0 + 1 * z.val) (k0_off41 k 2 + 1 * c.val) = _
  rw [off41]
  show dod D ((64 * (9 - k.val) + 1 * i.val) / 64) ((64 * (9 - k.val) + 1 * i.val) % 64) (2 + 1 * z.val) (0 + 1 * c.val) = _
  congr 1 <;> omega
theorem l24_3 (z : Fin 1) (i : Fin 64) (c : Fin 512) :
    x.arg24.view.readAt (Elt Ideal) (Rect.unit (s := S4x640x512) (k0_off45 k) S1x64x512.size (k0_off45_inb k)).toLoadRect x.f24 (ix3 z i c) = dod D (9 - k.val) i.val 3 c.val := by
  refine (s.a24 _).trans ?_
  show dod D ((k0_off45 k 1 + 1 * i.val) / 64) ((k0_off45 k 1 + 1 * i.val) % 64) (k0_off45 k 0 + 1 * z.val) (k0_off45 k 2 + 1 * c.val) = _
  rw [off45]
  show dod D ((64 * (9 - k.val) + 1 * i.val) / 64) ((64 * (9 - k.val) + 1 * i.val) % 64) (3 + 1 * z.val) (0 + 1 * c.val) = _
  congr 1 <;> omega
theorem l25_0 (z : Fin 1) (i : Fin 64) (c : Fin 64) :
    x.arg25.view.readAt (Elt Ideal) (Rect.unit (s := S4x640x64) (k0_off30 k) S1x64x64.size (k0_off30_inb k)).toLoadRect x.f25 (ix3 z i c) = Am D (9 - k.val) 0 i.val c.val := by
  refine (s.a25 _).trans ?_
  show Am D ((k0_off30 k 1 + 1 * i.val) / 64) (k0_off30 k 0 + 1 * z.val) ((k0_off30 k 1 + 1 * i.val) % 64) (k0_off30 k 2 + 1 * c.val) = _
  rw [off30]
  show Am D ((64 * (9 - k.val) + 1 * i.val) / 64) (0 + 1 * z.val) ((64 * (9 - k.val) + 1 * i.val) % 64) (0 + 1 * c.val) = _
  congr 1 <;> omega
theorem l25_1 (z : Fin 1) (i : Fin 64) (c : Fin 64) :
    x.arg25.view.readAt (Elt Ideal) (Rect.unit (s := S4x640x64) (k0_off35 k) S1x64x64.size (k0_off35_inb k)).toLoadRect x.f25 (ix3 z i c) = Am D (9 - k.val) 1 i.val c.val := by
  refine (s.a25 _).trans ?_
  show Am D ((k0_off35 k 1 + 1 * i.val) / 64) (k0_off35 k 0 + 1 * z.val) ((k0_off35 k 1 + 1 * i.val) % 64) (k0_off35 k 2 + 1 * c.val) = _
  rw [off35]
  show Am D ((64 * (9 - k.val) + 1 * i.val) / 64) (1 + 1 * z.val) ((64 * (9 - k.val) + 1 * i.val) % 64) (0 + 1 * c.val) = _
  congr 1 <;> omega
theorem l25_2 (z : Fin 1) (i : Fin 64) (c : Fin 64) :
    x.arg25.view.readAt (Elt Ideal) (Rect.unit (s := S4x640x64) (k0_off43 k) S1x64x64.size (k0_off43_inb k)).toLoadRect x.f25 (ix3 z i c) = Am D (9 - k.val) 2 i.val c.val := by
  refine (s.a25 _).trans ?_
  show Am D ((k0_off43 k 1 + 1 * i.val) / 64) (k0_off43 k 0 + 1 * z.val) ((k0_off43 k 1 + 1 * i.val) % 64) (k0_off43 k 2 + 1 * c.val) = _
  rw [off43]
  show Am D ((64 * (9 - k.val) + 1 * i.val) / 64) (2 + 1 * z.val) ((64 * (9 - k.val) + 1 * i.val) % 64) (0 + 1 * c.val) = _
  congr 1 <;> omega
theorem l25_3 (z : Fin 1) (i : Fin 64) (c : Fin 64) :
    x.arg25.view.readAt (Elt Ideal) (Rect.unit (s := S4x640x64) (k0_off47 k) S1x64x64.size (k0_off47_inb k)).toLoadRect x.f25 (ix3 z i c) = Am D (9 - k.val) 3 i.val c.val := by
  refine (s.a25 _).trans ?_
  show Am D ((k0_off47 k 1 + 1 * i.val) / 64) (k0_off47 k 0 + 1 * z.val) ((k0_off47 k 1 + 1 * i.val) % 64) (k0_off47 k 2 + 1 * c.val) = _
  rw [off47]
  show Am D ((64 * (9 - k.val) + 1 * i.val) / 64) (3 + 1 * z.val) ((64 * (9 - k.val) + 1 * i.val) % 64) (0 + 1 * c.val) = _
  congr 1 <;> omega
theorem l26_0 (z : Fin 1) (i : Fin 64) (c : Fin 64) :
    x.arg26.view.readAt (Elt Ideal) (Rect.unit (s := S4x640x64) (k0_off30 k) S1x64x64.size (k0_off30_inb k)).toLoadRect x.f26 (ix3 z i c) = PT D (9 - k.val) 0 i.val c.val := by
  refine (s.a26 _).trans ?_
  show PT D ((k0_off30 k 1 + 1 * i.val) / 64) (k0_off30 k 0 + 1 * z.val) ((k0_off30 k 1 + 1 * i.val) % 64) (k0_off30 k 2 + 1 * c.val) = _
  rw [off30]
  show PT D ((64 * (9 - k.val) + 1 * i.val) / 64) (0 + 1 * z.val) ((64 * (9 - k.val) + 1 * i.val) % 64) (0 + 1 * c.val) = _
  congr 1 <;> omega
theorem l26_1 (z : Fin 1) (i : Fin 64) (c : Fin 64) :
    x.arg26.view.readAt (Elt Ideal) (Rect.unit (s := S4x640x64) (k0_off35 k) S1x64x64.size (k0_off35_inb k)).toLoadRect x.f26 (ix3 z i c) = PT D (9 - k.val) 1 i.val c.val := by
  refine (s.a26 _).trans ?_
  show PT D ((k0_off35 k 1 + 1 * i.val) / 64) (k0_off35 k 0 + 1 * z.val) ((k0_off35 k 1 + 1 * i.val) % 64) (k0_off35 k 2 + 1 * c.val) = _
  rw [off35]
  show PT D ((64 * (9 - k.val) + 1 * i.val) / 64) (1 + 1 * z.val) ((64 * (9 - k.val) + 1 * i.val) % 64) (0 + 1 * c.val) = _
  congr 1 <;> omega
theorem l26_2 (z : Fin 1) (i : Fin 64) (c : Fin 64) :
    x.arg26.view.readAt (Elt Ideal) (Rect.unit (s := S4x640x64) (k0_off43 k) S1x64x64.size (k0_off43_inb k)).toLoadRect x.f26 (ix3 z i c) = PT D (9 - k.val) 2 i.val c.val := by
  refine (s.a26 _).trans ?_
  show PT D ((k0_off43 k 1 + 1 * i.val) / 64) (k0_off43 k 0 + 1 * z.val) ((k0_off43 k 1 + 1 * i.val) % 64) (k0_off43 k 2 + 1 * c.val) = _
  rw [off43]
  show PT D ((64 * (9 - k.val) + 1 * i.val) / 64) (2 + 1 * z.val) ((64 * (9 - k.val) + 1 * i.val) % 64) (0 + 1 * c.val) = _
  congr 1 <;> omega
theorem l26_3 (z : Fin 1) (i : Fin 64) (c : Fin 64) :
    x.arg26.view.readAt (Elt Ideal) (Rect.unit (s := S4x640x64) (k0_off47 k) S1x64x64.size (k0_off47_inb k)).toLoadRect x.f26 (ix3 z i c) = PT D (9 - k.val) 3 i.val c.val := by
  refine (s.a26 _).trans ?_
  show PT D ((k0_off47 k 1 + 1 * i.val) / 64) (k0_off47 k 0 + 1 * z.val) ((k0_off47 k 1 + 1 * i.val) % 64) (k0_off47 k 2 + 1 * c.val) = _
  rw [off47]
  show PT D ((64 * (9 - k.val) + 1 * i.val) / 64) (3 + 1 * z.val) ((64 * (9 - k.val) + 1 * i.val) % 64) (0 + 1 * c.val) = _
  congr 1 <;> omega
theorem l28_0 (z : Fin 1) (v : Fin 512) (c : Fin 256) :
    x.arg28.view.readAt (Elt Ideal) (Rect.unit (s := S4x512x256) ![0, 0, 0] S1x512x256.size inb_S4x512x256_S1x512x256_0_0_0).toLoadRect x.f28 (ix3 z v c) = Dt D k.val 0 v.val c.val := by
  refine (s.a28 _).trans ?_
  show Dt D k.val (0 + 1 * z.val) (0 + 1 * v.val) (0 + 1 * c.val) = _
  congr 1 <;> omega
theorem l27_0_0 (z : Fin 1) (l : Fin 128) :
    x.arg27.view.readAt (Elt Ideal) (Rect.unit (s := S80x128) (k0_off32 k 0#32 0#32) S1x128.size (k0_off32_inb k 0 0)).toLoadRect x.f27 (ix2 z l) = Ideal.exp (cum D (9 - k.val) 63 0 (0 + l.val)) := by
  refine (s.a27 _).trans ?_
  show row3 _ (k0_off32 k 0#32 0#32 0 + 1 * z.val) (k0_off32 k 0#32 0#32 1 + 1 * l.val) = _
  rw [off32_0_0]
  show row3 _ (8 * (9 - k.val) + 0 + 1 * z.val) (0 + 1 * l.val) = _
  unfold row3
  dsimp only
  congr 2 <;> omega
theorem l27_4_0 (z : Fin 1) (l : Fin 128) :
    x.arg27.view.readAt (Elt Ideal) (Rect.unit (s := S80x128) (k0_off32 k 4#32 0#32) S1x128.size (k0_off32_inb k 1 0)).toLoadRect x.f27 (ix2 z l) = Ideal.exp (cum D (9 - k.val) 63 0 (128 + l.val)) := by
  refine (s.a27 _).trans ?_
  show row3 _ (k0_off32 k 4#32 0#32 0 + 1 * z.val) (k0_off32 k 4#32 0#32 1 + 1 * l.val) = _
  rw [off32_4_0]
  show row3 _ (8 * (9 - k.val) + 4 + 1 * z.val) (0 + 1 * l.val) = _
  unfold row3
  dsimp only
  congr 2 <;> omega
theorem l28_1 (z : Fin 1) (v : Fin 512) (c : Fin 256) :
    x.arg28.view.readAt (Elt Ideal) (Rect.unit (s := S4x512x256) ![1, 0, 0] S1x512x256.size inb_S4x512x256_S1x512x256_1_0_0).toLoadRect x.f28 (ix3 z v c) = Dt D k.val 1 v.val c.val := by
  refine (s.a28 _).trans ?_
  show Dt D k.val (1 + 1 * z.val) (0 + 1 * v.val) (0 + 1 * c.val) = _
  congr 1 <;> omega
theorem l27_0_1 (z : Fin 1) (l : Fin 128) :
    x.arg27.view.readAt (Elt Ideal) (Rect.unit (s := S80x128) (k0_off32 k 0#32 1#32) S1x128.size (k0_off32_inb k 0 1)).toLoadRect x.f27 (ix2 z l) = Ideal.exp (cum D (9 - k.val) 63 1 (0 + l.val)) := by
  refine (s.a27 _).trans ?_
  show row3 _ (k0_off32 k 0#32 1#32 0 + 1 * z.val) (k0_off32 k 0#32 1#32 1 + 1 * l.val) = _
  rw [off32_0_1]
  show row3 _ (8 * (9 - k.val) + 1 + 1 * z.val) (0 + 1 * l.val) = _
  unfold row3
  dsimp only
  congr 2 <;> omega
theorem l27_4_1 (z : Fin 1) (l : Fin 128) :
    x.arg27.view.readAt (Elt Ideal) (Rect.unit (s := S80x128) (k0_off32 k 4#32 1#32) S1x128.size (k0_off32_inb k 1 1)).toLoadRect x.f27 (ix2 z l) = Ideal.exp (cum D (9 - k.val) 63 1 (128 + l.val)) := by
  refine (s.a27 _).trans ?_
  show row3 _ (k0_off32 k 4#32 1#32 0 + 1 * z.val) (k0_off32 k 4#32 1#32 1 + 1 * l.val) = _
  rw [off32_4_1]
  show row3 _ (8 * (9 - k.val) + 5 + 1 * z.val) (0 + 1 * l.val) = _
  unfold row3
  dsimp only
  congr 2 <;> omega
theorem l28_2 (z : Fin 1) (v : Fin 512) (c : Fin 256) :
    x.arg28.view.readAt (Elt Ideal) (Rect.unit (s := S4x512x256) ![2, 0, 0] S1x512x256.size inb_S4x512x256_S1x512x256_2_0_0).toLoadRect x.f28 (ix3 z v c) = Dt D k.val 2 v.val c.val := by
  refine (s.a28 _).trans ?_
  show Dt D k.val (2 + 1 * z.val) (0 + 1 * v.val) (0 + 1 * c.val) = _
  congr 1 <;> omega
theorem l27_0_2 (z : Fin 1) (l : Fin 128) :
    x.arg27.view.readAt (Elt Ideal) (Rect.unit (s := S80x128) (k0_off32 k 0#32 2#32) S1x128.size (k0_off32_inb k 0 2)).toLoadRect x.f27 (ix2 z l) = Ideal.exp (cum D (9 - k.val) 63 2 (0 + l.val)) := by
  refine (s.a27 _).trans ?_
  show row3 _ (k0_off32 k 0#32 2#32 0 + 1 * z.val) (k0_off32 k 0#32 2#32 1 + 1 * l.val) = _
  rw [off32_0_2]
  show row3 _ (8 * (9 - k.val) + 2 + 1 * z.val) (0 + 1 * l.val) = _
  unfold row3
  dsimp only
  congr 2 <;> omega
theorem l27_4_2 (z : Fin 1) (l : Fin 128) :
    x.arg27.view.readAt (Elt Ideal) (Rect.unit (s := S80x128) (k0_off32 k 4#32 2#32) S1x128.size (k0_off32_inb k 1 2)).toLoadRect x.f27 (ix2 z l) = Ideal.exp (cum D (9 - k.val) 63 2 (128 + l.val)) := by
  refine (s.a27 _).trans ?_
  show row3 _ (k0_off32 k 4#32 2#32 0 + 1 * z.val) (k0_off32 k 4#32 2#32 1 + 1 * l.val) = _
  rw [off32_4_2]
  show row3 _ (8 * (9 - k.val) + 6 + 1 * z.val) (0 + 1 * l.val) = _
  unfold row3
  dsimp only
  congr 2 <;> omega
theorem l28_3 (z : Fin 1) (v : Fin 512) (c : Fin 256) :
    x.arg28.view.readAt (Elt Ideal) (Rect.unit (s := S4x512x256) ![3, 0, 0] S1x512x256.size inb_S4x512x256_S1x512x256_3_0_0).toLoadRect x.f28 (ix3 z v c) = Dt D k.val 3 v.val c.val := by
  refine (s.a28 _).trans ?_
  show Dt D k.val (3 + 1 * z.val) (0 + 1 * v.val) (0 + 1 * c.val) = _
  congr 1 <;> omega
theorem l27_0_3 (z : Fin 1) (l : Fin 128) :
    x.arg27.view.readAt (Elt Ideal) (Rect.unit (s := S80x128) (k0_off32 k 0#32 3#32) S1x128.size (k0_off32_inb k 0 3)).toLoadRect x.f27 (ix2 z l) = Ideal.exp (cum D (9 - k.val) 63 3 (0 + l.val)) := by
  refine (s.a27 _).trans ?_
  show row3 _ (k0_off32 k 0#32 3#32 0 + 1 * z.val) (k0_off32 k 0#32 3#32 1 + 1 * l.val) = _
  rw [off32_0_3]
  show row3 _ (8 * (9 - k.val) + 3 + 1 * z.val) (0 + 1 * l.val) = _
  unfold row3
  dsimp only
  congr 2 <;> omega
theorem l27_4_3 (z : Fin 1) (l : Fin 128) :
    x.arg27.view.readAt (Elt Ideal) (Rect.unit (s := S80x128) (k0_off32 k 4#32 3#32) S1x128.size (k0_off32_inb k 1 3)).toLoadRect x.f27 (ix2 z l) = Ideal.exp (cum D (9 - k.val) 63 3 (128 + l.val)) := by
  refine (s.a27 _).trans ?_
  show row3 _ (k0_off32 k 4#32 3#32 0 + 1 * z.val) (k0_off32 k 4#32 3#32 1 + 1 * l.val) = _
  rw [off32_4_3]
  show row3 _ (8 * (9 - k.val) + 7 + 1 * z.val) (0 + 1 * l.val) = _
  unfold row3
  dsimp only
  congr 2 <;> omega
theorem l16 (t : Fin 64) (u : Fin 8) (l : Fin 128) :
    x.arg16.view.readAt (Elt Ideal) (Rect.unit (s := S640x8x128) (k0_off54 k) S64x8x128.size (k0_off54_inb k)).toLoadRect x.f16 (ix3 t u l) = D.k (64 * (9 - k.val) + t.val) (u.val % 4) (u.val / 4 * 128 + l.val) := by
  refine (s.a16 _).trans ?_
  show D.k (k0_off54 k 0 + 1 * t.val) ((k0_off54 k 1 + 1 * u.val) % 4) ((k0_off54 k 1 + 1 * u.val) / 4 * 128 + (k0_off54 k 2 + 1 * l.val)) = _
  rw [off54]
  show D.k (64 * (9 - k.val) + 1 * t.val) ((0 + 1 * u.val) % 4) ((0 + 1 * u.val) / 4 * 128 + (0 + 1 * l.val)) = _
  simp only [Nat.one_mul, Nat.zero_add]
theorem l17 (r : Fin 512) (l : Fin 128) :
    x.arg17.view.readAt (Elt Ideal) (Rect.unit (s := S5120x128) (k0_off53 k) S512x128.size (k0_off53_inb k)).toLoadRect x.f17 (ix2 r l) = row3 (cum D (9 - k.val)) r.val l.val := by
  refine (s.a17 _).trans ?_
  show row3 _ (k0_off53 k 0 + 1 * r.val) (k0_off53 k 1 + 1 * l.val) = _
  rw [off53]
  show row3 _ (512 * (9 - k.val) + 1 * r.val) (0 + 1 * l.val) = _
  rw [Nat.one_mul, Nat.one_mul, Nat.zero_add, row3_tm _ _ _ _ r.isLt]
theorem l14 (r : Fin 512) (l : Fin 128) :
    x.arg14.view.readAt (Elt Ideal) (Rect.unit (s := S5120x128) (k0_off53 k) S512x128.size (k0_off53_inb k)).toLoadRect x.f14 (ix2 r l) = row3 (fun i h c => Q D (9 - k.val) i h c * dq D (9 - k.val) i h c) r.val l.val := by
  refine (s.a14 _).trans ?_
  show (if k0_off53 k 0 + 1 * r.val < 512 * (10 - k.val) then row3 (tm fun n i h c => Q D n i h c * dq D n i h c) (k0_off53 k 0 + 1 * r.val) (k0_off53 k 1 + 1 * l.val) else row3 (tm (db D)) (k0_off53 k 0 + 1 * r.val) (k0_off53 k 1 + 1 * l.val)) = _
  rw [off53]
  show (if 512 * (9 - k.val) + 1 * r.val < 512 * (10 - k.val) then row3 (tm fun n i h c => Q D n i h c * dq D n i h c) (512 * (9 - k.val) + 1 * r.val) (0 + 1 * l.val) else row3 (tm (db D)) (512 * (9 - k.val) + 1 * r.val) (0 + 1 * l.val)) = _
  have := kle k
  rw [if_pos (by omega), Nat.one_mul, Nat.one_mul, Nat.zero_add, row3_tm _ _ _ _ r.isLt]
theorem t43 : (trip2.sl.v43 (F := Ideal) x.c x.i x.arg9 x.f9 k) = D.vs (9 - k.val) 0 := by
  unfold trip2.sl.v43
  refine (H.vs _ ?_).trans ?_
  · show k0_off31 x.i k 0 + 1 * 0 = _
    rw [off31]; rfl
  · show D.vs (k0_off31 x.i k 1 + 1 * 0) (k0_off31 x.i k 2 + 1 * 0) = _
    rw [off31]; rfl
theorem t108 : (trip2.sl.v108 (F := Ideal) x.c x.i x.arg9 x.f9 k) = D.vs (9 - k.val) 1 := by
  unfold trip2.sl.v108
  refine (H.vs _ ?_).trans ?_
  · show k0_off36 x.i k 0 + 1 * 0 = _
    rw [off36]; rfl
  · show D.vs (k0_off36 x.i k 1 + 1 * 0) (k0_off36 x.i k 2 + 1 * 0) = _
    rw [off36]; rfl
theorem t192 : (trip2.sl.v192 (F := Ideal) x.c x.i x.arg9 x.f9 k) = D.vs (9 - k.val) 2 := by
  unfold trip2.sl.v192
  refine (H.vs _ ?_).trans ?_
  · show k0_off44 x.i k 0 + 1 * 0 = _
    rw [off44]; rfl
  · show D.vs (k0_off44 x.i k 1 + 1 * 0) (k0_off44 x.i k 2 + 1 * 0) = _
    rw [off44]; rfl
theorem t257 : (trip2.sl.v257 (F := Ideal) x.c x.i x.arg9 x.f9 k) = D.vs (9 - k.val) 3 := by
  unfold trip2.sl.v257
  refine (H.vs _ ?_).trans ?_
  · show k0_off48 x.i k 0 + 1 * 0 = _
    rw [off48]; rfl
  · show D.vs (k0_off48 x.i k 1 + 1 * 0) (k0_off48 x.i k 2 + 1 * 0) = _
    rw [off48]; rfl
theorem t332 : (trip2.sl.v332 (F := Ideal) x.c x.i x.arg8 x.f8 k) = D.ks (9 - k.val) 0 := by
  unfold trip2.sl.v332
  refine (H.ks _ ?_).trans ?_
  · show k0_off31 x.i k 0 + 1 * 0 = _
    rw [off31]; rfl
  · show D.ks (k0_off31 x.i k 1 + 1 * 0) (k0_off31 x.i k 2 + 1 * 0) = _
    rw [off31]; rfl
theorem t338 : (trip2.sl.v338 (F := Ideal) x.c x.i x.arg8 x.f8 k) = D.ks (9 - k.val) 1 := by
  unfold trip2.sl.v338
  refine (H.ks _ ?_).trans ?_
  · show k0_off36 x.i k 0 + 1 * 0 = _
    rw [off36]; rfl
  · show D.ks (k0_off36 x.i k 1 + 1 * 0) (k0_off36 x.i k 2 + 1 * 0) = _
    rw [off36]; rfl
theorem t345 : (trip2.sl.v345 (F := Ideal) x.c x.i x.arg8 x.f8 k) = D.ks (9 - k.val) 2 := by
  unfold trip2.sl.v345
  refine (H.ks _ ?_).trans ?_
  · show k0_off44 x.i k 0 + 1 * 0 = _
    rw [off44]; rfl
  · show D.ks (k0_off44 x.i k 1 + 1 * 0) (k0_off44 x.i k 2 + 1 * 0) = _
    rw [off44]; rfl
theorem t352 : (trip2.sl.v352 (F := Ideal) x.c x.i x.arg8 x.f8 k) = D.ks (9 - k.val) 3 := by
  unfold trip2.sl.v352
  refine (H.ks _ ?_).trans ?_
  · show k0_off48 x.i k 0 + 1 * 0 = _
    rw [off48]; rfl
  · show D.ks (k0_off48 x.i k 1 + 1 * 0) (k0_off48 x.i k 2 + 1 * 0) = _
    rw [off48]; rfl
theorem t84 (z : Fin 1) (v : Fin 512) (c : Fin 256) : (trip2.sl.v84 (F := Ideal) x.c x.arg28 x.f28) (ix3 z v c) = Dt D k.val 1 v.val c.val := by
  unfold trip2.sl.v84
  exact l28_1 x H k acc s z v c
theorem t168 (z : Fin 1) (v : Fin 512) (c : Fin 256) : (trip2.sl.v168 (F := Ideal) x.c x.arg28 x.f28) (ix3 z v c) = Dt D k.val 2 v.val c.val := by
  unfold trip2.sl.v168
  exact l28_2 x H k acc s z v c
theorem t233 (z : Fin 1) (v : Fin 512) (c : Fin 256) : (trip2.sl.v233 (F := Ideal) x.c x.arg28 x.f28) (ix3 z v c) = Dt D k.val 3 v.val c.val := by
  unfold trip2.sl.v233
  exact l28_3 x H k acc s z v c
theorem t20 (v : Fin 512) (c : Fin 256) :
    (trip2.sl.v20 (F := Ideal) x.c x.arg28 x.f28) (ix2 v c) = Dt D k.val 0 v.val c.val := by
  unfold trip2.sl.v20
  unfold_payloads
  pointwise
  simp only [l28_0 x H k acc s]
theorem t21 (v : Fin 512) (c : Fin 256) :
    (trip2.sl.v21 (F := Ideal) x.c x.arg28 x.f28) (ix2 v c) = Dt D k.val 0 v.val c.val := by
  unfold trip2.sl.v21
  unfold_payloads
  pointwise
  simp only [l28_0 x H k acc s]
theorem t85 (v : Fin 512) (c : Fin 256) :
    (trip2.sl.v85 (F := Ideal) x.c x.arg28 x.f28) (ix2 v c) = Dt D k.val 1 v.val c.val := by
  unfold trip2.sl.v85
  unfold_payloads
  pointwise
  simp only [t84 x H k acc s]
theorem t86 (v : Fin 512) (c : Fin 256) :
    (trip2.sl.v86 (F := Ideal) x.c x.arg28 x.f28) (ix2 v c) = Dt D k.val 1 v.val c.val := by
  unfold trip2.sl.v86
  unfold_payloads
  pointwise
  simp only [t84 x H k acc s]
theorem t169 (v : Fin 512) (c : Fin 256) :
    (trip2.sl.v169 (F := Ideal) x.c x.arg28 x.f28) (ix2 v c) = Dt D k.val 2 v.val c.val := by
  unfold trip2.sl.v169
  unfold_payloads
  pointwise
  simp only [t168 x H k acc s]
theorem t170 (v : Fin 512) (c : Fin 256) :
    (trip2.sl.v170 (F := Ideal) x.c x.arg28 x.f28) (ix2 v c) = Dt D k.val 2 v.val c.val := by
  unfold trip2.sl.v170
  unfold_payloads
  pointwise
  simp only [t168 x H k acc s]
theorem t234 (v : Fin 512) (c : Fin 256) :
    (trip2.sl.v234 (F := Ideal) x.c x.arg28 x.f28) (ix2 v c) = Dt D k.val 3 v.val c.val := by
  unfold trip2.sl.v234
  unfold_payloads
  pointwise
  simp only [t233 x H k acc s]
theorem t235 (v : Fin 512) (c : Fin 256) :
    (trip2.sl.v235 (F := Ideal) x.c x.arg28 x.f28) (ix2 v c) = Dt D k.val 3 v.val c.val := by
  unfold trip2.sl.v235
  unfold_payloads
  pointwise
  simp only [t233 x H k acc s]
theorem t27 (i : Fin 64) (c : Fin 512) :
    (trip2.sl.v27 (F := Ideal) x.c x.arg24 k x.f24) (ix2 i c) = dod D (9 - k.val) i.val 0 c.val := by
  unfold trip2.sl.v27
  unfold_payloads
  pointwise
  simp only [l24_0 x H k acc s]
theorem t30 (i : Fin 64) (c : Fin 256) :
    (trip2.sl.v30 (F := Ideal) x.c x.arg21 k x.f21) (ix2 i c) = qg D (9 - k.val) i.val 0 c.val := by
  unfold trip2.sl.v30
  unfold_payloads
  pointwise
  simp only [l21_0 x H k acc s]
theorem t33 (i : Fin 64) (c : Fin 256) :
    (trip2.sl.v33 (F := Ideal) x.c x.arg22 k x.f22) (ix2 i c) = kd D (9 - k.val) i.val 0 c.val := by
  unfold trip2.sl.v33
  unfold_payloads
  pointwise
  simp only [l22_0 x H k acc s]
theorem t36 (i c : Fin 64) :
    (trip2.sl.v36 (F := Ideal) x.c x.arg25 k x.f25) (ix2 i c) = Am D (9 - k.val) 0 i.val c.val := by
  unfold trip2.sl.v36
  unfold_payloads
  pointwise
  simp only [l25_0 x H k acc s]
theorem t39 (i c : Fin 64) :
    (trip2.sl.v39 (F := Ideal) x.c x.arg26 k x.f26) (ix2 i c) = PT D (9 - k.val) 0 i.val c.val := by
  unfold trip2.sl.v39
  unfold_payloads
  pointwise
  simp only [l26_0 x H k acc s]
theorem t92 (i : Fin 64) (c : Fin 512) :
    (trip2.sl.v92 (F := Ideal) x.c x.arg24 k x.f24) (ix2 i c) = dod D (9 - k.val) i.val 1 c.val := by
  unfold trip2.sl.v92
  unfold_payloads
  pointwise
  simp only [l24_1 x H k acc s]
theorem t95 (i : Fin 64) (c : Fin 256) :
    (trip2.sl.v95 (F := Ideal) x.c x.arg21 k x.f21) (ix2 i c) = qg D (9 - k.val) i.val 1 c.val := by
  unfold trip2.sl.v95
  unfold_payloads
  pointwise
  simp only [l21_1 x H k acc s]
theorem t98 (i : Fin 64) (c : Fin 256) :
    (trip2.sl.v98 (F := Ideal) x.c x.arg22 k x.f22) (ix2 i c) = kd D (9 - k.val) i.val 1 c.val := by
  unfold trip2.sl.v98
  unfold_payloads
  pointwise
  simp only [l22_1 x H k acc s]
theorem t104 (i c : Fin 64) :
    (trip2.sl.v104 (F := Ideal) x.c x.arg26 k x.f26) (ix2 i c) = PT D (9 - k.val) 1 i.val c.val := by
  unfold trip2.sl.v104
  unfold_payloads
  pointwise
  simp only [l26_1 x H k acc s]
theorem t173 (i : Fin 64) (c : Fin 512) :
    (trip2.sl.v173 (F := Ideal) x.c x.arg23 k x.f23) (ix2 i c) = D.v (64 * (9 - k.val) + i.val) 2 c.val := by
  unfold trip2.sl.v173
  unfold_payloads
  pointwise
  simp only [l23_2 x H k acc s]
theorem t176 (i : Fin 64) (c : Fin 512) :
    (trip2.sl.v176 (F := Ideal) x.c x.arg24 k x.f24) (ix2 i c) = dod D (9 - k.val) i.val 2 c.val := by
  unfold trip2.sl.v176
  unfold_payloads
  pointwise
  simp only [l24_2 x H k acc s]
theorem t179 (i : Fin 64) (c : Fin 256) :
    (trip2.sl.v179 (F := Ideal) x.c x.arg21 k x.f21) (ix2 i c) = qg D (9 - k.val) i.val 2 c.val := by
  unfold trip2.sl.v179
  unfold_payloads
  pointwise
  simp only [l21_2 x H k acc s]
theorem t182 (i : Fin 64) (c : Fin 256) :
    (trip2.sl.v182 (F := Ideal) x.c x.arg22 k x.f22) (ix2 i c) = kd D (9 - k.val) i.val 2 c.val := by
  unfold trip2.sl.v182
  unfold_payloads
  pointwise
  simp only [l22_2 x H k acc s]
theorem t238 (i : Fin 64) (c : Fin 512) :
    (trip2.sl.v238 (F := Ideal) x.c x.arg23 k x.f23) (ix2 i c) = D.v (64 * (9 - k.val) + i.val) 3 c.val := by
  unfold trip2.sl.v238
  unfold_payloads
  pointwise
  simp only [l23_3 x H k acc s]
theorem t241 (i : Fin 64) (c : Fin 512) :
    (trip2.sl.v241 (F := Ideal) x.c x.arg24 k x.f24) (ix2 i c) = dod D (9 - k.val) i.val 3 c.val := by
  unfold trip2.sl.v241
  unfold_payloads
  pointwise
  simp only [l24_3 x H k acc s]
theorem t244 (i : Fin 64) (c : Fin 256) :
    (trip2.sl.v244 (F := Ideal) x.c x.arg21 k x.f21) (ix2 i c) = qg D (9 - k.val) i.val 3 c.val := by
  unfold trip2.sl.v244
  unfold_payloads
  pointwise
  simp only [l21_3 x H k acc s]
theorem t247 (i : Fin 64) (c : Fin 256) :
    (trip2.sl.v247 (F := Ideal) x.c x.arg22 k x.f22) (ix2 i c) = kd D (9 - k.val) i.val 3 c.val := by
  unfold trip2.sl.v247
  unfold_payloads
  pointwise
  simp only [l22_3 x H k acc s]
theorem t250 (i c : Fin 64) :
    (trip2.sl.v250 (F := Ideal) x.c x.arg25 k x.f25) (ix2 i c) = Am D (9 - k.val) 3 i.val c.val := by
  unfold trip2.sl.v250
  unfold_payloads
  pointwise
  simp only [l25_3 x H k acc s]
theorem t253 (i c : Fin 64) :
    (trip2.sl.v253 (F := Ideal) x.c x.arg26 k x.f26) (ix2 i c) = PT D (9 - k.val) 3 i.val c.val := by
  unfold trip2.sl.v253
  unfold_payloads
  pointwise
  simp only [l26_3 x H k acc s]
theorem t45 (i : Fin 64) (c : Fin 256) :
    (trip2.sl.v45 (F := Ideal) x.c x.i x.arg9 x.arg23 x.arg28 x.f9 k x.f23 x.f28) (ix2 i c) = Y D (9 - k.val) i.val 0 c.val := by
  unfold trip2.sl.v45
  unfold_payloads
  pointwise
  simp only [l28_0 x H k acc s, l23_0 x H k acc s, t43 x H k acc s]
  unfold Y
  rw [nk]
theorem t119 (i : Fin 64) (c : Fin 256) :
    (trip2.sl.v119 (F := Ideal) x.c x.arg21 x.arg25 k x.f21 x.f25) (ix2 i c) = Z D (9 - k.val) i.val 1 c.val := by
  unfold trip2.sl.v119
  unfold_payloads
  pointwise
  simp only [l21_1 x H k acc s, l25_1 x H k acc s]
  rfl
theorem t120 (i : Fin 64) (l : Fin 128) :
    (trip2.sl.v120 (F := Ideal) x.c x.arg21 x.arg25 k x.f21 x.f25) (ix2 i l) = Z D (9 - k.val) i.val 1 (0 + l.val) := by
  unfold trip2.sl.v120
  unfold_payloads
  pointwise
  simp only [l21_1 x H k acc s, l25_1 x H k acc s]
  rfl
theorem ty00 (i : Fin 64) (l : Fin 128) :
    k0_pay239 (x.arg28.view.readAt (Elt Ideal) (Rect.unit (s := S4x512x256) ![0, 0, 0] S1x512x256.size inb_S4x512x256_S1x512x256_0_0_0).toLoadRect x.f28) (x.arg23.view.readAt (Elt Ideal) (Rect.unit (s := S4x640x512) (k0_off28 k) S1x64x512.size (k0_off28_inb k)).toLoadRect x.f23) (trip2.sl.v43 (F := Ideal) x.c x.i x.arg9 x.f9 k) (ix2 i l) = Y D (9 - k.val) i.val 0 (0 + l.val) := by
  skip
  unfold_payloads
  pointwise
  simp only [l28_0 x H k acc s, l23_0 x H k acc s, t43 x H k acc s, t45 x H k acc s]
  unfold Y
  rw [nk]
theorem ty01 (i : Fin 64) (l : Fin 128) :
    k0_pay240 (trip2.sl.v45 (F := Ideal) x.c x.i x.arg9 x.arg23 x.arg28 x.f9 k x.f23 x.f28) (ix2 i l) = Y D (9 - k.val) i.val 0 (128 + l.val) := by
  skip
  unfold_payloads
  pointwise
  simp only [l28_0 x H k acc s, l23_0 x H k acc s, t43 x H k acc s, t45 x H k acc s]
theorem ty10 (i : Fin 64) (l : Fin 128) :
    k0_pay253 (trip2.sl.v84 (F := Ideal) x.c x.arg28 x.f28) (x.arg23.view.readAt (Elt Ideal) (Rect.unit (s := S4x640x512) (k0_off33 k) S1x64x512.size (k0_off33_inb k)).toLoadRect x.f23) (trip2.sl.v108 (F := Ideal) x.c x.i x.arg9 x.f9 k) (ix2 i l) = Y D (9 - k.val) i.val 1 (0 + l.val) := by
  skip
  unfold_payloads
  pointwise
  simp only [t84 x H k acc s, t108 x H k acc s, l23_1 x H k acc s]
  unfold Y
  rw [nk]
theorem ty11 (i : Fin 64) (l : Fin 128) :
    k0_pay254 (trip2.sl.v84 (F := Ideal) x.c x.arg28 x.f28) (x.arg23.view.readAt (Elt Ideal) (Rect.unit (s := S4x640x512) (k0_off33 k) S1x64x512.size (k0_off33_inb k)).toLoadRect x.f23) (trip2.sl.v108 (F := Ideal) x.c x.i x.arg9 x.f9 k) (ix2 i l) = Y D (9 - k.val) i.val 1 (128 + l.val) := by
  skip
  unfold_payloads
  pointwise
  simp only [t84 x H k acc s, t108 x H k acc s, l23_1 x H k acc s]
  unfold Y
  rw [nk]
theorem ty20 (i : Fin 64) (l : Fin 128) :
    k0_pay275 (trip2.sl.v170 (F := Ideal) x.c x.arg28 x.f28) (trip2.sl.v173 (F := Ideal) x.c x.arg23 k x.f23) (trip2.sl.v192 (F := Ideal) x.c x.i x.arg9 x.f9 k) (ix2 i l) = Y D (9 - k.val) i.val 2 (0 + l.val) := by
  skip
  unfold_payloads
  pointwise
  simp only [t170 x H k acc s, t173 x H k acc s, t192 x H k acc s]
  unfold Y
  rw [nk]
theorem ty21 (i : Fin 64) (l : Fin 128) :
    k0_pay276 (trip2.sl.v170 (F := Ideal) x.c x.arg28 x.f28) (trip2.sl.v173 (F := Ideal) x.c x.arg23 k x.f23) (trip2.sl.v192 (F := Ideal) x.c x.i x.arg9 x.f9 k) (ix2 i l) = Y D (9 - k.val) i.val 2 (128 + l.val) := by
  skip
  unfold_payloads
  pointwise
  simp only [t170 x H k acc s, t173 x H k acc s, t192 x H k acc s]
  unfold Y
  rw [nk]
theorem ty30 (i : Fin 64) (l : Fin 128) :
    k0_pay291 (trip2.sl.v235 (F := Ideal) x.c x.arg28 x.f28) (trip2.sl.v238 (F := Ideal) x.c x.arg23 k x.f23) (trip2.sl.v257 (F := Ideal) x.c x.i x.arg9 x.f9 k) (ix2 i l) = Y D (9 - k.val) i.val 3 (0 + l.val) := by
  skip
  unfold_payloads
  pointwise
  simp only [t235 x H k acc s, t238 x H k acc s, t257 x H k acc s]
  unfold Y
  rw [nk]
theorem ty31 (i : Fin 64) (l : Fin 128) :
    k0_pay292 (trip2.sl.v235 (F := Ideal) x.c x.arg28 x.f28) (trip2.sl.v238 (F := Ideal) x.c x.arg23 k x.f23) (trip2.sl.v257 (F := Ideal) x.c x.i x.arg9 x.f9 k) (ix2 i l) = Y D (9 - k.val) i.val 3 (128 + l.val) := by
  skip
  unfold_payloads
  pointwise
  simp only [t235 x H k acc s, t238 x H k acc s, t257 x H k acc s]
  unfold Y
  rw [nk]
theorem tz00 (i : Fin 64) (l : Fin 128) :
    k0_pay242 (trip2.sl.v30 (F := Ideal) x.c x.arg21 k x.f21) (trip2.sl.v36 (F := Ideal) x.c x.arg25 k x.f25) (ix2 i l) = Z D (9 - k.val) i.val 0 (0 + l.val) := by
  skip
  unfold_payloads
  pointwise
  simp only [t30 x H k acc s, t36 x H k acc s]
  rfl
theorem tz01 (i : Fin 64) (l : Fin 128) :
    k0_pay243 (trip2.sl.v30 (F := Ideal) x.c x.arg21 k x.f21) (trip2.sl.v36 (F := Ideal) x.c x.arg25 k x.f25) (ix2 i l) = Z D (9 - k.val) i.val 0 (128 + l.val) := by
  skip
  unfold_payloads
  pointwise
  simp only [t30 x H k acc s, t36 x H k acc s]
  rfl
theorem tz10 (i : Fin 64) (l : Fin 128) :
    k0_pay257 (trip2.sl.v120 (F := Ideal) x.c x.arg21 x.arg25 k x.f21 x.f25) (ix2 i l) = Z D (9 - k.val) i.val 1 (0 + l.val) := by
  skip
  unfold_payloads
  pointwise
  simp only [t119 x H k acc s, t120 x H k acc s]
  rw [Nat.zero_add]
theorem tz11 (i : Fin 64) (l : Fin 128) :
    k0_pay258 (trip2.sl.v119 (F := Ideal) x.c x.arg21 x.arg25 k x.f21 x.f25) (ix2 i l) = Z D (9 - k.val) i.val 1 (128 + l.val) := by
  skip
  unfold_payloads
  pointwise
  simp only [t119 x H k acc s, t120 x H k acc s]
theorem tz20 (i : Fin 64) (l : Fin 128) :
    k0_pay278 (trip2.sl.v179 (F := Ideal) x.c x.arg21 k x.f21) (x.arg25.view.readAt (Elt Ideal) (Rect.unit (s := S4x640x64) (k0_off43 k) S1x64x64.size (k0_off43_inb k)).toLoadRect x.f25) (ix2 i l) = Z D (9 - k.val) i.val 2 (0 + l.val) := by
  skip
  unfold_payloads
  pointwise
  simp only [t179 x H k acc s, l25_2 x H k acc s]
  rfl
theorem tz21 (i : Fin 64) (l : Fin 128) :
    k0_pay279 (trip2.sl.v179 (F := Ideal) x.c x.arg21 k x.f21) (x.arg25.view.readAt (Elt Ideal) (Rect.unit (s := S4x640x64) (k0_off43 k) S1x64x64.size (k0_off43_inb k)).toLoadRect x.f25) (ix2 i l) = Z D (9 - k.val) i.val 2 (128 + l.val) := by
  skip
  unfold_payloads
  pointwise
  simp only [t179 x H k acc s, l25_2 x H k acc s]
  rfl
theorem tz30 (i : Fin 64) (l : Fin 128) :
    k0_pay294 (trip2.sl.v244 (F := Ideal) x.c x.arg21 k x.f21) (trip2.sl.v250 (F := Ideal) x.c x.arg25 k x.f25) (ix2 i l) = Z D (9 - k.val) i.val 3 (0 + l.val) := by
  skip
  unfold_payloads
  pointwise
  simp only [t244 x H k acc s, t250 x H k acc s]
  rfl
theorem tz31 (i : Fin 64) (l : Fin 128) :
    k0_pay295 (trip2.sl.v244 (F := Ideal) x.c x.arg21 k x.f21) (trip2.sl.v250 (F := Ideal) x.c x.arg25 k x.f25) (ix2 i l) = Z D (9 - k.val) i.val 3 (128 + l.val) := by
  skip
  unfold_payloads
  pointwise
  simp only [t244 x H k acc s, t250 x H k acc s]
  rfl
theorem ts0 (z : Fin 1) (v : Fin 512) (c : Fin 256) :
    k0_pay245 (trip2.sl.v20 (F := Ideal) x.c x.arg28 x.f28) (trip2.sl.v27 (F := Ideal) x.c x.arg24 k x.f24) (trip2.sl.v30 (F := Ideal) x.c x.arg21 k x.f21) (x.arg27.view.readAt (Elt Ideal) (Rect.unit (s := S80x128) (k0_off32 k 0#32 0#32) S1x128.size (k0_off32_inb k 0 0)).toLoadRect x.f27) (x.arg27.view.readAt (Elt Ideal) (Rect.unit (s := S80x128) (k0_off32 k 4#32 0#32) S1x128.size (k0_off32_inb k 1 0)).toLoadRect x.f27) (ix3 z v c) = Dt D (k.val + 1) 0 v.val c.val := by
  skip
  unfold_payloads
  pointwise
  simp only [t20 x H k acc s, t27 x H k acc s, t30 x H k acc s, l27_0_0 x H k acc s, l27_4_0 x H k acc s]
  show _ = Ideal.exp (cum D (9 - k.val) 63 0 c.val) * Dt D k.val 0 v.val c.val + ∑ i : Fin 64, dod D (9 - k.val) i.val 0 v.val * qg D (9 - k.val) i.val 0 c.val
  congr 2
  split <;> congr 2 <;> omega
theorem ts1 (z : Fin 1) (v : Fin 512) (c : Fin 256) :
    k0_pay267 (trip2.sl.v85 (F := Ideal) x.c x.arg28 x.f28) (trip2.sl.v92 (F := Ideal) x.c x.arg24 k x.f24) (trip2.sl.v95 (F := Ideal) x.c x.arg21 k x.f21) (x.arg27.view.readAt (Elt Ideal) (Rect.unit (s := S80x128) (k0_off32 k 0#32 1#32) S1x128.size (k0_off32_inb k 0 1)).toLoadRect x.f27) (x.arg27.view.readAt (Elt Ideal) (Rect.unit (s := S80x128) (k0_off32 k 4#32 1#32) S1x128.size (k0_off32_inb k 1 1)).toLoadRect x.f27) (ix3 z v c) = Dt D (k.val + 1) 1 v.val c.val := by
  skip
  unfold_payloads
  pointwise
  simp only [t85 x H k acc s, t92 x H k acc s, t95 x H k acc s, l27_0_1 x H k acc s, l27_4_1 x H k acc s]
  show _ = Ideal.exp (cum D (9 - k.val) 63 1 c.val) * Dt D k.val 1 v.val c.val + ∑ i : Fin 64, dod D (9 - k.val) i.val 1 v.val * qg D (9 - k.val) i.val 1 c.val
  congr 2
  split <;> congr 2 <;> omega
theorem ts2 (z : Fin 1) (v : Fin 512) (c : Fin 256) :
    k0_pay281 (trip2.sl.v169 (F := Ideal) x.c x.arg28 x.f28) (trip2.sl.v176 (F := Ideal) x.c x.arg24 k x.f24) (trip2.sl.v179 (F := Ideal) x.c x.arg21 k x.f21) (x.arg27.view.readAt (Elt Ideal) (Rect.unit (s := S80x128) (k0_off32 k 0#32 2#32) S1x128.size (k0_off32_inb k 0 2)).toLoadRect x.f27) (x.arg27.view.readAt (Elt Ideal) (Rect.unit (s := S80x128) (k0_off32 k 4#32 2#32) S1x128.size (k0_off32_inb k 1 2)).toLoadRect x.f27) (ix3 z v c) = Dt D (k.val + 1) 2 v.val c.val := by
  skip
  unfold_payloads
  pointwise
  simp only [t169 x H k acc s, t176 x H k acc s, t179 x H k acc s, l27_0_2 x H k acc s, l27_4_2 x H k acc s]
  show _ = Ideal.exp (cum D (9 - k.val) 63 2 c.val) * Dt D k.val 2 v.val c.val + ∑ i : Fin 64, dod D (9 - k.val) i.val 2 v.val * qg D (9 - k.val) i.val 2 c.val
  congr 2
  split <;> congr 2 <;> omega
theorem ts3 (z : Fin 1) (v : Fin 512) (c : Fin 256) :
    k0_pay304 (trip2.sl.v234 (F := Ideal) x.c x.arg28 x.f28) (trip2.sl.v241 (F := Ideal) x.c x.arg24 k x.f24) (trip2.sl.v244 (F := Ideal) x.c x.arg21 k x.f21) (x.arg27.view.readAt (Elt Ideal) (Rect.unit (s := S80x128) (k0_off32 k 0#32 3#32) S1x128.size (k0_off32_inb k 0 3)).toLoadRect x.f27) (x.arg27.view.readAt (Elt Ideal) (Rect.unit (s := S80x128) (k0_off32 k 4#32 3#32) S1x128.size (k0_off32_inb k 1 3)).toLoadRect x.f27) (ix3 z v c) = Dt D (k.val + 1) 3 v.val c.val := by
  skip
  unfold_payloads
  pointwise
  simp only [t234 x H k acc s, t241 x H k acc s, t244 x H k acc s, l27_0_3 x H k acc s, l27_4_3 x H k acc s]
  show _ = Ideal.exp (cum D (9 - k.val) 63 3 c.val) * Dt D k.val 3 v.val c.val + ∑ i : Fin 64, dod D (9 - k.val) i.val 3 v.val * qg D (9 - k.val) i.val 3 c.val
  congr 2
  split <;> congr 2 <;> omega
theorem t65 (i : Fin 64) (c : Fin 512) :
    (trip2.sl.v65 (F := Ideal) x.c x.arg22 x.arg24 x.arg26 x.arg28 k x.f22 x.f24 x.f26 x.f28) (ix2 i c) = dv D (9 - k.val) i.val 0 c.val := by
  unfold trip2.sl.v65
  unfold_payloads
  pointwise
  simp only [t21 x H k acc s, t27 x H k acc s, t33 x H k acc s, t39 x H k acc s]
  unfold dv
  rw [nk]
theorem t214 (i : Fin 64) (c : Fin 512) :
    (trip2.sl.v214 (F := Ideal) x.c x.arg22 x.arg24 x.arg26 x.arg28 k x.f22 x.f24 x.f26 x.f28) (ix2 i c) = dv D (9 - k.val) i.val 2 c.val := by
  unfold trip2.sl.v214
  unfold_payloads
  pointwise
  simp only [t170 x H k acc s, t176 x H k acc s, t182 x H k acc s, l26_2 x H k acc s]
  unfold dv
  rw [nk]
theorem t280_lo (i : Fin 64) (c : Fin 512) :
    (trip2.sl.v280_lo (F := Ideal) x.c x.arg22 x.arg24 x.arg26 x.arg28 k x.f22 x.f24 x.f26 x.f28) (ix2 i c) = dv D (9 - k.val) i.val 2 c.val := by
  unfold trip2.sl.v280_lo
  unfold_payloads
  pointwise
  simp only [t214 x H k acc s]
theorem t280_hi (i : Fin 64) (c : Fin 512) :
    (trip2.sl.v280_hi (F := Ideal) x.c x.arg22 x.arg24 x.arg26 x.arg28 k x.f22 x.f24 x.f26 x.f28) (ix2 i c) = dv D (9 - k.val) i.val 3 c.val := by
  unfold trip2.sl.v280_hi
  unfold_payloads
  pointwise
  simp only [t235 x H k acc s, t241 x H k acc s, t247 x H k acc s, t253 x H k acc s]
  unfold dv
  rw [nk]
theorem t146_lo (i : Fin 64) (l : Fin 128) :
    (trip2.sl.v146_lo (F := Ideal) x.c x.arg22 x.arg24 x.arg26 x.arg28 k x.f22 x.f24 x.f26 x.f28) (ix2 i l) = dv D (9 - k.val) i.val 0 (384 + l.val) := by
  unfold trip2.sl.v146_lo
  unfold_payloads
  pointwise
  simp only [t65 x H k acc s]
theorem t146_hi (i : Fin 64) (l : Fin 128) :
    (trip2.sl.v146_hi (F := Ideal) x.c x.arg22 x.arg24 x.arg26 x.arg28 k x.f22 x.f24 x.f26 x.f28) (ix2 i l) = dv D (9 - k.val) i.val 1 (384 + l.val) := by
  unfold trip2.sl.v146_hi
  unfold_payloads
  pointwise
  simp only [t86 x H k acc s, t92 x H k acc s, t98 x H k acc s, t104 x H k acc s]
  unfold dv
  rw [nk]
theorem t287_lo (i : Fin 64) (l : Fin 128) :
    (trip2.sl.v287_lo (F := Ideal) x.c x.arg22 x.arg24 x.arg26 x.arg28 k x.f22 x.f24 x.f26 x.f28) (ix2 i l) = dv D (9 - k.val) i.val 2 (128 + l.val) := by
  unfold trip2.sl.v287_lo
  unfold_payloads
  pointwise
  simp only [t214 x H k acc s]
theorem t287_hi (i : Fin 64) (l : Fin 128) :
    (trip2.sl.v287_hi (F := Ideal) x.c x.arg22 x.arg24 x.arg26 x.arg28 k x.f22 x.f24 x.f26 x.f28) (ix2 i l) = dv D (9 - k.val) i.val 3 (128 + l.val) := by
  unfold trip2.sl.v287_hi
  unfold_payloads
  pointwise
  simp only [t235 x H k acc s, t241 x H k acc s, t247 x H k acc s, t253 x H k acc s]
  unfold dv
  rw [nk]
theorem tv000 (i : Fin 64) (l : Fin 128) :
    k0_pay261 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26) (ix3 (n0 := 64) (n1 := 2) (n2 := 128) i 0 l) = dv D (9 - k.val) i.val 0 (0 + l.val) := by
  skip
  unfold_payloads
  pointwise
  simp only [t65 x H k acc s, t86 x H k acc s, t92 x H k acc s, t98 x H k acc s, t104 x H k acc s]
theorem tv001 (i : Fin 64) (l : Fin 128) :
    k0_pay261 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26) (ix3 (n0 := 64) (n1 := 2) (n2 := 128) i 1 l) = dv D (9 - k.val) i.val 1 (0 + l.val) := by
  skip
  unfold_payloads
  pointwise
  simp only [t65 x H k acc s, t86 x H k acc s, t92 x H k acc s, t98 x H k acc s, t104 x H k acc s]
  unfold dv
  rw [nk]
theorem tv010 (i : Fin 64) (l : Fin 128) :
    k0_pay262 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26) (ix3 (n0 := 64) (n1 := 2) (n2 := 128) i 0 l) = dv D (9 - k.val) i.val 0 (128 + l.val) := by
  skip
  unfold_payloads
  pointwise
  simp only [t65 x H k acc s, t86 x H k acc s, t92 x H k acc s, t98 x H k acc s, t104 x H k acc s]
theorem tv011 (i : Fin 64) (l : Fin 128) :
    k0_pay262 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26) (ix3 (n0 := 64) (n1 := 2) (n2 := 128) i 1 l) = dv D (9 - k.val) i.val 1 (128 + l.val) := by
  skip
  unfold_payloads
  pointwise
  simp only [t65 x H k acc s, t86 x H k acc s, t92 x H k acc s, t98 x H k acc s, t104 x H k acc s]
  unfold dv
  rw [nk]
theorem tv020 (i : Fin 64) (l : Fin 128) :
    k0_pay263 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26) (ix3 (n0 := 64) (n1 := 2) (n2 := 128) i 0 l) = dv D (9 - k.val) i.val 0 (256 + l.val) := by
  skip
  unfold_payloads
  pointwise
  simp only [t65 x H k acc s, t86 x H k acc s, t92 x H k acc s, t98 x H k acc s, t104 x H k acc s]
theorem tv021 (i : Fin 64) (l : Fin 128) :
    k0_pay263 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26) (ix3 (n0 := 64) (n1 := 2) (n2 := 128) i 1 l) = dv D (9 - k.val) i.val 1 (256 + l.val) := by
  skip
  unfold_payloads
  pointwise
  simp only [t65 x H k acc s, t86 x H k acc s, t92 x H k acc s, t98 x H k acc s, t104 x H k acc s]
  unfold dv
  rw [nk]
theorem tv030 (i : Fin 64) (l : Fin 128) :
    k0_pay266 (trip2.sl.v146_lo (F := Ideal) x.c x.arg22 x.arg24 x.arg26 x.arg28 k x.f22 x.f24 x.f26 x.f28) (trip2.sl.v146_hi (F := Ideal) x.c x.arg22 x.arg24 x.arg26 x.arg28 k x.f22 x.f24 x.f26 x.f28) (ix3 (n0 := 64) (n1 := 2) (n2 := 128) i 0 l) = dv D (9 - k.val) i.val 0 (384 + l.val) := by
  skip
  unfold_payloads
  pointwise
  simp only [t146_lo x H k acc s, t146_hi x H k acc s]
theorem tv031 (i : Fin 64) (l : Fin 128) :
    k0_pay266 (trip2.sl.v146_lo (F := Ideal) x.c x.arg22 x.arg24 x.arg26 x.arg28 k x.f22 x.f24 x.f26 x.f28) (trip2.sl.v146_hi (F := Ideal) x.c x.arg22 x.arg24 x.arg26 x.arg28 k x.f22 x.f24 x.f26 x.f28) (ix3 (n0 := 64) (n1 := 2) (n2 := 128) i 1 l) = dv D (9 - k.val) i.val 1 (384 + l.val) := by
  skip
  unfold_payloads
  pointwise
  simp only [t146_lo x H k acc s, t146_hi x H k acc s]
theorem tv100 (i : Fin 64) (l : Fin 128) :
    k0_pay298 (trip2.sl.v214 (F := Ideal) x.c x.arg22 x.arg24 x.arg26 x.arg28 k x.f22 x.f24 x.f26 x.f28) (trip2.sl.v235 (F := Ideal) x.c x.arg28 x.f28) (trip2.sl.v241 (F := Ideal) x.c x.arg24 k x.f24) (trip2.sl.v247 (F := Ideal) x.c x.arg22 k x.f22) (trip2.sl.v253 (F := Ideal) x.c x.arg26 k x.f26) (ix3 (n0 := 64) (n1 := 2) (n2 := 128) i 0 l) = dv D (9 - k.val) i.val 2 (0 + l.val) := by
  skip
  unfold_payloads
  pointwise
  simp only [t214 x H k acc s, t235 x H k acc s, t241 x H k acc s, t247 x H k acc s, t253 x H k acc s]
theorem tv101 (i : Fin 64) (l : Fin 128) :
    k0_pay298 (trip2.sl.v214 (F := Ideal) x.c x.arg22 x.arg24 x.arg26 x.arg28 k x.f22 x.f24 x.f26 x.f28) (trip2.sl.v235 (F := Ideal) x.c x.arg28 x.f28) (trip2.sl.v241 (F := Ideal) x.c x.arg24 k x.f24) (trip2.sl.v247 (F := Ideal) x.c x.arg22 k x.f22) (trip2.sl.v253 (F := Ideal) x.c x.arg26 k x.f26) (ix3 (n0 := 64) (n1 := 2) (n2 := 128) i 1 l) = dv D (9 - k.val) i.val 3 (0 + l.val) := by
  skip
  unfold_payloads
  pointwise
  simp only [t214 x H k acc s, t235 x H k acc s, t241 x H k acc s, t247 x H k acc s, t253 x H k acc s]
  unfold dv
  rw [nk]
theorem tv110 (i : Fin 64) (l : Fin 128) :
    k0_pay301 (trip2.sl.v287_lo (F := Ideal) x.c x.arg22 x.arg24 x.arg26 x.arg28 k x.f22 x.f24 x.f26 x.f28) (trip2.sl.v287_hi (F := Ideal) x.c x.arg22 x.arg24 x.arg26 x.arg28 k x.f22 x.f24 x.f26 x.f28) (ix3 (n0 := 64) (n1 := 2) (n2 := 128) i 0 l) = dv D (9 - k.val) i.val 2 (128 + l.val) := by
  skip
  unfold_payloads
  pointwise
  simp only [t287_lo x H k acc s, t287_hi x H k acc s]
theorem tv111 (i : Fin 64) (l : Fin 128) :
    k0_pay301 (trip2.sl.v287_lo (F := Ideal) x.c x.arg22 x.arg24 x.arg26 x.arg28 k x.f22 x.f24 x.f26 x.f28) (trip2.sl.v287_hi (F := Ideal) x.c x.arg22 x.arg24 x.arg26 x.arg28 k x.f22 x.f24 x.f26 x.f28) (ix3 (n0 := 64) (n1 := 2) (n2 := 128) i 1 l) = dv D (9 - k.val) i.val 3 (128 + l.val) := by
  skip
  unfold_payloads
  pointwise
  simp only [t287_lo x H k acc s, t287_hi x H k acc s]
theorem tv120 (i : Fin 64) (l : Fin 128) :
    k0_pay302 (trip2.sl.v280_lo (F := Ideal) x.c x.arg22 x.arg24 x.arg26 x.arg28 k x.f22 x.f24 x.f26 x.f28) (trip2.sl.v280_hi (F := Ideal) x.c x.arg22 x.arg24 x.arg26 x.arg28 k x.f22 x.f24 x.f26 x.f28) (ix3 (n0 := 64) (n1 := 2) (n2 := 128) i 0 l) = dv D (9 - k.val) i.val 2 (256 + l.val) := by
  skip
  unfold_payloads
  pointwise
  simp only [t280_lo x H k acc s, t280_hi x H k acc s]
theorem tv121 (i : Fin 64) (l : Fin 128) :
    k0_pay302 (trip2.sl.v280_lo (F := Ideal) x.c x.arg22 x.arg24 x.arg26 x.arg28 k x.f22 x.f24 x.f26 x.f28) (trip2.sl.v280_hi (F := Ideal) x.c x.arg22 x.arg24 x.arg26 x.arg28 k x.f22 x.f24 x.f26 x.f28) (ix3 (n0 := 64) (n1 := 2) (n2 := 128) i 1 l) = dv D (9 - k.val) i.val 3 (256 + l.val) := by
  skip
  unfold_payloads
  pointwise
  simp only [t280_lo x H k acc s, t280_hi x H k acc s]
theorem tv130 (i : Fin 64) (l : Fin 128) :
    k0_pay303 (trip2.sl.v280_lo (F := Ideal) x.c x.arg22 x.arg24 x.arg26 x.arg28 k x.f22 x.f24 x.f26 x.f28) (trip2.sl.v280_hi (F := Ideal) x.c x.arg22 x.arg24 x.arg26 x.arg28 k x.f22 x.f24 x.f26 x.f28) (ix3 (n0 := 64) (n1 := 2) (n2 := 128) i 0 l) = dv D (9 - k.val) i.val 2 (384 + l.val) := by
  skip
  unfold_payloads
  pointwise
  simp only [t280_lo x H k acc s, t280_hi x H k acc s]
theorem tv131 (i : Fin 64) (l : Fin 128) :
    k0_pay303 (trip2.sl.v280_lo (F := Ideal) x.c x.arg22 x.arg24 x.arg26 x.arg28 k x.f22 x.f24 x.f26 x.f28) (trip2.sl.v280_hi (F := Ideal) x.c x.arg22 x.arg24 x.arg26 x.arg28 k x.f22 x.f24 x.f26 x.f28) (ix3 (n0 := 64) (n1 := 2) (n2 := 128) i 1 l) = dv D (9 - k.val) i.val 3 (384 + l.val) := by
  skip
  unfold_payloads
  pointwise
  simp only [t280_lo x H k acc s, t280_hi x H k acc s]
theorem t319 (t : Fin 64) (u : Fin 8) (l : Fin 128) :
    (trip2.sl.v319 (F := Ideal) x.c x.arg17 k x.f17) (ix3 t u l) = cum D (9 - k.val) t.val (u.val % 4) (u.val / 4 * 128 + l.val) := by
  unfold trip2.sl.v319
  unfold_payloads
  pointwise
  simp only [l17 x H k acc s]
  unfold row3
  congr 1 <;> omega
theorem t357 (t : Fin 64) (u : Fin 8) (l : Fin 128) : (trip2.sl.v357 (F := Ideal) x.c x.i x.arg8 x.arg16 x.f8 k x.f16) (ix3 t u l) = K D (9 - k.val) t.val (u.val % 4) (u.val / 4 * 128 + l.val) := by
  unfold trip2.sl.v357
  unfold_payloads
  pointwise
  simp only [l16 x H k acc s, t332 x H k acc s, t338 x H k acc s, t345 x H k acc s, t352 x H k acc s]
  rw [sel4 u (D.ks (9 - k.val))]
  rfl
theorem t361 (t : Fin 64) (u : Fin 8) (l : Fin 128) :
    (trip2.sl.v361 (F := Ideal) x.c x.arg17 k x.f17) (ix3 t u l) = Ideal.exp (cum D (9 - k.val) 63 (u.val % 4) (u.val / 4 * 128 + l.val) - cum D (9 - k.val) t.val (u.val % 4) (u.val / 4 * 128 + l.val)) := by
  unfold trip2.sl.v361
  unfold_payloads
  pointwise
  simp only [l17 x H k acc s]
  unfold row3
  congr! 3 <;> omega

end
end Cert.Proof.KernelIdeal.Vl

end
-- ==== Proof.StepF.lean ====
module

public import proofs.«01_k».proof.Proof.StepE
public import proofs.«01_k».proof.Proof.Spec
public import proofs.«01_k».proof.Proof.Reads
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe
open scoped BigOperators

set_option maxHeartbeats 0
open Spec
variable {D : Spec.Inp}

/-- Writes that miss a position leave it. -/
theorem read_writes_off {κ : Kind} {sp : Space} {s : Shape} {e : EltTy} (v : View sig κ sp s e) (f : v.ty.Contents (Elt Ideal)) (y : s.Idx) (L : List (View.Piece (Elt Ideal) s e))
    (h : ∀ p ∈ L, y ∉ p.1.set) : v.read (Elt Ideal) (v.writes (Elt Ideal) f L) y = v.read (Elt Ideal) f y := by
  induction L with
  | nil => rfl
  | cons p L ih =>
    have hy' : y ∉ Finset.univ.map p.1.emb := by rw [Rect.map_emb_univ]; exact h p List.mem_cons_self
    rw [View.writes_cons, View.read_slice_write_of_not_mem p.1 _ _ _ hy']
    exact ih fun q hq => h q (List.mem_cons_of_mem _ hq)
theorem mem_unit_fst {off off' size : Fin 2 → ℕ} {inb} {y : S5120x128.Idx} (heq : off = off') (h : y ∈ (Rect.unit (s := S5120x128) off size inb).set) :
    off' 0 ≤ (y 0).val ∧ (y 0).val < off' 0 + size 0 := by
  subst heq
  rw [Rect.mem_set_unit] at h
  exact h 0
variable (x : Ctx) (H : Inputs D x) (k : Fin k0_t2_loop.trips) (acc : FVec Ideal S8x128 .f32) (s : S2 D k.val x acc)
section
include H k s
theorem P19 : ∀ p ∈ (trip2.sl.H19_8 (F := Ideal) x.c x.i x.arg9 x.arg23 x.arg28 x.f9 k x.f23 x.f28), ∀ z : p.1.shape.Idx, p.2 z = row3 (Y D (9 - k.val)) (p.1.emb z 0).val (p.1.emb z 1).val := by
  unfold trip2.sl.H19_8
  refine List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩⟩⟩⟩⟩
  · obtain ⟨i, l, rfl⟩ : ∃ (i : Fin 64) (l : Fin 128), z = ix2 i l := ⟨z 0, z 1, eq_ix2 z⟩
    refine (ty31 x H k acc s i l).trans ?_
    show _ = row3 _ (7 + 8 * i.val) (0 + 1 * l.val)
    unfold row3
    congr 1 <;> omega
  · obtain ⟨i, l, rfl⟩ : ∃ (i : Fin 64) (l : Fin 128), z = ix2 i l := ⟨z 0, z 1, eq_ix2 z⟩
    refine (ty30 x H k acc s i l).trans ?_
    show _ = row3 _ (3 + 8 * i.val) (0 + 1 * l.val)
    unfold row3
    congr 1 <;> omega
  · obtain ⟨i, l, rfl⟩ : ∃ (i : Fin 64) (l : Fin 128), z = ix2 i l := ⟨z 0, z 1, eq_ix2 z⟩
    refine (ty21 x H k acc s i l).trans ?_
    show _ = row3 _ (6 + 8 * i.val) (0 + 1 * l.val)
    unfold row3
    congr 1 <;> omega
  · obtain ⟨i, l, rfl⟩ : ∃ (i : Fin 64) (l : Fin 128), z = ix2 i l := ⟨z 0, z 1, eq_ix2 z⟩
    refine (ty20 x H k acc s i l).trans ?_
    show _ = row3 _ (2 + 8 * i.val) (0 + 1 * l.val)
    unfold row3
    congr 1 <;> omega
  · obtain ⟨i, l, rfl⟩ : ∃ (i : Fin 64) (l : Fin 128), z = ix2 i l := ⟨z 0, z 1, eq_ix2 z⟩
    refine (ty11 x H k acc s i l).trans ?_
    show _ = row3 _ (5 + 8 * i.val) (0 + 1 * l.val)
    unfold row3
    congr 1 <;> omega
  · obtain ⟨i, l, rfl⟩ : ∃ (i : Fin 64) (l : Fin 128), z = ix2 i l := ⟨z 0, z 1, eq_ix2 z⟩
    refine (ty10 x H k acc s i l).trans ?_
    show _ = row3 _ (1 + 8 * i.val) (0 + 1 * l.val)
    unfold row3
    congr 1 <;> omega
  · obtain ⟨i, l, rfl⟩ : ∃ (i : Fin 64) (l : Fin 128), z = ix2 i l := ⟨z 0, z 1, eq_ix2 z⟩
    refine (ty01 x H k acc s i l).trans ?_
    show _ = row3 _ (4 + 8 * i.val) (0 + 1 * l.val)
    unfold row3
    congr 1 <;> omega
  · obtain ⟨i, l, rfl⟩ : ∃ (i : Fin 64) (l : Fin 128), z = ix2 i l := ⟨z 0, z 1, eq_ix2 z⟩
    refine (ty00 x H k acc s i l).trans ?_
    show _ = row3 _ (0 + 8 * i.val) (0 + 1 * l.val)
    unfold row3
    congr 1 <;> omega
end
theorem c19 (x : Ctx) (k : Fin k0_t2_loop.trips) (y : S512x128.Idx) : ∃ p ∈ (trip2.sl.H19_8 (F := Ideal) x.c x.i x.arg9 x.arg23 x.arg28 x.f9 k x.f23 x.f28), y ∈ p.1.set := by
  unfold trip2.sl.H19_8
  have h0 : (y 0).val < 512 := (y 0).isLt
  have h1 : (y 1).val < 128 := (y 1).isLt
  obtain h | h | h | h | h | h | h | h : (y 0).val % 8 = 7 ∨ (y 0).val % 8 = 3 ∨ (y 0).val % 8 = 6 ∨ (y 0).val % 8 = 2 ∨ (y 0).val % 8 = 5 ∨ (y 0).val % 8 = 1 ∨ (y 0).val % 8 = 4 ∨ (y 0).val % 8 = 0 := by omega
  · refine ⟨_, List.mem_cons_self, ?_⟩
    refine Reads.mem_of (ix2 (n0 := 64) (n1 := 128) ⟨(y 0).val / 8, by omega⟩ (y 1)) fun a => ?_
    match a with
    | ⟨0, _⟩ => show 7 + 8 * ((y 0).val / 8) = (y 0).val; omega
    | ⟨1, _⟩ => show 0 + 1 * (y 1).val = (y 1).val; omega
  · refine ⟨_, List.mem_cons_of_mem _ (List.mem_cons_self), ?_⟩
    refine Reads.mem_of (ix2 (n0 := 64) (n1 := 128) ⟨(y 0).val / 8, by omega⟩ (y 1)) fun a => ?_
    match a with
    | ⟨0, _⟩ => show 3 + 8 * ((y 0).val / 8) = (y 0).val; omega
    | ⟨1, _⟩ => show 0 + 1 * (y 1).val = (y 1).val; omega
  · refine ⟨_, List.mem_cons_of_mem _ (List.mem_cons_of_mem _ (List.mem_cons_self)), ?_⟩
    refine Reads.mem_of (ix2 (n0 := 64) (n1 := 128) ⟨(y 0).val / 8, by omega⟩ (y 1)) fun a => ?_
    match a with
    | ⟨0, _⟩ => show 6 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_self))), ?_⟩
    refine Reads.mem_of (ix2 (n0 := 64) (n1 := 128) ⟨(y 0).val / 8, by omega⟩ (y 1)) fun a => ?_
    match a with
    | ⟨0, _⟩ => show 2 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_self)))), ?_⟩
    refine Reads.mem_of (ix2 (n0 := 64) (n1 := 128) ⟨(y 0).val / 8, by omega⟩ (y 1)) fun a => ?_
    match a with
    | ⟨0, _⟩ => show 5 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_self))))), ?_⟩
    refine Reads.mem_of (ix2 (n0 := 64) (n1 := 128) ⟨(y 0).val / 8, by omega⟩ (y 1)) fun a => ?_
    match a with
    | ⟨0, _⟩ => show 1 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_of_mem _ (List.mem_cons_self)))))), ?_⟩
    refine Reads.mem_of (ix2 (n0 := 64) (n1 := 128) ⟨(y 0).val / 8, by omega⟩ (y 1)) fun a => ?_
    match a with
    | ⟨0, _⟩ => show 4 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
    refine Reads.mem_of (ix2 (n0 := 64) (n1 := 128) ⟨(y 0).val / 8, by omega⟩ (y 1)) fun a => ?_
    match a with
    | ⟨0, _⟩ => show 0 + 8 * ((y 0).val / 8) = (y 0).val; omega
    | ⟨1, _⟩ => show 0 + 1 * (y 1).val = (y 1).val; omega
/-- The whole scratch array read back after its eight writes. -/
abbrev rd19 (x : Ctx) (k : Fin k0_t2_loop.trips) := x.arg19.view.readAt (Elt Ideal) (Rect.unit (s := S512x128) ![0, 0] S512x128.size inb_S512x128_S512x128_0_0).toLoadRect (x.arg19.view.writes (Elt Ideal) x.f19 (trip2.sl.H19_8 (F := Ideal) x.c x.i x.arg9 x.arg23 x.arg28 x.f9 k x.f23 x.f28))
section
include H k s
theorem l19 (r : Fin 512) (l : Fin 128) : rd19 x k (ix2 r l) = row3 (Y D (9 - k.val)) r.val l.val := by
  refine (Reads.read_writes_of_pieces x.arg19.view x.f19 (fun y => row3 (Y D (9 - k.val)) (y 0).val (y 1).val) _ _ (P19 x H k acc s) (Or.inl (c19 x k _))).trans ?_
  show row3 _ (0 + 1 * r.val) (0 + 1 * l.val) = _
  simp only [Nat.one_mul, Nat.zero_add]
theorem P20 : ∀ p ∈ (trip2.sl.H20_8 (F := Ideal) x.c x.arg21 x.arg25 k x.f21 x.f25), ∀ z : p.1.shape.Idx, p.2 z = row3 (Z D (9 - k.val)) (p.1.emb z 0).val (p.1.emb z 1).val := by
  unfold trip2.sl.H20_8
  refine List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩⟩⟩⟩⟩
  · obtain ⟨i, l, rfl⟩ : ∃ (i : Fin 64) (l : Fin 128), z = ix2 i l := ⟨z 0, z 1, eq_ix2 z⟩
    refine (tz31 x H k acc s i l).trans ?_
    show _ = row3 _ (7 + 8 * i.val) (0 + 1 * l.val)
    unfold row3
    congr 1 <;> omega
  · obtain ⟨i, l, rfl⟩ : ∃ (i : Fin 64) (l : Fin 128), z = ix2 i l := ⟨z 0, z 1, eq_ix2 z⟩
    refine (tz30 x H k acc s i l).trans ?_
    show _ = row3 _ (3 + 8 * i.val) (0 + 1 * l.val)
    unfold row3
    congr 1 <;> omega
  · obtain ⟨i, l, rfl⟩ : ∃ (i : Fin 64) (l : Fin 128), z = ix2 i l := ⟨z 0, z 1, eq_ix2 z⟩
    refine (tz21 x H k acc s i l).trans ?_
    show _ = row3 _ (6 + 8 * i.val) (0 + 1 * l.val)
    unfold row3
    congr 1 <;> omega
  · obtain ⟨i, l, rfl⟩ : ∃ (i : Fin 64) (l : Fin 128), z = ix2 i l := ⟨z 0, z 1, eq_ix2 z⟩
    refine (tz20 x H k acc s i l).trans ?_
    show _ = row3 _ (2 + 8 * i.val) (0 + 1 * l.val)
    unfold row3
    congr 1 <;> omega
  · obtain ⟨i, l, rfl⟩ : ∃ (i : Fin 64) (l : Fin 128), z = ix2 i l := ⟨z 0, z 1, eq_ix2 z⟩
    refine (tz11 x H k acc s i l).trans ?_
    show _ = row3 _ (5 + 8 * i.val) (0 + 1 * l.val)
    unfold row3
    congr 1 <;> omega
  · obtain ⟨i, l, rfl⟩ : ∃ (i : Fin 64) (l : Fin 128), z = ix2 i l := ⟨z 0, z 1, eq_ix2 z⟩
    refine (tz10 x H k acc s i l).trans ?_
    show _ = row3 _ (1 + 8 * i.val) (0 + 1 * l.val)
    unfold row3
    congr 1 <;> omega
  · obtain ⟨i, l, rfl⟩ : ∃ (i : Fin 64) (l : Fin 128), z = ix2 i l := ⟨z 0, z 1, eq_ix2 z⟩
    refine (tz01 x H k acc s i l).trans ?_
    show _ = row3 _ (4 + 8 * i.val) (0 + 1 * l.val)
    unfold row3
    congr 1 <;> omega
  · obtain ⟨i, l, rfl⟩ : ∃ (i : Fin 64) (l : Fin 128), z = ix2 i l := ⟨z 0, z 1, eq_ix2 z⟩
    refine (tz00 x H k acc s i l).trans ?_
    show _ = row3 _ (0 + 8 * i.val) (0 + 1 * l.val)
    unfold row3
    congr 1 <;> omega
end
theorem c20 (x : Ctx) (k : Fin k0_t2_loop.trips) (y : S512x128.Idx) : ∃ p ∈ (trip2.sl.H20_8 (F := Ideal) x.c x.arg21 x.arg25 k x.f21 x.f25), y ∈ p.1.set := by
  unfold trip2.sl.H20_8
  have h0 : (y 0).val < 512 := (y 0).isLt
  have h1 : (y 1).val < 128 := (y 1).isLt
  obtain h | h | h | h | h | h | h | h : (y 0).val % 8 = 7 ∨ (y 0).val % 8 = 3 ∨ (y 0).val % 8 = 6 ∨ (y 0).val % 8 = 2 ∨ (y 0).val % 8 = 5 ∨ (y 0).val % 8 = 1 ∨ (y 0).val % 8 = 4 ∨ (y 0).val % 8 = 0 := by omega
  · refine ⟨_, List.mem_cons_self, ?_⟩
    refine Reads.mem_of (ix2 (n0 := 64) (n1 := 128) ⟨(y 0).val / 8, by omega⟩ (y 1)) fun a => ?_
    match a with
    | ⟨0, _⟩ => show 7 + 8 * ((y 0).val / 8) = (y 0).val; omega
    | ⟨1, _⟩ => show 0 + 1 * (y 1).val = (y 1).val; omega
  · refine ⟨_, List.mem_cons_of_mem _ (List.mem_cons_self), ?_⟩
    refine Reads.mem_of (ix2 (n0 := 64) (n1 := 128) ⟨(y 0).val / 8, by omega⟩ (y 1)) fun a => ?_
    match a with
    | ⟨0, _⟩ => show 3 + 8 * ((y 0).val / 8) = (y 0).val; omega
    | ⟨1, _⟩ => show 0 + 1 * (y 1).val = (y 1).val; omega
  · refine ⟨_, List.mem_cons_of_mem _ (List.mem_cons_of_mem _ (List.mem_cons_self)), ?_⟩
    refine Reads.mem_of (ix2 (n0 := 64) (n1 := 128) ⟨(y 0).val / 8, by omega⟩ (y 1)) fun a => ?_
    match a with
    | ⟨0, _⟩ => show 6 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_self))), ?_⟩
    refine Reads.mem_of (ix2 (n0 := 64) (n1 := 128) ⟨(y 0).val / 8, by omega⟩ (y 1)) fun a => ?_
    match a with
    | ⟨0, _⟩ => show 2 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_self)))), ?_⟩
    refine Reads.mem_of (ix2 (n0 := 64) (n1 := 128) ⟨(y 0).val / 8, by omega⟩ (y 1)) fun a => ?_
    match a with
    | ⟨0, _⟩ => show 5 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_self))))), ?_⟩
    refine Reads.mem_of (ix2 (n0 := 64) (n1 := 128) ⟨(y 0).val / 8, by omega⟩ (y 1)) fun a => ?_
    match a with
    | ⟨0, _⟩ => show 1 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_of_mem _ (List.mem_cons_self)))))), ?_⟩
    refine Reads.mem_of (ix2 (n0 := 64) (n1 := 128) ⟨(y 0).val / 8, by omega⟩ (y 1)) fun a => ?_
    match a with
    | ⟨0, _⟩ => show 4 + 8 * ((y 0).val / 8) = (y 0).val; omega
    | ⟨1, _⟩ => show 0 + 1 * (y 1).val = (y 1).val; omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
    refine Reads.mem_of (ix2 (n0 := 64) (n1 := 128) ⟨(y 0).val / 8, by omega⟩ (y 1)) fun a => ?_
    match a with
    | ⟨0, _⟩ => show 0 + 8 * ((y 0).val / 8) = (y 0).val; omega
    | ⟨1, _⟩ => show 0 + 1 * (y 1).val = (y 1).val; omega
/-- The whole scratch array read back after its eight writes. -/
abbrev rd20 (x : Ctx) (k : Fin k0_t2_loop.trips) := x.arg20.view.readAt (Elt Ideal) (Rect.unit (s := S512x128) ![0, 0] S512x128.size inb_S512x128_S512x128_0_0).toLoadRect (x.arg20.view.writes (Elt Ideal) x.f20 (trip2.sl.H20_8 (F := Ideal) x.c x.arg21 x.arg25 k x.f21 x.f25))
section
include H k s
theorem l20 (r : Fin 512) (l : Fin 128) : rd20 x k (ix2 r l) = row3 (Z D (9 - k.val)) r.val l.val := by
  refine (Reads.read_writes_of_pieces x.arg20.view x.f20 (fun y => row3 (Z D (9 - k.val)) (y 0).val (y 1).val) _ _ (P20 x H k acc s) (Or.inl (c20 x k _))).trans ?_
  show row3 _ (0 + 1 * r.val) (0 + 1 * l.val) = _
  simp only [Nat.one_mul, Nat.zero_add]
theorem t363 (t : Fin 64) (u : Fin 8) (l : Fin 128) : (trip2.sl.v363 (F := Ideal) x.c x.i x.arg9 x.arg19 x.arg23 x.arg28 x.f9 k x.f19 x.f23 x.f28) (ix3 t u l) = Y D (9 - k.val) t.val (u.val % 4) (u.val / 4 * 128 + l.val) := by
  unfold trip2.sl.v363
  unfold_payloads
  pointwise
  refine (l19 x H k acc s _ _).trans ?_
  unfold row3
  dsimp only
  congr 1 <;> omega
theorem tdk (r : Fin 512) (l : Fin 128) :
    k0_pay310 (trip2.sl.v319 (F := Ideal) x.c x.arg17 k x.f17) (trip2.sl.v361 (F := Ideal) x.c x.arg17 k x.f17) (trip2.sl.v363 (F := Ideal) x.c x.i x.arg9 x.arg19 x.arg23 x.arg28 x.f9 k x.f19 x.f23 x.f28) (rd20 x k) (ix2 r l) = row3 (dk D (9 - k.val)) r.val l.val := by
  skip
  unfold_payloads
  pointwise
  simp only [t319 x H k acc s, t361 x H k acc s, t363 x H k acc s, l20 x H k acc s, fz]
  rw [(rowm r.val).1, (rowm r.val).2]
  rfl
theorem tdb (r : Fin 512) (l : Fin 128) :
    k0_pay311 (trip2.sl.v319 (F := Ideal) x.c x.arg17 k x.f17) (trip2.sl.v357 (F := Ideal) x.c x.i x.arg8 x.arg16 x.f8 k x.f16) (trip2.sl.v361 (F := Ideal) x.c x.arg17 k x.f17) (trip2.sl.v363 (F := Ideal) x.c x.i x.arg9 x.arg19 x.arg23 x.arg28 x.f9 k x.f19 x.f23 x.f28) (rd20 x k) (x.arg14.view.readAt (Elt Ideal) (Rect.unit (s := S5120x128) (k0_off53 k) S512x128.size (k0_off53_inb k)).toLoadRect x.f14) (ix2 r l) = row3 (db D (9 - k.val)) r.val l.val := by
  skip
  unfold_payloads
  pointwise
  simp only [t319 x H k acc s, t357 x H k acc s, t361 x H k acc s, t363 x H k acc s, l20 x H k acc s, l14 x H k acc s, fz]
  rw [(rowm r.val).1, (rowm r.val).2]
  rfl
theorem P14 : ∀ p ∈ (trip2.sl.H14_1 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28), ∀ z : p.1.shape.Idx, p.2 z = row3 (tm (db D)) (p.1.emb z 0).val (p.1.emb z 1).val := by
  unfold trip2.sl.H14_1
  refine List.forall_mem_cons.mpr ⟨fun z => ?_, List.forall_mem_nil _⟩
  obtain ⟨r, l, rfl⟩ : ∃ (r : Fin 512) (l : Fin 128), z = ix2 r l := ⟨z 0, z 1, eq_ix2 z⟩
  refine (tdb x H k acc s r l).trans ?_
  show _ = row3 _ (k0_off53 k 0 + 1 * r.val) (k0_off53 k 1 + 1 * l.val)
  rw [off53]
  show _ = row3 _ (512 * (9 - k.val) + 1 * r.val) (0 + 1 * l.val)
  rw [Nat.one_mul, Nat.one_mul, Nat.zero_add, row3_tm _ _ _ _ r.isLt]
end
theorem c14 (x : Ctx) (k : Fin k0_t2_loop.trips) (y : S5120x128.Idx) (h : 512 * (9 - k.val) ≤ (y 0).val) (h' : (y 0).val < 512 * (9 - k.val) + 512) :
    ∃ p ∈ (trip2.sl.H14_1 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28), y ∈ p.1.set := by
  unfold trip2.sl.H14_1
  refine ⟨_, List.mem_singleton_self _, ?_⟩
  refine Reads.mem_unit (inb := k0_off53_inb k) (off53 k) fun a => ?_
  have h2 : (y 1).val < 128 := (y 1).isLt
  match a with
  | ⟨0, _⟩ => exact ⟨h, h'⟩
  | ⟨1, _⟩ => exact ⟨Nat.zero_le _, show (y 1).val < 0 + 128 by omega⟩
/-- One time step's row group of the gradient read back. -/
abbrev rdb (x : Ctx) (k : Fin k0_t2_loop.trips) (w : BitVec 32) (inb) := x.arg14.view.readAt (Elt Ideal) (Rect.unit (s := S5120x128) (k0_off55 k w) S8x128.size inb).toLoadRect (x.arg14.view.writes (Elt Ideal) x.f14 (trip2.sl.H14_1 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28))
section
include H k s
theorem ldb (w : BitVec 32) (inb) (t : Fin 64) (hw : w = BitVec.ofNat 32 (8 * t.val)) (u : Fin 8) (l : Fin 128) :
    rdb x k w inb (ix2 u l) = db D (9 - k.val) t.val (u.val % 4) (u.val / 4 * 128 + l.val) := by
  subst hw
  have ht := t.isLt
  have hu := u.isLt
  refine (Reads.read_writes_of_pieces x.arg14.view x.f14 (fun y => row3 (tm (db D)) (y 0).val (y 1).val) _ _ (P14 x H k acc s) (Or.inl (c14 x k _ ?_ ?_))).trans ?_
  · show 512 * (9 - k.val) ≤ k0_off55 k (BitVec.ofNat 32 (8 * t.val)) 0 + 1 * u.val
    rw [off55 k t]; show 512 * (9 - k.val) ≤ 512 * (9 - k.val) + 8 * t.val + 1 * u.val; omega
  · show k0_off55 k (BitVec.ofNat 32 (8 * t.val)) 0 + 1 * u.val < _
    rw [off55 k t]; show 512 * (9 - k.val) + 8 * t.val + 1 * u.val < _; omega
  · show row3 _ (k0_off55 k (BitVec.ofNat 32 (8 * t.val)) 0 + 1 * u.val) (k0_off55 k (BitVec.ofNat 32 (8 * t.val)) 1 + 1 * l.val) = _
    rw [off55 k t]
    show row3 _ (512 * (9 - k.val) + 8 * t.val + 1 * u.val) (0 + 1 * l.val) = _
    rw [Nat.zero_add, Nat.one_mul, Nat.one_mul]
    exact rows8 _ _ _ _ _ _ t.isLt u.isLt rfl
end
theorem sufs (k : Fin k0_t2_loop.trips) (t q q' : ℕ) (hq : q + t = 63) (hq' : q' = q + 1) (h c : ℕ) :
    suf D (64 * k.val + q) h c + db D (9 - k.val) t h c = suf D (64 * k.val + q') h c := by
  subst hq'
  have := kle k
  have e : suf D (64 * k.val + (q + 1)) h c = suf D (64 * k.val + q) h c + db D ((639 - (64 * k.val + q)) / 64) ((639 - (64 * k.val + q)) % 64) h c := rfl
  rw [e]
  congr 2 <;> omega
theorem sufz (k : Fin k0_t2_loop.trips) (t : Fin 64) (q q' : ℕ) (hq : q + t.val = 63) (hq' : q' = q + 1) (h c : ℕ) :
    suf D (64 * k.val + q) h c + db D (9 - k.val) t.val h c = suf D (64 * k.val + q') h c := sufs k t.val q q' hq hq' h c
section
include H k s
theorem acc0 (u : Fin 8) (l : Fin 128) : acc (ix2 u l) = suf D (64 * k.val + 0) (u.val % 4) (u.val / 4 * 128 + l.val) := s.acc u l
theorem t403 (u : Fin 8) (l : Fin 128) : (trip2.sl.v403 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (ix2 u l) = db D (9 - k.val) 61 (u.val % 4) (u.val / 4 * 128 + l.val) := by
  unfold trip2.sl.v403
  unfold_payloads
  pointwise
  exact ldb x H k acc s 488#32 _ 61 rfl u l
theorem t883 (u : Fin 8) (l : Fin 128) : (trip2.sl.v883 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (ix2 u l) = db D (9 - k.val) 1 (u.val % 4) (u.val / 4 * 128 + l.val) := by
  unfold trip2.sl.v883
  unfold_payloads
  pointwise
  exact ldb x H k acc s 8#32 _ 1 rfl u l
theorem t698 (u : Fin 8) (l : Fin 128) : (trip2.sl.v698 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (ix2 u l) = db D (9 - k.val) 24 (u.val % 4) (u.val / 4 * 128 + l.val) := by
  unfold trip2.sl.v698
  exact ldb x H k acc s 192#32 _ 24 rfl u l
theorem t396 (u : Fin 8) (l : Fin 128) : (trip2.sl.v396 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 2) (u.val % 4) (u.val / 4 * 128 + l.val) := by
  unfold trip2.sl.v396
  unfold_payloads
  pointwise
  simp only [acc0 x H k acc s, ldb x H k acc s 504#32 _ 63 rfl, ldb x H k acc s 496#32 _ 62 rfl, sufs k 63 0 1 rfl rfl, sufz k 63 0 1 rfl rfl, sufs k 62 1 2 rfl rfl, sufz k 62 1 2 rfl rfl]
theorem t436 (u : Fin 8) (l : Fin 128) : (trip2.sl.v436 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 7) (u.val % 4) (u.val / 4 * 128 + l.val) := by
  unfold trip2.sl.v436
  unfold_payloads
  pointwise
  simp only [t396 x H k acc s, t403 x H k acc s, ldb x H k acc s 480#32 _ 60 rfl, ldb x H k acc s 472#32 _ 59 rfl, ldb x H k acc s 464#32 _ 58 rfl, ldb x H k acc s 456#32 _ 57 rfl, sufs k 61 2 3 rfl rfl, sufz k 61 2 3 rfl rfl, sufs k 60 3 4 rfl rfl, sufz k 60 3 4 rfl rfl, sufs k 59 4 5 rfl rfl, sufz k 59 4 5 rfl rfl, sufs k 58 5 6 rfl rfl, sufz k 58 5 6 rfl rfl, sufs k 57 6 7 rfl rfl, sufz k 57 6 7 rfl rfl]
theorem t476 (u : Fin 8) (l : Fin 128) : (trip2.sl.v476 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 12) (u.val % 4) (u.val / 4 * 128 + l.val) := by
  unfold trip2.sl.v476
  unfold_payloads
  pointwise
  simp only [t436 x H k acc s, ldb x H k acc s 448#32 _ 56 rfl, ldb x H k acc s 440#32 _ 55 rfl, ldb x H k acc s 432#32 _ 54 rfl, ldb x H k acc s 424#32 _ 53 rfl, ldb x H k acc s 416#32 _ 52 rfl, sufs k 56 7 8 rfl rfl, sufz k 56 7 8 rfl rfl, sufs k 55 8 9 rfl rfl, sufz k 55 8 9 rfl rfl, sufs k 54 9 10 rfl rfl, sufz k 54 9 10 rfl rfl, sufs k 53 10 11 rfl rfl, sufz k 53 10 11 rfl rfl, sufs k 52 11 12 rfl rfl, sufz k 52 11 12 rfl rfl]
theorem t508 (u : Fin 8) (l : Fin 128) : (trip2.sl.v508 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 16) (u.val % 4) (u.val / 4 * 128 + l.val) := by
  unfold trip2.sl.v508
  unfold_payloads
  pointwise
  simp only [t476 x H k acc s, ldb x H k acc s 408#32 _ 51 rfl, ldb x H k acc s 400#32 _ 50 rfl, ldb x H k acc s 392#32 _ 49 rfl, ldb x H k acc s 384#32 _ 48 rfl, sufs k 51 12 13 rfl rfl, sufz k 51 12 13 rfl rfl, sufs k 50 13 14 rfl rfl, sufz k 50 13 14 rfl rfl, sufs k 49 14 15 rfl rfl, sufz k 49 14 15 rfl rfl, sufs k 48 15 16 rfl rfl, sufz k 48 15 16 rfl rfl]
theorem t548 (u : Fin 8) (l : Fin 128) : (trip2.sl.v548 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 21) (u.val % 4) (u.val / 4 * 128 + l.val) := by
  unfold trip2.sl.v548
  unfold_payloads
  pointwise
  simp only [t508 x H k acc s, ldb x H k acc s 376#32 _ 47 rfl, ldb x H k acc s 368#32 _ 46 rfl, ldb x H k acc s 360#32 _ 45 rfl, ldb x H k acc s 352#32 _ 44 rfl, ldb x H k acc s 344#32 _ 43 rfl, sufs k 47 16 17 rfl rfl, sufz k 47 16 17 rfl rfl, sufs k 46 17 18 rfl rfl, sufz k 46 17 18 rfl rfl, sufs k 45 18 19 rfl rfl, sufz k 45 18 19 rfl rfl, sufs k 44 19 20 rfl rfl, sufz k 44 19 20 rfl rfl, sufs k 43 20 21 rfl rfl, sufz k 43 20 21 rfl rfl]
theorem t588 (u : Fin 8) (l : Fin 128) : (trip2.sl.v588 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 26) (u.val % 4) (u.val / 4 * 128 + l.val) := by
  unfold trip2.sl.v588
  unfold_payloads
  pointwise
  simp only [t548 x H k acc s, ldb x H k acc s 336#32 _ 42 rfl, ldb x H k acc s 328#32 _ 41 rfl, ldb x H k acc s 320#32 _ 40 rfl, ldb x H k acc s 312#32 _ 39 rfl, ldb x H k acc s 304#32 _ 38 rfl, sufs k 42 21 22 rfl rfl, sufz k 42 21 22 rfl rfl, sufs k 41 22 23 rfl rfl, sufz k 41 22 23 rfl rfl, sufs k 40 23 24 rfl rfl, sufz k 40 23 24 rfl rfl, sufs k 39 24 25 rfl rfl, sufz k 39 24 25 rfl rfl, sufs k 38 25 26 rfl rfl, sufz k 38 25 26 rfl rfl]
theorem t620 (u : Fin 8) (l : Fin 128) : (trip2.sl.v620 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 30) (u.val % 4) (u.val / 4 * 128 + l.val) := by
  unfold trip2.sl.v620
  unfold_payloads
  pointwise
  simp only [t588 x H k acc s, ldb x H k acc s 296#32 _ 37 rfl, ldb x H k acc s 288#32 _ 36 rfl, ldb x H k acc s 280#32 _ 35 rfl, ldb x H k acc s 272#32 _ 34 rfl, sufs k 37 26 27 rfl rfl, sufz k 37 26 27 rfl rfl, sufs k 36 27 28 rfl rfl, sufz k 36 27 28 rfl rfl, sufs k 35 28 29 rfl rfl, sufz k 35 28 29 rfl rfl, sufs k 34 29 30 rfl rfl, sufz k 34 29 30 rfl rfl]
theorem t660 (u : Fin 8) (l : Fin 128) : (trip2.sl.v660 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 35) (u.val % 4) (u.val / 4 * 128 + l.val) := by
  unfold trip2.sl.v660
  unfold_payloads
  pointwise
  simp only [t620 x H k acc s, ldb x H k acc s 264#32 _ 33 rfl, ldb x H k acc s 256#32 _ 32 rfl, ldb x H k acc s 248#32 _ 31 rfl, ldb x H k acc s 240#32 _ 30 rfl, ldb x H k acc s 232#32 _ 29 rfl, sufs k 33 30 31 rfl rfl, sufz k 33 30 31 rfl rfl, sufs k 32 31 32 rfl rfl, sufz k 32 31 32 rfl rfl, sufs k 31 32 33 rfl rfl, sufz k 31 32 33 rfl rfl, sufs k 30 33 34 rfl rfl, sufz k 30 33 34 rfl rfl, sufs k 29 34 35 rfl rfl, sufz k 29 34 35 rfl rfl]
theorem t692 (u : Fin 8) (l : Fin 128) : (trip2.sl.v692 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 39) (u.val % 4) (u.val / 4 * 128 + l.val) := by
  unfold trip2.sl.v692
  unfold_payloads
  pointwise
  simp only [t660 x H k acc s, ldb x H k acc s 224#32 _ 28 rfl, ldb x H k acc s 216#32 _ 27 rfl, ldb x H k acc s 208#32 _ 26 rfl, ldb x H k acc s 200#32 _ 25 rfl, sufs k 28 35 36 rfl rfl, sufz k 28 35 36 rfl rfl, sufs k 27 36 37 rfl rfl, sufz k 27 36 37 rfl rfl, sufs k 26 37 38 rfl rfl, sufz k 26 37 38 rfl rfl, sufs k 25 38 39 rfl rfl, sufz k 25 38 39 rfl rfl]
theorem t732 (u : Fin 8) (l : Fin 128) : (trip2.sl.v732 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 44) (u.val % 4) (u.val / 4 * 128 + l.val) := by
  unfold trip2.sl.v732
  unfold_payloads
  pointwise
  simp only [t692 x H k acc s, t698 x H k acc s, ldb x H k acc s 184#32 _ 23 rfl, ldb x H k acc s 176#32 _ 22 rfl, ldb x H k acc s 168#32 _ 21 rfl, ldb x H k acc s 160#32 _ 20 rfl, sufs k 24 39 40 rfl rfl, sufz k 24 39 40 rfl rfl, sufs k 23 40 41 rfl rfl, sufz k 23 40 41 rfl rfl, sufs k 22 41 42 rfl rfl, sufz k 22 41 42 rfl rfl, sufs k 21 42 43 rfl rfl, sufz k 21 42 43 rfl rfl, sufs k 20 43 44 rfl rfl, sufz k 20 43 44 rfl rfl]
theorem t772 (u : Fin 8) (l : Fin 128) : (trip2.sl.v772 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 49) (u.val % 4) (u.val / 4 * 128 + l.val) := by
  unfold trip2.sl.v772
  unfold_payloads
  pointwise
  simp only [t732 x H k acc s, ldb x H k acc s 152#32 _ 19 rfl, ldb x H k acc s 144#32 _ 18 rfl, ldb x H k acc s 136#32 _ 17 rfl, ldb x H k acc s 128#32 _ 16 rfl, ldb x H k acc s 120#32 _ 15 rfl, sufs k 19 44 45 rfl rfl, sufz k 19 44 45 rfl rfl, sufs k 18 45 46 rfl rfl, sufz k 18 45 46 rfl rfl, sufs k 17 46 47 rfl rfl, sufz k 17 46 47 rfl rfl, sufs k 16 47 48 rfl rfl, sufz k 16 47 48 rfl rfl, sufs k 15 48 49 rfl rfl, sufz k 15 48 49 rfl rfl]
theorem t804 (u : Fin 8) (l : Fin 128) : (trip2.sl.v804 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 53) (u.val % 4) (u.val / 4 * 128 + l.val) := by
  unfold trip2.sl.v804
  unfold_payloads
  pointwise
  simp only [t772 x H k acc s, ldb x H k acc s 112#32 _ 14 rfl, ldb x H k acc s 104#32 _ 13 rfl, ldb x H k acc s 96#32 _ 12 rfl, ldb x H k acc s 88#32 _ 11 rfl, sufs k 14 49 50 rfl rfl, sufz k 14 49 50 rfl rfl, sufs k 13 50 51 rfl rfl, sufz k 13 50 51 rfl rfl, sufs k 12 51 52 rfl rfl, sufz k 12 51 52 rfl rfl, sufs k 11 52 53 rfl rfl, sufz k 11 52 53 rfl rfl]
theorem t844 (u : Fin 8) (l : Fin 128) : (trip2.sl.v844 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 58) (u.val % 4) (u.val / 4 * 128 + l.val) := by
  unfold trip2.sl.v844
  unfold_payloads
  pointwise
  simp only [t804 x H k acc s, ldb x H k acc s 80#32 _ 10 rfl, ldb x H k acc s 72#32 _ 9 rfl, ldb x H k acc s 64#32 _ 8 rfl, ldb x H k acc s 56#32 _ 7 rfl, ldb x H k acc s 48#32 _ 6 rfl, sufs k 10 53 54 rfl rfl, sufz k 10 53 54 rfl rfl, sufs k 9 54 55 rfl rfl, sufz k 9 54 55 rfl rfl, sufs k 8 55 56 rfl rfl, sufz k 8 55 56 rfl rfl, sufs k 7 56 57 rfl rfl, sufz k 7 56 57 rfl rfl, sufs k 6 57 58 rfl rfl, sufz k 6 57 58 rfl rfl]
theorem t876 (u : Fin 8) (l : Fin 128) : (trip2.sl.v876 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (ix2 u l) = suf D (64 * k.val + 62) (u.val % 4) (u.val / 4 * 128 + l.val) := by
  unfold trip2.sl.v876
  unfold_payloads
  pointwise
  simp only [t844 x H k acc s, ldb x H k acc s 40#32 _ 5 rfl, ldb x H k acc s 32#32 _ 4 rfl, ldb x H k acc s 24#32 _ 3 rfl, ldb x H k acc s 16#32 _ 2 rfl, sufs k 5 58 59 rfl rfl, sufz k 5 58 59 rfl rfl, sufs k 4 59 60 rfl rfl, sufz k 4 59 60 rfl rfl, sufs k 3 60 61 rfl rfl, sufz k 3 60 61 rfl rfl, sufs k 2 61 62 rfl rfl, sufz k 2 61 62 rfl rfl]
/-- The writes of one chunk's gate gradient. -/
def L13 (x : Ctx) (k : Fin k0_t2_loop.trips) (acc : FVec Ideal S8x128 .f32) : List (View.Piece (Elt Ideal) S5120x128 .f32) :=
  [⟨Rect.unit (k0_off55 k 0#32) S8x128.size (k0_off55_inb k 0), k0_pay6 (trip2.sl.v876 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v883 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 0#32 (k0_off55_inb k 0))⟩,
   ⟨Rect.unit (k0_off55 k 8#32) S8x128.size (k0_off55_inb k 1), k0_pay5 (trip2.sl.v876 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v883 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28)⟩,
   ⟨Rect.unit (k0_off55 k 16#32) S8x128.size (k0_off55_inb k 2), k0_pay374 (trip2.sl.v844 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 40#32 (k0_off55_inb k 5)) (rdb x k 32#32 (k0_off55_inb k 4)) (rdb x k 24#32 (k0_off55_inb k 3)) (rdb x k 16#32 (k0_off55_inb k 2))⟩,
   ⟨Rect.unit (k0_off55 k 24#32) S8x128.size (k0_off55_inb k 3), k0_pay373 (trip2.sl.v844 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 40#32 (k0_off55_inb k 5)) (rdb x k 32#32 (k0_off55_inb k 4)) (rdb x k 24#32 (k0_off55_inb k 3))⟩,
   ⟨Rect.unit (k0_off55 k 32#32) S8x128.size (k0_off55_inb k 4), k0_pay372 (trip2.sl.v844 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 40#32 (k0_off55_inb k 5)) (rdb x k 32#32 (k0_off55_inb k 4))⟩,
   ⟨Rect.unit (k0_off55 k 40#32) S8x128.size (k0_off55_inb k 5), k0_pay371 (trip2.sl.v844 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 40#32 (k0_off55_inb k 5))⟩,
   ⟨Rect.unit (k0_off55 k 48#32) S8x128.size (k0_off55_inb k 6), (trip2.sl.v844 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28)⟩,
   ⟨Rect.unit (k0_off55 k 56#32) S8x128.size (k0_off55_inb k 7), k0_pay369 (trip2.sl.v804 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 80#32 (k0_off55_inb k 10)) (rdb x k 72#32 (k0_off55_inb k 9)) (rdb x k 64#32 (k0_off55_inb k 8)) (rdb x k 56#32 (k0_off55_inb k 7))⟩,
   ⟨Rect.unit (k0_off55 k 64#32) S8x128.size (k0_off55_inb k 8), k0_pay368 (trip2.sl.v804 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 80#32 (k0_off55_inb k 10)) (rdb x k 72#32 (k0_off55_inb k 9)) (rdb x k 64#32 (k0_off55_inb k 8))⟩,
   ⟨Rect.unit (k0_off55 k 72#32) S8x128.size (k0_off55_inb k 9), k0_pay367 (trip2.sl.v804 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 80#32 (k0_off55_inb k 10)) (rdb x k 72#32 (k0_off55_inb k 9))⟩,
   ⟨Rect.unit (k0_off55 k 80#32) S8x128.size (k0_off55_inb k 10), k0_pay366 (trip2.sl.v804 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 80#32 (k0_off55_inb k 10))⟩,
   ⟨Rect.unit (k0_off55 k 88#32) S8x128.size (k0_off55_inb k 11), k0_pay365 (trip2.sl.v772 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 112#32 (k0_off55_inb k 14)) (rdb x k 104#32 (k0_off55_inb k 13)) (rdb x k 96#32 (k0_off55_inb k 12)) (rdb x k 88#32 (k0_off55_inb k 11))⟩,
   ⟨Rect.unit (k0_off55 k 96#32) S8x128.size (k0_off55_inb k 12), k0_pay364 (trip2.sl.v772 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 112#32 (k0_off55_inb k 14)) (rdb x k 104#32 (k0_off55_inb k 13)) (rdb x k 96#32 (k0_off55_inb k 12))⟩,
   ⟨Rect.unit (k0_off55 k 104#32) S8x128.size (k0_off55_inb k 13), k0_pay363 (trip2.sl.v772 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 112#32 (k0_off55_inb k 14)) (rdb x k 104#32 (k0_off55_inb k 13))⟩,
   ⟨Rect.unit (k0_off55 k 112#32) S8x128.size (k0_off55_inb k 14), k0_pay362 (trip2.sl.v772 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 112#32 (k0_off55_inb k 14))⟩,
   ⟨Rect.unit (k0_off55 k 120#32) S8x128.size (k0_off55_inb k 15), (trip2.sl.v772 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28)⟩,
   ⟨Rect.unit (k0_off55 k 128#32) S8x128.size (k0_off55_inb k 16), k0_pay360 (trip2.sl.v732 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 152#32 (k0_off55_inb k 19)) (rdb x k 144#32 (k0_off55_inb k 18)) (rdb x k 136#32 (k0_off55_inb k 17)) (rdb x k 128#32 (k0_off55_inb k 16))⟩,
   ⟨Rect.unit (k0_off55 k 136#32) S8x128.size (k0_off55_inb k 17), k0_pay359 (trip2.sl.v732 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 152#32 (k0_off55_inb k 19)) (rdb x k 144#32 (k0_off55_inb k 18)) (rdb x k 136#32 (k0_off55_inb k 17))⟩,
   ⟨Rect.unit (k0_off55 k 144#32) S8x128.size (k0_off55_inb k 18), k0_pay358 (trip2.sl.v732 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 152#32 (k0_off55_inb k 19)) (rdb x k 144#32 (k0_off55_inb k 18))⟩,
   ⟨Rect.unit (k0_off55 k 152#32) S8x128.size (k0_off55_inb k 19), k0_pay357 (trip2.sl.v732 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 152#32 (k0_off55_inb k 19))⟩,
   ⟨Rect.unit (k0_off55 k 160#32) S8x128.size (k0_off55_inb k 20), k0_pay356 (trip2.sl.v692 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v698 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 184#32 (k0_off55_inb k 23)) (rdb x k 176#32 (k0_off55_inb k 22)) (rdb x k 168#32 (k0_off55_inb k 21)) (rdb x k 160#32 (k0_off55_inb k 20))⟩,
   ⟨Rect.unit (k0_off55 k 168#32) S8x128.size (k0_off55_inb k 21), k0_pay355 (trip2.sl.v692 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v698 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 184#32 (k0_off55_inb k 23)) (rdb x k 176#32 (k0_off55_inb k 22)) (rdb x k 168#32 (k0_off55_inb k 21))⟩,
   ⟨Rect.unit (k0_off55 k 176#32) S8x128.size (k0_off55_inb k 22), k0_pay354 (trip2.sl.v692 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v698 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 184#32 (k0_off55_inb k 23)) (rdb x k 176#32 (k0_off55_inb k 22))⟩,
   ⟨Rect.unit (k0_off55 k 184#32) S8x128.size (k0_off55_inb k 23), k0_pay353 (trip2.sl.v692 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v698 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 184#32 (k0_off55_inb k 23))⟩,
   ⟨Rect.unit (k0_off55 k 192#32) S8x128.size (k0_off55_inb k 24), k0_pay352 (trip2.sl.v692 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v698 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28)⟩,
   ⟨Rect.unit (k0_off55 k 200#32) S8x128.size (k0_off55_inb k 25), k0_pay351 (trip2.sl.v660 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 224#32 (k0_off55_inb k 28)) (rdb x k 216#32 (k0_off55_inb k 27)) (rdb x k 208#32 (k0_off55_inb k 26)) (rdb x k 200#32 (k0_off55_inb k 25))⟩,
   ⟨Rect.unit (k0_off55 k 208#32) S8x128.size (k0_off55_inb k 26), k0_pay350 (trip2.sl.v660 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 224#32 (k0_off55_inb k 28)) (rdb x k 216#32 (k0_off55_inb k 27)) (rdb x k 208#32 (k0_off55_inb k 26))⟩,
   ⟨Rect.unit (k0_off55 k 216#32) S8x128.size (k0_off55_inb k 27), k0_pay349 (trip2.sl.v660 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 224#32 (k0_off55_inb k 28)) (rdb x k 216#32 (k0_off55_inb k 27))⟩,
   ⟨Rect.unit (k0_off55 k 224#32) S8x128.size (k0_off55_inb k 28), k0_pay348 (trip2.sl.v660 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 224#32 (k0_off55_inb k 28))⟩,
   ⟨Rect.unit (k0_off55 k 232#32) S8x128.size (k0_off55_inb k 29), (trip2.sl.v660 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28)⟩,
   ⟨Rect.unit (k0_off55 k 240#32) S8x128.size (k0_off55_inb k 30), k0_pay346 (trip2.sl.v620 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 264#32 (k0_off55_inb k 33)) (rdb x k 256#32 (k0_off55_inb k 32)) (rdb x k 248#32 (k0_off55_inb k 31)) (rdb x k 240#32 (k0_off55_inb k 30))⟩,
   ⟨Rect.unit (k0_off55 k 248#32) S8x128.size (k0_off55_inb k 31), k0_pay345 (trip2.sl.v620 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 264#32 (k0_off55_inb k 33)) (rdb x k 256#32 (k0_off55_inb k 32)) (rdb x k 248#32 (k0_off55_inb k 31))⟩,
   ⟨Rect.unit (k0_off55 k 256#32) S8x128.size (k0_off55_inb k 32), k0_pay344 (trip2.sl.v620 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 264#32 (k0_off55_inb k 33)) (rdb x k 256#32 (k0_off55_inb k 32))⟩,
   ⟨Rect.unit (k0_off55 k 264#32) S8x128.size (k0_off55_inb k 33), k0_pay343 (trip2.sl.v620 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 264#32 (k0_off55_inb k 33))⟩,
   ⟨Rect.unit (k0_off55 k 272#32) S8x128.size (k0_off55_inb k 34), k0_pay342 (trip2.sl.v588 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 296#32 (k0_off55_inb k 37)) (rdb x k 288#32 (k0_off55_inb k 36)) (rdb x k 280#32 (k0_off55_inb k 35)) (rdb x k 272#32 (k0_off55_inb k 34))⟩,
   ⟨Rect.unit (k0_off55 k 280#32) S8x128.size (k0_off55_inb k 35), k0_pay341 (trip2.sl.v588 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 296#32 (k0_off55_inb k 37)) (rdb x k 288#32 (k0_off55_inb k 36)) (rdb x k 280#32 (k0_off55_inb k 35))⟩,
   ⟨Rect.unit (k0_off55 k 288#32) S8x128.size (k0_off55_inb k 36), k0_pay340 (trip2.sl.v588 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 296#32 (k0_off55_inb k 37)) (rdb x k 288#32 (k0_off55_inb k 36))⟩,
   ⟨Rect.unit (k0_off55 k 296#32) S8x128.size (k0_off55_inb k 37), k0_pay339 (trip2.sl.v588 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 296#32 (k0_off55_inb k 37))⟩,
   ⟨Rect.unit (k0_off55 k 304#32) S8x128.size (k0_off55_inb k 38), (trip2.sl.v588 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28)⟩,
   ⟨Rect.unit (k0_off55 k 312#32) S8x128.size (k0_off55_inb k 39), k0_pay337 (trip2.sl.v548 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 336#32 (k0_off55_inb k 42)) (rdb x k 328#32 (k0_off55_inb k 41)) (rdb x k 320#32 (k0_off55_inb k 40)) (rdb x k 312#32 (k0_off55_inb k 39))⟩,
   ⟨Rect.unit (k0_off55 k 320#32) S8x128.size (k0_off55_inb k 40), k0_pay336 (trip2.sl.v548 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 336#32 (k0_off55_inb k 42)) (rdb x k 328#32 (k0_off55_inb k 41)) (rdb x k 320#32 (k0_off55_inb k 40))⟩,
   ⟨Rect.unit (k0_off55 k 328#32) S8x128.size (k0_off55_inb k 41), k0_pay335 (trip2.sl.v548 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 336#32 (k0_off55_inb k 42)) (rdb x k 328#32 (k0_off55_inb k 41))⟩,
   ⟨Rect.unit (k0_off55 k 336#32) S8x128.size (k0_off55_inb k 42), k0_pay334 (trip2.sl.v548 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 336#32 (k0_off55_inb k 42))⟩,
   ⟨Rect.unit (k0_off55 k 344#32) S8x128.size (k0_off55_inb k 43), (trip2.sl.v548 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28)⟩,
   ⟨Rect.unit (k0_off55 k 352#32) S8x128.size (k0_off55_inb k 44), k0_pay332 (trip2.sl.v508 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 376#32 (k0_off55_inb k 47)) (rdb x k 368#32 (k0_off55_inb k 46)) (rdb x k 360#32 (k0_off55_inb k 45)) (rdb x k 352#32 (k0_off55_inb k 44))⟩,
   ⟨Rect.unit (k0_off55 k 360#32) S8x128.size (k0_off55_inb k 45), k0_pay331 (trip2.sl.v508 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 376#32 (k0_off55_inb k 47)) (rdb x k 368#32 (k0_off55_inb k 46)) (rdb x k 360#32 (k0_off55_inb k 45))⟩,
   ⟨Rect.unit (k0_off55 k 368#32) S8x128.size (k0_off55_inb k 46), k0_pay330 (trip2.sl.v508 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 376#32 (k0_off55_inb k 47)) (rdb x k 368#32 (k0_off55_inb k 46))⟩,
   ⟨Rect.unit (k0_off55 k 376#32) S8x128.size (k0_off55_inb k 47), k0_pay329 (trip2.sl.v508 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 376#32 (k0_off55_inb k 47))⟩,
   ⟨Rect.unit (k0_off55 k 384#32) S8x128.size (k0_off55_inb k 48), k0_pay328 (trip2.sl.v476 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 408#32 (k0_off55_inb k 51)) (rdb x k 400#32 (k0_off55_inb k 50)) (rdb x k 392#32 (k0_off55_inb k 49)) (rdb x k 384#32 (k0_off55_inb k 48))⟩,
   ⟨Rect.unit (k0_off55 k 392#32) S8x128.size (k0_off55_inb k 49), k0_pay327 (trip2.sl.v476 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 408#32 (k0_off55_inb k 51)) (rdb x k 400#32 (k0_off55_inb k 50)) (rdb x k 392#32 (k0_off55_inb k 49))⟩,
   ⟨Rect.unit (k0_off55 k 400#32) S8x128.size (k0_off55_inb k 50), k0_pay326 (trip2.sl.v476 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 408#32 (k0_off55_inb k 51)) (rdb x k 400#32 (k0_off55_inb k 50))⟩,
   ⟨Rect.unit (k0_off55 k 408#32) S8x128.size (k0_off55_inb k 51), k0_pay325 (trip2.sl.v476 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 408#32 (k0_off55_inb k 51))⟩,
   ⟨Rect.unit (k0_off55 k 416#32) S8x128.size (k0_off55_inb k 52), (trip2.sl.v476 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28)⟩,
   ⟨Rect.unit (k0_off55 k 424#32) S8x128.size (k0_off55_inb k 53), k0_pay323 (trip2.sl.v436 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 448#32 (k0_off55_inb k 56)) (rdb x k 440#32 (k0_off55_inb k 55)) (rdb x k 432#32 (k0_off55_inb k 54)) (rdb x k 424#32 (k0_off55_inb k 53))⟩,
   ⟨Rect.unit (k0_off55 k 432#32) S8x128.size (k0_off55_inb k 54), k0_pay322 (trip2.sl.v436 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 448#32 (k0_off55_inb k 56)) (rdb x k 440#32 (k0_off55_inb k 55)) (rdb x k 432#32 (k0_off55_inb k 54))⟩,
   ⟨Rect.unit (k0_off55 k 440#32) S8x128.size (k0_off55_inb k 55), k0_pay321 (trip2.sl.v436 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 448#32 (k0_off55_inb k 56)) (rdb x k 440#32 (k0_off55_inb k 55))⟩,
   ⟨Rect.unit (k0_off55 k 448#32) S8x128.size (k0_off55_inb k 56), k0_pay320 (trip2.sl.v436 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (rdb x k 448#32 (k0_off55_inb k 56))⟩,
   ⟨Rect.unit (k0_off55 k 456#32) S8x128.size (k0_off55_inb k 57), k0_pay319 (trip2.sl.v396 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v403 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 480#32 (k0_off55_inb k 60)) (rdb x k 472#32 (k0_off55_inb k 59)) (rdb x k 464#32 (k0_off55_inb k 58)) (rdb x k 456#32 (k0_off55_inb k 57))⟩,
   ⟨Rect.unit (k0_off55 k 464#32) S8x128.size (k0_off55_inb k 58), k0_pay318 (trip2.sl.v396 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v403 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 480#32 (k0_off55_inb k 60)) (rdb x k 472#32 (k0_off55_inb k 59)) (rdb x k 464#32 (k0_off55_inb k 58))⟩,
   ⟨Rect.unit (k0_off55 k 472#32) S8x128.size (k0_off55_inb k 59), k0_pay317 (trip2.sl.v396 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v403 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 480#32 (k0_off55_inb k 60)) (rdb x k 472#32 (k0_off55_inb k 59))⟩,
   ⟨Rect.unit (k0_off55 k 480#32) S8x128.size (k0_off55_inb k 60), k0_pay316 (trip2.sl.v396 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v403 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 480#32 (k0_off55_inb k 60))⟩,
   ⟨Rect.unit (k0_off55 k 488#32) S8x128.size (k0_off55_inb k 61), k0_pay315 (trip2.sl.v396 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v403 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28)⟩,
   ⟨Rect.unit (k0_off55 k 496#32) S8x128.size (k0_off55_inb k 62), k0_pay313 acc (rdb x k 504#32 (k0_off55_inb k 63)) (rdb x k 496#32 (k0_off55_inb k 62))⟩,
   ⟨Rect.unit (k0_off55 k 504#32) S8x128.size (k0_off55_inb k 63), k0_pay312 acc (rdb x k 504#32 (k0_off55_inb k 63))⟩]
/-- The sum carried to the next trip. -/
def acc2 (x : Ctx) (k : Fin k0_t2_loop.trips) (acc : FVec Ideal S8x128 .f32) : FVec Ideal S8x128 .f32 := k0_pay6 (trip2.sl.v876 (F := Ideal) x.c x.i x.arg8 x.arg9 x.arg14 x.arg16 x.arg17 x.arg19 x.arg20 x.arg21 x.arg23 x.arg25 x.arg28 x.f8 x.f9 k acc x.f14 x.f16 x.f17 x.f19 x.f20 x.f21 x.f23 x.f25 x.f28) (trip2.sl.v883 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28) (rdb x k 0#32 (k0_off55_inb k 0))
end
theorem pc13 (k : Fin k0_t2_loop.trips) (w : BitVec 32) (t : Fin 64) (q : ℕ) (hq : q + t.val = 64) (hw : w = BitVec.ofNat 32 (8 * t.val)) (inb) (P : S8x128.Idx → EReal)
    (hP : ∀ (u : Fin 8) (l : Fin 128), P (ix2 u l) = suf D (64 * k.val + q) (u.val % 4) (u.val / 4 * 128 + l.val))
    (z : (Rect.unit (s := S5120x128) (k0_off55 k w) S8x128.size inb).shape.Idx) :
    P z = row3 (dg D) ((Rect.unit (s := S5120x128) (k0_off55 k w) S8x128.size inb).emb z 0).val ((Rect.unit (s := S5120x128) (k0_off55 k w) S8x128.size inb).emb z 1).val := by
  obtain ⟨u, l, rfl⟩ : ∃ (u : Fin 8) (l : Fin 128), z = ix2 u l := ⟨z 0, z 1, eq_ix2 z⟩
  rw [hP]
  show _ = row3 (dg D) (k0_off55 k w 0 + 1 * u.val) (k0_off55 k w 1 + 1 * l.val)
  subst hw
  rw [off55 k t]
  show _ = row3 (dg D) (512 * (9 - k.val) + 8 * t.val + 1 * u.val) (0 + 1 * l.val)
  rw [Nat.zero_add, Nat.one_mul, Nat.one_mul]
  refine Eq.trans ?_ (rows8' _ (9 - k.val) t.val u.val _ _ t.isLt u.isLt rfl).symm
  unfold dg
  have := kle k
  congr 1
  omega

section
include H k s
theorem P13 : ∀ p ∈ L13 x k acc, ∀ z : p.1.shape.Idx,
    p.2 z = row3 (dg D) (p.1.emb z 0).val (p.1.emb z 1).val := by
  unfold L13
  refine List.forall_mem_cons.mpr ⟨pc13 k 0#32 0 64 rfl rfl (k0_off55_inb k 0) _ ?_, ?_⟩
  · intro u l; unfold_payloads; pointwise; simp only [t876 x H k acc s, t883 x H k acc s, ldb x H k acc s 0#32 _ 0 rfl, sufs k 1 62 63 rfl rfl, sufz k 1 62 63 rfl rfl, sufs k 0 63 64 rfl rfl, sufz k 0 63 64 rfl rfl]
  refine List.forall_mem_cons.mpr ⟨pc13 k 8#32 1 63 rfl rfl (k0_off55_inb k 1) _ ?_, ?_⟩
  · intro u l; unfold_payloads; pointwise; simp only [t876 x H k acc s, t883 x H k acc s, sufs k 1 62 63 rfl rfl, sufz k 1 62 63 rfl rfl]
  refine List.forall_mem_cons.mpr ⟨pc13 k 16#32 2 62 rfl rfl (k0_off55_inb k 2) _ ?_, ?_⟩
  · intro u l; unfold_payloads; pointwise; simp only [t844 x H k acc s, ldb x H k acc s 40#32 _ 5 rfl, ldb x H k acc s 32#32 _ 4 rfl, ldb x H k acc s 24#32 _ 3 rfl, ldb x H k acc s 16#32 _ 2 rfl, sufs k 5 58 59 rfl rfl, sufz k 5 58 59 rfl rfl, sufs k 4 59 60 rfl rfl, sufz k 4 59 60 rfl rfl, sufs k 3 60 61 rfl rfl, sufz k 3 60 61 rfl rfl, sufs k 2 61 62 rfl rfl, sufz k 2 61 62 rfl rfl]
  refine List.forall_mem_cons.mpr ⟨pc13 k 24#32 3 61 rfl rfl (k0_off55_inb k 3) _ ?_, ?_⟩
  · intro u l; unfold_payloads; pointwise; simp only [t844 x H k acc s, ldb x H k acc s 40#32 _ 5 rfl, ldb x H k acc s 32#32 _ 4 rfl, ldb x H k acc s 24#32 _ 3 rfl, sufs k 5 58 59 rfl rfl, sufz k 5 58 59 rfl rfl, sufs k 4 59 60 rfl rfl, sufz k 4 59 60 rfl rfl, sufs k 3 60 61 rfl rfl, sufz k 3 60 61 rfl rfl]
  refine List.forall_mem_cons.mpr ⟨pc13 k 32#32 4 60 rfl rfl (k0_off55_inb k 4) _ ?_, ?_⟩
  · intro u l; unfold_payloads; pointwise; simp only [t844 x H k acc s, ldb x H k acc s 40#32 _ 5 rfl, ldb x H k acc s 32#32 _ 4 rfl, sufs k 5 58 59 rfl rfl, sufz k 5 58 59 rfl rfl, sufs k 4 59 60 rfl rfl, sufz k 4 59 60 rfl rfl]
  refine List.forall_mem_cons.mpr ⟨pc13 k 40#32 5 59 rfl rfl (k0_off55_inb k 5) _ ?_, ?_⟩
  · intro u l; unfold_payloads; pointwise; simp only [t844 x H k acc s, ldb x H k acc s 40#32 _ 5 rfl, sufs k 5 58 59 rfl rfl, sufz k 5 58 59 rfl rfl]
  refine List.forall_mem_cons.mpr ⟨pc13 k 48#32 6 58 rfl rfl (k0_off55_inb k 6) _ ?_, ?_⟩
  · intro u l; exact t844 x H k acc s u l
  refine List.forall_mem_cons.mpr ⟨pc13 k 56#32 7 57 rfl rfl (k0_off55_inb k 7) _ ?_, ?_⟩
  · intro u l; unfold_payloads; pointwise; simp only [t804 x H k acc s, ldb x H k acc s 80#32 _ 10 rfl, ldb x H k acc s 72#32 _ 9 rfl, ldb x H k acc s 64#32 _ 8 rfl, ldb x H k acc s 56#32 _ 7 rfl, sufs k 10 53 54 rfl rfl, sufz k 10 53 54 rfl rfl, sufs k 9 54 55 rfl rfl, sufz k 9 54 55 rfl rfl, sufs k 8 55 56 rfl rfl, sufz k 8 55 56 rfl rfl, sufs k 7 56 57 rfl rfl, sufz k 7 56 57 rfl rfl]
  refine List.forall_mem_cons.mpr ⟨pc13 k 64#32 8 56 rfl rfl (k0_off55_inb k 8) _ ?_, ?_⟩
  · intro u l; unfold_payloads; pointwise; simp only [t804 x H k acc s, ldb x H k acc s 80#32 _ 10 rfl, ldb x H k acc s 72#32 _ 9 rfl, ldb x H k acc s 64#32 _ 8 rfl, sufs k 10 53 54 rfl rfl, sufz k 10 53 54 rfl rfl, sufs k 9 54 55 rfl rfl, sufz k 9 54 55 rfl rfl, sufs k 8 55 56 rfl rfl, sufz k 8 55 56 rfl rfl]
  refine List.forall_mem_cons.mpr ⟨pc13 k 72#32 9 55 rfl rfl (k0_off55_inb k 9) _ ?_, ?_⟩
  · intro u l; unfold_payloads; pointwise; simp only [t804 x H k acc s, ldb x H k acc s 80#32 _ 10 rfl, ldb x H k acc s 72#32 _ 9 rfl, sufs k 10 53 54 rfl rfl, sufz k 10 53 54 rfl rfl, sufs k 9 54 55 rfl rfl, sufz k 9 54 55 rfl rfl]
  refine List.forall_mem_cons.mpr ⟨pc13 k 80#32 10 54 rfl rfl (k0_off55_inb k 10) _ ?_, ?_⟩
  · intro u l; unfold_payloads; pointwise; simp only [t804 x H k acc s, ldb x H k acc s 80#32 _ 10 rfl, sufs k 10 53 54 rfl rfl, sufz k 10 53 54 rfl rfl]
  refine List.forall_mem_cons.mpr ⟨pc13 k 88#32 11 53 rfl rfl (k0_off55_inb k 11) _ ?_, ?_⟩
  · intro u l; unfold_payloads; pointwise; simp only [t772 x H k acc s, ldb x H k acc s 112#32 _ 14 rfl, ldb x H k acc s 104#32 _ 13 rfl, ldb x H k acc s 96#32 _ 12 rfl, ldb x H k acc s 88#32 _ 11 rfl, sufs k 14 49 50 rfl rfl, sufz k 14 49 50 rfl rfl, sufs k 13 50 51 rfl rfl, sufz k 13 50 51 rfl rfl, sufs k 12 51 52 rfl rfl, sufz k 12 51 52 rfl rfl, sufs k 11 52 53 rfl rfl, sufz k 11 52 53 rfl rfl]
  refine List.forall_mem_cons.mpr ⟨pc13 k 96#32 12 52 rfl rfl (k0_off55_inb k 12) _ ?_, ?_⟩
  · intro u l; unfold_payloads; pointwise; simp only [t772 x H k acc s, ldb x H k acc s 112#32 _ 14 rfl, ldb x H k acc s 104#32 _ 13 rfl, ldb x H k acc s 96#32 _ 12 rfl, sufs k 14 49 50 rfl rfl, sufz k 14 49 50 rfl rfl, sufs k 13 50 51 rfl rfl, sufz k 13 50 51 rfl rfl, sufs k 12 51 52 rfl rfl, sufz k 12 51 52 rfl rfl]
  refine List.forall_mem_cons.mpr ⟨pc13 k 104#32 13 51 rfl rfl (k0_off55_inb k 13) _ ?_, ?_⟩
  · intro u l; unfold_payloads; pointwise; simp only [t772 x H k acc s, ldb x H k acc s 112#32 _ 14 rfl, ldb x H k acc s 104#32 _ 13 rfl, sufs k 14 49 50 rfl rfl, sufz k 14 49 50 rfl rfl, sufs k 13 50 51 rfl rfl, sufz k 13 50 51 rfl rfl]
  refine List.forall_mem_cons.mpr ⟨pc13 k 112#32 14 50 rfl rfl (k0_off55_inb k 14) _ ?_, ?_⟩
  · intro u l; unfold_payloads; pointwise; simp only [t772 x H k acc s, ldb x H k acc s 112#32 _ 14 rfl, sufs k 14 49 50 rfl rfl, sufz k 14 49 50 rfl rfl]
  refine List.forall_mem_cons.mpr ⟨pc13 k 120#32 15 49 rfl rfl (k0_off55_inb k 15) _ ?_, ?_⟩
  · intro u l; exact t772 x H k acc s u l
  refine List.forall_mem_cons.mpr ⟨pc13 k 128#32 16 48 rfl rfl (k0_off55_inb k 16) _ ?_, ?_⟩
  · intro u l; unfold_payloads; pointwise; simp only [t732 x H k acc s, ldb x H k acc s 152#32 _ 19 rfl, ldb x H k acc s 144#32 _ 18 rfl, ldb x H k acc s 136#32 _ 17 rfl, ldb x H k acc s 128#32 _ 16 rfl, sufs k 19 44 45 rfl rfl, sufz k 19 44 45 rfl rfl, sufs k 18 45 46 rfl rfl, sufz k 18 45 46 rfl rfl, sufs k 17 46 47 rfl rfl, sufz k 17 46 47 rfl rfl, sufs k 16 47 48 rfl rfl, sufz k 16 47 48 rfl rfl]
  refine List.forall_mem_cons.mpr ⟨pc13 k 136#32 17 47 rfl rfl (k0_off55_inb k 17) _ ?_, ?_⟩
  · intro u l; unfold_payloads; pointwise; simp only [t732 x H k acc s, ldb x H k acc s 152#32 _ 19 rfl, ldb x H k acc s 144#32 _ 18 rfl, ldb x H k acc s 136#32 _ 17 rfl, sufs k 19 44 45 rfl rfl, sufz k 19 44 45 rfl rfl, sufs k 18 45 46 rfl rfl, sufz k 18 45 46 rfl rfl, sufs k 17 46 47 rfl rfl, sufz k 17 46 47 rfl rfl]
  refine List.forall_mem_cons.mpr ⟨pc13 k 144#32 18 46 rfl rfl (k0_off55_inb k 18) _ ?_, ?_⟩
  · intro u l; unfold_payloads; pointwise; simp only [t732 x H k acc s, ldb x H k acc s 152#32 _ 19 rfl, ldb x H k acc s 144#32 _ 18 rfl, sufs k 19 44 45 rfl rfl, sufz k 19 44 45 rfl rfl, sufs k 18 45 46 rfl rfl, sufz k 18 45 46 rfl rfl]
  refine List.forall_mem_cons.mpr ⟨pc13 k 152#32 19 45 rfl rfl (k0_off55_inb k 19) _ ?_, ?_⟩
  · intro u l; unfold_payloads; pointwise; simp only [t732 x H k acc s, ldb x H k acc s 152#32 _ 19 rfl, sufs k 19 44 45 rfl rfl, sufz k 19 44 45 rfl rfl]
  refine List.forall_mem_cons.mpr ⟨pc13 k 160#32 20 44 rfl rfl (k0_off55_inb k 20) _ ?_, ?_⟩
  · intro u l; unfold_payloads; pointwise; simp only [t692 x H k acc s, t698 x H k acc s, ldb x H k acc s 184#32 _ 23 rfl, ldb x H k acc s 176#32 _ 22 rfl, ldb x H k acc s 168#32 _ 21 rfl, ldb x H k acc s 160#32 _ 20 rfl, sufs k 24 39 40 rfl rfl, sufz k 24 39 40 rfl rfl, sufs k 23 40 41 rfl rfl, sufz k 23 40 41 rfl rfl, sufs k 22 41 42 rfl rfl, sufz k 22 41 42 rfl rfl, sufs k 21 42 43 rfl rfl, sufz k 21 42 43 rfl rfl, sufs k 20 43 44 rfl rfl, sufz k 20 43 44 rfl rfl]
  refine List.forall_mem_cons.mpr ⟨pc13 k 168#32 21 43 rfl rfl (k0_off55_inb k 21) _ ?_, ?_⟩
  · intro u l; unfold_payloads; pointwise; simp only [t692 x H k acc s, t698 x H k acc s, ldb x H k acc s 184#32 _ 23 rfl, ldb x H k acc s 176#32 _ 22 rfl, ldb x H k acc s 168#32 _ 21 rfl, sufs k 24 39 40 rfl rfl, sufz k 24 39 40 rfl rfl, sufs k 23 40 41 rfl rfl, sufz k 23 40 41 rfl rfl, sufs k 22 41 42 rfl rfl, sufz k 22 41 42 rfl rfl, sufs k 21 42 43 rfl rfl, sufz k 21 42 43 rfl rfl]
  refine List.forall_mem_cons.mpr ⟨pc13 k 176#32 22 42 rfl rfl (k0_off55_inb k 22) _ ?_, ?_⟩
  · intro u l; unfold_payloads; pointwise; simp only [t692 x H k acc s, t698 x H k acc s, ldb x H k acc s 184#32 _ 23 rfl, ldb x H k acc s 176#32 _ 22 rfl, sufs k 24 39 40 rfl rfl, sufz k 24 39 40 rfl rfl, sufs k 23 40 41 rfl rfl, sufz k 23 40 41 rfl rfl, sufs k 22 41 42 rfl rfl, sufz k 22 41 42 rfl rfl]
  refine List.forall_mem_cons.mpr ⟨pc13 k 184#32 23 41 rfl rfl (k0_off55_inb k 23) _ ?_, ?_⟩
  · intro u l; unfold_payloads; pointwise; simp only [t692 x H k acc s, t698 x H k acc s, ldb x H k acc s 184#32 _ 23 rfl, sufs k 24 39 40 rfl rfl, sufz k 24 39 40 rfl rfl, sufs k 23 40 41 rfl rfl, sufz k 23 40 41 rfl rfl]
  refine List.forall_mem_cons.mpr ⟨pc13 k 192#32 24 40 rfl rfl (k0_off55_inb k 24) _ ?_, ?_⟩
  · intro u l; unfold_payloads; pointwise; simp only [t692 x H k acc s, t698 x H k acc s, sufs k 24 39 40 rfl rfl, sufz k 24 39 40 rfl rfl]
  refine List.forall_mem_cons.mpr ⟨pc13 k 200#32 25 39 rfl rfl (k0_off55_inb k 25) _ ?_, ?_⟩
  · intro u l; unfold_payloads; pointwise; simp only [t660 x H k acc s, ldb x H k acc s 224#32 _ 28 rfl, ldb x H k acc s 216#32 _ 27 rfl, ldb x H k acc s 208#32 _ 26 rfl, ldb x H k acc s 200#32 _ 25 rfl, sufs k 28 35 36 rfl rfl, sufz k 28 35 36 rfl rfl, sufs k 27 36 37 rfl rfl, sufz k 27 36 37 rfl rfl, sufs k 26 37 38 rfl rfl, sufz k 26 37 38 rfl rfl, sufs k 25 38 39 rfl rfl, sufz k 25 38 39 rfl rfl]
  refine List.forall_mem_cons.mpr ⟨pc13 k 208#32 26 38 rfl rfl (k0_off55_inb k 26) _ ?_, ?_⟩
  · intro u l; unfold_payloads; pointwise; simp only [t660 x H k acc s, ldb x H k acc s 224#32 _ 28 rfl, ldb x H k acc s 216#32 _ 27 rfl, ldb x H k acc s 208#32 _ 26 rfl, sufs k 28 35 36 rfl rfl, sufz k 28 35 36 rfl rfl, sufs k 27 36 37 rfl rfl, sufz k 27 36 37 rfl rfl, sufs k 26 37 38 rfl rfl, sufz k 26 37 38 rfl rfl]
  refine List.forall_mem_cons.mpr ⟨pc13 k 216#32 27 37 rfl rfl (k0_off55_inb k 27) _ ?_, ?_⟩
  · intro u l; unfold_payloads; pointwise; simp only [t660 x H k acc s, ldb x H k acc s 224#32 _ 28 rfl, ldb x H k acc s 216#32 _ 27 rfl, sufs k 28 35 36 rfl rfl, sufz k 28 35 36 rfl rfl, sufs k 27 36 37 rfl rfl, sufz k 27 36 37 rfl rfl]
  refine List.forall_mem_cons.mpr ⟨pc13 k 224#32 28 36 rfl rfl (k0_off55_inb k 28) _ ?_, ?_⟩
  · intro u l; unfold_payloads; pointwise; simp only [t660 x H k acc s, ldb x H k acc s 224#32 _ 28 rfl, sufs k 28 35 36 rfl rfl, sufz k 28 35 36 rfl rfl]
  refine List.forall_mem_cons.mpr ⟨pc13 k 232#32 29 35 rfl rfl (k0_off55_inb k 29) _ ?_, ?_⟩
  · intro u l; exact t660 x H k acc s u l
  refine List.forall_mem_cons.mpr ⟨pc13 k 240#32 30 34 rfl rfl (k0_off55_inb k 30) _ ?_, ?_⟩
  · intro u l; unfold_payloads; pointwise; simp only [t620 x H k acc s, ldb x H k acc s 264#32 _ 33 rfl, ldb x H k acc s 256#32 _ 32 rfl, ldb x H k acc s 248#32 _ 31 rfl, ldb x H k acc s 240#32 _ 30 rfl, sufs k 33 30 31 rfl rfl, sufz k 33 30 31 rfl rfl, sufs k 32 31 32 rfl rfl, sufz k 32 31 32 rfl rfl, sufs k 31 32 33 rfl rfl, sufz k 31 32 33 rfl rfl, sufs k 30 33 34 rfl rfl, sufz k 30 33 34 rfl rfl]
  refine List.forall_mem_cons.mpr ⟨pc13 k 248#32 31 33 rfl rfl (k0_off55_inb k 31) _ ?_, ?_⟩
  · intro u l; unfold_payloads; pointwise; simp only [t620 x H k acc s, ldb x H k acc s 264#32 _ 33 rfl, ldb x H k acc s 256#32 _ 32 rfl, ldb x H k acc s 248#32 _ 31 rfl, sufs k 33 30 31 rfl rfl, sufz k 33 30 31 rfl rfl, sufs k 32 31 32 rfl rfl, sufz k 32 31 32 rfl rfl, sufs k 31 32 33 rfl rfl, sufz k 31 32 33 rfl rfl]
  refine List.forall_mem_cons.mpr ⟨pc13 k 256#32 32 32 rfl rfl (k0_off55_inb k 32) _ ?_, ?_⟩
  · intro u l; unfold_payloads; pointwise; simp only [t620 x H k acc s, ldb x H k acc s 264#32 _ 33 rfl, ldb x H k acc s 256#32 _ 32 rfl, sufs k 33 30 31 rfl rfl, sufz k 33 30 31 rfl rfl, sufs k 32 31 32 rfl rfl, sufz k 32 31 32 rfl rfl]
  refine List.forall_mem_cons.mpr ⟨pc13 k 264#32 33 31 rfl rfl (k0_off55_inb k 33) _ ?_, ?_⟩
  · intro u l; unfold_payloads; pointwise; simp only [t620 x H k acc s, ldb x H k acc s 264#32 _ 33 rfl, sufs k 33 30 31 rfl rfl, sufz k 33 30 31 rfl rfl]
  refine List.forall_mem_cons.mpr ⟨pc13 k 272#32 34 30 rfl rfl (k0_off55_inb k 34) _ ?_, ?_⟩
  · intro u l; unfold_payloads; pointwise; simp only [t588 x H k acc s, ldb x H k acc s 296#32 _ 37 rfl, ldb x H k acc s 288#32 _ 36 rfl, ldb x H k acc s 280#32 _ 35 rfl, ldb x H k acc s 272#32 _ 34 rfl, sufs k 37 26 27 rfl rfl, sufz k 37 26 27 rfl rfl, sufs k 36 27 28 rfl rfl, sufz k 36 27 28 rfl rfl, sufs k 35 28 29 rfl rfl, sufz k 35 28 29 rfl rfl, sufs k 34 29 30 rfl rfl, sufz k 34 29 30 rfl rfl]
  refine List.forall_mem_cons.mpr ⟨pc13 k 280#32 35 29 rfl rfl (k0_off55_inb k 35) _ ?_, ?_⟩
  · intro u l; unfold_payloads; pointwise; simp only [t588 x H k acc s, ldb x H k acc s 296#32 _ 37 rfl, ldb x H k acc s 288#32 _ 36 rfl, ldb x H k acc s 280#32 _ 35 rfl, sufs k 37 26 27 rfl rfl, sufz k 37 26 27 rfl rfl, sufs k 36 27 28 rfl rfl, sufz k 36 27 28 rfl rfl, sufs k 35 28 29 rfl rfl, sufz k 35 28 29 rfl rfl]
  refine List.forall_mem_cons.mpr ⟨pc13 k 288#32 36 28 rfl rfl (k0_off55_inb k 36) _ ?_, ?_⟩
  · intro u l; unfold_payloads; pointwise; simp only [t588 x H k acc s, ldb x H k acc s 296#32 _ 37 rfl, ldb x H k acc s 288#32 _ 36 rfl, sufs k 37 26 27 rfl rfl, sufz k 37 26 27 rfl rfl, sufs k 36 27 28 rfl rfl, sufz k 36 27 28 rfl rfl]
  refine List.forall_mem_cons.mpr ⟨pc13 k 296#32 37 27 rfl rfl (k0_off55_inb k 37) _ ?_, ?_⟩
  · intro u l; unfold_payloads; pointwise; simp only [t588 x H k acc s, ldb x H k acc s 296#32 _ 37 rfl, sufs k 37 26 27 rfl rfl, sufz k 37 26 27 rfl rfl]
  refine List.forall_mem_cons.mpr ⟨pc13 k 304#32 38 26 rfl rfl (k0_off55_inb k 38) _ ?_, ?_⟩
  · intro u l; exact t588 x H k acc s u l
  refine List.forall_mem_cons.mpr ⟨pc13 k 312#32 39 25 rfl rfl (k0_off55_inb k 39) _ ?_, ?_⟩
  · intro u l; unfold_payloads; pointwise; simp only [t548 x H k acc s, ldb x H k acc s 336#32 _ 42 rfl, ldb x H k acc s 328#32 _ 41 rfl, ldb x H k acc s 320#32 _ 40 rfl, ldb x H k acc s 312#32 _ 39 rfl, sufs k 42 21 22 rfl rfl, sufz k 42 21 22 rfl rfl, sufs k 41 22 23 rfl rfl, sufz k 41 22 23 rfl rfl, sufs k 40 23 24 rfl rfl, sufz k 40 23 24 rfl rfl, sufs k 39 24 25 rfl rfl, sufz k 39 24 25 rfl rfl]
  refine List.forall_mem_cons.mpr ⟨pc13 k 320#32 40 24 rfl rfl (k0_off55_inb k 40) _ ?_, ?_⟩
  · intro u l; unfold_payloads; pointwise; simp only [t548 x H k acc s, ldb x H k acc s 336#32 _ 42 rfl, ldb x H k acc s 328#32 _ 41 rfl, ldb x H k acc s 320#32 _ 40 rfl, sufs k 42 21 22 rfl rfl, sufz k 42 21 22 rfl rfl, sufs k 41 22 23 rfl rfl, sufz k 41 22 23 rfl rfl, sufs k 40 23 24 rfl rfl, sufz k 40 23 24 rfl rfl]
  refine List.forall_mem_cons.mpr ⟨pc13 k 328#32 41 23 rfl rfl (k0_off55_inb k 41) _ ?_, ?_⟩
  · intro u l; unfold_payloads; pointwise; simp only [t548 x H k acc s, ldb x H k acc s 336#32 _ 42 rfl, ldb x H k acc s 328#32 _ 41 rfl, sufs k 42 21 22 rfl rfl, sufz k 42 21 22 rfl rfl, sufs k 41 22 23 rfl rfl, sufz k 41 22 23 rfl rfl]
  refine List.forall_mem_cons.mpr ⟨pc13 k 336#32 42 22 rfl rfl (k0_off55_inb k 42) _ ?_, ?_⟩
  · intro u l; unfold_payloads; pointwise; simp only [t548 x H k acc s, ldb x H k acc s 336#32 _ 42 rfl, sufs k 42 21 22 rfl rfl, sufz k 42 21 22 rfl rfl]
  refine List.forall_mem_cons.mpr ⟨pc13 k 344#32 43 21 rfl rfl (k0_off55_inb k 43) _ ?_, ?_⟩
  · intro u l; exact t548 x H k acc s u l
  refine List.forall_mem_cons.mpr ⟨pc13 k 352#32 44 20 rfl rfl (k0_off55_inb k 44) _ ?_, ?_⟩
  · intro u l; unfold_payloads; pointwise; simp only [t508 x H k acc s, ldb x H k acc s 376#32 _ 47 rfl, ldb x H k acc s 368#32 _ 46 rfl, ldb x H k acc s 360#32 _ 45 rfl, ldb x H k acc s 352#32 _ 44 rfl, sufs k 47 16 17 rfl rfl, sufz k 47 16 17 rfl rfl, sufs k 46 17 18 rfl rfl, sufz k 46 17 18 rfl rfl, sufs k 45 18 19 rfl rfl, sufz k 45 18 19 rfl rfl, sufs k 44 19 20 rfl rfl, sufz k 44 19 20 rfl rfl]
  refine List.forall_mem_cons.mpr ⟨pc13 k 360#32 45 19 rfl rfl (k0_off55_inb k 45) _ ?_, ?_⟩
  · intro u l; unfold_payloads; pointwise; simp only [t508 x H k acc s, ldb x H k acc s 376#32 _ 47 rfl, ldb x H k acc s 368#32 _ 46 rfl, ldb x H k acc s 360#32 _ 45 rfl, sufs k 47 16 17 rfl rfl, sufz k 47 16 17 rfl rfl, sufs k 46 17 18 rfl rfl, sufz k 46 17 18 rfl rfl, sufs k 45 18 19 rfl rfl, sufz k 45 18 19 rfl rfl]
  refine List.forall_mem_cons.mpr ⟨pc13 k 368#32 46 18 rfl rfl (k0_off55_inb k 46) _ ?_, ?_⟩
  · intro u l; unfold_payloads; pointwise; simp only [t508 x H k acc s, ldb x H k acc s 376#32 _ 47 rfl, ldb x H k acc s 368#32 _ 46 rfl, sufs k 47 16 17 rfl rfl, sufz k 47 16 17 rfl rfl, sufs k 46 17 18 rfl rfl, sufz k 46 17 18 rfl rfl]
  refine List.forall_mem_cons.mpr ⟨pc13 k 376#32 47 17 rfl rfl (k0_off55_inb k 47) _ ?_, ?_⟩
  · intro u l; unfold_payloads; pointwise; simp only [t508 x H k acc s, ldb x H k acc s 376#32 _ 47 rfl, sufs k 47 16 17 rfl rfl, sufz k 47 16 17 rfl rfl]
  refine List.forall_mem_cons.mpr ⟨pc13 k 384#32 48 16 rfl rfl (k0_off55_inb k 48) _ ?_, ?_⟩
  · intro u l; unfold_payloads; pointwise; simp only [t476 x H k acc s, ldb x H k acc s 408#32 _ 51 rfl, ldb x H k acc s 400#32 _ 50 rfl, ldb x H k acc s 392#32 _ 49 rfl, ldb x H k acc s 384#32 _ 48 rfl, sufs k 51 12 13 rfl rfl, sufz k 51 12 13 rfl rfl, sufs k 50 13 14 rfl rfl, sufz k 50 13 14 rfl rfl, sufs k 49 14 15 rfl rfl, sufz k 49 14 15 rfl rfl, sufs k 48 15 16 rfl rfl, sufz k 48 15 16 rfl rfl]
  refine List.forall_mem_cons.mpr ⟨pc13 k 392#32 49 15 rfl rfl (k0_off55_inb k 49) _ ?_, ?_⟩
  · intro u l; unfold_payloads; pointwise; simp only [t476 x H k acc s, ldb x H k acc s 408#32 _ 51 rfl, ldb x H k acc s 400#32 _ 50 rfl, ldb x H k acc s 392#32 _ 49 rfl, sufs k 51 12 13 rfl rfl, sufz k 51 12 13 rfl rfl, sufs k 50 13 14 rfl rfl, sufz k 50 13 14 rfl rfl, sufs k 49 14 15 rfl rfl, sufz k 49 14 15 rfl rfl]
  refine List.forall_mem_cons.mpr ⟨pc13 k 400#32 50 14 rfl rfl (k0_off55_inb k 50) _ ?_, ?_⟩
  · intro u l; unfold_payloads; pointwise; simp only [t476 x H k acc s, ldb x H k acc s 408#32 _ 51 rfl, ldb x H k acc s 400#32 _ 50 rfl, sufs k 51 12 13 rfl rfl, sufz k 51 12 13 rfl rfl, sufs k 50 13 14 rfl rfl, sufz k 50 13 14 rfl rfl]
  refine List.forall_mem_cons.mpr ⟨pc13 k 408#32 51 13 rfl rfl (k0_off55_inb k 51) _ ?_, ?_⟩
  · intro u l; unfold_payloads; pointwise; simp only [t476 x H k acc s, ldb x H k acc s 408#32 _ 51 rfl, sufs k 51 12 13 rfl rfl, sufz k 51 12 13 rfl rfl]
  refine List.forall_mem_cons.mpr ⟨pc13 k 416#32 52 12 rfl rfl (k0_off55_inb k 52) _ ?_, ?_⟩
  · intro u l; exact t476 x H k acc s u l
  refine List.forall_mem_cons.mpr ⟨pc13 k 424#32 53 11 rfl rfl (k0_off55_inb k 53) _ ?_, ?_⟩
  · intro u l; unfold_payloads; pointwise; simp only [t436 x H k acc s, ldb x H k acc s 448#32 _ 56 rfl, ldb x H k acc s 440#32 _ 55 rfl, ldb x H k acc s 432#32 _ 54 rfl, ldb x H k acc s 424#32 _ 53 rfl, sufs k 56 7 8 rfl rfl, sufz k 56 7 8 rfl rfl, sufs k 55 8 9 rfl rfl, sufz k 55 8 9 rfl rfl, sufs k 54 9 10 rfl rfl, sufz k 54 9 10 rfl rfl, sufs k 53 10 11 rfl rfl, sufz k 53 10 11 rfl rfl]
  refine List.forall_mem_cons.mpr ⟨pc13 k 432#32 54 10 rfl rfl (k0_off55_inb k 54) _ ?_, ?_⟩
  · intro u l; unfold_payloads; pointwise; simp only [t436 x H k acc s, ldb x H k acc s 448#32 _ 56 rfl, ldb x H k acc s 440#32 _ 55 rfl, ldb x H k acc s 432#32 _ 54 rfl, sufs k 56 7 8 rfl rfl, sufz k 56 7 8 rfl rfl, sufs k 55 8 9 rfl rfl, sufz k 55 8 9 rfl rfl, sufs k 54 9 10 rfl rfl, sufz k 54 9 10 rfl rfl]
  refine List.forall_mem_cons.mpr ⟨pc13 k 440#32 55 9 rfl rfl (k0_off55_inb k 55) _ ?_, ?_⟩
  · intro u l; unfold_payloads; pointwise; simp only [t436 x H k acc s, ldb x H k acc s 448#32 _ 56 rfl, ldb x H k acc s 440#32 _ 55 rfl, sufs k 56 7 8 rfl rfl, sufz k 56 7 8 rfl rfl, sufs k 55 8 9 rfl rfl, sufz k 55 8 9 rfl rfl]
  refine List.forall_mem_cons.mpr ⟨pc13 k 448#32 56 8 rfl rfl (k0_off55_inb k 56) _ ?_, ?_⟩
  · intro u l; unfold_payloads; pointwise; simp only [t436 x H k acc s, ldb x H k acc s 448#32 _ 56 rfl, sufs k 56 7 8 rfl rfl, sufz k 56 7 8 rfl rfl]
  refine List.forall_mem_cons.mpr ⟨pc13 k 456#32 57 7 rfl rfl (k0_off55_inb k 57) _ ?_, ?_⟩
  · intro u l; unfold_payloads; pointwise; simp only [t396 x H k acc s, t403 x H k acc s, ldb x H k acc s 480#32 _ 60 rfl, ldb x H k acc s 472#32 _ 59 rfl, ldb x H k acc s 464#32 _ 58 rfl, ldb x H k acc s 456#32 _ 57 rfl, sufs k 61 2 3 rfl rfl, sufz k 61 2 3 rfl rfl, sufs k 60 3 4 rfl rfl, sufz k 60 3 4 rfl rfl, sufs k 59 4 5 rfl rfl, sufz k 59 4 5 rfl rfl, sufs k 58 5 6 rfl rfl, sufz k 58 5 6 rfl rfl, sufs k 57 6 7 rfl rfl, sufz k 57 6 7 rfl rfl]
  refine List.forall_mem_cons.mpr ⟨pc13 k 464#32 58 6 rfl rfl (k0_off55_inb k 58) _ ?_, ?_⟩
  · intro u l; unfold_payloads; pointwise; simp only [t396 x H k acc s, t403 x H k acc s, ldb x H k acc s 480#32 _ 60 rfl, ldb x H k acc s 472#32 _ 59 rfl, ldb x H k acc s 464#32 _ 58 rfl, sufs k 61 2 3 rfl rfl, sufz k 61 2 3 rfl rfl, sufs k 60 3 4 rfl rfl, sufz k 60 3 4 rfl rfl, sufs k 59 4 5 rfl rfl, sufz k 59 4 5 rfl rfl, sufs k 58 5 6 rfl rfl, sufz k 58 5 6 rfl rfl]
  refine List.forall_mem_cons.mpr ⟨pc13 k 472#32 59 5 rfl rfl (k0_off55_inb k 59) _ ?_, ?_⟩
  · intro u l; unfold_payloads; pointwise; simp only [t396 x H k acc s, t403 x H k acc s, ldb x H k acc s 480#32 _ 60 rfl, ldb x H k acc s 472#32 _ 59 rfl, sufs k 61 2 3 rfl rfl, sufz k 61 2 3 rfl rfl, sufs k 60 3 4 rfl rfl, sufz k 60 3 4 rfl rfl, sufs k 59 4 5 rfl rfl, sufz k 59 4 5 rfl rfl]
  refine List.forall_mem_cons.mpr ⟨pc13 k 480#32 60 4 rfl rfl (k0_off55_inb k 60) _ ?_, ?_⟩
  · intro u l; unfold_payloads; pointwise; simp only [t396 x H k acc s, t403 x H k acc s, ldb x H k acc s 480#32 _ 60 rfl, sufs k 61 2 3 rfl rfl, sufz k 61 2 3 rfl rfl, sufs k 60 3 4 rfl rfl, sufz k 60 3 4 rfl rfl]
  refine List.forall_mem_cons.mpr ⟨pc13 k 488#32 61 3 rfl rfl (k0_off55_inb k 61) _ ?_, ?_⟩
  · intro u l; unfold_payloads; pointwise; simp only [t396 x H k acc s, t403 x H k acc s, sufs k 61 2 3 rfl rfl, sufz k 61 2 3 rfl rfl]
  refine List.forall_mem_cons.mpr ⟨pc13 k 496#32 62 2 rfl rfl (k0_off55_inb k 62) _ ?_, ?_⟩
  · intro u l; unfold_payloads; pointwise; simp only [acc0 x H k acc s, ldb x H k acc s 504#32 _ 63 rfl, ldb x H k acc s 496#32 _ 62 rfl, sufs k 63 0 1 rfl rfl, sufz k 63 0 1 rfl rfl, sufs k 62 1 2 rfl rfl, sufz k 62 1 2 rfl rfl]
  refine List.forall_mem_cons.mpr ⟨pc13 k 504#32 63 1 rfl rfl (k0_off55_inb k 63) _ ?_, ?_⟩
  · intro u l; unfold_payloads; pointwise; simp only [acc0 x H k acc s, ldb x H k acc s 504#32 _ 63 rfl, sufs k 63 0 1 rfl rfl, sufz k 63 0 1 rfl rfl]
  exact List.forall_mem_nil _

end
theorem g13 (x : Ctx) (k : Fin k0_t2_loop.trips) (acc : FVec Ideal S8x128 .f32) : ∀ t : Fin 64, ∃ p ∈ L13 x k acc, ∃ inb, p.1 = Rect.unit (s := S5120x128) (k0_off55 k (BitVec.ofNat 32 (8 * t.val))) S8x128.size inb
  | ⟨0, _⟩ => ⟨_, List.getElem_mem (l := L13 x k acc) (n := 0) (by show 0 < 64; decide), k0_off55_inb k 0, rfl⟩
  | ⟨1, _⟩ => ⟨_, List.getElem_mem (l := L13 x k acc) (n := 1) (by show 1 < 64; decide), k0_off55_inb k 1, rfl⟩
  | ⟨2, _⟩ => ⟨_, List.getElem_mem (l := L13 x k acc) (n := 2) (by show 2 < 64; decide), k0_off55_inb k 2, rfl⟩
  | ⟨3, _⟩ => ⟨_, List.getElem_mem (l := L13 x k acc) (n := 3) (by show 3 < 64; decide), k0_off55_inb k 3, rfl⟩
  | ⟨4, _⟩ => ⟨_, List.getElem_mem (l := L13 x k acc) (n := 4) (by show 4 < 64; decide), k0_off55_inb k 4, rfl⟩
  | ⟨5, _⟩ => ⟨_, List.getElem_mem (l := L13 x k acc) (n := 5) (by show 5 < 64; decide), k0_off55_inb k 5, rfl⟩
  | ⟨6, _⟩ => ⟨_, List.getElem_mem (l := L13 x k acc) (n := 6) (by show 6 < 64; decide), k0_off55_inb k 6, rfl⟩
  | ⟨7, _⟩ => ⟨_, List.getElem_mem (l := L13 x k acc) (n := 7) (by show 7 < 64; decide), k0_off55_inb k 7, rfl⟩
  | ⟨8, _⟩ => ⟨_, List.getElem_mem (l := L13 x k acc) (n := 8) (by show 8 < 64; decide), k0_off55_inb k 8, rfl⟩
  | ⟨9, _⟩ => ⟨_, List.getElem_mem (l := L13 x k acc) (n := 9) (by show 9 < 64; decide), k0_off55_inb k 9, rfl⟩
  | ⟨10, _⟩ => ⟨_, List.getElem_mem (l := L13 x k acc) (n := 10) (by show 10 < 64; decide), k0_off55_inb k 10, rfl⟩
  | ⟨11, _⟩ => ⟨_, List.getElem_mem (l := L13 x k acc) (n := 11) (by show 11 < 64; decide), k0_off55_inb k 11, rfl⟩
  | ⟨12, _⟩ => ⟨_, List.getElem_mem (l := L13 x k acc) (n := 12) (by show 12 < 64; decide), k0_off55_inb k 12, rfl⟩
  | ⟨13, _⟩ => ⟨_, List.getElem_mem (l := L13 x k acc) (n := 13) (by show 13 < 64; decide), k0_off55_inb k 13, rfl⟩
  | ⟨14, _⟩ => ⟨_, List.getElem_mem (l := L13 x k acc) (n := 14) (by show 14 < 64; decide), k0_off55_inb k 14, rfl⟩
  | ⟨15, _⟩ => ⟨_, List.getElem_mem (l := L13 x k acc) (n := 15) (by show 15 < 64; decide), k0_off55_inb k 15, rfl⟩
  | ⟨16, _⟩ => ⟨_, List.getElem_mem (l := L13 x k acc) (n := 16) (by show 16 < 64; decide), k0_off55_inb k 16, rfl⟩
  | ⟨17, _⟩ => ⟨_, List.getElem_mem (l := L13 x k acc) (n := 17) (by show 17 < 64; decide), k0_off55_inb k 17, rfl⟩
  | ⟨18, _⟩ => ⟨_, List.getElem_mem (l := L13 x k acc) (n := 18) (by show 18 < 64; decide), k0_off55_inb k 18, rfl⟩
  | ⟨19, _⟩ => ⟨_, List.getElem_mem (l := L13 x k acc) (n := 19) (by show 19 < 64; decide), k0_off55_inb k 19, rfl⟩
  | ⟨20, _⟩ => ⟨_, List.getElem_mem (l := L13 x k acc) (n := 20) (by show 20 < 64; decide), k0_off55_inb k 20, rfl⟩
  | ⟨21, _⟩ => ⟨_, List.getElem_mem (l := L13 x k acc) (n := 21) (by show 21 < 64; decide), k0_off55_inb k 21, rfl⟩
  | ⟨22, _⟩ => ⟨_, List.getElem_mem (l := L13 x k acc) (n := 22) (by show 22 < 64; decide), k0_off55_inb k 22, rfl⟩
  | ⟨23, _⟩ => ⟨_, List.getElem_mem (l := L13 x k acc) (n := 23) (by show 23 < 64; decide), k0_off55_inb k 23, rfl⟩
  | ⟨24, _⟩ => ⟨_, List.getElem_mem (l := L13 x k acc) (n := 24) (by show 24 < 64; decide), k0_off55_inb k 24, rfl⟩
  | ⟨25, _⟩ => ⟨_, List.getElem_mem (l := L13 x k acc) (n := 25) (by show 25 < 64; decide), k0_off55_inb k 25, rfl⟩
  | ⟨26, _⟩ => ⟨_, List.getElem_mem (l := L13 x k acc) (n := 26) (by show 26 < 64; decide), k0_off55_inb k 26, rfl⟩
  | ⟨27, _⟩ => ⟨_, List.getElem_mem (l := L13 x k acc) (n := 27) (by show 27 < 64; decide), k0_off55_inb k 27, rfl⟩
  | ⟨28, _⟩ => ⟨_, List.getElem_mem (l := L13 x k acc) (n := 28) (by show 28 < 64; decide), k0_off55_inb k 28, rfl⟩
  | ⟨29, _⟩ => ⟨_, List.getElem_mem (l := L13 x k acc) (n := 29) (by show 29 < 64; decide), k0_off55_inb k 29, rfl⟩
  | ⟨30, _⟩ => ⟨_, List.getElem_mem (l := L13 x k acc) (n := 30) (by show 30 < 64; decide), k0_off55_inb k 30, rfl⟩
  | ⟨31, _⟩ => ⟨_, List.getElem_mem (l := L13 x k acc) (n := 31) (by show 31 < 64; decide), k0_off55_inb k 31, rfl⟩
  | ⟨32, _⟩ => ⟨_, List.getElem_mem (l := L13 x k acc) (n := 32) (by show 32 < 64; decide), k0_off55_inb k 32, rfl⟩
  | ⟨33, _⟩ => ⟨_, List.getElem_mem (l := L13 x k acc) (n := 33) (by show 33 < 64; decide), k0_off55_inb k 33, rfl⟩
  | ⟨34, _⟩ => ⟨_, List.getElem_mem (l := L13 x k acc) (n := 34) (by show 34 < 64; decide), k0_off55_inb k 34, rfl⟩
  | ⟨35, _⟩ => ⟨_, List.getElem_mem (l := L13 x k acc) (n := 35) (by show 35 < 64; decide), k0_off55_inb k 35, rfl⟩
  | ⟨36, _⟩ => ⟨_, List.getElem_mem (l := L13 x k acc) (n := 36) (by show 36 < 64; decide), k0_off55_inb k 36, rfl⟩
  | ⟨37, _⟩ => ⟨_, List.getElem_mem (l := L13 x k acc) (n := 37) (by show 37 < 64; decide), k0_off55_inb k 37, rfl⟩
  | ⟨38, _⟩ => ⟨_, List.getElem_mem (l := L13 x k acc) (n := 38) (by show 38 < 64; decide), k0_off55_inb k 38, rfl⟩
  | ⟨39, _⟩ => ⟨_, List.getElem_mem (l := L13 x k acc) (n := 39) (by show 39 < 64; decide), k0_off55_inb k 39, rfl⟩
  | ⟨40, _⟩ => ⟨_, List.getElem_mem (l := L13 x k acc) (n := 40) (by show 40 < 64; decide), k0_off55_inb k 40, rfl⟩
  | ⟨41, _⟩ => ⟨_, List.getElem_mem (l := L13 x k acc) (n := 41) (by show 41 < 64; decide), k0_off55_inb k 41, rfl⟩
  | ⟨42, _⟩ => ⟨_, List.getElem_mem (l := L13 x k acc) (n := 42) (by show 42 < 64; decide), k0_off55_inb k 42, rfl⟩
  | ⟨43, _⟩ => ⟨_, List.getElem_mem (l := L13 x k acc) (n := 43) (by show 43 < 64; decide), k0_off55_inb k 43, rfl⟩
  | ⟨44, _⟩ => ⟨_, List.getElem_mem (l := L13 x k acc) (n := 44) (by show 44 < 64; decide), k0_off55_inb k 44, rfl⟩
  | ⟨45, _⟩ => ⟨_, List.getElem_mem (l := L13 x k acc) (n := 45) (by show 45 < 64; decide), k0_off55_inb k 45, rfl⟩
  | ⟨46, _⟩ => ⟨_, List.getElem_mem (l := L13 x k acc) (n := 46) (by show 46 < 64; decide), k0_off55_inb k 46, rfl⟩
  | ⟨47, _⟩ => ⟨_, List.getElem_mem (l := L13 x k acc) (n := 47) (by show 47 < 64; decide), k0_off55_inb k 47, rfl⟩
  | ⟨48, _⟩ => ⟨_, List.getElem_mem (l := L13 x k acc) (n := 48) (by show 48 < 64; decide), k0_off55_inb k 48, rfl⟩
  | ⟨49, _⟩ => ⟨_, List.getElem_mem (l := L13 x k acc) (n := 49) (by show 49 < 64; decide), k0_off55_inb k 49, rfl⟩
  | ⟨50, _⟩ => ⟨_, List.getElem_mem (l := L13 x k acc) (n := 50) (by show 50 < 64; decide), k0_off55_inb k 50, rfl⟩
  | ⟨51, _⟩ => ⟨_, List.getElem_mem (l := L13 x k acc) (n := 51) (by show 51 < 64; decide), k0_off55_inb k 51, rfl⟩
  | ⟨52, _⟩ => ⟨_, List.getElem_mem (l := L13 x k acc) (n := 52) (by show 52 < 64; decide), k0_off55_inb k 52, rfl⟩
  | ⟨53, _⟩ => ⟨_, List.getElem_mem (l := L13 x k acc) (n := 53) (by show 53 < 64; decide), k0_off55_inb k 53, rfl⟩
  | ⟨54, _⟩ => ⟨_, List.getElem_mem (l := L13 x k acc) (n := 54) (by show 54 < 64; decide), k0_off55_inb k 54, rfl⟩
  | ⟨55, _⟩ => ⟨_, List.getElem_mem (l := L13 x k acc) (n := 55) (by show 55 < 64; decide), k0_off55_inb k 55, rfl⟩
  | ⟨56, _⟩ => ⟨_, List.getElem_mem (l := L13 x k acc) (n := 56) (by show 56 < 64; decide), k0_off55_inb k 56, rfl⟩
  | ⟨57, _⟩ => ⟨_, List.getElem_mem (l := L13 x k acc) (n := 57) (by show 57 < 64; decide), k0_off55_inb k 57, rfl⟩
  | ⟨58, _⟩ => ⟨_, List.getElem_mem (l := L13 x k acc) (n := 58) (by show 58 < 64; decide), k0_off55_inb k 58, rfl⟩
  | ⟨59, _⟩ => ⟨_, List.getElem_mem (l := L13 x k acc) (n := 59) (by show 59 < 64; decide), k0_off55_inb k 59, rfl⟩
  | ⟨60, _⟩ => ⟨_, List.getElem_mem (l := L13 x k acc) (n := 60) (by show 60 < 64; decide), k0_off55_inb k 60, rfl⟩
  | ⟨61, _⟩ => ⟨_, List.getElem_mem (l := L13 x k acc) (n := 61) (by show 61 < 64; decide), k0_off55_inb k 61, rfl⟩
  | ⟨62, _⟩ => ⟨_, List.getElem_mem (l := L13 x k acc) (n := 62) (by show 62 < 64; decide), k0_off55_inb k 62, rfl⟩
  | ⟨63, _⟩ => ⟨_, List.getElem_mem (l := L13 x k acc) (n := 63) (by show 63 < 64; decide), k0_off55_inb k 63, rfl⟩
  | ⟨n + 64, h⟩ => absurd h (by omega)
theorem c13 (x : Ctx) (k : Fin k0_t2_loop.trips) (acc : FVec Ideal S8x128 .f32) (y : S5120x128.Idx) (h : 512 * (9 - k.val) ≤ (y 0).val) (h' : (y 0).val < 512 * (9 - k.val) + 512) :
    ∃ p ∈ L13 x k acc, y ∈ p.1.set := by
  obtain ⟨p, hp, inb, e⟩ := g13 x k acc ⟨((y 0).val - 512 * (9 - k.val)) / 8, by omega⟩
  refine ⟨p, hp, ?_⟩
  rw [e]
  refine Reads.mem_unit (inb := inb) (off55 k ⟨((y 0).val - 512 * (9 - k.val)) / 8, by omega⟩) fun a => ?_
  have h2 : (y 1).val < 128 := (y 1).isLt
  match a with
  | ⟨0, _⟩ => exact ⟨show 512 * (9 - k.val) + 8 * (((y 0).val - 512 * (9 - k.val)) / 8) ≤ (y 0).val by omega, show (y 0).val < 512 * (9 - k.val) + 8 * (((y 0).val - 512 * (9 - k.val)) / 8) + 8 by omega⟩
  | ⟨1, _⟩ => exact ⟨Nat.zero_le _, show (y 1).val < 0 + 128 by omega⟩
section
include H k s
theorem tacc (u : Fin 8) (l : Fin 128) : acc2 x k acc (ix2 u l) = suf D (64 * (k.val + 1)) (u.val % 4) (u.val / 4 * 128 + l.val) := by
  unfold acc2
  unfold_payloads
  pointwise
  simp only [t876 x H k acc s, t883 x H k acc s, ldb x H k acc s 0#32 _ 0 rfl, sufs k 1 62 63 rfl rfl, sufz k 1 62 63 rfl rfl, sufs k 0 63 64 rfl rfl, sufz k 0 63 64 rfl rfl]
  rfl
/-- The writes of one chunk's key gradient, -/
def L11 (x : Ctx) (k : Fin k0_t2_loop.trips) : List (View.Piece (Elt Ideal) S5120x128 .bf16) :=
  [⟨Rect.unit (k0_off53 k) S512x128.size (k0_off53_inb k), k0_pay310 (trip2.sl.v319 (F := Ideal) x.c x.arg17 k x.f17) (trip2.sl.v361 (F := Ideal) x.c x.arg17 k x.f17) (trip2.sl.v363 (F := Ideal) x.c x.i x.arg9 x.arg19 x.arg23 x.arg28 x.f9 k x.f19 x.f23 x.f28) (rd20 x k)⟩]
/-- of its value gradient -/
def L12 (x : Ctx) (k : Fin k0_t2_loop.trips) : List (View.Piece (Elt Ideal) S5120x2x128 .bf16) :=
  [⟨{ off := k0_off52 k, size := S64x2x128.size, stride := ![8, 1, 1], inb := k0_off52_inb k, stride_pos := spos_8_1_1 }, k0_pay303 (trip2.sl.v280_lo (F := Ideal) x.c x.arg22 x.arg24 x.arg26 x.arg28 k x.f22 x.f24 x.f26 x.f28) (trip2.sl.v280_hi (F := Ideal) x.c x.arg22 x.arg24 x.arg26 x.arg28 k x.f22 x.f24 x.f26 x.f28)⟩,
   ⟨{ off := k0_off51 k, size := S64x2x128.size, stride := ![8, 1, 1], inb := k0_off51_inb k, stride_pos := spos_8_1_1 }, k0_pay302 (trip2.sl.v280_lo (F := Ideal) x.c x.arg22 x.arg24 x.arg26 x.arg28 k x.f22 x.f24 x.f26 x.f28) (trip2.sl.v280_hi (F := Ideal) x.c x.arg22 x.arg24 x.arg26 x.arg28 k x.f22 x.f24 x.f26 x.f28)⟩,
   ⟨{ off := k0_off50 k, size := S64x2x128.size, stride := ![8, 1, 1], inb := k0_off50_inb k, stride_pos := spos_8_1_1 }, k0_pay301 (trip2.sl.v287_lo (F := Ideal) x.c x.arg22 x.arg24 x.arg26 x.arg28 k x.f22 x.f24 x.f26 x.f28) (trip2.sl.v287_hi (F := Ideal) x.c x.arg22 x.arg24 x.arg26 x.arg28 k x.f22 x.f24 x.f26 x.f28)⟩,
   ⟨{ off := k0_off49 k, size := S64x2x128.size, stride := ![8, 1, 1], inb := k0_off49_inb k, stride_pos := spos_8_1_1 }, k0_pay298 (trip2.sl.v214 (F := Ideal) x.c x.arg22 x.arg24 x.arg26 x.arg28 k x.f22 x.f24 x.f26 x.f28) (trip2.sl.v235 (F := Ideal) x.c x.arg28 x.f28) (trip2.sl.v241 (F := Ideal) x.c x.arg24 k x.f24) (trip2.sl.v247 (F := Ideal) x.c x.arg22 k x.f22) (trip2.sl.v253 (F := Ideal) x.c x.arg26 k x.f26)⟩,
   ⟨{ off := k0_off40 k, size := S64x2x128.size, stride := ![8, 1, 1], inb := k0_off40_inb k, stride_pos := spos_8_1_1 }, k0_pay266 (trip2.sl.v146_lo (F := Ideal) x.c x.arg22 x.arg24 x.arg26 x.arg28 k x.f22 x.f24 x.f26 x.f28) (trip2.sl.v146_hi (F := Ideal) x.c x.arg22 x.arg24 x.arg26 x.arg28 k x.f22 x.f24 x.f26 x.f28)⟩,
   ⟨{ off := k0_off39 k, size := S64x2x128.size, stride := ![8, 1, 1], inb := k0_off39_inb k, stride_pos := spos_8_1_1 }, k0_pay263 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26)⟩,
   ⟨{ off := k0_off38 k, size := S64x2x128.size, stride := ![8, 1, 1], inb := k0_off38_inb k, stride_pos := spos_8_1_1 }, k0_pay262 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26)⟩,
   ⟨{ off := k0_off37 k, size := S64x2x128.size, stride := ![8, 1, 1], inb := k0_off37_inb k, stride_pos := spos_8_1_1 }, k0_pay261 (trip2.sl.v65 (F := Ideal) x.c x.arg22 x.arg24 x.arg26 x.arg28 k x.f22 x.f24 x.f26 x.f28) (trip2.sl.v86 (F := Ideal) x.c x.arg28 x.f28) (trip2.sl.v92 (F := Ideal) x.c x.arg24 k x.f24) (trip2.sl.v98 (F := Ideal) x.c x.arg22 k x.f22) (trip2.sl.v104 (F := Ideal) x.c x.arg26 k x.f26)⟩]
/-- and of the state's gradient. -/
def L28 (x : Ctx) (k : Fin k0_t2_loop.trips) : List (View.Piece (Elt Ideal) S4x512x256 .f32) :=
  [⟨Rect.unit (s := S4x512x256) ![3, 0, 0] S1x512x256.size inb_S4x512x256_S1x512x256_3_0_0, k0_pay304 (trip2.sl.v234 (F := Ideal) x.c x.arg28 x.f28) (trip2.sl.v241 (F := Ideal) x.c x.arg24 k x.f24) (trip2.sl.v244 (F := Ideal) x.c x.arg21 k x.f21) (x.arg27.view.readAt (Elt Ideal) (Rect.unit (s := S80x128) (k0_off32 k 0#32 3#32) S1x128.size (k0_off32_inb k 0 3)).toLoadRect x.f27) (x.arg27.view.readAt (Elt Ideal) (Rect.unit (s := S80x128) (k0_off32 k 4#32 3#32) S1x128.size (k0_off32_inb k 1 3)).toLoadRect x.f27)⟩,
   ⟨Rect.unit (s := S4x512x256) ![2, 0, 0] S1x512x256.size inb_S4x512x256_S1x512x256_2_0_0, k0_pay281 (trip2.sl.v169 (F := Ideal) x.c x.arg28 x.f28) (trip2.sl.v176 (F := Ideal) x.c x.arg24 k x.f24) (trip2.sl.v179 (F := Ideal) x.c x.arg21 k x.f21) (x.arg27.view.readAt (Elt Ideal) (Rect.unit (s := S80x128) (k0_off32 k 0#32 2#32) S1x128.size (k0_off32_inb k 0 2)).toLoadRect x.f27) (x.arg27.view.readAt (Elt Ideal) (Rect.unit (s := S80x128) (k0_off32 k 4#32 2#32) S1x128.size (k0_off32_inb k 1 2)).toLoadRect x.f27)⟩,
   ⟨Rect.unit (s := S4x512x256) ![1, 0, 0] S1x512x256.size inb_S4x512x256_S1x512x256_1_0_0, k0_pay267 (trip2.sl.v85 (F := Ideal) x.c x.arg28 x.f28) (trip2.sl.v92 (F := Ideal) x.c x.arg24 k x.f24) (trip2.sl.v95 (F := Ideal) x.c x.arg21 k x.f21) (x.arg27.view.readAt (Elt Ideal) (Rect.unit (s := S80x128) (k0_off32 k 0#32 1#32) S1x128.size (k0_off32_inb k 0 1)).toLoadRect x.f27) (x.arg27.view.readAt (Elt Ideal) (Rect.unit (s := S80x128) (k0_off32 k 4#32 1#32) S1x128.size (k0_off32_inb k 1 1)).toLoadRect x.f27)⟩,
   ⟨Rect.unit (s := S4x512x256) ![0, 0, 0] S1x512x256.size inb_S4x512x256_S1x512x256_0_0_0, k0_pay245 (trip2.sl.v20 (F := Ideal) x.c x.arg28 x.f28) (trip2.sl.v27 (F := Ideal) x.c x.arg24 k x.f24) (trip2.sl.v30 (F := Ideal) x.c x.arg21 k x.f21) (x.arg27.view.readAt (Elt Ideal) (Rect.unit (s := S80x128) (k0_off32 k 0#32 0#32) S1x128.size (k0_off32_inb k 0 0)).toLoadRect x.f27) (x.arg27.view.readAt (Elt Ideal) (Rect.unit (s := S80x128) (k0_off32 k 4#32 0#32) S1x128.size (k0_off32_inb k 1 0)).toLoadRect x.f27)⟩]
/-- The contents after one trip of the backward sweep. -/
def next2 (x : Ctx) (k : Fin k0_t2_loop.trips) (acc : FVec Ideal S8x128 .f32) : Ctx := { x with
  f11 := x.arg11.view.writes (Elt Ideal) x.f11 (L11 x k),
  f12 := (R12 x.arg12 x.harg12).view.writes (Elt Ideal) x.f12 (L12 x k),
  f13 := x.arg13.view.writes (Elt Ideal) x.f13 (L13 x k acc),
  f14 := x.arg14.view.writes (Elt Ideal) x.f14 (trip2.sl.H14_1 (F := Ideal) x.c x.i x.arg8 x.arg9 x.arg14 x.arg16 x.arg17 x.arg19 x.arg20 x.arg21 x.arg23 x.arg25 x.arg28 x.f8 x.f9 k x.f14 x.f16 x.f17 x.f19 x.f20 x.f21 x.f23 x.f25 x.f28),
  f19 := x.arg19.view.writes (Elt Ideal) x.f19 (trip2.sl.H19_8 (F := Ideal) x.c x.i x.arg9 x.arg23 x.arg28 x.f9 k x.f23 x.f28),
  f20 := x.arg20.view.writes (Elt Ideal) x.f20 (trip2.sl.H20_8 (F := Ideal) x.c x.arg21 x.arg25 k x.f21 x.f25),
  f28 := x.arg28.view.writes (Elt Ideal) x.f28 (L28 x k) }
theorem m11 : ∀ y, 512 * (10 - (k.val + 1)) ≤ (y 0).val → x.arg11.view.read (Elt Ideal) (next2 x k acc).f11 y = row3 (tm (dk D)) (y 0).val (y 1).val := by
  intro y hy
  dsimp only [next2]
  unfold L11
  have := kle k
  have h2 : (y 1).val < 128 := (y 1).isLt
  refine Reads.read_writes_of_pieces x.arg11.view x.f11 (fun y => row3 (tm (dk D)) (y 0).val (y 1).val) y _ ?_ ?_
  · refine List.forall_mem_cons.mpr ⟨fun z => ?_, List.forall_mem_nil _⟩
    obtain ⟨r, l, rfl⟩ : ∃ (r : Fin 512) (l : Fin 128), z = ix2 r l := ⟨z 0, z 1, eq_ix2 z⟩
    refine (tdk x H k acc s r l).trans ?_
    show _ = row3 _ (k0_off53 k 0 + 1 * r.val) (k0_off53 k 1 + 1 * l.val)
    rw [off53]
    show _ = row3 _ (512 * (9 - k.val) + 1 * r.val) (0 + 1 * l.val)
    rw [Nat.one_mul, Nat.one_mul, Nat.zero_add, row3_tm _ _ _ _ r.isLt]
  · by_cases e : 512 * (10 - k.val) ≤ (y 0).val
    · exact Or.inr (s.a11 y e)
    · refine Or.inl ⟨_, List.mem_singleton_self _, ?_⟩
      refine Reads.mem_unit (inb := k0_off53_inb k) (off53 k) fun a => ?_
      match a with
      | ⟨0, _⟩ => exact ⟨show 512 * (9 - k.val) ≤ (y 0).val by omega, show (y 0).val < 512 * (9 - k.val) + 512 by omega⟩
      | ⟨1, _⟩ => exact ⟨Nat.zero_le _, show (y 1).val < 0 + 128 by omega⟩
theorem m13 : ∀ y, 512 * (10 - (k.val + 1)) ≤ (y 0).val → x.arg13.view.read (Elt Ideal) (next2 x k acc).f13 y = row3 (dg D) (y 0).val (y 1).val := by
  intro y hy
  dsimp only [next2]
  have := kle k
  refine Reads.read_writes_of_pieces x.arg13.view x.f13 (fun y => row3 (dg D) (y 0).val (y 1).val) y _ (P13 x H k acc s) ?_
  by_cases e : 512 * (10 - k.val) ≤ (y 0).val
  · exact Or.inr (s.a13 y e)
  · exact Or.inl (c13 x k acc y (by omega) (by omega))
theorem m14 : ∀ y, x.arg14.view.read (Elt Ideal) (next2 x k acc).f14 y = if (y 0).val < 512 * (10 - (k.val + 1)) then row3 (tm fun n i h c => Q D n i h c * dq D n i h c) (y 0).val (y 1).val else row3 (tm (db D)) (y 0).val (y 1).val := by
  intro y
  dsimp only [next2]
  have := kle k
  by_cases e : 512 * (9 - k.val) ≤ (y 0).val ∧ (y 0).val < 512 * (9 - k.val) + 512
  · refine (Reads.read_writes_of_pieces x.arg14.view x.f14 (fun y => row3 (tm (db D)) (y 0).val (y 1).val) y _ (P14 x H k acc s) (Or.inl (c14 x k y e.1 e.2))).trans ?_
    rw [if_neg (by omega)]
  · by_cases e2 : (y 0).val < 512 * (10 - (k.val + 1))
    · rw [if_pos e2]
      refine (read_writes_off x.arg14.view x.f14 y _ ?_).trans ((s.a14 y).trans (if_pos (by omega)))
      rw [trip2.sl.H14_1]
      refine List.forall_mem_cons.mpr ⟨fun hm => ?_, List.forall_mem_nil _⟩
      have h3 := mem_unit_fst (inb := k0_off53_inb k) (off53 k) hm
      exact e ⟨h3.1, h3.2⟩
    · rw [if_neg e2]
      refine Reads.read_writes_of_pieces x.arg14.view x.f14 (fun y => row3 (tm (db D)) (y 0).val (y 1).val) y _ (P14 x H k acc s) (Or.inr ((s.a14 y).trans (if_neg (by omega))))
theorem m12 : ∀ y : S5120x2x128.Idx, 512 * (10 - (k.val + 1)) ≤ (y 0).val → (R12 x.arg12 x.harg12).view.read (Elt Ideal) (next2 x k acc).f12 y = tm (dv D) ((y 0).val / 8) (2 * ((y 0).val % 2) + (y 1).val) ((y 0).val / 2 % 4 * 128 + (y 2).val) := by
  intro y hy
  dsimp only [next2]
  unfold L12
  have := kle k
  have h0 : (y 0).val < 5120 := (y 0).isLt
  have h1 : (y 1).val < 2 := (y 1).isLt
  have h2 : (y 2).val < 128 := (y 2).isLt
  refine Reads.read_writes_of_pieces (R12 x.arg12 x.harg12).view x.f12 (fun y : S5120x2x128.Idx => tm (dv D) ((y 0).val / 8) (2 * ((y 0).val % 2) + (y 1).val) ((y 0).val / 2 % 4 * 128 + (y 2).val)) y _ ?_ ?_
  · refine List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩⟩⟩⟩⟩
    · obtain ⟨i, p, l, rfl⟩ : ∃ (i : Fin 64) (p : Fin 2) (l : Fin 128), z = ix3 i p l := ⟨z 0, z 1, z 2, eq_ix3 z⟩
      refine Eq.trans (b := dv D (9 - k.val) i.val (2 + p.val) (384 + l.val)) ?_ ?_
      · match p with
        | ⟨0, _⟩ => exact tv130 x H k acc s i l
        | ⟨1, _⟩ => exact tv131 x H k acc s i l
      show _ = tm (dv D) ((k0_off52 k 0 + 8 * i.val) / 8) (2 * ((k0_off52 k 0 + 8 * i.val) % 2) + (k0_off52 k 1 + 1 * p.val)) ((k0_off52 k 0 + 8 * i.val) / 2 % 4 * 128 + (k0_off52 k 2 + 1 * l.val))
      rw [off52]
      show _ = dv D ((512 * (9 - k.val) + 7 + 8 * i.val) / 8 / 64) ((512 * (9 - k.val) + 7 + 8 * i.val) / 8 % 64) (2 * ((512 * (9 - k.val) + 7 + 8 * i.val) % 2) + (0 + 1 * p.val)) ((512 * (9 - k.val) + 7 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (2 + p.val) (256 + l.val)) ?_ ?_
      · match p with
        | ⟨0, _⟩ => exact tv120 x H k acc s i l
        | ⟨1, _⟩ => exact tv121 x H k acc s i l
      show _ = tm (dv D) ((k0_off51 k 0 + 8 * i.val) / 8) (2 * ((k0_off51 k 0 + 8 * i.val) % 2) + (k0_off51 k 1 + 1 * p.val)) ((k0_off51 k 0 + 8 * i.val) / 2 % 4 * 128 + (k0_off51 k 2 + 1 * l.val))
      rw [off51]
      show _ = dv D ((512 * (9 - k.val) + 5 + 8 * i.val) / 8 / 64) ((512 * (9 - k.val) + 5 + 8 * i.val) / 8 % 64) (2 * ((512 * (9 - k.val) + 5 + 8 * i.val) % 2) + (0 + 1 * p.val)) ((512 * (9 - k.val) + 5 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (2 + p.val) (128 + l.val)) ?_ ?_
      · match p with
        | ⟨0, _⟩ => exact tv110 x H k acc s i l
        | ⟨1, _⟩ => exact tv111 x H k acc s i l
      show _ = tm (dv D) ((k0_off50 k 0 + 8 * i.val) / 8) (2 * ((k0_off50 k 0 + 8 * i.val) % 2) + (k0_off50 k 1 + 1 * p.val)) ((k0_off50 k 0 + 8 * i.val) / 2 % 4 * 128 + (k0_off50 k 2 + 1 * l.val))
      rw [off50]
      show _ = dv D ((512 * (9 - k.val) + 3 + 8 * i.val) / 8 / 64) ((512 * (9 - k.val) + 3 + 8 * i.val) / 8 % 64) (2 * ((512 * (9 - k.val) + 3 + 8 * i.val) % 2) + (0 + 1 * p.val)) ((512 * (9 - k.val) + 3 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (2 + p.val) (0 + l.val)) ?_ ?_
      · match p with
        | ⟨0, _⟩ => exact tv100 x H k acc s i l
        | ⟨1, _⟩ => exact tv101 x H k acc s i l
      show _ = tm (dv D) ((k0_off49 k 0 + 8 * i.val) / 8) (2 * ((k0_off49 k 0 + 8 * i.val) % 2) + (k0_off49 k 1 + 1 * p.val)) ((k0_off49 k 0 + 8 * i.val) / 2 % 4 * 128 + (k0_off49 k 2 + 1 * l.val))
      rw [off49]
      show _ = dv D ((512 * (9 - k.val) + 1 + 8 * i.val) / 8 / 64) ((512 * (9 - k.val) + 1 + 8 * i.val) / 8 % 64) (2 * ((512 * (9 - k.val) + 1 + 8 * i.val) % 2) + (0 + 1 * p.val)) ((512 * (9 - k.val) + 1 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (0 + p.val) (384 + l.val)) ?_ ?_
      · match p with
        | ⟨0, _⟩ => exact tv030 x H k acc s i l
        | ⟨1, _⟩ => exact tv031 x H k acc s i l
      show _ = tm (dv D) ((k0_off40 k 0 + 8 * i.val) / 8) (2 * ((k0_off40 k 0 + 8 * i.val) % 2) + (k0_off40 k 1 + 1 * p.val)) ((k0_off40 k 0 + 8 * i.val) / 2 % 4 * 128 + (k0_off40 k 2 + 1 * l.val))
      rw [off40]
      show _ = dv D ((512 * (9 - k.val) + 6 + 8 * i.val) / 8 / 64) ((512 * (9 - k.val) + 6 + 8 * i.val) / 8 % 64) (2 * ((512 * (9 - k.val) + 6 + 8 * i.val) % 2) + (0 + 1 * p.val)) ((512 * (9 - k.val) + 6 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (0 + p.val) (256 + l.val)) ?_ ?_
      · match p with
        | ⟨0, _⟩ => exact tv020 x H k acc s i l
        | ⟨1, _⟩ => exact tv021 x H k acc s i l
      show _ = tm (dv D) ((k0_off39 k 0 + 8 * i.val) / 8) (2 * ((k0_off39 k 0 + 8 * i.val) % 2) + (k0_off39 k 1 + 1 * p.val)) ((k0_off39 k 0 + 8 * i.val) / 2 % 4 * 128 + (k0_off39 k 2 + 1 * l.val))
      rw [off39]
      show _ = dv D ((512 * (9 - k.val) + 4 + 8 * i.val) / 8 / 64) ((512 * (9 - k.val) + 4 + 8 * i.val) / 8 % 64) (2 * ((512 * (9 - k.val) + 4 + 8 * i.val) % 2) + (0 + 1 * p.val)) ((512 * (9 - k.val) + 4 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (0 + p.val) (128 + l.val)) ?_ ?_
      · match p with
        | ⟨0, _⟩ => exact tv010 x H k acc s i l
        | ⟨1, _⟩ => exact tv011 x H k acc s i l
      show _ = tm (dv D) ((k0_off38 k 0 + 8 * i.val) / 8) (2 * ((k0_off38 k 0 + 8 * i.val) % 2) + (k0_off38 k 1 + 1 * p.val)) ((k0_off38 k 0 + 8 * i.val) / 2 % 4 * 128 + (k0_off38 k 2 + 1 * l.val))
      rw [off38]
      show _ = dv D ((512 * (9 - k.val) + 2 + 8 * i.val) / 8 / 64) ((512 * (9 - k.val) + 2 + 8 * i.val) / 8 % 64) (2 * ((512 * (9 - k.val) + 2 + 8 * i.val) % 2) + (0 + 1 * p.val)) ((512 * (9 - k.val) + 2 + 8 * i.val) / 2 % 4 * 128 + (0 + 1 * l.val))
      congr 1 <;> omega
    · obtain ⟨i, p, l, rfl⟩ : ∃ (i : Fin 64) (p : Fin 2) (l : Fin 128), z = ix3 i p l := ⟨z 0, z 1, z 2, eq_ix3 z⟩
      refine Eq.trans (b := dv D (9 - k.val) i.val (0 + p.val) (0 + l.val)) ?_ ?_
      · match p with
        | ⟨0, _⟩ => exact tv000 x H k acc s i l
        | ⟨1, _⟩ => exact tv001 x H k acc s i l
      show _ = tm (dv D) ((k0_off37 k 0 + 8 * i.val) / 8) (2 * ((k0_off37 k 0 + 8 * i.val) % 2) + (k0_off37 k 1 + 1 * p.val)) ((k0_off37 k 0 + 8 * i.val) / 2 % 4 * 128 + (k0_off37 k 2 + 1 * l.val))
      rw [off37]
      show _ = dv D ((512 * (9 - k.val) + 0 + 8 * i.val) / 8 / 64) ((512 * (9 - k.val) + 0 + 8 * i.val) / 8 % 64) (2 * ((512 * (9 - k.val) + 0 + 8 * i.val) % 2) + (0 + 1 * p.val)) ((512 * (9 - k.val) + 0 + 8 * i.val) / 2 % 4 * 128 + (0 + 1 * l.val))
      congr 1 <;> omega
  · by_cases e : 512 * (10 - k.val) ≤ (y 0).val
    · exact Or.inr (s.a12 y e)
    · refine Or.inl ?_
      obtain h | h | h | h | h | h | h | h : (y 0).val % 8 = 7 ∨ (y 0).val % 8 = 5 ∨ (y 0).val % 8 = 3 ∨ (y 0).val % 8 = 1 ∨ (y 0).val % 8 = 6 ∨ (y 0).val % 8 = 4 ∨ (y 0).val % 8 = 2 ∨ (y 0).val % 8 = 0 := by omega
      · refine ⟨_, List.mem_cons_self, ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off52 k) 0)) ?_; show 512 * (9 - k.val) + 7 + 8 * (((y 0).val - 512 * (9 - k.val)) / 8) = (y 0).val; omega
        | ⟨1, _⟩ => refine Eq.trans (congrArg (fun z : ℕ => z + 1 * (y 1).val) (congrFun (off52 k) 1)) ?_; show 0 + 1 * (y 1).val = (y 1).val; omega
        | ⟨2, _⟩ => refine Eq.trans (congrArg (fun z : ℕ => z + 1 * (y 2).val) (congrFun (off52 k) 2)) ?_; show 0 + 1 * (y 2).val = (y 2).val; omega
      · refine ⟨_, List.mem_cons_of_mem _ (List.mem_cons_self), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off51 k) 0)) ?_; show 512 * (9 - k.val) + 5 + 8 * (((y 0).val - 512 * (9 - k.val)) / 8) = (y 0).val; omega
        | ⟨1, _⟩ => refine Eq.trans (congrArg (fun z : ℕ => z + 1 * (y 1).val) (congrFun (off51 k) 1)) ?_; show 0 + 1 * (y 1).val = (y 1).val; omega
        | ⟨2, _⟩ => refine Eq.trans (congrArg (fun z : ℕ => z + 1 * (y 2).val) (congrFun (off51 k) 2)) ?_; show 0 + 1 * (y 2).val = (y 2).val; omega
      · refine ⟨_, List.mem_cons_of_mem _ (List.mem_cons_of_mem _ (List.mem_cons_self)), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off50 k) 0)) ?_; show 512 * (9 - k.val) + 3 + 8 * (((y 0).val - 512 * (9 - k.val)) / 8) = (y 0).val; omega
        | ⟨1, _⟩ => refine Eq.trans (congrArg (fun z : ℕ => z + 1 * (y 1).val) (congrFun (off50 k) 1)) ?_; show 0 + 1 * (y 1).val = (y 1).val; omega
        | ⟨2, _⟩ => refine Eq.trans (congrArg (fun z : ℕ => z + 1 * (y 2).val) (congrFun (off50 k) 2)) ?_; show 0 + 1 * (y 2).val = (y 2).val; omega
      · refine ⟨_, List.mem_cons_of_mem _ (List.mem_cons_of_mem _ (List.mem_cons_of_mem _ (List.mem_cons_self))), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off49 k) 0)) ?_; show 512 * (9 - k.val) + 1 + 8 * (((y 0).val - 512 * (9 - k.val)) / 8) = (y 0).val; omega
        | ⟨1, _⟩ => refine Eq.trans (congrArg (fun z : ℕ => z + 1 * (y 1).val) (congrFun (off49 k) 1)) ?_; show 0 + 1 * (y 1).val = (y 1).val; omega
        | ⟨2, _⟩ => refine Eq.trans (congrArg (fun z : ℕ => z + 1 * (y 2).val) (congrFun (off49 k) 2)) ?_; show 0 + 1 * (y 2).val = (y 2).val; omega
      · refine ⟨_, List.mem_cons_of_mem _ (List.mem_cons_of_mem _ (List.mem_cons_of_mem _ (List.mem_cons_of_mem _ (List.mem_cons_self)))), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off40 k) 0)) ?_; show 512 * (9 - k.val) + 6 + 8 * (((y 0).val - 512 * (9 - k.val)) / 8) = (y 0).val; omega
        | ⟨1, _⟩ => refine Eq.trans (congrArg (fun z : ℕ => z + 1 * (y 1).val) (congrFun (off40 k) 1)) ?_; show 0 + 1 * (y 1).val = (y 1).val; omega
        | ⟨2, _⟩ => refine Eq.trans (congrArg (fun z : ℕ => z + 1 * (y 2).val) (congrFun (off40 k) 2)) ?_; show 0 + 1 * (y 2).val = (y 2).val; omega
      · refine ⟨_, List.mem_cons_of_mem _ (List.mem_cons_of_mem _ (List.mem_cons_of_mem _ (List.mem_cons_of_mem _ (List.mem_cons_of_mem _ (List.mem_cons_self))))), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off39 k) 0)) ?_; show 512 * (9 - k.val) + 4 + 8 * (((y 0).val - 512 * (9 - k.val)) / 8) = (y 0).val; omega
        | ⟨1, _⟩ => refine Eq.trans (congrArg (fun z : ℕ => z + 1 * (y 1).val) (congrFun (off39 k) 1)) ?_; show 0 + 1 * (y 1).val = (y 1).val; omega
        | ⟨2, _⟩ => refine Eq.trans (congrArg (fun z : ℕ => z + 1 * (y 2).val) (congrFun (off39 k) 2)) ?_; show 0 + 1 * (y 2).val = (y 2).val; omega
      · refine ⟨_, List.mem_cons_of_mem _ (List.mem_cons_of_mem _ (List.mem_cons_of_mem _ (List.mem_cons_of_mem _ (List.mem_cons_of_mem _ (List.mem_cons_of_mem _ (List.mem_cons_self)))))), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off38 k) 0)) ?_; show 512 * (9 - k.val) + 2 + 8 * (((y 0).val - 512 * (9 - k.val)) / 8) = (y 0).val; omega
        | ⟨1, _⟩ => refine Eq.trans (congrArg (fun z : ℕ => z + 1 * (y 1).val) (congrFun (off38 k) 1)) ?_; show 0 + 1 * (y 1).val = (y 1).val; omega
        | ⟨2, _⟩ => refine Eq.trans (congrArg (fun z : ℕ => z + 1 * (y 2).val) (congrFun (off38 k) 2)) ?_; show 0 + 1 * (y 2).val = (y 2).val; omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        refine Reads.mem_of (ix3 (n0 := 64) (n1 := 2) (n2 := 128) ⟨((y 0).val - 512 * (9 - k.val)) / 8, by omega⟩ (y 1) (y 2)) fun a => ?_
        match a with
        | ⟨0, _⟩ => refine Eq.trans (congrArg (fun z : ℕ => z + 8 * (((y 0).val - 512 * (9 - k.val)) / 8)) (congrFun (off37 k) 0)) ?_; show 512 * (9 - k.val) + 0 + 8 * (((y 0).val - 512 * (9 - k.val)) / 8) = (y 0).val; omega
        | ⟨1, _⟩ => refine Eq.trans (congrArg (fun z : ℕ => z + 1 * (y 1).val) (congrFun (off37 k) 1)) ?_; show 0 + 1 * (y 1).val = (y 1).val; omega
        | ⟨2, _⟩ => refine Eq.trans (congrArg (fun z : ℕ => z + 1 * (y 2).val) (congrFun (off37 k) 2)) ?_; show 0 + 1 * (y 2).val = (y 2).val; omega
theorem m28 : ∀ y : S4x512x256.Idx, x.arg28.view.read (Elt Ideal) (next2 x k acc).f28 y = Dt D (k.val + 1) (y 0).val (y 1).val (y 2).val := by
  intro y
  dsimp only [next2]
  unfold L28
  refine Reads.read_writes_of_pieces x.arg28.view x.f28 (fun y => Dt D (k.val + 1) (y 0).val (y 1).val (y 2).val) y _ ?_ (Or.inl ?_)
  · refine List.forall_mem_cons.mpr ⟨fun z => ?_, List.forall_mem_cons.mpr ⟨fun z => ?_, List.forall_mem_cons.mpr ⟨fun z => ?_, List.forall_mem_cons.mpr ⟨fun z => ?_, List.forall_mem_nil _⟩⟩⟩⟩
    · obtain ⟨a, v, c, rfl⟩ : ∃ (a : Fin 1) (v : Fin 512) (c : Fin 256), z = ix3 a v c := ⟨z 0, z 1, z 2, eq_ix3 z⟩
      refine (ts3 x H k acc s a v c).trans ?_
      show _ = Dt D (k.val + 1) (3 + 1 * a.val) (0 + 1 * v.val) (0 + 1 * c.val)
      congr 1 <;> omega
    · obtain ⟨a, v, c, rfl⟩ : ∃ (a : Fin 1) (v : Fin 512) (c : Fin 256), z = ix3 a v c := ⟨z 0, z 1, z 2, eq_ix3 z⟩
      refine (ts2 x H k acc s a v c).trans ?_
      show _ = Dt D (k.val + 1) (2 + 1 * a.val) (0 + 1 * v.val) (0 + 1 * c.val)
      congr 1 <;> omega
    · obtain ⟨a, v, c, rfl⟩ : ∃ (a : Fin 1) (v : Fin 512) (c : Fin 256), z = ix3 a v c := ⟨z 0, z 1, z 2, eq_ix3 z⟩
      refine (ts1 x H k acc s a v c).trans ?_
      show _ = Dt D (k.val + 1) (1 + 1 * a.val) (0 + 1 * v.val) (0 + 1 * c.val)
      congr 1 <;> omega
    · obtain ⟨a, v, c, rfl⟩ : ∃ (a : Fin 1) (v : Fin 512) (c : Fin 256), z = ix3 a v c := ⟨z 0, z 1, z 2, eq_ix3 z⟩
      refine (ts0 x H k acc s a v c).trans ?_
      show _ = Dt D (k.val + 1) (0 + 1 * a.val) (0 + 1 * v.val) (0 + 1 * c.val)
      congr 1 <;> omega
  · have h0 : (y 0).val < 4 := (y 0).isLt
    have h1 : (y 1).val < 512 := (y 1).isLt
    have h2 : (y 2).val < 256 := (y 2).isLt
    obtain e | e | e | e : (y 0).val = 3 ∨ (y 0).val = 2 ∨ (y 0).val = 1 ∨ (y 0).val = 0 := by omega
    · refine ⟨_, List.mem_cons_self, ?_⟩
      refine Reads.mem_unit (inb := inb_S4x512x256_S1x512x256_3_0_0) rfl fun a => ?_
      match a with
      | ⟨0, _⟩ => exact ⟨show 3 ≤ (y 0).val by omega, show (y 0).val < 3 + 1 by omega⟩
      | ⟨1, _⟩ => exact ⟨Nat.zero_le _, show (y 1).val < 0 + 512 by omega⟩
      | ⟨2, _⟩ => exact ⟨Nat.zero_le _, show (y 2).val < 0 + 256 by omega⟩
    · refine ⟨_, List.mem_cons_of_mem _ (List.mem_cons_self), ?_⟩
      refine Reads.mem_unit (inb := inb_S4x512x256_S1x512x256_2_0_0) rfl fun a => ?_
      match a with
      | ⟨0, _⟩ => exact ⟨show 2 ≤ (y 0).val by omega, show (y 0).val < 2 + 1 by omega⟩
      | ⟨1, _⟩ => exact ⟨Nat.zero_le _, show (y 1).val < 0 + 512 by omega⟩
      | ⟨2, _⟩ => exact ⟨Nat.zero_le _, show (y 2).val < 0 + 256 by omega⟩
    · refine ⟨_, List.mem_cons_of_mem _ (List.mem_cons_of_mem _ (List.mem_cons_self)), ?_⟩
      refine Reads.mem_unit (inb := inb_S4x512x256_S1x512x256_1_0_0) rfl fun a => ?_
      match a with
      | ⟨0, _⟩ => exact ⟨show 1 ≤ (y 0).val by omega, show (y 0).val < 1 + 1 by omega⟩
      | ⟨1, _⟩ => exact ⟨Nat.zero_le _, show (y 1).val < 0 + 512 by omega⟩
      | ⟨2, _⟩ => exact ⟨Nat.zero_le _, show (y 2).val < 0 + 256 by omega⟩
    · refine ⟨_, List.mem_cons_of_mem _ (List.mem_cons_of_mem _ (List.mem_cons_of_mem _ (List.mem_cons_self))), ?_⟩
      refine Reads.mem_unit (inb := inb_S4x512x256_S1x512x256_0_0_0) rfl fun a => ?_
      match a with
      | ⟨0, _⟩ => exact ⟨show 0 ≤ (y 0).val by omega, show (y 0).val < 0 + 1 by omega⟩
      | ⟨1, _⟩ => exact ⟨Nat.zero_le _, show (y 1).val < 0 + 512 by omega⟩
      | ⟨2, _⟩ => exact ⟨Nat.zero_le _, show (y 2).val < 0 + 256 by omega⟩

/-- One trip of the backward sweep. -/
theorem step2 : S2 D (k.val + 1) (next2 x k acc) (acc2 x k acc) where
  a10 := s.a10
  a15 := s.a15
  a16 := s.a16
  a17 := s.a17
  a21 := s.a21
  a22 := s.a22
  a23 := s.a23
  a24 := s.a24
  a25 := s.a25
  a26 := s.a26
  a27 := s.a27
  a11 := m11 x H k acc s
  a12 := m12 x H k acc s
  a13 := m13 x H k acc s
  a14 := m14 x H k acc s
  a28 := m28 x H k acc s
  acc := tacc x H k acc s

end
end Cert.Proof.KernelIdeal.Vl

end
-- ==== Proof.Loop2.lean ====
module

public import proofs.«01_k».proof.Proof.Loop1
public import proofs.«01_k».proof.Proof.StepF
public import proofs.«01_k».proof.Proof.Spec
public import proofs.«01_k».proof.Proof.Reads
public import Idealize.ShloMosaic.Lib.Tactic
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped BigOperators

open Spec

variable (c : Dev nD) (i : grid0.Coords) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole)

/-- The backward sweep's invariant: `n` chunks are done and the suffix sum is `acc`. -/
abbrev Inv2 (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (n : ℕ) (acc : FVec Ideal S8x128 .f32) : sProp (MT nD τ sig Unit (Elt Ideal) ℕ (UR sig nD τ) ℕ) :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ ∃ f10, ∃ f11, ∃ f12, ∃ f13, ∃ f14, ∃ f15, ∃ f16, ∃ f17, ∃ f18, ∃ f19, ∃ f20, ∃ f21, ∃ f22, ∃ f23, ∃ f24, ∃ f25, ∃ f26, ∃ f27, ∃ f28, ⌜S2 (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) n (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28) acc⌝ ∗ pt c arg10 f10 ∗ pt c arg11 f11 ∗ pt c (R12 arg12 harg12) f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28)

set_option maxHeartbeats 0 in
/-- One trip of the backward sweep, the contents named. -/
theorem trip2v (arg0 : BitVec 32) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (k : Fin k0_t2_loop.trips) (acc : FVec Ideal S8x128 .f32) :
    Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 k.val acc ⊢ wp Idealize.ShloMosaic.frame (wpE (defs₀ (F := Ideal)) Variants.none (c : Thread nD τ) none) Set.univ
      (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 k acc) (fun acc' => Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 (k.val + 1) acc') := by
  unfold k0_t2_body
  iintro ⟨H1, H2, H3, H4, H5, H6, H7, H8, H9, %f10, %f11, %f12, %f13, %f14, %f15, %f16, %f17, %f18, %f19, %f20, %f21, %f22, %f23, %f24, %f25, %f26, %f27, %f28, %hs, H10, H11, H12, H13, H14, H15, H16, H17, H18, H19, H20, H21, H22, H23, H24, H25, H26, H27, H28⟩
  set_option sl_exec.resultNames true in sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  let X : Ctx := Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28
  iexists (next2 X k acc).f10
  iexists (next2 X k acc).f11
  iexists (next2 X k acc).f12
  iexists (next2 X k acc).f13
  iexists (next2 X k acc).f14
  iexists (next2 X k acc).f15
  iexists (next2 X k acc).f16
  iexists (next2 X k acc).f17
  iexists (next2 X k acc).f18
  iexists (next2 X k acc).f19
  iexists (next2 X k acc).f20
  iexists (next2 X k acc).f21
  iexists (next2 X k acc).f22
  iexists (next2 X k acc).f23
  iexists (next2 X k acc).f24
  iexists (next2 X k acc).f25
  iexists (next2 X k acc).f26
  iexists (next2 X k acc).f27
  iexists (next2 X k acc).f28
  isplitr
  · ipureintro
    have h := step2 X (inputs_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28) k acc hs
    dsimp only [next2, X] at h ⊢
    exact h
  dsimp only [next2, X]
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The backward sweep's loop. -/
@[sl_loop] def loop2v (arg0 : BitVec 32) (init : FVec Ideal S8x128 .f32) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) :
    LoopInvTy_k0_t2 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 init where
  inv := fun n acc => Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 n acc
  step := fun k acc => trip2v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 f1 f2 f3 f4 f5 f6 f7 f8 f9 k acc

end Cert.Proof.KernelIdeal.Vl

end
-- ==== Proof.Body.lean ====
module

public import proofs.«01_k».proof.Proof.Loop2
public import proofs.«01_k».proof.Proof.Spec
public import proofs.«01_k».proof.Proof.Reads
public import Idealize.ShloMosaic.Lib.Tactic
public import Idealize.ShloMosaic.Lib.Pointwise.Tactic
public import Idealize.ShloMosaic.Lib.Pointwise.Example

@[expose] public section

set_option maxRecDepth 65536

noncomputable section

namespace Cert.Proof.KernelIdeal.Vl

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped BigOperators

open Spec

theorem pay1_ix (y : S4x512x256.Idx) : k0_pay1 (F := Ideal) y = (0 : EReal) := by
  rw [eq_ix3 y]; unfold_payloads; pointwise
theorem pay3_ix (y : S4x512x256.Idx) : k0_pay3 (F := Ideal) y = (0 : EReal) := by
  rw [eq_ix3 y]; unfold_payloads; pointwise
theorem pay4_ix (u : Fin 8) (l : Fin 128) : k0_pay4 (F := Ideal) (ix2 u l) = (0 : EReal) := by
  unfold_payloads; pointwise
theorem iota_row : iota .tc S64x64 32 [0] iota_S64x64_d0_w32 = rowI := by
  funext y; exact congrArg (BitVec.ofNat 32) (show 0 * 64 + (y 0).val = (y 0).val by omega)
theorem iota_col : iota .tc S64x64 32 [1] iota_S64x64_d1_w32 = colI := by
  funext y; exact congrArg (BitVec.ofNat 32) (show 0 * 64 + (y 1).val = (y 1).val by omega)

/-- A buffer filled with zeros reads zero. -/
theorem read_zeros (M : Memref sig .tc .vmem S4x512x256 .f32) (c : Dev nD) (f : Bf (F := Ideal) c M) (p : FVec Ideal S4x512x256 .f32) (hp : ∀ y, p y = (0 : EReal)) (y : S4x512x256.Idx) :
    M.view.read (Elt Ideal) (M.view.writes (Elt Ideal) f [⟨Rect.unit (s := S4x512x256) ![0, 0, 0] S4x512x256.size inb_S4x512x256_S4x512x256_0_0_0, p⟩]) y = (0 : EReal) := by
  refine Reads.read_writes_of_pieces M.view f (fun _ => (0 : EReal)) y _ ?_ (Or.inl ⟨_, List.mem_singleton_self _, ?_⟩)
  · exact List.forall_mem_cons.mpr ⟨fun z => hp z, List.forall_mem_nil _⟩
  · refine Reads.mem_unit (inb := inb_S4x512x256_S4x512x256_0_0_0) rfl fun a => ?_
    match a with
    | ⟨0, _⟩ => exact ⟨Nat.zero_le _, (Nat.zero_add 4).symm ▸ (y 0).isLt⟩
    | ⟨1, _⟩ => exact ⟨Nat.zero_le _, (Nat.zero_add 512).symm ▸ (y 1).isLt⟩
    | ⟨2, _⟩ => exact ⟨Nat.zero_le _, (Nat.zero_add 256).symm ▸ (y 2).isLt⟩

/-- Nothing done yet. -/
theorem start1 (D : Spec.Inp) (x : Ctx) (h : ∀ y : S4x512x256.Idx, x.arg28.view.read (Elt Ideal) x.f28 y = (0 : EReal)) : S1 D 0 x where
  a10 y e := absurd e (Nat.not_lt_zero _)
  a14 y e := absurd e (Nat.not_lt_zero _)
  a15 y e := absurd e (Nat.not_lt_zero _)
  a16 y e := absurd e (Nat.not_lt_zero _)
  a17 y e := absurd e (Nat.not_lt_zero _)
  a21 y e := absurd e (Nat.not_lt_zero _)
  a22 y e := absurd e (Nat.not_lt_zero _)
  a23 y e := absurd e (Nat.not_lt_zero _)
  a24 y e := absurd e (Nat.not_lt_zero _)
  a25 y e := absurd e (Nat.not_lt_zero _)
  a26 y e := absurd e (Nat.not_lt_zero _)
  a27 y e := absurd e (Nat.not_lt_zero _)
  a28 y := h y

/-- The forward sweep done and the state's gradient zeroed. -/
theorem start2 (D : Spec.Inp) (x : Ctx) (z : Bf (F := Ideal) x.c x.arg28) (acc : FVec Ideal S8x128 .f32) (s : S1 D 10 x)
    (h : ∀ y : S4x512x256.Idx, x.arg28.view.read (Elt Ideal) z y = (0 : EReal)) (ha : ∀ (u : Fin 8) (l : Fin 128), acc (ix2 u l) = (0 : EReal)) :
    S2 D 0 { x with f28 := z } acc where
  a10 y := s.a10 y (y 0).isLt
  a15 y := s.a15 y (y 0).isLt
  a16 y := s.a16 y (y 0).isLt
  a17 y := s.a17 y (y 0).isLt
  a21 y := s.a21 y (y 1).isLt
  a22 y := s.a22 y (y 1).isLt
  a23 y := s.a23 y (y 1).isLt
  a24 y := s.a24 y (y 1).isLt
  a25 y := s.a25 y (y 1).isLt
  a26 y := s.a26 y (y 1).isLt
  a27 y := s.a27 y (y 0).isLt
  a11 y e := absurd (show (y 0).val < 5120 from (y 0).isLt) (Nat.not_lt.mpr e)
  a12 y e := absurd (show (y 0).val < 5120 from (y 0).isLt) (Nat.not_lt.mpr e)
  a13 y e := absurd (show (y 0).val < 5120 from (y 0).isLt) (Nat.not_lt.mpr e)
  a14 y := (s.a14 y (y 0).isLt).trans (if_pos (show (y 0).val < 5120 from (y 0).isLt)).symm
  a28 y := h y
  acc u l := ha u l

/-- The buffers at named contents. -/
abbrev AllAt (c : Dev nD) (i : grid0.Coords) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c (R12 arg12 harg12)) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19) (f20 : Bf (F := Ideal) c arg20) (f21 : Bf (F := Ideal) c arg21) (f22 : Bf (F := Ideal) c arg22) (f23 : Bf (F := Ideal) c arg23) (f24 : Bf (F := Ideal) c arg24) (f25 : Bf (F := Ideal) c arg25) (f26 : Bf (F := Ideal) c arg26) (f27 : Bf (F := Ideal) c arg27) (f28 : Bf (F := Ideal) c arg28) : sProp (MT nD τ sig Unit (Elt Ideal) ℕ (UR sig nD τ) ℕ) :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c (R12 arg12 harg12) f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28)

set_option maxHeartbeats 4000000 in
/-- A load whose result is dropped, then a whole store. -/
theorem zeroed (c : Dev nD) (M : Memref sig .tc .vmem S4x512x256 .f32) (hM : M.IsWhole) (p : FVec Ideal S4x512x256 .f32) (f : Bf (F := Ideal) c M) (K : PUnit → Prog (TpuEff nD τ sig (Elt Ideal) Λ₀ .tc) PUnit) (Q : PUnit → sProp (MT nD τ sig Unit (Elt Ideal) ℕ (UR sig nD τ) ℕ)) :
    pt c M f ⊢ iprop((pt c M (M.view.writes (Elt Ideal) f [⟨Rect.unit (s := S4x512x256) ![0, 0, 0] S4x512x256.size inb_S4x512x256_S4x512x256_0_0_0, p⟩]) -∗ wp Idealize.ShloMosaic.frame (wpE (defs₀ (F := Ideal)) Variants.none (c : Thread nD τ) none) Set.univ (K ⟨⟩) Q) -∗ wp Idealize.ShloMosaic.frame (wpE (defs₀ (F := Ideal)) Variants.none (c : Thread nD τ) none) Set.univ
      (do
        let _v : Vec Ideal S4x512x256 .f32 ← Prog.lift (.load M (Rect.unit (s := S4x512x256) ![0, 0, 0] S4x512x256.size inb_S4x512x256_S4x512x256_0_0_0).toLoadRect (View.loadsAt_vmem h_S4x512x256))
        let u ← Prog.lift (.store M (Rect.unit (s := S4x512x256) ![0, 0, 0] S4x512x256.size inb_S4x512x256_S4x512x256_0_0_0) p Finset.univ (View.stores_vmem_bits_univ h_S4x512x256 rfl) (.inl rfl))
        K u) Q) := by
  iintro H HK
  sl_exec
  iapply HK
  iexact H

variable (c : Dev nD) (i : grid0.Coords) (arg1 : Memref sig .tc .vmem S1x640x4x256 .fp8e4m3) (harg1 : arg1.IsWhole) (arg2 : Memref sig .tc .vmem S1x640x4x256 .fp8e4m3) (harg2 : arg2.IsWhole) (arg3 : Memref sig .tc .vmem S10240x128 .fp8e4m3) (harg3 : arg3.IsWhole) (arg4 : Memref sig .tc .vmem S10240x128 .fp8e5m2) (harg4 : arg4.IsWhole) (arg5 : Memref sig .tc .vmem S5120x128 .f32) (harg5 : arg5.IsWhole) (arg6 : Memref sig .tc .vmem S1x640x4 .f32) (harg6 : arg6.IsWhole) (arg7 : Memref sig .tc .smem S3x10x4 .f32) (harg7 : arg7.IsWhole) (arg8 : Memref sig .tc .smem S3x10x4 .f32) (harg8 : arg8.IsWhole) (arg9 : Memref sig .tc .smem S3x10x4 .f32) (harg9 : arg9.IsWhole) (arg10 : Memref sig .tc .vmem S5120x128 .bf16) (harg10 : arg10.IsWhole) (arg11 : Memref sig .tc .vmem S5120x128 .bf16) (harg11 : arg11.IsWhole) (arg12 : Memref sig .tc .vmem S10240x128 .bf16) (harg12 : arg12.IsWhole) (arg13 : Memref sig .tc .vmem S5120x128 .f32) (harg13 : arg13.IsWhole) (arg14 : Memref sig .tc .vmem S5120x128 .f32) (harg14 : arg14.IsWhole) (arg15 : Memref sig .tc .vmem S640x8x128 .fp8e4m3) (harg15 : arg15.IsWhole) (arg16 : Memref sig .tc .vmem S640x8x128 .fp8e4m3) (harg16 : arg16.IsWhole) (arg17 : Memref sig .tc .vmem S5120x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S4x640x256 .bf16) (harg21 : arg21.IsWhole) (arg22 : Memref sig .tc .vmem S4x640x256 .bf16) (harg22 : arg22.IsWhole) (arg23 : Memref sig .tc .vmem S4x640x512 .bf16) (harg23 : arg23.IsWhole) (arg24 : Memref sig .tc .vmem S4x640x512 .bf16) (harg24 : arg24.IsWhole) (arg25 : Memref sig .tc .vmem S4x640x64 .bf16) (harg25 : arg25.IsWhole) (arg26 : Memref sig .tc .vmem S4x640x64 .bf16) (harg26 : arg26.IsWhole) (arg27 : Memref sig .tc .vmem S80x128 .f32) (harg27 : arg27.IsWhole) (arg28 : Memref sig .tc .vmem S4x512x256 .f32) (harg28 : arg28.IsWhole)
include c i harg1 harg2 harg3 harg4 harg5 harg6 harg7 harg8 harg9 harg10 harg11 harg12 harg13 harg14 harg15 harg16 harg17 harg18 harg19 harg20 harg21 harg22 harg23 harg24 harg25 harg26 harg27 harg28

/-- The forward sweep's invariant, from what the buffers hold. -/
theorem inv1_of (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c (R12 arg12 harg12)) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19) (f20 : Bf (F := Ideal) c arg20) (f21 : Bf (F := Ideal) c arg21) (f22 : Bf (F := Ideal) c arg22) (f23 : Bf (F := Ideal) c arg23) (f24 : Bf (F := Ideal) c arg24) (f25 : Bf (F := Ideal) c arg25) (f26 : Bf (F := Ideal) c arg26) (f27 : Bf (F := Ideal) c arg27) (f28 : Bf (F := Ideal) c arg28) (n : ℕ) (s : S1 (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) n (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28)) :
    AllAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28 ⊢ Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 n := by
  iintro ⟨H1, H2, H3, H4, H5, H6, H7, H8, H9, H10, H11, H12, H13, H14, H15, H16, H17, H18, H19, H20, H21, H22, H23, H24, H25, H26, H27, H28⟩
  unfold Inv1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists f10
  iexists f11
  iexists f12
  iexists f13
  iexists f14
  iexists f15
  iexists f16
  iexists f17
  iexists f18
  iexists f19
  iexists f20
  iexists f21
  iexists f22
  iexists f23
  iexists f24
  iexists f25
  iexists f26
  iexists f27
  iexists f28
  isplitr
  · ipureintro; exact s
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

theorem inv2_of (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c (R12 arg12 harg12)) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19) (f20 : Bf (F := Ideal) c arg20) (f21 : Bf (F := Ideal) c arg21) (f22 : Bf (F := Ideal) c arg22) (f23 : Bf (F := Ideal) c arg23) (f24 : Bf (F := Ideal) c arg24) (f25 : Bf (F := Ideal) c arg25) (f26 : Bf (F := Ideal) c arg26) (f27 : Bf (F := Ideal) c arg27) (f28 : Bf (F := Ideal) c arg28) (n : ℕ) (acc : FVec Ideal S8x128 .f32) (s : S2 (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) n (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28) acc) :
    AllAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28 ⊢ Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 n acc := by
  iintro ⟨H1, H2, H3, H4, H5, H6, H7, H8, H9, H10, H11, H12, H13, H14, H15, H16, H17, H18, H19, H20, H21, H22, H23, H24, H25, H26, H27, H28⟩
  unfold Inv2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists f10
  iexists f11
  iexists f12
  iexists f13
  iexists f14
  iexists f15
  iexists f16
  iexists f17
  iexists f18
  iexists f19
  iexists f20
  iexists f21
  iexists f22
  iexists f23
  iexists f24
  iexists f25
  iexists f26
  iexists f27
  iexists f28
  isplitr
  · ipureintro; exact s
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 4000000 in
/-- The state zeroed and the forward sweep run. -/
theorem bodyA (arg0 : BitVec 32) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c (R12 arg12 harg12)) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19) (f20 : Bf (F := Ideal) c arg20) (f21 : Bf (F := Ideal) c arg21) (f22 : Bf (F := Ideal) c arg22) (f23 : Bf (F := Ideal) c arg23) (f24 : Bf (F := Ideal) c arg24) (f25 : Bf (F := Ideal) c arg25) (f26 : Bf (F := Ideal) c arg26) (f27 : Bf (F := Ideal) c arg27) (f28 : Bf (F := Ideal) c arg28) (K : Prog (TpuEff nD τ sig (Elt Ideal) Λ₀ .tc) PUnit) (Q : PUnit → sProp (MT nD τ sig Unit (Elt Ideal) ℕ (UR sig nD τ) ℕ))
    (hK : Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 10 ⊢ wp Idealize.ShloMosaic.frame (wpE (defs₀ (F := Ideal)) Variants.none (c : Thread nD τ) none) Set.univ K Q) :
    AllAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28 ⊢ wp Idealize.ShloMosaic.frame (wpE (defs₀ (F := Ideal)) Variants.none (c : Thread nD τ) none) Set.univ
      (do
        let v3 : Vec Ideal S4x512x256 .f32 ← Prog.lift (.load arg28 (Rect.unit (s := S4x512x256) ![0, 0, 0] S4x512x256.size inb_S4x512x256_S4x512x256_0_0_0).toLoadRect (View.loadsAt_vmem h_S4x512x256))
        Prog.lift (.store arg28 (Rect.unit (s := S4x512x256) ![0, 0, 0] S4x512x256.size inb_S4x512x256_S4x512x256_0_0_0) (k0_pay1 (F := Ideal)) Finset.univ (View.stores_vmem_bits_univ h_S4x512x256 rfl) (.inl rfl))
        Scf.Loop.for k0_t1_loop k0_t1_ok ⟨⟩ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 rowI colI)
        K) Q := by
  have e1 : S1 (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) 0 (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 (arg28.view.writes (Elt Ideal) f28 [⟨Rect.unit (s := S4x512x256) ![0, 0, 0] S4x512x256.size inb_S4x512x256_S4x512x256_0_0_0, k0_pay1 (F := Ideal)⟩])) := start1 _ _ (read_zeros arg28 c f28 _ pay1_ix)
  have ht : Scf.trips k0_t1_loop.lb k0_t1_loop.ub k0_t1_loop.st = 10 := by decide
  have hK' : ∀ u : Unit, (loop1v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 f1 f2 f3 f4 f5 f6 f7 f8 f9).inv (Scf.trips k0_t1_loop.lb k0_t1_loop.ub k0_t1_loop.st) u ⊢ wp Idealize.ShloMosaic.frame (wpE (defs₀ (F := Ideal)) Variants.none (c : Thread nD τ) none) Set.univ K Q := fun u => by
    show Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 (Scf.trips k0_t1_loop.lb k0_t1_loop.ub k0_t1_loop.st) ⊢ _
    rw [ht]; exact hK
  have h0 : AllAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 (arg28.view.writes (Elt Ideal) f28 [⟨Rect.unit (s := S4x512x256) ![0, 0, 0] S4x512x256.size inb_S4x512x256_S4x512x256_0_0_0, k0_pay1 (F := Ideal)⟩]) ⊢ (loop1v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 f1 f2 f3 f4 f5 f6 f7 f8 f9).inv 0 () := inv1_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 (arg28.view.writes (Elt Ideal) f28 [⟨Rect.unit (s := S4x512x256) ![0, 0, 0] S4x512x256.size inb_S4x512x256_S4x512x256_0_0_0, k0_pay1 (F := Ideal)⟩]) 0 e1
  iintro ⟨H1, H2, H3, H4, H5, H6, H7, H8, H9, H10, H11, H12, H13, H14, H15, H16, H17, H18, H19, H20, H21, H22, H23, H24, H25, H26, H27, H28⟩
  iapply (zeroed c arg28 harg28 (k0_pay1 (F := Ideal)) f28 _ Q) $$ [H28]
  · iexact H28
  iintro H28
  iapply (exec_loop Idealize.ShloMosaic.frame (wpE (defs₀ (F := Ideal)) Variants.none (c : Thread nD τ) none) Set.univ _ _ _ _ _ _ (loop1v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 f1 f2 f3 f4 f5 f6 f7 f8 f9) (kk := fun _ => K)) $$ [H1 H2 H3 H4 H5 H6 H7 H8 H9 H10 H11 H12 H13 H14 H15 H16 H17 H18 H19 H20 H21 H22 H23 H24 H25 H26 H27 H28]
  · iapply h0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  iintro %acc HI
  iapply (hK' acc) $$ HI

set_option maxHeartbeats 4000000 in
/-- The state's gradient zeroed and the backward sweep run. -/
theorem bodyB (arg0 : BitVec 32) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (KK : FVec Ideal S8x128 .f32 → Prog (TpuEff nD τ sig (Elt Ideal) Λ₀ .tc) PUnit) (Q : PUnit → sProp (MT nD τ sig Unit (Elt Ideal) ℕ (UR sig nD τ) ℕ))
    (hK : ∀ acc : FVec Ideal S8x128 .f32, Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 10 acc ⊢ wp Idealize.ShloMosaic.frame (wpE (defs₀ (F := Ideal)) Variants.none (c : Thread nD τ) none) Set.univ (KK acc) Q) :
    Inv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 10 ⊢ wp Idealize.ShloMosaic.frame (wpE (defs₀ (F := Ideal)) Variants.none (c : Thread nD τ) none) Set.univ
      (do
        let v8 : Vec Ideal S4x512x256 .f32 ← Prog.lift (.load arg28 (Rect.unit (s := S4x512x256) ![0, 0, 0] S4x512x256.size inb_S4x512x256_S4x512x256_0_0_0).toLoadRect (View.loadsAt_vmem h_S4x512x256))
        Prog.lift (.store arg28 (Rect.unit (s := S4x512x256) ![0, 0, 0] S4x512x256.size inb_S4x512x256_S4x512x256_0_0_0) (k0_pay3 (F := Ideal)) Finset.univ (View.stores_vmem_bits_univ h_S4x512x256 rfl) (.inl rfl))
        let v13 : FVec Ideal S8x128 .f32 ← Scf.Loop.for k0_t2_loop k0_t2_ok (k0_pay4 (F := Ideal)) (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0)
        KK v13) Q := by
  have ht : Scf.trips k0_t2_loop.lb k0_t2_loop.ub k0_t2_loop.st = 10 := by decide
  have hK' : ∀ acc : FVec Ideal S8x128 .f32, (loop2v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 (k0_pay4 (F := Ideal)) f1 f2 f3 f4 f5 f6 f7 f8 f9).inv (Scf.trips k0_t2_loop.lb k0_t2_loop.ub k0_t2_loop.st) acc ⊢ wp Idealize.ShloMosaic.frame (wpE (defs₀ (F := Ideal)) Variants.none (c : Thread nD τ) none) Set.univ (KK acc) Q := fun acc => by
    show Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 (Scf.trips k0_t2_loop.lb k0_t2_loop.ub k0_t2_loop.st) acc ⊢ _
    rw [ht]; exact hK acc
  unfold Inv1
  iintro ⟨H1, H2, H3, H4, H5, H6, H7, H8, H9, %f10, %f11, %f12, %f13, %f14, %f15, %f16, %f17, %f18, %f19, %f20, %f21, %f22, %f23, %f24, %f25, %f26, %f27, %f28, %hs, H10, H11, H12, H13, H14, H15, H16, H17, H18, H19, H20, H21, H22, H23, H24, H25, H26, H27, H28⟩
  have e2 : S2 (Dof i (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9)) 0 (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 (arg28.view.writes (Elt Ideal) f28 [⟨Rect.unit (s := S4x512x256) ![0, 0, 0] S4x512x256.size inb_S4x512x256_S4x512x256_0_0_0, k0_pay3 (F := Ideal)⟩])) (k0_pay4 (F := Ideal)) := start2 _ (Ctx.mk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28) _ _ hs (read_zeros arg28 c f28 _ pay3_ix) pay4_ix
  have h0 : AllAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 (arg28.view.writes (Elt Ideal) f28 [⟨Rect.unit (s := S4x512x256) ![0, 0, 0] S4x512x256.size inb_S4x512x256_S4x512x256_0_0_0, k0_pay3 (F := Ideal)⟩]) ⊢ (loop2v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 (k0_pay4 (F := Ideal)) f1 f2 f3 f4 f5 f6 f7 f8 f9).inv 0 (k0_pay4 (F := Ideal)) := inv2_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 (arg28.view.writes (Elt Ideal) f28 [⟨Rect.unit (s := S4x512x256) ![0, 0, 0] S4x512x256.size inb_S4x512x256_S4x512x256_0_0_0, k0_pay3 (F := Ideal)⟩]) 0 _ e2
  iapply (zeroed c arg28 harg28 (k0_pay3 (F := Ideal)) f28 _ Q) $$ [H28]
  · iexact H28
  iintro H28
  iapply (exec_loop Idealize.ShloMosaic.frame (wpE (defs₀ (F := Ideal)) Variants.none (c : Thread nD τ) none) Set.univ _ _ _ _ _ _ (loop2v c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg0 (k0_pay4 (F := Ideal)) f1 f2 f3 f4 f5 f6 f7 f8 f9) (kk := KK)) $$ [H1 H2 H3 H4 H5 H6 H7 H8 H9 H10 H11 H12 H13 H14 H15 H16 H17 H18 H19 H20 H21 H22 H23 H24 H25 H26 H27 H28]
  · iapply h0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  iintro %acc HI
  iapply (hK' acc) $$ HI

set_option maxHeartbeats 4000000 in
/-- The whole body, the contents named. -/
theorem bodyV (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c (R12 arg12 harg12)) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19) (f20 : Bf (F := Ideal) c arg20) (f21 : Bf (F := Ideal) c arg21) (f22 : Bf (F := Ideal) c arg22) (f23 : Bf (F := Ideal) c arg23) (f24 : Bf (F := Ideal) c arg24) (f25 : Bf (F := Ideal) c arg25) (f26 : Bf (F := Ideal) c arg26) (f27 : Bf (F := Ideal) c arg27) (f28 : Bf (F := Ideal) c arg28) :
    AllAt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 f10 f11 f12 f13 f14 f15 f16 f17 f18 f19 f20 f21 f22 f23 f24 f25 f26 f27 f28 ⊢ wp Idealize.ShloMosaic.frame (wpE (defs₀ (F := Ideal)) Variants.none (c : Thread nD τ) none) Set.univ
      (cc0_gla_bwd (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => iprop(∃ acc, Inv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 f1 f2 f3 f4 f5 f6 f7 f8 f9 10 acc)) := by
  rw [cc0_gla_bwd_eq_skeleton]; unfold cc0_gla_bwd_skel
  dsimp only
  rw [iota_row, iota_col]
  refine bodyA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ f1 f2 f3 f4 f5 f6 f7 f8 f9 f10 f11 f12 f13 f14 f15 f16 f17 f18 f19 f20 f21 f22 f23 f24 f25 f26 f27 f28 _ _ (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ f1 f2 f3 f4 f5 f6 f7 f8 f9 (fun _ => pure PUnit.unit) _ fun acc => ?_)
  rw [wp_pure]
  iintro H
  imodintro
  iexists acc
  iexact H

end Cert.Proof.KernelIdeal.Vl

end
-- ==== Proof.RunV.lean ====
module

public import proofs.«01_k».proof.Proof.Gen.KernelIdeal.Frame
public import proofs.«01_k».proof.Proof.Body
public import Idealize.ShloMosaic.Lib.Tactic

@[expose] public section

set_option maxRecDepth 65536

noncomputable section

namespace Cert.Proof.KernelIdeal.Vl

open Cert.KernelIdeal Cert.KernelIdeal.Gen Cert.Proof
open Spec
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The arguments of the batch element at a grid point, read from the arrays as the region finds them. -/
def Dt0 (c : Dev nD) (t : Fin cfg0.N) : Spec.Inp := Dof (grid0.coords t) (iblk m c 0 t) (iblk m c 1 t) (iblk m c 2 t) (iblk m c 3 t) (iblk m c 4 t) (iblk m c 5 t) (iblk m c 6 t) (iblk m c 7 t) (iblk m c 8 t)

theorem Dof_congr (i : grid0.Coords) {d1 e1 d2 e2 : S1x640x4x256.Idx → EReal} {d3 e3 d4 e4 : S10240x128.Idx → EReal} {d5 e5 : S5120x128.Idx → EReal}
    {d6 e6 : S1x640x4.Idx → EReal} {d7 e7 d8 e8 d9 e9 : S3x10x4.Idx → EReal} (h1 : d1 = e1) (h2 : d2 = e2) (h3 : d3 = e3) (h4 : d4 = e4) (h5 : d5 = e5) (h6 : d6 = e6)
    (h7 : d7 = e7) (h8 : d8 = e8) (h9 : d9 = e9) : Dof i d1 d2 d3 d4 d5 d6 d7 d8 d9 = Dof i e1 e2 e3 e4 e5 e6 e7 e8 e9 := by
  subst h1; subst h2; subst h3; subst h4; subst h5; subst h6; subst h7; subst h8; subst h9; rfl

/-- The blocks that the body leaves in the five output windows. -/
def o9 (D : Spec.Inp) (y : S5120x128.Idx) : EReal := row3 (tm (dq D)) (y 0).val (y 1).val
def o10 (D : Spec.Inp) (y : S5120x128.Idx) : EReal := row3 (tm (dk D)) (y 0).val (y 1).val
def o11 (D : Spec.Inp) (y : S10240x128.Idx) : EReal := row4 (tm (dv D)) (y 0).val (y 1).val
def o12 (D : Spec.Inp) (y : S5120x128.Idx) : EReal := row3 (dg D) (y 0).val (y 1).val
def o13 (D : Spec.Inp) (y : S5120x128.Idx) : EReal := row3 (tm (db D)) (y 0).val (y 1).val

/-- The proof data: each array as the region finds it, the inputs' blocks in place, the scratch at some contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => o9 (Dt0 m c t)
    | ⟨10, _⟩ => o10 (Dt0 m c t)
    | ⟨11, _⟩ => o11 (Dt0 m c t)
    | ⟨12, _⟩ => o12 (Dt0 m c t)
    | ⟨13, _⟩ => o13 (Dt0 m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem after_9 (c : Dev nD) (t : Fin cfg0.N) : (dats m 0 c).after 9 t = o9 (Dt0 m c t) := by dsimp only [dats]
theorem after_10 (c : Dev nD) (t : Fin cfg0.N) : (dats m 0 c).after 10 t = o10 (Dt0 m c t) := by dsimp only [dats]
theorem after_11 (c : Dev nD) (t : Fin cfg0.N) : (dats m 0 c).after 11 t = o11 (Dt0 m c t) := by dsimp only [dats]
theorem after_12 (c : Dev nD) (t : Fin cfg0.N) : (dats m 0 c).after 12 t = o12 (Dt0 m c t) := by dsimp only [dats]
theorem after_13 (c : Dev nD) (t : Fin cfg0.N) : (dats m 0 c).after 13 t = o13 (Dt0 m c t) := by dsimp only [dats]

/-- Reshaping a buffer does not move its cells. -/
theorem pt_R12 (c : Dev nD) (M : Memref sig .tc .vmem S10240x128 .bf16) (h : M.IsWhole) (f : Bf (F := Ideal) c M) :
    pt (F := Ideal) c (R12 M h) f = pt c M f := by
  unfold pt; rw [show (R12 M h).view.set = M.view.set from Memref.set_view_reshape ..]

/-- A whole scratch buffer's cells are all of them. -/
theorem pt_whole (c : Dev nD) (b : Ref sig .tc) (f : Bf (F := Ideal) c (Memref.whole b)) :
    pt (F := Ideal) c (Memref.whole b) f = ((c.tc : Thread nD τ).loc b ↦{fullShare} f) := by
  have e : (Memref.whole b).view.set = Finset.univ := by rw [Memref.view_whole, View.set_whole]
  unfold pt; rw [e]

theorem of_whole (c : Dev nD) (b : Ref sig .tc) (f : Bf (F := Ideal) c (Memref.whole b)) :
    pt (F := Ideal) c (Memref.whole b) f ⊢ ((c.tc : Thread nD τ).loc b ↦{fullShare} f) := by rw [pt_whole]
theorem of_R12 (c : Dev nD) (M : Memref sig .tc .vmem S10240x128 .bf16) (h : M.IsWhole) (f : Bf (F := Ideal) c M) :
    pt (F := Ideal) c (R12 M h) f ⊢ pt c M f := by rw [pt_R12]

/-- The cells of the regrouped rows are the rows' own. -/
theorem read_R12 (c : Dev nD) (M : Memref sig .tc .vmem S10240x128 .bf16) (h : M.IsWhole) (f : Bf (F := Ideal) c M) (y : S10240x128.Idx) :
    M.view.read (Elt Ideal) f y = (R12 M h).view.read (Elt Ideal) f (ix3 (n0 := 5120) (n1 := 2) (n2 := 128) ⟨(y 0).val / 2, by have := (y 0).isLt; simp at this; omega⟩ ⟨(y 0).val % 2, Nat.mod_lt _ (by omega)⟩ (y 1)) := by
  refine congrArg (M.view.read (Elt Ideal) f) (?_ : y = Shape.reshapeEquiv reshapes_S10240x128_S5120x2x128.1 _)
  apply S10240x128.rowMajor.injective
  apply Fin.ext
  rw [Shape.rowMajor_reshapeEquiv]
  refine (rowMajor_val2 y 128 rfl).trans (Eq.trans ?_ (rowMajor_val3 _ 256 128 rfl rfl).symm)
  show (y 0).val * 128 + (y 1).val = (y 0).val / 2 * 256 + (y 0).val % 2 * 128 + (y 1).val
  omega

theorem out11 (c : Dev nD) (M : Memref sig .tc .vmem S10240x128 .bf16) (h : M.IsWhole) (f : Bf (F := Ideal) c M) (D : Spec.Inp)
    (H : ∀ y : S5120x2x128.Idx, (R12 M h).view.read (Elt Ideal) f y = tm (dv D) ((y 0).val / 8) (2 * ((y 0).val % 2) + (y 1).val) ((y 0).val / 2 % 4 * 128 + (y 2).val)) :
    M.view.read (Elt Ideal) f = o11 D := by
  funext y
  refine (read_R12 c M h f y).trans ((H _).trans ?_)
  show tm (dv D) ((y 0).val / 2 / 8) (2 * ((y 0).val / 2 % 2) + (y 0).val % 2) ((y 0).val / 2 / 2 % 4 * 128 + (y 1).val) = tm (dv D) ((y 0).val / 16) ((y 0).val % 4) ((y 0).val / 4 % 4 * 128 + (y 1).val)
  congr 1 <;> omega

/-- What the body is called with, and what it returns. -/
def bodyPre (c : Dev nD) (t : Fin cfg0.N) : sProp 𝕄 :=
  iprop((dats m 0 c).Φ t.castSucc ∗ (dats m 0 c).owesAt () t.castSucc ∗ (∃ d : (cfg0.win 0).block.Idx → Elt Ideal (cfg0.win 0).elt, owns (c : Thread nD τ) (win0_0.stage (cfg0.slots t 0)) fullShare ((dats m 0 c).before 0 t d)) ∗ (∃ d : (cfg0.win 1).block.Idx → Elt Ideal (cfg0.win 1).elt, owns (c : Thread nD τ) (win0_1.stage (cfg0.slots t 1)) fullShare ((dats m 0 c).before 1 t d)) ∗ (∃ d : (cfg0.win 2).block.Idx → Elt Ideal (cfg0.win 2).elt, owns (c : Thread nD τ) (win0_2.stage (cfg0.slots t 2)) fullShare ((dats m 0 c).before 2 t d)) ∗ (∃ d : (cfg0.win 3).block.Idx → Elt Ideal (cfg0.win 3).elt, owns (c : Thread nD τ) (win0_3.stage (cfg0.slots t 3)) fullShare ((dats m 0 c).before 3 t d)) ∗ (∃ d : (cfg0.win 4).block.Idx → Elt Ideal (cfg0.win 4).elt, owns (c : Thread nD τ) (win0_4.stage (cfg0.slots t 4)) fullShare ((dats m 0 c).before 4 t d)) ∗ (∃ d : (cfg0.win 5).block.Idx → Elt Ideal (cfg0.win 5).elt, owns (c : Thread nD τ) (win0_5.stage (cfg0.slots t 5)) fullShare ((dats m 0 c).before 5 t d)) ∗ (∃ d : (cfg0.win 6).block.Idx → Elt Ideal (cfg0.win 6).elt, owns (c : Thread nD τ) (win0_6.stage (cfg0.slots t 6)) fullShare ((dats m 0 c).before 6 t d)) ∗ (∃ d : (cfg0.win 7).block.Idx → Elt Ideal (cfg0.win 7).elt, owns (c : Thread nD τ) (win0_7.stage (cfg0.slots t 7)) fullShare ((dats m 0 c).before 7 t d)) ∗ (∃ d : (cfg0.win 8).block.Idx → Elt Ideal (cfg0.win 8).elt, owns (c : Thread nD τ) (win0_8.stage (cfg0.slots t 8)) fullShare ((dats m 0 c).before 8 t d)) ∗ (∃ d : (cfg0.win 9).block.Idx → Elt Ideal (cfg0.win 9).elt, owns (c : Thread nD τ) (win0_9.stage (cfg0.slots t 9)) fullShare ((dats m 0 c).before 9 t d)) ∗ (∃ d : (cfg0.win 10).block.Idx → Elt Ideal (cfg0.win 10).elt, owns (c : Thread nD τ) (win0_10.stage (cfg0.slots t 10)) fullShare ((dats m 0 c).before 10 t d)) ∗ (∃ d : (cfg0.win 11).block.Idx → Elt Ideal (cfg0.win 11).elt, owns (c : Thread nD τ) (win0_11.stage (cfg0.slots t 11)) fullShare ((dats m 0 c).before 11 t d)) ∗ (∃ d : (cfg0.win 12).block.Idx → Elt Ideal (cfg0.win 12).elt, owns (c : Thread nD τ) (win0_12.stage (cfg0.slots t 12)) fullShare ((dats m 0 c).before 12 t d)) ∗ (∃ d : (cfg0.win 13).block.Idx → Elt Ideal (cfg0.win 13).elt, owns (c : Thread nD τ) (win0_13.stage (cfg0.slots t 13)) fullShare ((dats m 0 c).before 13 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t))

set_option maxHeartbeats 0 in
/-- The body at a point. -/
theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c)]
  simp only [after_0, after_1, after_2, after_3, after_4, after_5, after_6, after_7, after_8, after_9, after_10, after_11, after_12, after_13]
  unfold owns
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩⟩, Hg⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩⟩
  iapply (wp_wand_r Idealize.ShloMosaic.frame (wpE (defs₀ (F := Ideal)) Variants.none (c : Thread nD τ) none) Set.univ)
  isplitl [H0 H1 H2 H3 H4 H5 H6 H7 H8 H9 H10 H11 H12 H13 S0 S1 S2 S3 S4 S5 S6 S7 S8 S9 S10 S11 S12 S13]
  · iapply (bodyV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) f0 f1 f2 f3 f4 f5 f6 f7 f8 f9 f10 f11 f12 f13 s0 s1 s2 s3 s4 s5 s6 s7 s8 s9 s10 s11 s12 s13)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · rw [pt_R12]; iexact H11
    isplitl [H12]; · iexact H12
    isplitl [H13]; · iexact H13
    isplitl [S0]; · rw [pt_whole]; iexact S0
    isplitl [S1]; · rw [pt_whole]; iexact S1
    isplitl [S2]; · rw [pt_whole]; iexact S2
    isplitl [S3]; · rw [pt_whole]; iexact S3
    isplitl [S4]; · rw [pt_whole]; iexact S4
    isplitl [S5]; · rw [pt_whole]; iexact S5
    isplitl [S6]; · rw [pt_whole]; iexact S6
    isplitl [S7]; · rw [pt_whole]; iexact S7
    isplitl [S8]; · rw [pt_whole]; iexact S8
    isplitl [S9]; · rw [pt_whole]; iexact S9
    isplitl [S10]; · rw [pt_whole]; iexact S10
    isplitl [S11]; · rw [pt_whole]; iexact S11
    isplitl [S12]; · rw [pt_whole]; iexact S12
    rw [pt_whole]; iexact S13
  iintro %_ ⟨%acc, HI⟩
  unfold Inv2
  icases HI with ⟨H0, H1, H2, H3, H4, H5, H6, H7, H8, %g9, %g10, %g11, %g12, %g13, %r0, %r1, %r2, %r3, %r4, %r5, %r6, %r7, %r8, %r9, %r10, %r11, %r12, %r13, %hs, H9, H10, H11, H12, H13, S0, S1, S2, S3, S4, S5, S6, S7, S8, S9, S10, S11, S12, S13⟩
  rw [Dof_congr (grid0.coords t) h0 h1 h2 h3 h4 h5 h6 h7 h8] at hs
  have hs' : S2 (Dt0 m c t) 10 _ acc := hs
  isplitl [Hg S0 S1 S2 S3 S4 S5 S6 S7 S8 S9 S10 S11 S12 S13]
  · isplitl [S0 S1 S2 S3 S4 S5 S6 S7 S8 S9 S10 S11 S12 S13]
    · isplitl [S0]; · iexists r0; iapply (of_whole c _ r0); iexact S0
      isplitl [S1]; · iexists r1; iapply (of_whole c _ r1); iexact S1
      isplitl [S2]; · iexists r2; iapply (of_whole c _ r2); iexact S2
      isplitl [S3]; · iexists r3; iapply (of_whole c _ r3); iexact S3
      isplitl [S4]; · iexists r4; iapply (of_whole c _ r4); iexact S4
      isplitl [S5]; · iexists r5; iapply (of_whole c _ r5); iexact S5
      isplitl [S6]; · iexists r6; iapply (of_whole c _ r6); iexact S6
      isplitl [S7]; · iexists r7; iapply (of_whole c _ r7); iexact S7
      isplitl [S8]; · iexists r8; iapply (of_whole c _ r8); iexact S8
      isplitl [S9]; · iexists r9; iapply (of_whole c _ r9); iexact S9
      isplitl [S10]; · iexists r10; iapply (of_whole c _ r10); iexact S10
      isplitl [S11]; · iexists r11; iapply (of_whole c _ r11); iexact S11
      isplitl [S12]; · iexists r12; iapply (of_whole c _ r12); iexact S12
      iexists r13; iapply (of_whole c _ r13); iexact S13
    iexact Hg
  isplitl [HO]; · iexact HO
  isplitl [H0]
  · iexists f0; isplitr
    · ipureintro; exact h0
    iexact H0
  isplitl [H1]
  · iexists f1; isplitr
    · ipureintro; exact h1
    iexact H1
  isplitl [H2]
  · iexists f2; isplitr
    · ipureintro; exact h2
    iexact H2
  isplitl [H3]
  · iexists f3; isplitr
    · ipureintro; exact h3
    iexact H3
  isplitl [H4]
  · iexists f4; isplitr
    · ipureintro; exact h4
    iexact H4
  isplitl [H5]
  · iexists f5; isplitr
    · ipureintro; exact h5
    iexact H5
  isplitl [H6]
  · iexists f6; isplitr
    · ipureintro; exact h6
    iexact H6
  isplitl [H7]
  · iexists f7; isplitr
    · ipureintro; exact h7
    iexact H7
  isplitl [H8]
  · iexists f8; isplitr
    · ipureintro; exact h8
    iexact H8
  isplitl [H9]
  · iexists g9; isplitr
    · ipureintro; funext y; exact hs'.a10 y
    iexact H9
  isplitl [H10]
  · iexists g10; isplitr
    · ipureintro; funext y; exact hs'.a11 y (Nat.zero_le _)
    iexact H10
  isplitl [H11]
  · iexists g11; isplitr
    · ipureintro; exact out11 c _ _ _ _ fun y => hs'.a12 y (Nat.zero_le _)
    iapply (of_R12 c _ _ g11); iexact H11
  isplitl [H12]
  · iexists g12; isplitr
    · ipureintro; funext y; exact hs'.a13 y (Nat.zero_le _)
    iexact H12
  iexists g13; isplitr
  · ipureintro; funext y; exact (hs'.a14 y).trans (if_neg (by omega))
  iexact H13

theorem defs₀_row (t : Fin cfg0.N) : defs₀ (F := Ideal) .tc cfg0.body (cfg0.bodyArgs t (cfg0.slots t)) = bodyAt0 t := by
  unfold defs₀; rw [Defs.onTc_tc]

/-- The pipeline's obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every execution ends, each array at what the proof data say and every counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.KernelIdeal.Vl

end
-- ==== Proof.RefVal.lean ====
module

public import proofs.«01_k».proof.Proof.Gen.RefIdeal.Read
public import proofs.«01_k».proof.Proof.Spec
public import Idealize.ShloMosaic.Lib.Pipeline.ValueKit.Tiles

@[expose] public section

set_option maxRecDepth 65536

noncomputable section

namespace Cert.Proof.RefVal

open Cert.RefIdeal Cert.RefIdeal.Gen Cert.RefIdeal.Read Cert.Proof
open Idealize.ShloMosaic Idealize.ShloMosaic.TcCoe Idealize.ShloMosaic.StableHlo Idealize.ShloMosaic.ValueIdx
open scoped BigOperators

/-- What the reference's host part reads: scales, gate, and the decoded codes. -/
structure Arg where
  x2 : S3x10x4.Idx → EReal
  x3 : S3x10x4.Idx → EReal
  x5 : S3x10x4.Idx → EReal
  x7 : S3x640x4.Idx → EReal
  x8 : S3x640x4x256.Idx → EReal
  r0 : S3x640x4x256.Idx → EReal
  r1 : S3x640x4x256.Idx → EReal
  r2 : S3x640x4x512.Idx → EReal
  r3 : S3x640x4x512.Idx → EReal

/-- A rank-four array by plain numbers, zero outside. -/
def at4 (n0 n1 n2 n3 : ℕ) (f : (⟨4, ![n0, n1, n2, n3]⟩ : Shape).Idx → EReal) (b t h c : ℕ) : EReal :=
  if e : b < n0 ∧ t < n1 ∧ h < n2 ∧ c < n3 then f (ix4 ⟨b, e.1⟩ ⟨t, e.2.1⟩ ⟨h, e.2.2.1⟩ ⟨c, e.2.2.2⟩) else 0

/-- A rank-three array by plain numbers, zero outside. -/
def at3 (n0 n1 n2 : ℕ) (f : (⟨3, ![n0, n1, n2]⟩ : Shape).Idx → EReal) (b t h : ℕ) : EReal :=
  if e : b < n0 ∧ t < n1 ∧ h < n2 then f (ix3 ⟨b, e.1⟩ ⟨t, e.2.1⟩ ⟨h, e.2.2⟩) else 0

theorem at4_eq {n0 n1 n2 n3 : ℕ} (f : (⟨4, ![n0, n1, n2, n3]⟩ : Shape).Idx → EReal) (j : (⟨4, ![n0, n1, n2, n3]⟩ : Shape).Idx)
    {b t h c : ℕ} (h0 : (j 0).val = b) (h1 : (j 1).val = t) (h2 : (j 2).val = h) (h3 : (j 3).val = c) :
    f j = at4 n0 n1 n2 n3 f b t h c := by
  subst h0 h1 h2 h3
  have e : (j 0).val < n0 ∧ (j 1).val < n1 ∧ (j 2).val < n2 ∧ (j 3).val < n3 := ⟨(j 0).isLt, (j 1).isLt, (j 2).isLt, (j 3).isLt⟩
  unfold at4
  rw [dif_pos e]
  exact congrArg f (eq_ix4 j)

theorem at3_eq {n0 n1 n2 : ℕ} (f : (⟨3, ![n0, n1, n2]⟩ : Shape).Idx → EReal) (j : (⟨3, ![n0, n1, n2]⟩ : Shape).Idx)
    {b t h : ℕ} (h0 : (j 0).val = b) (h1 : (j 1).val = t) (h2 : (j 2).val = h) : f j = at3 n0 n1 n2 f b t h := by
  subst h0 h1 h2
  have e : (j 0).val < n0 ∧ (j 1).val < n1 ∧ (j 2).val < n2 := ⟨(j 0).isLt, (j 1).isLt, (j 2).isLt⟩
  unfold at3
  rw [dif_pos e]
  exact congrArg f (eq_ix3 j)

/-- Batch `b`'s arguments. -/
def E (A : Arg) (b : ℕ) : Spec.Inp where
  q := at4 3 640 4 256 A.r0 b
  k := at4 3 640 4 256 A.r1 b
  g := at4 3 640 4 256 A.x8 b
  v := at4 3 640 4 512 A.r2 b
  d := at4 3 640 4 512 A.r3 b
  ds := at3 3 640 4 A.x7 b
  qs := at3 3 10 4 A.x2 b
  ks := at3 3 10 4 A.x3 b
  vs := at3 3 10 4 A.x5 b

/-! Positions through the reshapes. -/

section
variable {b n i h c : ℕ} (hb : b < 3) (hn : n < 10) (hi : i < 64) (hh : h < 4)
include hb hn hi hh
theorem p0 (hc : c < 256) : ((((b * 10 + n) * 64 + i) * 4 + h) * 256 + c) / 655360 = b := by omega
theorem p1 (hc : c < 256) : ((((b * 10 + n) * 64 + i) * 4 + h) * 256 + c) / 1024 % 640 = 64 * n + i := by omega
theorem p2 (hc : c < 256) : ((((b * 10 + n) * 64 + i) * 4 + h) * 256 + c) / 256 % 4 = h := by omega
theorem p3 (hc : c < 256) : ((((b * 10 + n) * 64 + i) * 4 + h) * 256 + c) % 256 = c := by omega
theorem w0 (hc : c < 512) : ((((b * 10 + n) * 64 + i) * 4 + h) * 512 + c) / 1310720 = b := by omega
theorem w1 (hc : c < 512) : ((((b * 10 + n) * 64 + i) * 4 + h) * 512 + c) / 2048 % 640 = 64 * n + i := by omega
theorem w2 (hc : c < 512) : ((((b * 10 + n) * 64 + i) * 4 + h) * 512 + c) / 512 % 4 = h := by omega
theorem w3 (hc : c < 512) : ((((b * 10 + n) * 64 + i) * 4 + h) * 512 + c) % 512 = c := by omega
theorem s0 : (((b * 10 + n) * 64 + i) * 4 + h) / 2560 = b := by omega
theorem s1 : (((b * 10 + n) * 64 + i) * 4 + h) / 4 % 640 = 64 * n + i := by omega
theorem s2 : (((b * 10 + n) * 64 + i) * 4 + h) % 4 = h := by omega
end

/-! Sums over windows. -/

theorem foldl_add {α : Type} (l : List α) (f : α → EReal) (r : EReal) : l.foldl (fun r n => r + f n) r = r + (l.map f).sum := by
  induction l generalizing r with
  | nil => simp
  | cons a l ih => rw [List.foldl_cons, ih, List.map_cons, List.sum_cons, add_assoc]

theorem foldl_fin {N : ℕ} (f : Fin N → EReal) (r : EReal) : (List.finRange N).foldl (fun r n => r + f n) r = r + ∑ n, f n := by
  rw [foldl_add, Fin.sum_univ_def]

theorem low_sum (G : ℕ → EReal) (i : ℕ) (hi : i < 64) :
    (∑ w : Fin 64, if 63 ≤ i + w.val then G (i + w.val - 63) else 0) = ∑ m ∈ Finset.range (i + 1), G m := by
  rw [Finset.sum_range (fun w => if 63 ≤ i + w then G (i + w - 63) else 0) |>.symm, show 64 = (63 - i) + (i + 1) by omega,
    Finset.sum_range_add, Finset.sum_eq_zero (fun w hw => if_neg (by have := Finset.mem_range.mp hw; omega)), zero_add]
  refine Finset.sum_congr rfl fun m _ => ?_
  rw [if_pos (by omega), show i + (63 - i + m) - 63 = m by omega]

theorem cum_sum (D : Spec.Inp) (n i h c : ℕ) : Spec.cum D n i h c = ∑ m ∈ Finset.range (i + 1), D.g (64 * n + m) h c := by
  induction i with
  | zero => rw [Finset.sum_range_one]; exact zero_add _
  | succ i ih => rw [Finset.sum_range_succ, ← ih]; rfl

theorem high_sum (B : ℕ → EReal) (t : ℕ) (ht : t < 640) :
    (∑ w : Fin 640, if t + w.val < 640 then B (t + w.val) else 0) = ∑ m ∈ Finset.range (640 - t), B (639 - m) := by
  rw [Finset.sum_range (fun w => if t + w < 640 then B (t + w) else 0) |>.symm, show 640 = (640 - t) + t by omega,
    Finset.sum_range_add, Finset.sum_eq_zero (s := Finset.range t) (fun w hw => if_neg (by omega)), add_zero,
    ← Finset.sum_range_reflect]
  refine Finset.sum_congr (by rw [show 640 - t + t - t = 640 - t by omega]) fun m hm => ?_
  have := Finset.mem_range.mp hm
  rw [if_pos (by omega)]
  exact congrArg B (by omega)

theorem suf_sum (D : Spec.Inp) (s h c : ℕ) :
    Spec.suf D s h c = ∑ m ∈ Finset.range s, Spec.db D ((639 - m) / 64) ((639 - m) % 64) h c := by
  induction s with
  | zero => rfl
  | succ s ih => rw [Finset.sum_range_succ, ← ih]; rfl

/-- One piece of a stack along a new first axis. -/
theorem piece {f : S1x3x4x256x512.Idx → EReal} {j : S10x3x4x256x512.Idx} {g : ℕ → ℕ → ℕ → ℕ → ℕ → EReal} {n : ℕ}
    (hf : ∀ i : S1x3x4x256x512.Idx, f i = g n (i 1).val (i 2).val (i 3).val (i 4).val) :
    PieceAt (t := S10x3x4x256x512) 0 j (g (j 0).val (j 1).val (j 2).val (j 3).val (j 4).val) S1x3x4x256x512 f n := by
  intro hk hr i _ hb
  have e1 : (i 1).val = (j 1).val := hb 1 (by decide)
  have e2 : (i 2).val = (j 2).val := hb 2 (by decide)
  have e3 : (i 3).val = (j 3).val := hb 3 (by decide)
  have e4 : (i 4).val = (j 4).val := hb 4 (by decide)
  rw [hf, e1, e2, e3, e4, hk]

variable (A : Arg)

theorem a1 (j : S3x10x64x4x256.Idx) : (val_main_v1 (F := Ideal) A.r0 j) = (E A (j 0).val).q (64 * (j 1).val + (j 2).val) (j 3).val (j 4).val := by
  rw [val_main_v1_apply]
  exact at4_eq (n0 := 3) (n1 := 640) (n2 := 4) (n3 := 256) A.r0 _ (p0 (j 0).isLt (j 1).isLt (j 2).isLt (j 3).isLt (j 4).isLt) (p1 (j 0).isLt (j 1).isLt (j 2).isLt (j 3).isLt (j 4).isLt) (p2 (j 0).isLt (j 1).isLt (j 2).isLt (j 3).isLt (j 4).isLt) (p3 (j 0).isLt (j 1).isLt (j 2).isLt (j 3).isLt (j 4).isLt)

theorem a2 (j : S3x10x64x4x256.Idx) : (val_main_v2 (F := Ideal) A.r1 j) = (E A (j 0).val).k (64 * (j 1).val + (j 2).val) (j 3).val (j 4).val := by
  rw [val_main_v2_apply]
  exact at4_eq (n0 := 3) (n1 := 640) (n2 := 4) (n3 := 256) A.r1 _ (p0 (j 0).isLt (j 1).isLt (j 2).isLt (j 3).isLt (j 4).isLt) (p1 (j 0).isLt (j 1).isLt (j 2).isLt (j 3).isLt (j 4).isLt) (p2 (j 0).isLt (j 1).isLt (j 2).isLt (j 3).isLt (j 4).isLt) (p3 (j 0).isLt (j 1).isLt (j 2).isLt (j 3).isLt (j 4).isLt)

theorem a3 (j : S3x10x64x4x512.Idx) : (val_main_v3 (F := Ideal) A.r2 j) = (E A (j 0).val).v (64 * (j 1).val + (j 2).val) (j 3).val (j 4).val := by
  rw [val_main_v3_apply]
  exact at4_eq (n0 := 3) (n1 := 640) (n2 := 4) (n3 := 512) A.r2 _ (w0 (j 0).isLt (j 1).isLt (j 2).isLt (j 3).isLt (j 4).isLt) (w1 (j 0).isLt (j 1).isLt (j 2).isLt (j 3).isLt (j 4).isLt) (w2 (j 0).isLt (j 1).isLt (j 2).isLt (j 3).isLt (j 4).isLt) (w3 (j 0).isLt (j 1).isLt (j 2).isLt (j 3).isLt (j 4).isLt)

theorem a4 (j : S3x10x64x4x512.Idx) : (val_main_v4 (F := Ideal) A.r3 j) = (E A (j 0).val).d (64 * (j 1).val + (j 2).val) (j 3).val (j 4).val := by
  rw [val_main_v4_apply]
  exact at4_eq (n0 := 3) (n1 := 640) (n2 := 4) (n3 := 512) A.r3 _ (w0 (j 0).isLt (j 1).isLt (j 2).isLt (j 3).isLt (j 4).isLt) (w1 (j 0).isLt (j 1).isLt (j 2).isLt (j 3).isLt (j 4).isLt) (w2 (j 0).isLt (j 1).isLt (j 2).isLt (j 3).isLt (j 4).isLt) (w3 (j 0).isLt (j 1).isLt (j 2).isLt (j 3).isLt (j 4).isLt)

theorem a5 (j : S3x10x64x4x256.Idx) : (val_main_v5 (F := Ideal) A.x8 j) = (E A (j 0).val).g (64 * (j 1).val + (j 2).val) (j 3).val (j 4).val := by
  rw [val_main_v5_apply]
  exact at4_eq (n0 := 3) (n1 := 640) (n2 := 4) (n3 := 256) A.x8 _ (p0 (j 0).isLt (j 1).isLt (j 2).isLt (j 3).isLt (j 4).isLt) (p1 (j 0).isLt (j 1).isLt (j 2).isLt (j 3).isLt (j 4).isLt) (p2 (j 0).isLt (j 1).isLt (j 2).isLt (j 3).isLt (j 4).isLt) (p3 (j 0).isLt (j 1).isLt (j 2).isLt (j 3).isLt (j 4).isLt)

theorem a6 (j : S3x10x64x4.Idx) : (val_main_v6 (F := Ideal) A.x7 j) = (E A (j 0).val).ds (64 * (j 1).val + (j 2).val) (j 3).val := by
  rw [val_main_v6_apply]
  exact at3_eq (n0 := 3) (n1 := 640) (n2 := 4) A.x7 _ (s0 (j 0).isLt (j 1).isLt (j 2).isLt (j 3).isLt) (s1 (j 0).isLt (j 1).isLt (j 2).isLt (j 3).isLt) (s2 (j 0).isLt (j 1).isLt (j 2).isLt (j 3).isLt)

theorem a9 (j : S3x10x64x4x256.Idx) : (val_main_v9 (F := Ideal) A.x2 j) = (E A (j 0).val).qs (j 1).val (j 3).val := by
  rw [val_main_v9_apply, val_main_v8_apply]
  exact at3_eq (n0 := 3) (n1 := 10) (n2 := 4) A.x2 _ rfl rfl rfl

theorem a12 (j : S3x10x64x4x256.Idx) : (val_main_v12 (F := Ideal) A.x3 j) = (E A (j 0).val).ks (j 1).val (j 3).val := by
  rw [val_main_v12_apply, val_main_v11_apply]
  exact at3_eq (n0 := 3) (n1 := 10) (n2 := 4) A.x3 _ rfl rfl rfl

theorem a7 (j : S3x10x1x4x1.Idx) : (val_main_v7 (F := Ideal) A.x5 j) = (E A (j 0).val).vs (j 1).val (j 3).val := by
  rw [val_main_v7_apply]
  exact at3_eq (n0 := 3) (n1 := 10) (n2 := 4) A.x5 _ rfl rfl rfl

theorem a42 (j : S3x10x4x64x1.Idx) : (val_main_v42 (F := Ideal) A.x5 j) = (E A (j 0).val).vs (j 1).val (j 2).val := by
  rw [val_main_v42_apply, val_main_v41_apply]
  exact at3_eq (n0 := 3) (n1 := 10) (n2 := 4) A.x5 _ rfl rfl rfl

theorem a57 (j : S10x3x4x256x512.Idx) : (val_main_v57 (F := Ideal) A.x5 j) = (E A (j 1).val).vs (j 0).val (j 2).val := by
  rw [val_main_v57_apply, val_main_v56_apply, val_main_v55_apply]
  exact at3_eq (n0 := 3) (n1 := 10) (n2 := 4) A.x5 _ rfl rfl rfl

/-- The decoded query -/
theorem a10 (j : S3x10x64x4x256.Idx) : (val_main_v10 (F := Ideal) A.x2 A.r0 j) = Spec.Q (E A (j 0).val) (j 1).val (j 2).val (j 3).val (j 4).val := by
  rw [val_main_v10_apply, a1, a9]
  rfl

/-- and key. -/
theorem a13 (j : S3x10x64x4x256.Idx) : (val_main_v13 (F := Ideal) A.x3 A.r1 j) = Spec.K (E A (j 0).val) (j 1).val (j 2).val (j 3).val (j 4).val := by
  rw [val_main_v13_apply, a2, a12]
  rfl

theorem win0 (x : S3x10x64x4x256.Idx → EReal) (z : S_.Idx → EReal) (hz : z (Shape.Idx.first h_S_) = 0)
    (G : ℕ → ℕ → ℕ → ℕ → ℕ → EReal) (hx : ∀ i : S3x10x64x4x256.Idx, x i = G (i 0).val (i 1).val (i 2).val (i 3).val (i 4).val)
    (j : S3x10x64x4x256.Idx) :
    Host.reduceWindowAdd (F := Ideal) (φ := .f32) ![1, 1, 64, 1, 1] ![1, 1, 1, 1, 1] ![0, 0, 63, 0, 0] ![0, 0, 0, 0, 0] x z
      reduceWindows_S3x10x64x4x256_S3x10x64x4x256_w1s1p0_0_w1s1p0_0_w64s1p63_0_w1s1p0_0_w1s1p0_0 h_S_ j
      = ∑ w : Fin 64, if 63 ≤ (j 2).val + w.val then G (j 0).val (j 1).val ((j 2).val + w.val - 63) (j 3).val (j 4).val else 0 := by
  refine (foldl_fin _ _).trans ?_
  rw [hz, zero_add]
  refine (Fintype.sum_equiv (Shape.rowMajor ⟨5, ![1, 1, 64, 1, 1]⟩).symm _
    (fun k => if 63 ≤ (j 2).val + (k 2).val then G (j 0).val (j 1).val ((j 2).val + (k 2).val - 63) (j 3).val (j 4).val else 0) fun n => ?_).trans ?_
  case refine_1 =>
    have key : ∀ (k : (⟨5, ![1, 1, 64, 1, 1]⟩ : Shape).Idx) (d : Decidable (∀ a : Fin 5, ![0, 0, 63, 0, 0] a ≤ (j a).val * ![1, 1, 1, 1, 1] a + (k a).val ∧
        (j a).val * ![1, 1, 1, 1, 1] a + (k a).val - ![0, 0, 63, 0, 0] a < S3x10x64x4x256.size a)),
        @dite _ _ d (fun hin => x (fun a => ⟨(j a).val * ![1, 1, 1, 1, 1] a + (k a).val - ![0, 0, 63, 0, 0] a, (hin a).2⟩)) (fun _ => (0 : EReal)) = (if 63 ≤ (j 2).val + (k 2).val then G (j 0).val (j 1).val ((j 2).val + (k 2).val - 63) (j 3).val (j 4).val else 0) := by
      intro k d
      have h2 : (j 2).val < 64 := (j 2).isLt
      have g0 : (k 0).val < 1 := (k 0).isLt
      have g1 : (k 1).val < 1 := (k 1).isLt
      have g2 : (k 2).val < 64 := (k 2).isLt
      have g3 : (k 3).val < 1 := (k 3).isLt
      have g4 : (k 4).val < 1 := (k 4).isLt
      have h0 : (j 0).val < 3 := (j 0).isLt
      have h1 : (j 1).val < 10 := (j 1).isLt
      have h3 : (j 3).val < 4 := (j 3).isLt
      have h4 : (j 4).val < 256 := (j 4).isLt
      by_cases hw : 63 ≤ (j 2).val + (k 2).val
      · rw [if_pos hw]
        refine (dif_pos ?_).trans ((hx _).trans ?_)
        · intro a
          match a with
          | ⟨0, _⟩ => show 0 ≤ (j 0).val * 1 + (k 0).val ∧ (j 0).val * 1 + (k 0).val - 0 < 3; omega
          | ⟨1, _⟩ => show 0 ≤ (j 1).val * 1 + (k 1).val ∧ (j 1).val * 1 + (k 1).val - 0 < 10; omega
          | ⟨2, _⟩ => show 63 ≤ (j 2).val * 1 + (k 2).val ∧ (j 2).val * 1 + (k 2).val - 63 < 64; omega
          | ⟨3, _⟩ => show 0 ≤ (j 3).val * 1 + (k 3).val ∧ (j 3).val * 1 + (k 3).val - 0 < 4; omega
          | ⟨4, _⟩ => show 0 ≤ (j 4).val * 1 + (k 4).val ∧ (j 4).val * 1 + (k 4).val - 0 < 256; omega
        · show G ((j 0).val * 1 + (k 0).val - 0) ((j 1).val * 1 + (k 1).val - 0) ((j 2).val * 1 + (k 2).val - 63) ((j 3).val * 1 + (k 3).val - 0) ((j 4).val * 1 + (k 4).val - 0) = _
          congr 1 <;> omega
      · rw [if_neg hw]
        refine (dif_neg fun hin => hw ?_).trans rfl
        have h : 63 ≤ (j 2).val * 1 + (k 2).val := (hin 2).1
        omega
    exact key ((Shape.rowMajor ⟨5, ![1, 1, 64, 1, 1]⟩).symm n) _
  refine Fintype.sum_bijective (fun k : (⟨5, ![1, 1, 64, 1, 1]⟩ : Shape).Idx => (k 2 : Fin 64)) ⟨?_, ?_⟩ _ _ ?_
  · intro k k' e
    funext a
    match a with
    | ⟨0, _⟩ => exact Subsingleton.elim (α := Fin 1) _ _
    | ⟨1, _⟩ => exact Subsingleton.elim (α := Fin 1) _ _
    | ⟨2, _⟩ => exact e
    | ⟨3, _⟩ => exact Subsingleton.elim (α := Fin 1) _ _
    | ⟨4, _⟩ => exact Subsingleton.elim (α := Fin 1) _ _
  · intro w
    exact ⟨fun a => match a with
      | ⟨0, _⟩ => (0 : Fin 1) | ⟨1, _⟩ => (0 : Fin 1) | ⟨2, _⟩ => w | ⟨3, _⟩ => (0 : Fin 1) | ⟨4, _⟩ => (0 : Fin 1), rfl⟩
  · intro k
    rfl

theorem win4 (x : S3x640x4x256.Idx → EReal) (z : S_.Idx → EReal) (hz : z (Shape.Idx.first h_S_) = 0)
    (G : ℕ → ℕ → ℕ → ℕ → EReal) (hx : ∀ i : S3x640x4x256.Idx, x i = G (i 0).val (i 1).val (i 2).val (i 3).val)
    (j : S3x640x4x256.Idx) :
    Host.reduceWindowAdd (F := Ideal) (φ := .f32) ![1, 640, 1, 1] ![1, 1, 1, 1] ![0, 0, 0, 0] ![0, 639, 0, 0] x z
      reduceWindows_S3x640x4x256_S3x640x4x256_w1s1p0_0_w640s1p0_639_w1s1p0_0_w1s1p0_0 h_S_ j
      = ∑ w : Fin 640, if (j 1).val + w.val < 640 then G (j 0).val ((j 1).val + w.val) (j 2).val (j 3).val else 0 := by
  refine (foldl_fin _ _).trans ?_
  rw [hz, zero_add]
  refine (Fintype.sum_equiv (Shape.rowMajor ⟨4, ![1, 640, 1, 1]⟩).symm _
    (fun k => if (j 1).val + (k 1).val < 640 then G (j 0).val ((j 1).val + (k 1).val) (j 2).val (j 3).val else 0) fun n => ?_).trans ?_
  case refine_1 =>
    have key : ∀ (k : (⟨4, ![1, 640, 1, 1]⟩ : Shape).Idx) (d : Decidable (∀ a : Fin 4, ![0, 0, 0, 0] a ≤ (j a).val * ![1, 1, 1, 1] a + (k a).val ∧
        (j a).val * ![1, 1, 1, 1] a + (k a).val - ![0, 0, 0, 0] a < S3x640x4x256.size a)),
        @dite _ _ d (fun hin => x (fun a => ⟨(j a).val * ![1, 1, 1, 1] a + (k a).val - ![0, 0, 0, 0] a, (hin a).2⟩)) (fun _ => (0 : EReal)) = (if (j 1).val + (k 1).val < 640 then G (j 0).val ((j 1).val + (k 1).val) (j 2).val (j 3).val else 0) := by
      intro k d
      have g0 : (k 0).val < 1 := (k 0).isLt
      have g1 : (k 1).val < 640 := (k 1).isLt
      have g2 : (k 2).val < 1 := (k 2).isLt
      have g3 : (k 3).val < 1 := (k 3).isLt
      have h0 : (j 0).val < 3 := (j 0).isLt
      have h1 : (j 1).val < 640 := (j 1).isLt
      have h2 : (j 2).val < 4 := (j 2).isLt
      have h3 : (j 3).val < 256 := (j 3).isLt
      by_cases hw : (j 1).val + (k 1).val < 640
      · rw [if_pos hw]
        refine (dif_pos ?_).trans ((hx _).trans ?_)
        · intro a
          match a with
          | ⟨0, _⟩ => show 0 ≤ (j 0).val * 1 + (k 0).val ∧ (j 0).val * 1 + (k 0).val - 0 < 3; omega
          | ⟨1, _⟩ => show 0 ≤ (j 1).val * 1 + (k 1).val ∧ (j 1).val * 1 + (k 1).val - 0 < 640; omega
          | ⟨2, _⟩ => show 0 ≤ (j 2).val * 1 + (k 2).val ∧ (j 2).val * 1 + (k 2).val - 0 < 4; omega
          | ⟨3, _⟩ => show 0 ≤ (j 3).val * 1 + (k 3).val ∧ (j 3).val * 1 + (k 3).val - 0 < 256; omega
        · show G ((j 0).val * 1 + (k 0).val - 0) ((j 1).val * 1 + (k 1).val - 0) ((j 2).val * 1 + (k 2).val - 0) ((j 3).val * 1 + (k 3).val - 0) = _
          congr 1 <;> omega
      · rw [if_neg hw]
        refine (dif_neg fun hin => hw ?_).trans rfl
        have h : (j 1).val * 1 + (k 1).val - 0 < 640 := (hin 1).2
        omega
    exact key ((Shape.rowMajor ⟨4, ![1, 640, 1, 1]⟩).symm n) _
  refine Fintype.sum_bijective (fun k : (⟨4, ![1, 640, 1, 1]⟩ : Shape).Idx => (k 1 : Fin 640)) ⟨?_, ?_⟩ _ _ ?_
  · intro k k' e
    funext a
    match a with
    | ⟨0, _⟩ => exact Subsingleton.elim (α := Fin 1) _ _
    | ⟨1, _⟩ => exact e
    | ⟨2, _⟩ => exact Subsingleton.elim (α := Fin 1) _ _
    | ⟨3, _⟩ => exact Subsingleton.elim (α := Fin 1) _ _
  · intro w
    exact ⟨fun a => match a with | ⟨0, _⟩ => (0 : Fin 1) | ⟨1, _⟩ => w | ⟨2, _⟩ => (0 : Fin 1) | ⟨3, _⟩ => (0 : Fin 1), rfl⟩
  · intro k
    rfl

/-- The gate's running sums. -/
theorem a14 (j : S3x10x64x4x256.Idx) : (val_main_v14 (F := Ideal) A.x8 j) = Spec.cum (E A (j 0).val) (j 1).val (j 2).val (j 3).val (j 4).val := by
  rw [cum_sum, ← low_sum (fun m => (E A (j 0).val).g (64 * (j 1).val + m) (j 3).val (j 4).val) _ (j 2).isLt]
  exact win0 _ _ Ideal.ofBits_zero_f32 (fun b n i h c => (E A b).g (64 * n + i) h c) (a5 A) j

theorem a16 (j : S3x10x4x256.Idx) : (val_main_v16 (F := Ideal) A.x8 j) = Spec.cum (E A (j 0).val) (j 1).val 63 (j 2).val (j 3).val := by
  have h0 : (j 0).val < 3 := (j 0).isLt
  have h1 : (j 1).val < 10 := (j 1).isLt
  have h2 : (j 2).val < 4 := (j 2).isLt
  have h3 : (j 3).val < 256 := (j 3).isLt
  rw [val_main_v16_apply, val_main_v15_apply, a14]
  show Spec.cum (E A ((((((j 0).val * 10 + (j 1).val) * 4 + (j 2).val) * 256 + (j 3).val) / 10240))) ((((((j 0).val * 10 + (j 1).val) * 4 + (j 2).val) * 256 + (j 3).val) / 1024 % 10)) 63 ((((((j 0).val * 10 + (j 1).val) * 4 + (j 2).val) * 256 + (j 3).val) / 256 % 4)) ((((((j 0).val * 10 + (j 1).val) * 4 + (j 2).val) * 256 + (j 3).val) % 256)) = _
  rw [show ((((j 0).val * 10 + (j 1).val) * 4 + (j 2).val) * 256 + (j 3).val) / 10240 = (j 0).val by omega,
    show ((((j 0).val * 10 + (j 1).val) * 4 + (j 2).val) * 256 + (j 3).val) / 1024 % 10 = (j 1).val by omega,
    show ((((j 0).val * 10 + (j 1).val) * 4 + (j 2).val) * 256 + (j 3).val) / 256 % 4 = (j 2).val by omega,
    show ((((j 0).val * 10 + (j 1).val) * 4 + (j 2).val) * 256 + (j 3).val) % 256 = (j 3).val by omega]

theorem a17 (j : S3x10x64x4x256.Idx) : (val_main_v17 (F := Ideal) A.x8 j) = Ideal.exp (Spec.cum (E A (j 0).val) (j 1).val (j 2).val (j 3).val (j 4).val) := by
  rw [val_main_v17_apply, a14]
  rfl

theorem a19 (j : S3x10x64x4x256.Idx) : (val_main_v19 (F := Ideal) A.x8 j) = Ideal.exp (0 - Spec.cum (E A (j 0).val) (j 1).val (j 2).val (j 3).val (j 4).val) := by
  rw [val_main_v19_apply, val_main_v18_apply, a14, zero_sub]
  rfl

theorem a23 (j : S3x10x64x4x256.Idx) : (val_main_v23 (F := Ideal) A.x8 j) = Ideal.exp (Spec.cum (E A (j 0).val) (j 1).val 63 (j 3).val (j 4).val - Spec.cum (E A (j 0).val) (j 1).val (j 2).val (j 3).val (j 4).val) := by
  rw [val_main_v23_apply, val_main_v22_apply, val_main_v21_apply, val_main_v20_apply, a14, a16]
  rfl

theorem a27 (j : S3x10x64x4x256.Idx) : (val_main_v27 (F := Ideal) A.x2 A.x8 A.r0 j) = Spec.qg (E A (j 0).val) (j 1).val (j 2).val (j 3).val (j 4).val := by
  rw [val_main_v27_apply, val_main_v26_apply, val_main_v25_apply, val_main_v24_apply, a10, a17]
  rfl

theorem a29 (j : S3x10x64x4x256.Idx) : (val_main_v29 (F := Ideal) A.x3 A.x8 A.r1 j) = Spec.kg (E A (j 0).val) (j 1).val (j 2).val (j 3).val (j 4).val := by
  rw [val_main_v29_apply, val_main_v28_apply, a13, a19]
  rfl

theorem a31 (j : S3x10x64x4x256.Idx) : (val_main_v31 (F := Ideal) A.x3 A.x8 A.r1 j) = Spec.kd (E A (j 0).val) (j 1).val (j 2).val (j 3).val (j 4).val := by
  rw [val_main_v31_apply, val_main_v30_apply, a13, a23]
  rfl

theorem a35 (j : S3x10x64x4x512.Idx) : (val_main_v35 (F := Ideal) A.x7 A.r3 j) = Spec.dod (E A (j 0).val) (j 1).val (j 2).val (j 3).val (j 4).val := by
  rw [val_main_v35_apply, val_main_v34_apply, val_main_v33_apply, val_main_v32_apply, a4, a6]
  rfl

/-- The causal mask. -/
theorem a37 (j : S64x64.Idx) : val_main_v37 (F := Ideal) j = if (j 1).val ≤ (j 0).val then 1#1 else 0#1 := by
  have h0 : (j 0).val < 64 := (j 0).isLt
  have h1 : (j 1).val < 64 := (j 1).isLt
  show Scalar.select (Scalar.cmpi .sge (BitVec.ofNat 32 (j 0).val + 0#32) (BitVec.ofNat 32 (j 1).val)) (1#1) (0#1) = _
  have key : ∀ a b : Fin 64, Scalar.select (Scalar.cmpi .sge (BitVec.ofNat 32 a.val + 0#32) (BitVec.ofNat 32 b.val)) (1#1) (0#1)
      = if b.val ≤ a.val then 1#1 else 0#1 := by decide
  exact key (j 0) (j 1)

theorem sel (p : Prop) [Decidable p] (x y : EReal) : Scalar.select (if p then 1#1 else 0#1) x y = if p then x else y := by
  by_cases h : p
  · rw [if_pos h, if_pos h]; rfl
  · rw [if_neg h, if_neg h]; rfl

theorem a38 (j : S3x10x4x64x64.Idx) : (val_main_v38 (F := Ideal) A.r2 A.r3 j) = ∑ v : Fin 512, (E A (j 0).val).d (64 * (j 1).val + (j 3).val) (j 2).val v * (E A (j 0).val).v (64 * (j 1).val + (j 4).val) (j 2).val v := by
  rw [val_main_v38_apply]
  refine Finset.sum_congr rfl fun w _ => ?_
  rw [a4, a3] <;> rfl

/-- The masked products of the incoming gradient and the values -/
theorem a47 (j : S3x10x4x64x64.Idx) : (val_main_v47 (F := Ideal) A.x5 A.x7 A.r2 A.r3 j) = Spec.Am (E A (j 0).val) (j 1).val (j 2).val (j 3).val (j 4).val := by
  rw [val_main_v47_apply, val_main_v46_apply, val_main_call2_v1_apply, a37, val_main_v45_apply, a38, val_main_v44_apply, val_main_v43_apply, val_main_v40_apply, val_main_v39_apply, a6, a42]
  refine (sel _ _ _).trans ?_
  refine if_congr Iff.rfl rfl Ideal.ofBits_zero_f32

theorem a48 (j : S3x10x4x64x64.Idx) : (val_main_v48 (F := Ideal) A.x2 A.x3 A.x8 A.r0 A.r1 j) = ∑ c : Fin 256, Spec.kg (E A (j 0).val) (j 1).val (j 4).val (j 2).val c * Spec.qg (E A (j 0).val) (j 1).val (j 3).val (j 2).val c := by
  rw [val_main_v48_apply]
  refine Finset.sum_congr rfl fun w _ => ?_
  rw [a27, a29, mul_comm] <;> rfl

/-- and the masked scores. -/
theorem a50 (j : S3x10x4x64x64.Idx) : (val_main_v50 (F := Ideal) A.x2 A.x3 A.x8 A.r0 A.r1 j) = Spec.PT (E A (j 0).val) (j 1).val (j 2).val (j 4).val (j 3).val := by
  rw [val_main_v50_apply, val_main_v49_apply, val_main_call3_v1_apply, a37, a48]
  refine (sel _ _ _).trans ?_
  refine if_congr Iff.rfl rfl Ideal.ofBits_zero_f32

theorem a53 (j : S10x3x4x256x1.Idx) : (val_main_v53 (F := Ideal) A.x8 j) = Ideal.exp (Spec.cum (E A (j 1).val) (j 0).val 63 (j 2).val (j 3).val) := by
  rw [val_main_v53_apply, val_main_v52_apply, val_main_v51_apply, a16]
  rfl

theorem a54 (j : S10x3x4x256x512.Idx) : (val_main_v54 (F := Ideal) A.x3 A.x8 A.r1 A.r2 j) = ∑ i : Fin 64, (E A (j 1).val).v (64 * (j 0).val + i.val) (j 2).val (j 4).val * Spec.kd (E A (j 1).val) (j 0).val i (j 2).val (j 3).val := by
  rw [val_main_v54_apply]
  refine Finset.sum_congr rfl fun w _ => ?_
  rw [a31, a3, mul_comm] <;> rfl

theorem a58 (j : S10x3x4x256x512.Idx) : (val_main_v58 (F := Ideal) A.x3 A.x5 A.x8 A.r1 A.r2 j) = (∑ i : Fin 64, (E A (j 1).val).v (64 * (j 0).val + i.val) (j 2).val (j 4).val * Spec.kd (E A (j 1).val) (j 0).val i (j 2).val (j 3).val) * (E A (j 1).val).vs (j 0).val (j 2).val := by
  rw [val_main_v58_apply, a54, a57]
  rfl

theorem a59 (j : S10x3x4x256x512.Idx) : (val_main_v59 (F := Ideal) A.x2 A.x7 A.x8 A.r0 A.r3 j) = ∑ i : Fin 64, Spec.dod (E A (j 1).val) (j 0).val i (j 2).val (j 4).val * Spec.qg (E A (j 1).val) (j 0).val i (j 2).val (j 3).val := by
  rw [val_main_v59_apply]
  refine Finset.sum_congr rfl fun w _ => ?_
  rw [a27, a35, mul_comm] <;> rfl

section
variable {b h c : ℕ} (hb : b < 3) (hh : h < 4) (hc : c < 256)
include hb hh hc
theorem m1 : (((b * 4 + h) * 256 + c) * 1 + 0) / 1024 % 3 = b := by omega
theorem m2 : (((b * 4 + h) * 256 + c) * 1 + 0) / 256 % 4 = h := by omega
theorem m3 : (((b * 4 + h) * 256 + c) * 1 + 0) / 1 % 256 = c := by omega
variable {v : ℕ} (hv : v < 512)
include hv
theorem l1 : (((b * 4 + h) * 256 + c) * 512 + v) / 524288 % 3 = b := by omega
theorem l2 : (((b * 4 + h) * 256 + c) * 512 + v) / 131072 % 4 = h := by omega
theorem l3 : (((b * 4 + h) * 256 + c) * 512 + v) / 512 % 256 = c := by omega
theorem l4 : (((b * 4 + h) * 256 + c) * 512 + v) % 512 = v := by omega
end

theorem cong3 {β : Type} (f : ℕ → ℕ → ℕ → β) {b b' h h' c c' : ℕ} (e0 : b = b') (e1 : h = h') (e2 : c = c') : f b h c = f b' h' c' := by
  subst e0 e1 e2; rfl

theorem cong4 {β : Type} (f : ℕ → ℕ → ℕ → ℕ → β) {b b' h h' c c' v v' : ℕ} (e0 : b = b') (e1 : h = h') (e2 : c = c') (e3 : v = v') :
    f b h c v = f b' h' c' v' := by
  subst e0 e1 e2 e3; rfl

theorem a60 (j : S3x4x256x512.Idx) : (val_main_v60 (F := Ideal) j) = 0 := Ideal.ofBits_zero_f32

/-! The states, a chunk at a time. -/

theorem gS0 (j : S3x4x256x512.Idx) : (val_main_v63 (F := Ideal) A.x8 j) = Ideal.exp (Spec.cum (E A (j 0).val) 0 63 (j 1).val (j 2).val) := by
  rw [val_main_v63_apply, val_main_v62_apply, val_main_v61_apply, a53]
  exact cong3 (fun b h c => Ideal.exp (Spec.cum (E A b) 0 63 h c)) (m1 (j 0).isLt (j 1).isLt (j 2).isLt) (m2 (j 0).isLt (j 1).isLt (j 2).isLt) (m3 (j 0).isLt (j 1).isLt (j 2).isLt)

theorem uS0 (j : S3x4x256x512.Idx) : (val_main_v66 (F := Ideal) A.x3 A.x5 A.x8 A.r1 A.r2 j) = (∑ i : Fin 64, (E A (j 0).val).v (64 * 0 + i.val) (j 1).val (j 3).val * Spec.kd (E A (j 0).val) 0 i (j 1).val (j 2).val) * (E A (j 0).val).vs 0 (j 1).val := by
  rw [val_main_v66_apply, val_main_v65_apply, a58]
  exact cong4 (fun b h c v => (∑ i : Fin 64, (E A b).v (64 * 0 + i.val) h v * Spec.kd (E A b) 0 i h c) * (E A b).vs 0 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS1 (j : S3x4x256x512.Idx) : (val_main_v67 (F := Ideal) A.x3 A.x5 A.x8 A.r1 A.r2 j) = Spec.St (E A (j 0).val) 1 (j 1).val (j 3).val (j 2).val := by
  rw [val_main_v67_apply, val_main_v64_apply, gS0, uS0, a60]
  rfl

theorem gS1 (j : S3x4x256x512.Idx) : (val_main_v70 (F := Ideal) A.x8 j) = Ideal.exp (Spec.cum (E A (j 0).val) 1 63 (j 1).val (j 2).val) := by
  rw [val_main_v70_apply, val_main_v69_apply, val_main_v68_apply, a53]
  exact cong3 (fun b h c => Ideal.exp (Spec.cum (E A b) 1 63 h c)) (m1 (j 0).isLt (j 1).isLt (j 2).isLt) (m2 (j 0).isLt (j 1).isLt (j 2).isLt) (m3 (j 0).isLt (j 1).isLt (j 2).isLt)

theorem uS1 (j : S3x4x256x512.Idx) : (val_main_v73 (F := Ideal) A.x3 A.x5 A.x8 A.r1 A.r2 j) = (∑ i : Fin 64, (E A (j 0).val).v (64 * 1 + i.val) (j 1).val (j 3).val * Spec.kd (E A (j 0).val) 1 i (j 1).val (j 2).val) * (E A (j 0).val).vs 1 (j 1).val := by
  rw [val_main_v73_apply, val_main_v72_apply, a58]
  exact cong4 (fun b h c v => (∑ i : Fin 64, (E A b).v (64 * 1 + i.val) h v * Spec.kd (E A b) 1 i h c) * (E A b).vs 1 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS2 (j : S3x4x256x512.Idx) : (val_main_v74 (F := Ideal) A.x3 A.x5 A.x8 A.r1 A.r2 j) = Spec.St (E A (j 0).val) 2 (j 1).val (j 3).val (j 2).val := by
  rw [val_main_v74_apply, val_main_v71_apply, gS1, uS1, tS1]
  rfl

theorem gS2 (j : S3x4x256x512.Idx) : (val_main_v77 (F := Ideal) A.x8 j) = Ideal.exp (Spec.cum (E A (j 0).val) 2 63 (j 1).val (j 2).val) := by
  rw [val_main_v77_apply, val_main_v76_apply, val_main_v75_apply, a53]
  exact cong3 (fun b h c => Ideal.exp (Spec.cum (E A b) 2 63 h c)) (m1 (j 0).isLt (j 1).isLt (j 2).isLt) (m2 (j 0).isLt (j 1).isLt (j 2).isLt) (m3 (j 0).isLt (j 1).isLt (j 2).isLt)

theorem uS2 (j : S3x4x256x512.Idx) : (val_main_v80 (F := Ideal) A.x3 A.x5 A.x8 A.r1 A.r2 j) = (∑ i : Fin 64, (E A (j 0).val).v (64 * 2 + i.val) (j 1).val (j 3).val * Spec.kd (E A (j 0).val) 2 i (j 1).val (j 2).val) * (E A (j 0).val).vs 2 (j 1).val := by
  rw [val_main_v80_apply, val_main_v79_apply, a58]
  exact cong4 (fun b h c v => (∑ i : Fin 64, (E A b).v (64 * 2 + i.val) h v * Spec.kd (E A b) 2 i h c) * (E A b).vs 2 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS3 (j : S3x4x256x512.Idx) : (val_main_v81 (F := Ideal) A.x3 A.x5 A.x8 A.r1 A.r2 j) = Spec.St (E A (j 0).val) 3 (j 1).val (j 3).val (j 2).val := by
  rw [val_main_v81_apply, val_main_v78_apply, gS2, uS2, tS2]
  rfl

theorem gS3 (j : S3x4x256x512.Idx) : (val_main_v84 (F := Ideal) A.x8 j) = Ideal.exp (Spec.cum (E A (j 0).val) 3 63 (j 1).val (j 2).val) := by
  rw [val_main_v84_apply, val_main_v83_apply, val_main_v82_apply, a53]
  exact cong3 (fun b h c => Ideal.exp (Spec.cum (E A b) 3 63 h c)) (m1 (j 0).isLt (j 1).isLt (j 2).isLt) (m2 (j 0).isLt (j 1).isLt (j 2).isLt) (m3 (j 0).isLt (j 1).isLt (j 2).isLt)

theorem uS3 (j : S3x4x256x512.Idx) : (val_main_v87 (F := Ideal) A.x3 A.x5 A.x8 A.r1 A.r2 j) = (∑ i : Fin 64, (E A (j 0).val).v (64 * 3 + i.val) (j 1).val (j 3).val * Spec.kd (E A (j 0).val) 3 i (j 1).val (j 2).val) * (E A (j 0).val).vs 3 (j 1).val := by
  rw [val_main_v87_apply, val_main_v86_apply, a58]
  exact cong4 (fun b h c v => (∑ i : Fin 64, (E A b).v (64 * 3 + i.val) h v * Spec.kd (E A b) 3 i h c) * (E A b).vs 3 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS4 (j : S3x4x256x512.Idx) : (val_main_v88 (F := Ideal) A.x3 A.x5 A.x8 A.r1 A.r2 j) = Spec.St (E A (j 0).val) 4 (j 1).val (j 3).val (j 2).val := by
  rw [val_main_v88_apply, val_main_v85_apply, gS3, uS3, tS3]
  rfl

theorem gS4 (j : S3x4x256x512.Idx) : (val_main_v91 (F := Ideal) A.x8 j) = Ideal.exp (Spec.cum (E A (j 0).val) 4 63 (j 1).val (j 2).val) := by
  rw [val_main_v91_apply, val_main_v90_apply, val_main_v89_apply, a53]
  exact cong3 (fun b h c => Ideal.exp (Spec.cum (E A b) 4 63 h c)) (m1 (j 0).isLt (j 1).isLt (j 2).isLt) (m2 (j 0).isLt (j 1).isLt (j 2).isLt) (m3 (j 0).isLt (j 1).isLt (j 2).isLt)

theorem uS4 (j : S3x4x256x512.Idx) : (val_main_v94 (F := Ideal) A.x3 A.x5 A.x8 A.r1 A.r2 j) = (∑ i : Fin 64, (E A (j 0).val).v (64 * 4 + i.val) (j 1).val (j 3).val * Spec.kd (E A (j 0).val) 4 i (j 1).val (j 2).val) * (E A (j 0).val).vs 4 (j 1).val := by
  rw [val_main_v94_apply, val_main_v93_apply, a58]
  exact cong4 (fun b h c v => (∑ i : Fin 64, (E A b).v (64 * 4 + i.val) h v * Spec.kd (E A b) 4 i h c) * (E A b).vs 4 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS5 (j : S3x4x256x512.Idx) : (val_main_v95 (F := Ideal) A.x3 A.x5 A.x8 A.r1 A.r2 j) = Spec.St (E A (j 0).val) 5 (j 1).val (j 3).val (j 2).val := by
  rw [val_main_v95_apply, val_main_v92_apply, gS4, uS4, tS4]
  rfl

theorem gS5 (j : S3x4x256x512.Idx) : (val_main_v98 (F := Ideal) A.x8 j) = Ideal.exp (Spec.cum (E A (j 0).val) 5 63 (j 1).val (j 2).val) := by
  rw [val_main_v98_apply, val_main_v97_apply, val_main_v96_apply, a53]
  exact cong3 (fun b h c => Ideal.exp (Spec.cum (E A b) 5 63 h c)) (m1 (j 0).isLt (j 1).isLt (j 2).isLt) (m2 (j 0).isLt (j 1).isLt (j 2).isLt) (m3 (j 0).isLt (j 1).isLt (j 2).isLt)

theorem uS5 (j : S3x4x256x512.Idx) : (val_main_v101 (F := Ideal) A.x3 A.x5 A.x8 A.r1 A.r2 j) = (∑ i : Fin 64, (E A (j 0).val).v (64 * 5 + i.val) (j 1).val (j 3).val * Spec.kd (E A (j 0).val) 5 i (j 1).val (j 2).val) * (E A (j 0).val).vs 5 (j 1).val := by
  rw [val_main_v101_apply, val_main_v100_apply, a58]
  exact cong4 (fun b h c v => (∑ i : Fin 64, (E A b).v (64 * 5 + i.val) h v * Spec.kd (E A b) 5 i h c) * (E A b).vs 5 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS6 (j : S3x4x256x512.Idx) : (val_main_v102 (F := Ideal) A.x3 A.x5 A.x8 A.r1 A.r2 j) = Spec.St (E A (j 0).val) 6 (j 1).val (j 3).val (j 2).val := by
  rw [val_main_v102_apply, val_main_v99_apply, gS5, uS5, tS5]
  rfl

theorem gS6 (j : S3x4x256x512.Idx) : (val_main_v105 (F := Ideal) A.x8 j) = Ideal.exp (Spec.cum (E A (j 0).val) 6 63 (j 1).val (j 2).val) := by
  rw [val_main_v105_apply, val_main_v104_apply, val_main_v103_apply, a53]
  exact cong3 (fun b h c => Ideal.exp (Spec.cum (E A b) 6 63 h c)) (m1 (j 0).isLt (j 1).isLt (j 2).isLt) (m2 (j 0).isLt (j 1).isLt (j 2).isLt) (m3 (j 0).isLt (j 1).isLt (j 2).isLt)

theorem uS6 (j : S3x4x256x512.Idx) : (val_main_v108 (F := Ideal) A.x3 A.x5 A.x8 A.r1 A.r2 j) = (∑ i : Fin 64, (E A (j 0).val).v (64 * 6 + i.val) (j 1).val (j 3).val * Spec.kd (E A (j 0).val) 6 i (j 1).val (j 2).val) * (E A (j 0).val).vs 6 (j 1).val := by
  rw [val_main_v108_apply, val_main_v107_apply, a58]
  exact cong4 (fun b h c v => (∑ i : Fin 64, (E A b).v (64 * 6 + i.val) h v * Spec.kd (E A b) 6 i h c) * (E A b).vs 6 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS7 (j : S3x4x256x512.Idx) : (val_main_v109 (F := Ideal) A.x3 A.x5 A.x8 A.r1 A.r2 j) = Spec.St (E A (j 0).val) 7 (j 1).val (j 3).val (j 2).val := by
  rw [val_main_v109_apply, val_main_v106_apply, gS6, uS6, tS6]
  rfl

theorem gS7 (j : S3x4x256x512.Idx) : (val_main_v112 (F := Ideal) A.x8 j) = Ideal.exp (Spec.cum (E A (j 0).val) 7 63 (j 1).val (j 2).val) := by
  rw [val_main_v112_apply, val_main_v111_apply, val_main_v110_apply, a53]
  exact cong3 (fun b h c => Ideal.exp (Spec.cum (E A b) 7 63 h c)) (m1 (j 0).isLt (j 1).isLt (j 2).isLt) (m2 (j 0).isLt (j 1).isLt (j 2).isLt) (m3 (j 0).isLt (j 1).isLt (j 2).isLt)

theorem uS7 (j : S3x4x256x512.Idx) : (val_main_v115 (F := Ideal) A.x3 A.x5 A.x8 A.r1 A.r2 j) = (∑ i : Fin 64, (E A (j 0).val).v (64 * 7 + i.val) (j 1).val (j 3).val * Spec.kd (E A (j 0).val) 7 i (j 1).val (j 2).val) * (E A (j 0).val).vs 7 (j 1).val := by
  rw [val_main_v115_apply, val_main_v114_apply, a58]
  exact cong4 (fun b h c v => (∑ i : Fin 64, (E A b).v (64 * 7 + i.val) h v * Spec.kd (E A b) 7 i h c) * (E A b).vs 7 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS8 (j : S3x4x256x512.Idx) : (val_main_v116 (F := Ideal) A.x3 A.x5 A.x8 A.r1 A.r2 j) = Spec.St (E A (j 0).val) 8 (j 1).val (j 3).val (j 2).val := by
  rw [val_main_v116_apply, val_main_v113_apply, gS7, uS7, tS7]
  rfl

theorem gS8 (j : S3x4x256x512.Idx) : (val_main_v119 (F := Ideal) A.x8 j) = Ideal.exp (Spec.cum (E A (j 0).val) 8 63 (j 1).val (j 2).val) := by
  rw [val_main_v119_apply, val_main_v118_apply, val_main_v117_apply, a53]
  exact cong3 (fun b h c => Ideal.exp (Spec.cum (E A b) 8 63 h c)) (m1 (j 0).isLt (j 1).isLt (j 2).isLt) (m2 (j 0).isLt (j 1).isLt (j 2).isLt) (m3 (j 0).isLt (j 1).isLt (j 2).isLt)

theorem uS8 (j : S3x4x256x512.Idx) : (val_main_v122 (F := Ideal) A.x3 A.x5 A.x8 A.r1 A.r2 j) = (∑ i : Fin 64, (E A (j 0).val).v (64 * 8 + i.val) (j 1).val (j 3).val * Spec.kd (E A (j 0).val) 8 i (j 1).val (j 2).val) * (E A (j 0).val).vs 8 (j 1).val := by
  rw [val_main_v122_apply, val_main_v121_apply, a58]
  exact cong4 (fun b h c v => (∑ i : Fin 64, (E A b).v (64 * 8 + i.val) h v * Spec.kd (E A b) 8 i h c) * (E A b).vs 8 h) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tS9 (j : S3x4x256x512.Idx) : (val_main_v123 (F := Ideal) A.x3 A.x5 A.x8 A.r1 A.r2 j) = Spec.St (E A (j 0).val) 9 (j 1).val (j 3).val (j 2).val := by
  rw [val_main_v123_apply, val_main_v120_apply, gS8, uS8, tS8]
  rfl

/-! Their gradients, from the last chunk. -/

theorem gD0 (j : S3x4x256x512.Idx) : (val_main_v137 (F := Ideal) A.x8 j) = Ideal.exp (Spec.cum (E A (j 0).val) 9 63 (j 1).val (j 2).val) := by
  rw [val_main_v137_apply, val_main_v136_apply, val_main_v135_apply, a53]
  exact cong3 (fun b h c => Ideal.exp (Spec.cum (E A b) 9 63 h c)) (m1 (j 0).isLt (j 1).isLt (j 2).isLt) (m2 (j 0).isLt (j 1).isLt (j 2).isLt) (m3 (j 0).isLt (j 1).isLt (j 2).isLt)

theorem uD0 (j : S3x4x256x512.Idx) : (val_main_v140 (F := Ideal) A.x2 A.x7 A.x8 A.r0 A.r3 j) = ∑ i : Fin 64, Spec.dod (E A (j 0).val) 9 i (j 1).val (j 3).val * Spec.qg (E A (j 0).val) 9 i (j 1).val (j 2).val := by
  rw [val_main_v140_apply, val_main_v139_apply, a59]
  exact cong4 (fun b h c v => ∑ i : Fin 64, Spec.dod (E A b) 9 i h v * Spec.qg (E A b) 9 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD1 (j : S3x4x256x512.Idx) : (val_main_v141 (F := Ideal) A.x2 A.x7 A.x8 A.r0 A.r3 j) = Spec.Dt (E A (j 0).val) 1 (j 1).val (j 3).val (j 2).val := by
  rw [val_main_v141_apply, val_main_v138_apply, gD0, uD0, a60]
  rfl

theorem gD1 (j : S3x4x256x512.Idx) : (val_main_v144 (F := Ideal) A.x8 j) = Ideal.exp (Spec.cum (E A (j 0).val) 8 63 (j 1).val (j 2).val) := by
  rw [val_main_v144_apply, val_main_v143_apply, val_main_v142_apply, a53]
  exact cong3 (fun b h c => Ideal.exp (Spec.cum (E A b) 8 63 h c)) (m1 (j 0).isLt (j 1).isLt (j 2).isLt) (m2 (j 0).isLt (j 1).isLt (j 2).isLt) (m3 (j 0).isLt (j 1).isLt (j 2).isLt)

theorem uD1 (j : S3x4x256x512.Idx) : (val_main_v147 (F := Ideal) A.x2 A.x7 A.x8 A.r0 A.r3 j) = ∑ i : Fin 64, Spec.dod (E A (j 0).val) 8 i (j 1).val (j 3).val * Spec.qg (E A (j 0).val) 8 i (j 1).val (j 2).val := by
  rw [val_main_v147_apply, val_main_v146_apply, a59]
  exact cong4 (fun b h c v => ∑ i : Fin 64, Spec.dod (E A b) 8 i h v * Spec.qg (E A b) 8 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD2 (j : S3x4x256x512.Idx) : (val_main_v148 (F := Ideal) A.x2 A.x7 A.x8 A.r0 A.r3 j) = Spec.Dt (E A (j 0).val) 2 (j 1).val (j 3).val (j 2).val := by
  rw [val_main_v148_apply, val_main_v145_apply, gD1, uD1, tD1]
  rfl

theorem gD2 (j : S3x4x256x512.Idx) : (val_main_v151 (F := Ideal) A.x8 j) = Ideal.exp (Spec.cum (E A (j 0).val) 7 63 (j 1).val (j 2).val) := by
  rw [val_main_v151_apply, val_main_v150_apply, val_main_v149_apply, a53]
  exact cong3 (fun b h c => Ideal.exp (Spec.cum (E A b) 7 63 h c)) (m1 (j 0).isLt (j 1).isLt (j 2).isLt) (m2 (j 0).isLt (j 1).isLt (j 2).isLt) (m3 (j 0).isLt (j 1).isLt (j 2).isLt)

theorem uD2 (j : S3x4x256x512.Idx) : (val_main_v154 (F := Ideal) A.x2 A.x7 A.x8 A.r0 A.r3 j) = ∑ i : Fin 64, Spec.dod (E A (j 0).val) 7 i (j 1).val (j 3).val * Spec.qg (E A (j 0).val) 7 i (j 1).val (j 2).val := by
  rw [val_main_v154_apply, val_main_v153_apply, a59]
  exact cong4 (fun b h c v => ∑ i : Fin 64, Spec.dod (E A b) 7 i h v * Spec.qg (E A b) 7 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD3 (j : S3x4x256x512.Idx) : (val_main_v155 (F := Ideal) A.x2 A.x7 A.x8 A.r0 A.r3 j) = Spec.Dt (E A (j 0).val) 3 (j 1).val (j 3).val (j 2).val := by
  rw [val_main_v155_apply, val_main_v152_apply, gD2, uD2, tD2]
  rfl

theorem gD3 (j : S3x4x256x512.Idx) : (val_main_v158 (F := Ideal) A.x8 j) = Ideal.exp (Spec.cum (E A (j 0).val) 6 63 (j 1).val (j 2).val) := by
  rw [val_main_v158_apply, val_main_v157_apply, val_main_v156_apply, a53]
  exact cong3 (fun b h c => Ideal.exp (Spec.cum (E A b) 6 63 h c)) (m1 (j 0).isLt (j 1).isLt (j 2).isLt) (m2 (j 0).isLt (j 1).isLt (j 2).isLt) (m3 (j 0).isLt (j 1).isLt (j 2).isLt)

theorem uD3 (j : S3x4x256x512.Idx) : (val_main_v161 (F := Ideal) A.x2 A.x7 A.x8 A.r0 A.r3 j) = ∑ i : Fin 64, Spec.dod (E A (j 0).val) 6 i (j 1).val (j 3).val * Spec.qg (E A (j 0).val) 6 i (j 1).val (j 2).val := by
  rw [val_main_v161_apply, val_main_v160_apply, a59]
  exact cong4 (fun b h c v => ∑ i : Fin 64, Spec.dod (E A b) 6 i h v * Spec.qg (E A b) 6 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD4 (j : S3x4x256x512.Idx) : (val_main_v162 (F := Ideal) A.x2 A.x7 A.x8 A.r0 A.r3 j) = Spec.Dt (E A (j 0).val) 4 (j 1).val (j 3).val (j 2).val := by
  rw [val_main_v162_apply, val_main_v159_apply, gD3, uD3, tD3]
  rfl

theorem gD4 (j : S3x4x256x512.Idx) : (val_main_v165 (F := Ideal) A.x8 j) = Ideal.exp (Spec.cum (E A (j 0).val) 5 63 (j 1).val (j 2).val) := by
  rw [val_main_v165_apply, val_main_v164_apply, val_main_v163_apply, a53]
  exact cong3 (fun b h c => Ideal.exp (Spec.cum (E A b) 5 63 h c)) (m1 (j 0).isLt (j 1).isLt (j 2).isLt) (m2 (j 0).isLt (j 1).isLt (j 2).isLt) (m3 (j 0).isLt (j 1).isLt (j 2).isLt)

theorem uD4 (j : S3x4x256x512.Idx) : (val_main_v168 (F := Ideal) A.x2 A.x7 A.x8 A.r0 A.r3 j) = ∑ i : Fin 64, Spec.dod (E A (j 0).val) 5 i (j 1).val (j 3).val * Spec.qg (E A (j 0).val) 5 i (j 1).val (j 2).val := by
  rw [val_main_v168_apply, val_main_v167_apply, a59]
  exact cong4 (fun b h c v => ∑ i : Fin 64, Spec.dod (E A b) 5 i h v * Spec.qg (E A b) 5 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD5 (j : S3x4x256x512.Idx) : (val_main_v169 (F := Ideal) A.x2 A.x7 A.x8 A.r0 A.r3 j) = Spec.Dt (E A (j 0).val) 5 (j 1).val (j 3).val (j 2).val := by
  rw [val_main_v169_apply, val_main_v166_apply, gD4, uD4, tD4]
  rfl

theorem gD5 (j : S3x4x256x512.Idx) : (val_main_v172 (F := Ideal) A.x8 j) = Ideal.exp (Spec.cum (E A (j 0).val) 4 63 (j 1).val (j 2).val) := by
  rw [val_main_v172_apply, val_main_v171_apply, val_main_v170_apply, a53]
  exact cong3 (fun b h c => Ideal.exp (Spec.cum (E A b) 4 63 h c)) (m1 (j 0).isLt (j 1).isLt (j 2).isLt) (m2 (j 0).isLt (j 1).isLt (j 2).isLt) (m3 (j 0).isLt (j 1).isLt (j 2).isLt)

theorem uD5 (j : S3x4x256x512.Idx) : (val_main_v175 (F := Ideal) A.x2 A.x7 A.x8 A.r0 A.r3 j) = ∑ i : Fin 64, Spec.dod (E A (j 0).val) 4 i (j 1).val (j 3).val * Spec.qg (E A (j 0).val) 4 i (j 1).val (j 2).val := by
  rw [val_main_v175_apply, val_main_v174_apply, a59]
  exact cong4 (fun b h c v => ∑ i : Fin 64, Spec.dod (E A b) 4 i h v * Spec.qg (E A b) 4 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD6 (j : S3x4x256x512.Idx) : (val_main_v176 (F := Ideal) A.x2 A.x7 A.x8 A.r0 A.r3 j) = Spec.Dt (E A (j 0).val) 6 (j 1).val (j 3).val (j 2).val := by
  rw [val_main_v176_apply, val_main_v173_apply, gD5, uD5, tD5]
  rfl

theorem gD6 (j : S3x4x256x512.Idx) : (val_main_v179 (F := Ideal) A.x8 j) = Ideal.exp (Spec.cum (E A (j 0).val) 3 63 (j 1).val (j 2).val) := by
  rw [val_main_v179_apply, val_main_v178_apply, val_main_v177_apply, a53]
  exact cong3 (fun b h c => Ideal.exp (Spec.cum (E A b) 3 63 h c)) (m1 (j 0).isLt (j 1).isLt (j 2).isLt) (m2 (j 0).isLt (j 1).isLt (j 2).isLt) (m3 (j 0).isLt (j 1).isLt (j 2).isLt)

theorem uD6 (j : S3x4x256x512.Idx) : (val_main_v182 (F := Ideal) A.x2 A.x7 A.x8 A.r0 A.r3 j) = ∑ i : Fin 64, Spec.dod (E A (j 0).val) 3 i (j 1).val (j 3).val * Spec.qg (E A (j 0).val) 3 i (j 1).val (j 2).val := by
  rw [val_main_v182_apply, val_main_v181_apply, a59]
  exact cong4 (fun b h c v => ∑ i : Fin 64, Spec.dod (E A b) 3 i h v * Spec.qg (E A b) 3 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD7 (j : S3x4x256x512.Idx) : (val_main_v183 (F := Ideal) A.x2 A.x7 A.x8 A.r0 A.r3 j) = Spec.Dt (E A (j 0).val) 7 (j 1).val (j 3).val (j 2).val := by
  rw [val_main_v183_apply, val_main_v180_apply, gD6, uD6, tD6]
  rfl

theorem gD7 (j : S3x4x256x512.Idx) : (val_main_v186 (F := Ideal) A.x8 j) = Ideal.exp (Spec.cum (E A (j 0).val) 2 63 (j 1).val (j 2).val) := by
  rw [val_main_v186_apply, val_main_v185_apply, val_main_v184_apply, a53]
  exact cong3 (fun b h c => Ideal.exp (Spec.cum (E A b) 2 63 h c)) (m1 (j 0).isLt (j 1).isLt (j 2).isLt) (m2 (j 0).isLt (j 1).isLt (j 2).isLt) (m3 (j 0).isLt (j 1).isLt (j 2).isLt)

theorem uD7 (j : S3x4x256x512.Idx) : (val_main_v189 (F := Ideal) A.x2 A.x7 A.x8 A.r0 A.r3 j) = ∑ i : Fin 64, Spec.dod (E A (j 0).val) 2 i (j 1).val (j 3).val * Spec.qg (E A (j 0).val) 2 i (j 1).val (j 2).val := by
  rw [val_main_v189_apply, val_main_v188_apply, a59]
  exact cong4 (fun b h c v => ∑ i : Fin 64, Spec.dod (E A b) 2 i h v * Spec.qg (E A b) 2 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD8 (j : S3x4x256x512.Idx) : (val_main_v190 (F := Ideal) A.x2 A.x7 A.x8 A.r0 A.r3 j) = Spec.Dt (E A (j 0).val) 8 (j 1).val (j 3).val (j 2).val := by
  rw [val_main_v190_apply, val_main_v187_apply, gD7, uD7, tD7]
  rfl

theorem gD8 (j : S3x4x256x512.Idx) : (val_main_v193 (F := Ideal) A.x8 j) = Ideal.exp (Spec.cum (E A (j 0).val) 1 63 (j 1).val (j 2).val) := by
  rw [val_main_v193_apply, val_main_v192_apply, val_main_v191_apply, a53]
  exact cong3 (fun b h c => Ideal.exp (Spec.cum (E A b) 1 63 h c)) (m1 (j 0).isLt (j 1).isLt (j 2).isLt) (m2 (j 0).isLt (j 1).isLt (j 2).isLt) (m3 (j 0).isLt (j 1).isLt (j 2).isLt)

theorem uD8 (j : S3x4x256x512.Idx) : (val_main_v196 (F := Ideal) A.x2 A.x7 A.x8 A.r0 A.r3 j) = ∑ i : Fin 64, Spec.dod (E A (j 0).val) 1 i (j 1).val (j 3).val * Spec.qg (E A (j 0).val) 1 i (j 1).val (j 2).val := by
  rw [val_main_v196_apply, val_main_v195_apply, a59]
  exact cong4 (fun b h c v => ∑ i : Fin 64, Spec.dod (E A b) 1 i h v * Spec.qg (E A b) 1 i h c) (l1 (j 0).isLt (j 1).isLt (j 2).isLt (j 3).isLt) (l2 (j 0).isLt (j 1).isLt (j 2).isLt (j 3).isLt) (l3 (j 0).isLt (j 1).isLt (j 2).isLt (j 3).isLt) (l4 (j 0).isLt (j 1).isLt (j 2).isLt (j 3).isLt)

theorem tD9 (j : S3x4x256x512.Idx) : (val_main_v197 (F := Ideal) A.x2 A.x7 A.x8 A.r0 A.r3 j) = Spec.Dt (E A (j 0).val) 9 (j 1).val (j 3).val (j 2).val := by
  rw [val_main_v197_apply, val_main_v194_apply, gD8, uD8, tD8]
  rfl

theorem a134 (j : S10x3x4x256x512.Idx) : (val_main_v134 (F := Ideal) A.x3 A.x5 A.x8 A.r1 A.r2 j) = Spec.St (E A (j 1).val) (j 0).val (j 2).val (j 4).val (j 3).val := by
  have h0 : ∀ i : S1x3x4x256x512.Idx, (val_main_v124 (F := Ideal) i) = Spec.St (E A (i 1).val) 0 (i 2).val (i 4).val (i 3).val := fun i => by
    rw [val_main_v124_apply]
    exact a60 _
  have h1 : ∀ i : S1x3x4x256x512.Idx, (val_main_v125 (F := Ideal) A.x3 A.x5 A.x8 A.r1 A.r2 i) = Spec.St (E A (i 1).val) 1 (i 2).val (i 4).val (i 3).val := fun i => by
    rw [val_main_v125_apply]
    exact tS1 A _
  have h2 : ∀ i : S1x3x4x256x512.Idx, (val_main_v126 (F := Ideal) A.x3 A.x5 A.x8 A.r1 A.r2 i) = Spec.St (E A (i 1).val) 2 (i 2).val (i 4).val (i 3).val := fun i => by
    rw [val_main_v126_apply]
    exact tS2 A _
  have h3 : ∀ i : S1x3x4x256x512.Idx, (val_main_v127 (F := Ideal) A.x3 A.x5 A.x8 A.r1 A.r2 i) = Spec.St (E A (i 1).val) 3 (i 2).val (i 4).val (i 3).val := fun i => by
    rw [val_main_v127_apply]
    exact tS3 A _
  have h4 : ∀ i : S1x3x4x256x512.Idx, (val_main_v128 (F := Ideal) A.x3 A.x5 A.x8 A.r1 A.r2 i) = Spec.St (E A (i 1).val) 4 (i 2).val (i 4).val (i 3).val := fun i => by
    rw [val_main_v128_apply]
    exact tS4 A _
  have h5 : ∀ i : S1x3x4x256x512.Idx, (val_main_v129 (F := Ideal) A.x3 A.x5 A.x8 A.r1 A.r2 i) = Spec.St (E A (i 1).val) 5 (i 2).val (i 4).val (i 3).val := fun i => by
    rw [val_main_v129_apply]
    exact tS5 A _
  have h6 : ∀ i : S1x3x4x256x512.Idx, (val_main_v130 (F := Ideal) A.x3 A.x5 A.x8 A.r1 A.r2 i) = Spec.St (E A (i 1).val) 6 (i 2).val (i 4).val (i 3).val := fun i => by
    rw [val_main_v130_apply]
    exact tS6 A _
  have h7 : ∀ i : S1x3x4x256x512.Idx, (val_main_v131 (F := Ideal) A.x3 A.x5 A.x8 A.r1 A.r2 i) = Spec.St (E A (i 1).val) 7 (i 2).val (i 4).val (i 3).val := fun i => by
    rw [val_main_v131_apply]
    exact tS7 A _
  have h8 : ∀ i : S1x3x4x256x512.Idx, (val_main_v132 (F := Ideal) A.x3 A.x5 A.x8 A.r1 A.r2 i) = Spec.St (E A (i 1).val) 8 (i 2).val (i 4).val (i 3).val := fun i => by
    rw [val_main_v132_apply]
    exact tS8 A _
  have h9 : ∀ i : S1x3x4x256x512.Idx, (val_main_v133 (F := Ideal) A.x3 A.x5 A.x8 A.r1 A.r2 i) = Spec.St (E A (i 1).val) 9 (i 2).val (i 4).val (i 3).val := fun i => by
    rw [val_main_v133_apply]
    exact tS9 A _
  exact concatenate_unit_eq (t := S10x3x4x256x512) 0 _ _ j ((fun n b h c v => Spec.St (E A b) n h v c) (j 0).val (j 1).val (j 2).val (j 3).val (j 4).val) rfl
    ⟨piece (n := 0) (g := fun n b h c v => Spec.St (E A b) n h v c) h0, piece (n := 1) (g := fun n b h c v => Spec.St (E A b) n h v c) h1, piece (n := 2) (g := fun n b h c v => Spec.St (E A b) n h v c) h2, piece (n := 3) (g := fun n b h c v => Spec.St (E A b) n h v c) h3, piece (n := 4) (g := fun n b h c v => Spec.St (E A b) n h v c) h4, piece (n := 5) (g := fun n b h c v => Spec.St (E A b) n h v c) h5, piece (n := 6) (g := fun n b h c v => Spec.St (E A b) n h v c) h6, piece (n := 7) (g := fun n b h c v => Spec.St (E A b) n h v c) h7, piece (n := 8) (g := fun n b h c v => Spec.St (E A b) n h v c) h8, piece (n := 9) (g := fun n b h c v => Spec.St (E A b) n h v c) h9, trivial⟩

theorem a208 (j : S10x3x4x256x512.Idx) : (val_main_v208 (F := Ideal) A.x2 A.x7 A.x8 A.r0 A.r3 j) = Spec.Dt (E A (j 1).val) (9 - (j 0).val) (j 2).val (j 4).val (j 3).val := by
  have h0 : ∀ i : S1x3x4x256x512.Idx, (val_main_v198 (F := Ideal) A.x2 A.x7 A.x8 A.r0 A.r3 i) = Spec.Dt (E A (i 1).val) (9 - 0) (i 2).val (i 4).val (i 3).val := fun i => by
    rw [val_main_v198_apply]
    exact tD9 A _
  have h1 : ∀ i : S1x3x4x256x512.Idx, (val_main_v199 (F := Ideal) A.x2 A.x7 A.x8 A.r0 A.r3 i) = Spec.Dt (E A (i 1).val) (9 - 1) (i 2).val (i 4).val (i 3).val := fun i => by
    rw [val_main_v199_apply]
    exact tD8 A _
  have h2 : ∀ i : S1x3x4x256x512.Idx, (val_main_v200 (F := Ideal) A.x2 A.x7 A.x8 A.r0 A.r3 i) = Spec.Dt (E A (i 1).val) (9 - 2) (i 2).val (i 4).val (i 3).val := fun i => by
    rw [val_main_v200_apply]
    exact tD7 A _
  have h3 : ∀ i : S1x3x4x256x512.Idx, (val_main_v201 (F := Ideal) A.x2 A.x7 A.x8 A.r0 A.r3 i) = Spec.Dt (E A (i 1).val) (9 - 3) (i 2).val (i 4).val (i 3).val := fun i => by
    rw [val_main_v201_apply]
    exact tD6 A _
  have h4 : ∀ i : S1x3x4x256x512.Idx, (val_main_v202 (F := Ideal) A.x2 A.x7 A.x8 A.r0 A.r3 i) = Spec.Dt (E A (i 1).val) (9 - 4) (i 2).val (i 4).val (i 3).val := fun i => by
    rw [val_main_v202_apply]
    exact tD5 A _
  have h5 : ∀ i : S1x3x4x256x512.Idx, (val_main_v203 (F := Ideal) A.x2 A.x7 A.x8 A.r0 A.r3 i) = Spec.Dt (E A (i 1).val) (9 - 5) (i 2).val (i 4).val (i 3).val := fun i => by
    rw [val_main_v203_apply]
    exact tD4 A _
  have h6 : ∀ i : S1x3x4x256x512.Idx, (val_main_v204 (F := Ideal) A.x2 A.x7 A.x8 A.r0 A.r3 i) = Spec.Dt (E A (i 1).val) (9 - 6) (i 2).val (i 4).val (i 3).val := fun i => by
    rw [val_main_v204_apply]
    exact tD3 A _
  have h7 : ∀ i : S1x3x4x256x512.Idx, (val_main_v205 (F := Ideal) A.x2 A.x7 A.x8 A.r0 A.r3 i) = Spec.Dt (E A (i 1).val) (9 - 7) (i 2).val (i 4).val (i 3).val := fun i => by
    rw [val_main_v205_apply]
    exact tD2 A _
  have h8 : ∀ i : S1x3x4x256x512.Idx, (val_main_v206 (F := Ideal) A.x2 A.x7 A.x8 A.r0 A.r3 i) = Spec.Dt (E A (i 1).val) (9 - 8) (i 2).val (i 4).val (i 3).val := fun i => by
    rw [val_main_v206_apply]
    exact tD1 A _
  have h9 : ∀ i : S1x3x4x256x512.Idx, (val_main_v207 (F := Ideal) i) = Spec.Dt (E A (i 1).val) (9 - 9) (i 2).val (i 4).val (i 3).val := fun i => by
    rw [val_main_v207_apply]
    exact a60 _
  exact concatenate_unit_eq (t := S10x3x4x256x512) 0 _ _ j ((fun n b h c v => Spec.Dt (E A b) (9 - n) h v c) (j 0).val (j 1).val (j 2).val (j 3).val (j 4).val) rfl
    ⟨piece (n := 0) (g := fun n b h c v => Spec.Dt (E A b) (9 - n) h v c) h0, piece (n := 1) (g := fun n b h c v => Spec.Dt (E A b) (9 - n) h v c) h1, piece (n := 2) (g := fun n b h c v => Spec.Dt (E A b) (9 - n) h v c) h2, piece (n := 3) (g := fun n b h c v => Spec.Dt (E A b) (9 - n) h v c) h3, piece (n := 4) (g := fun n b h c v => Spec.Dt (E A b) (9 - n) h v c) h4, piece (n := 5) (g := fun n b h c v => Spec.Dt (E A b) (9 - n) h v c) h5, piece (n := 6) (g := fun n b h c v => Spec.Dt (E A b) (9 - n) h v c) h6, piece (n := 7) (g := fun n b h c v => Spec.Dt (E A b) (9 - n) h v c) h7, piece (n := 8) (g := fun n b h c v => Spec.Dt (E A b) (9 - n) h v c) h8, piece (n := 9) (g := fun n b h c v => Spec.Dt (E A b) (9 - n) h v c) h9, trivial⟩

theorem a209 (j : S10x3x4x256x512.Idx) : (val_main_v209 (F := Ideal) A.x3 A.x5 A.x8 A.r1 A.r2 j) = Spec.St (E A (j 1).val) (j 0).val (j 2).val (j 4).val (j 3).val := by
  rw [val_main_v209_apply, a134]
  rfl

theorem a210 (j : S10x3x4x256x512.Idx) : (val_main_v210 (F := Ideal) A.x2 A.x7 A.x8 A.r0 A.r3 j) = Spec.Dt (E A (j 1).val) (9 - (j 0).val) (j 2).val (j 4).val (j 3).val := by
  rw [val_main_v210_apply, a208]
  rfl

theorem a213 (j : S3x10x4x256x64.Idx) : (val_main_v213 (F := Ideal) A.x3 A.x5 A.x8 A.r1 A.r2 A.r3 j) = ∑ v : Fin 512, (E A (j 0).val).d (64 * (j 1).val + (j 4).val) (j 2).val v * Spec.St (E A (j 0).val) (j 1).val (j 2).val v (j 3).val := by
  rw [val_main_v213_apply]
  refine Finset.sum_congr rfl fun w _ => ?_
  rw [a209, a4, mul_comm] <;> rfl

theorem a218 (j : S3x10x4x256x64.Idx) : (val_main_v218 (F := Ideal) A.x3 A.x5 A.x7 A.x8 A.r1 A.r2 A.r3 j) = ∑ i : Fin 64, Spec.Am (E A (j 0).val) (j 1).val (j 2).val (j 4).val i * Spec.kg (E A (j 0).val) (j 1).val i (j 2).val (j 3).val := by
  rw [val_main_v218_apply]
  refine Finset.sum_congr rfl fun w _ => ?_
  rw [a29, a47, mul_comm] <;> rfl

/-- The gradient of the query, -/
theorem a221 (j : S3x10x64x4x256.Idx) : (val_main_v221 (F := Ideal) A.x3 A.x5 A.x7 A.x8 A.r1 A.r2 A.r3 j) = Spec.dq (E A (j 0).val) (j 1).val (j 2).val (j 3).val (j 4).val := by
  rw [val_main_v221_apply, val_main_v212_apply, val_main_v211_apply, a17, val_main_v220_apply, val_main_v217_apply, val_main_v214_apply, a213, val_main_v216_apply, val_main_v215_apply, a6, val_main_v219_apply, a218]
  rfl

theorem a222 (j : S3x10x4x256x64.Idx) : (val_main_v222 (F := Ideal) A.x2 A.x7 A.x8 A.r0 A.r2 A.r3 j) = ∑ v : Fin 512, (E A (j 0).val).v (64 * (j 1).val + (j 4).val) (j 2).val v * Spec.Dt (E A (j 0).val) (9 - (j 1).val) (j 2).val v (j 3).val := by
  rw [val_main_v222_apply]
  refine Finset.sum_congr rfl fun w _ => ?_
  rw [a210, a3, mul_comm] <;> rfl

theorem a227 (j : S3x10x4x256x64.Idx) : (val_main_v227 (F := Ideal) A.x2 A.x5 A.x7 A.x8 A.r0 A.r2 A.r3 j) = ∑ i : Fin 64, Spec.Am (E A (j 0).val) (j 1).val (j 2).val i (j 4).val * Spec.qg (E A (j 0).val) (j 1).val i (j 2).val (j 3).val := by
  rw [val_main_v227_apply]
  refine Finset.sum_congr rfl fun w _ => ?_
  rw [a27, a47, mul_comm] <;> rfl

/-- of the key, -/
theorem a230 (j : S3x10x64x4x256.Idx) : (val_main_v230 (F := Ideal) A.x2 A.x5 A.x7 A.x8 A.r0 A.r2 A.r3 j) = Spec.dk (E A (j 0).val) (j 1).val (j 2).val (j 3).val (j 4).val := by
  rw [val_main_v230_apply, val_main_v226_apply, a23, val_main_v225_apply, val_main_v223_apply, a222, val_main_v224_apply, a7, val_main_v229_apply, a19, val_main_v228_apply, a227]
  rfl

theorem a231 (j : S3x10x4x512x64.Idx) : (val_main_v231 (F := Ideal) A.x2 A.x3 A.x7 A.x8 A.r0 A.r1 A.r3 j) = ∑ c : Fin 256, Spec.kd (E A (j 0).val) (j 1).val (j 4).val (j 2).val c * Spec.Dt (E A (j 0).val) (9 - (j 1).val) (j 2).val (j 3).val c := by
  rw [val_main_v231_apply]
  refine Finset.sum_congr rfl fun w _ => ?_
  rw [a210, a31, mul_comm] <;> rfl

theorem a233 (j : S3x10x4x512x64.Idx) : (val_main_v233 (F := Ideal) A.x2 A.x3 A.x7 A.x8 A.r0 A.r1 A.r3 j) = ∑ i : Fin 64, Spec.PT (E A (j 0).val) (j 1).val (j 2).val (j 4).val i * Spec.dod (E A (j 0).val) (j 1).val i (j 2).val (j 3).val := by
  rw [val_main_v233_apply]
  refine Finset.sum_congr rfl fun w _ => ?_
  rw [a35, a50, mul_comm] <;> rfl

/-- of the value, -/
theorem a235 (j : S3x10x64x4x512.Idx) : (val_main_v235 (F := Ideal) A.x2 A.x3 A.x7 A.x8 A.r0 A.r1 A.r3 j) = Spec.dv (E A (j 0).val) (j 1).val (j 2).val (j 3).val (j 4).val := by
  rw [val_main_v235_apply, val_main_v232_apply, a231, val_main_v234_apply, a233]
  rfl

/-- and of the gate's running sum. -/
theorem a238 (j : S3x10x64x4x256.Idx) : (val_main_v238 (F := Ideal) A.x2 A.x3 A.x5 A.x7 A.x8 A.r0 A.r1 A.r2 A.r3 j) = Spec.db (E A (j 0).val) (j 1).val (j 2).val (j 3).val (j 4).val := by
  rw [val_main_v238_apply, val_main_v236_apply, a10, a221, val_main_v237_apply, a13, a230]
  rfl

/-- Result: the gradient of the query. -/
theorem r242 (j : S3x640x4x256.Idx) : (val_main_v242 (F := Ideal) A.x3 A.x5 A.x7 A.x8 A.r1 A.r2 A.r3 j) = Spec.tm (Spec.dq (E A (j 0).val)) (j 1).val (j 2).val (j 3).val := by
  have h0 : (j 0).val < 3 := (j 0).isLt
  have h1 : (j 1).val < 640 := (j 1).isLt
  have h2 : (j 2).val < 4 := (j 2).isLt
  have h3 : (j 3).val < 256 := (j 3).isLt
  rw [val_main_v242_apply, val_main_v241_apply, a221]
  show Spec.dq (E A (((((j 0).val * 640 + (j 1).val) * 4 + (j 2).val) * 256 + (j 3).val) / 655360)) (((((j 0).val * 640 + (j 1).val) * 4 + (j 2).val) * 256 + (j 3).val) / 65536 % 10) (((((j 0).val * 640 + (j 1).val) * 4 + (j 2).val) * 256 + (j 3).val) / 1024 % 64) (((((j 0).val * 640 + (j 1).val) * 4 + (j 2).val) * 256 + (j 3).val) / 256 % 4) (((((j 0).val * 640 + (j 1).val) * 4 + (j 2).val) * 256 + (j 3).val) % 256) = _
  rw [show ((((j 0).val * 640 + (j 1).val) * 4 + (j 2).val) * 256 + (j 3).val) / 655360 = (j 0).val by omega, show ((((j 0).val * 640 + (j 1).val) * 4 + (j 2).val) * 256 + (j 3).val) / 65536 % 10 = (j 1).val / 64 by omega,
    show ((((j 0).val * 640 + (j 1).val) * 4 + (j 2).val) * 256 + (j 3).val) / 1024 % 64 = (j 1).val % 64 by omega, show ((((j 0).val * 640 + (j 1).val) * 4 + (j 2).val) * 256 + (j 3).val) / 256 % 4 = (j 2).val by omega,
    show ((((j 0).val * 640 + (j 1).val) * 4 + (j 2).val) * 256 + (j 3).val) % 256 = (j 3).val by omega]
  rfl

/-- Result: of the key. -/
theorem r244 (j : S3x640x4x256.Idx) : (val_main_v244 (F := Ideal) A.x2 A.x5 A.x7 A.x8 A.r0 A.r2 A.r3 j) = Spec.tm (Spec.dk (E A (j 0).val)) (j 1).val (j 2).val (j 3).val := by
  have h0 : (j 0).val < 3 := (j 0).isLt
  have h1 : (j 1).val < 640 := (j 1).isLt
  have h2 : (j 2).val < 4 := (j 2).isLt
  have h3 : (j 3).val < 256 := (j 3).isLt
  rw [val_main_v244_apply, val_main_v243_apply, a230]
  show Spec.dk (E A (((((j 0).val * 640 + (j 1).val) * 4 + (j 2).val) * 256 + (j 3).val) / 655360)) (((((j 0).val * 640 + (j 1).val) * 4 + (j 2).val) * 256 + (j 3).val) / 65536 % 10) (((((j 0).val * 640 + (j 1).val) * 4 + (j 2).val) * 256 + (j 3).val) / 1024 % 64) (((((j 0).val * 640 + (j 1).val) * 4 + (j 2).val) * 256 + (j 3).val) / 256 % 4) (((((j 0).val * 640 + (j 1).val) * 4 + (j 2).val) * 256 + (j 3).val) % 256) = _
  rw [show ((((j 0).val * 640 + (j 1).val) * 4 + (j 2).val) * 256 + (j 3).val) / 655360 = (j 0).val by omega, show ((((j 0).val * 640 + (j 1).val) * 4 + (j 2).val) * 256 + (j 3).val) / 65536 % 10 = (j 1).val / 64 by omega,
    show ((((j 0).val * 640 + (j 1).val) * 4 + (j 2).val) * 256 + (j 3).val) / 1024 % 64 = (j 1).val % 64 by omega, show ((((j 0).val * 640 + (j 1).val) * 4 + (j 2).val) * 256 + (j 3).val) / 256 % 4 = (j 2).val by omega,
    show ((((j 0).val * 640 + (j 1).val) * 4 + (j 2).val) * 256 + (j 3).val) % 256 = (j 3).val by omega]
  rfl

/-- Result: of the value. -/
theorem r246 (j : S3x640x4x512.Idx) : (val_main_v246 (F := Ideal) A.x2 A.x3 A.x7 A.x8 A.r0 A.r1 A.r3 j) = Spec.tm (Spec.dv (E A (j 0).val)) (j 1).val (j 2).val (j 3).val := by
  have h0 : (j 0).val < 3 := (j 0).isLt
  have h1 : (j 1).val < 640 := (j 1).isLt
  have h2 : (j 2).val < 4 := (j 2).isLt
  have h3 : (j 3).val < 512 := (j 3).isLt
  rw [val_main_v246_apply, val_main_v245_apply, a235]
  show Spec.dv (E A (((((j 0).val * 640 + (j 1).val) * 4 + (j 2).val) * 512 + (j 3).val) / 1310720)) (((((j 0).val * 640 + (j 1).val) * 4 + (j 2).val) * 512 + (j 3).val) / 131072 % 10) (((((j 0).val * 640 + (j 1).val) * 4 + (j 2).val) * 512 + (j 3).val) / 2048 % 64) (((((j 0).val * 640 + (j 1).val) * 4 + (j 2).val) * 512 + (j 3).val) / 512 % 4) (((((j 0).val * 640 + (j 1).val) * 4 + (j 2).val) * 512 + (j 3).val) % 512) = _
  rw [show ((((j 0).val * 640 + (j 1).val) * 4 + (j 2).val) * 512 + (j 3).val) / 1310720 = (j 0).val by omega, show ((((j 0).val * 640 + (j 1).val) * 4 + (j 2).val) * 512 + (j 3).val) / 131072 % 10 = (j 1).val / 64 by omega,
    show ((((j 0).val * 640 + (j 1).val) * 4 + (j 2).val) * 512 + (j 3).val) / 2048 % 64 = (j 1).val % 64 by omega, show ((((j 0).val * 640 + (j 1).val) * 4 + (j 2).val) * 512 + (j 3).val) / 512 % 4 = (j 2).val by omega,
    show ((((j 0).val * 640 + (j 1).val) * 4 + (j 2).val) * 512 + (j 3).val) % 512 = (j 3).val by omega]
  rfl

/-- Result: of the gate's running sum. -/
theorem r239 (j : S3x640x4x256.Idx) : (val_main_v239 (F := Ideal) A.x2 A.x3 A.x5 A.x7 A.x8 A.r0 A.r1 A.r2 A.r3 j) = Spec.tm (Spec.db (E A (j 0).val)) (j 1).val (j 2).val (j 3).val := by
  have h0 : (j 0).val < 3 := (j 0).isLt
  have h1 : (j 1).val < 640 := (j 1).isLt
  have h2 : (j 2).val < 4 := (j 2).isLt
  have h3 : (j 3).val < 256 := (j 3).isLt
  rw [val_main_v239_apply, a238]
  show Spec.db (E A (((((j 0).val * 640 + (j 1).val) * 4 + (j 2).val) * 256 + (j 3).val) / 655360)) (((((j 0).val * 640 + (j 1).val) * 4 + (j 2).val) * 256 + (j 3).val) / 65536 % 10) (((((j 0).val * 640 + (j 1).val) * 4 + (j 2).val) * 256 + (j 3).val) / 1024 % 64) (((((j 0).val * 640 + (j 1).val) * 4 + (j 2).val) * 256 + (j 3).val) / 256 % 4) (((((j 0).val * 640 + (j 1).val) * 4 + (j 2).val) * 256 + (j 3).val) % 256) = _
  rw [show ((((j 0).val * 640 + (j 1).val) * 4 + (j 2).val) * 256 + (j 3).val) / 655360 = (j 0).val by omega, show ((((j 0).val * 640 + (j 1).val) * 4 + (j 2).val) * 256 + (j 3).val) / 65536 % 10 = (j 1).val / 64 by omega,
    show ((((j 0).val * 640 + (j 1).val) * 4 + (j 2).val) * 256 + (j 3).val) / 1024 % 64 = (j 1).val % 64 by omega, show ((((j 0).val * 640 + (j 1).val) * 4 + (j 2).val) * 256 + (j 3).val) / 256 % 4 = (j 2).val by omega,
    show ((((j 0).val * 640 + (j 1).val) * 4 + (j 2).val) * 256 + (j 3).val) % 256 = (j 3).val by omega]
  rfl

/-- Result: the gradient of the gate. -/
theorem r240 (j : S3x640x4x256.Idx) : (val_main_v240 (F := Ideal) A.x2 A.x3 A.x5 A.x7 A.x8 A.r0 A.r1 A.r2 A.r3 j) = Spec.dg (E A (j 0).val) (j 1).val (j 2).val (j 3).val := by
  show _ = Spec.suf _ _ _ _
  rw [suf_sum, ← high_sum (fun m => Spec.db (E A (j 0).val) (m / 64) (m % 64) (j 2).val (j 3).val) _ (j 1).isLt]
  exact win4 _ _ Ideal.ofBits_zero_f32 (fun b t h c => Spec.tm (Spec.db (E A b)) t h c) (r239 A) j

end Cert.Proof.RefVal

end
-- ==== Proof.Layout.lean ====
module

public import proofs.«01_k».proof.Proof.RunV
public import proofs.«01_k».proof.Proof.RefVal
public import Idealize.ShloMosaic.Lib.Pipeline.ValueKit
public import Idealize.ShloMosaic.Lib.StableHlo.RunClose

@[expose] public section

set_option maxRecDepth 65536

noncomputable section

namespace Cert.Proof.KernelIdeal.Vl

open Cert.KernelIdeal Cert.KernelIdeal.Gen Cert.Proof
open Idealize.ShloMosaic Idealize.ShloMosaic.TcCoe Idealize.ShloMosaic.StableHlo
open Idealize.SL.Sem
open Idealize.ShloMosaic.Pipeline (Dat)
open Spec

variable (m : (ℓ : Loc nD τ sig) → Buf (Elt Ideal) ℓ) (ρ : Dev nD → PrngReg)

/-- The row layout of an array with 2 lane groups, at an index. -/
theorem rows2 {α : Type} (x : S3x640x4x256.Idx → α) (h1 : S3x640x4x256.ShapeCasts S3x640x4x2x128) (h2 : S3x640x4x2x128.Transposes [0, 1, 3, 2, 4] S3x640x2x4x128) (h3 : S3x640x2x4x128.ShapeCasts S15360x128)
    (b : Fin 3) (t : Fin 640) (h : Fin 4) (kt : Fin 2) (l : Fin 128) (c : Fin 256) (r : Fin 15360) (hr : r.val = ((b.val * 640 + t.val) * 2 + kt.val) * 4 + h.val) (hc : c.val = kt.val * 128 + l.val) :
    shapeCast S15360x128 (transpose S3x640x2x4x128 [0, 1, 3, 2, 4] (shapeCast S3x640x4x2x128 x h1) h2) h3 (ix2 r l) = x (ix4 b t h c) :=
  (shapeCast_apply _ h3 _ (ix5 (n0 := 3) (n1 := 640) (n2 := 2) (n3 := 4) (n4 := 128) b t kt h l) (by
      refine (rowMajor_val5 _ 655360 1024 512 128 rfl rfl rfl rfl).trans (Eq.trans ?_ (rowMajor_val2 _ 128 rfl).symm)
      show b.val * 655360 + t.val * 1024 + kt.val * 512 + h.val * 128 + l.val = r.val * 128 + l.val
      omega)).trans
    ((transpose_apply _ _ h2 (ix5 (n0 := 3) (n1 := 640) (n2 := 2) (n3 := 4) (n4 := 128) b t kt h l) (ix5 (n0 := 3) (n1 := 640) (n2 := 4) (n3 := 2) (n4 := 128) b t h kt l) (fun a => match a with | ⟨0, _⟩ => rfl | ⟨1, _⟩ => rfl | ⟨2, _⟩ => rfl | ⟨3, _⟩ => rfl | ⟨4, _⟩ => rfl)).trans
    (shapeCast_apply x h1 _ (ix4 b t h c) (by
      refine (rowMajor_val4 _ 655360 1024 256 rfl rfl rfl).trans (Eq.trans ?_ (rowMajor_val5 _ 655360 1024 256 128 rfl rfl rfl rfl).symm)
      show b.val * 655360 + t.val * 1024 + h.val * 256 + c.val = b.val * 655360 + t.val * 1024 + h.val * 256 + kt.val * 128 + l.val
      omega)))

/-- The row layout undone, at an index. -/
theorem unrows2 {α : Type} (y : S15360x128.Idx → α) (h1 : S15360x128.ShapeCasts S3x640x2x4x128) (h2 : S3x640x2x4x128.Transposes [0, 1, 3, 2, 4] S3x640x4x2x128) (h3 : S3x640x4x2x128.ShapeCasts S3x640x4x256)
    (b : Fin 3) (t : Fin 640) (h : Fin 4) (kt : Fin 2) (l : Fin 128) (c : Fin 256) (r : Fin 15360) (hr : r.val = ((b.val * 640 + t.val) * 2 + kt.val) * 4 + h.val) (hc : c.val = kt.val * 128 + l.val) :
    shapeCast S3x640x4x256 (transpose S3x640x4x2x128 [0, 1, 3, 2, 4] (shapeCast S3x640x2x4x128 y h1) h2) h3 (ix4 b t h c) = y (ix2 r l) :=
  (shapeCast_apply _ h3 _ (ix5 (n0 := 3) (n1 := 640) (n2 := 4) (n3 := 2) (n4 := 128) b t h kt l) (by
      refine (rowMajor_val5 _ 655360 1024 256 128 rfl rfl rfl rfl).trans (Eq.trans ?_ (rowMajor_val4 _ 655360 1024 256 rfl rfl rfl).symm)
      show b.val * 655360 + t.val * 1024 + h.val * 256 + kt.val * 128 + l.val = b.val * 655360 + t.val * 1024 + h.val * 256 + c.val
      omega)).trans
    ((transpose_apply _ _ h2 (ix5 (n0 := 3) (n1 := 640) (n2 := 4) (n3 := 2) (n4 := 128) b t h kt l) (ix5 (n0 := 3) (n1 := 640) (n2 := 2) (n3 := 4) (n4 := 128) b t kt h l) (fun a => match a with | ⟨0, _⟩ => rfl | ⟨1, _⟩ => rfl | ⟨2, _⟩ => rfl | ⟨3, _⟩ => rfl | ⟨4, _⟩ => rfl)).trans
    (shapeCast_apply y h1 _ (ix2 r l) (by
      refine (rowMajor_val2 _ 128 rfl).trans (Eq.trans ?_ (rowMajor_val5 _ 655360 1024 512 128 rfl rfl rfl rfl).symm)
      show r.val * 128 + l.val = b.val * 655360 + t.val * 1024 + kt.val * 512 + h.val * 128 + l.val
      omega)))

/-- The row layout of an array with 4 lane groups, at an index. -/
theorem rows4 {α : Type} (x : S3x640x4x512.Idx → α) (h1 : S3x640x4x512.ShapeCasts S3x640x4x4x128) (h2 : S3x640x4x4x128.Transposes [0, 1, 3, 2, 4] S3x640x4x4x128) (h3 : S3x640x4x4x128.ShapeCasts S30720x128)
    (b : Fin 3) (t : Fin 640) (h : Fin 4) (kt : Fin 4) (l : Fin 128) (c : Fin 512) (r : Fin 30720) (hr : r.val = ((b.val * 640 + t.val) * 4 + kt.val) * 4 + h.val) (hc : c.val = kt.val * 128 + l.val) :
    shapeCast S30720x128 (transpose S3x640x4x4x128 [0, 1, 3, 2, 4] (shapeCast S3x640x4x4x128 x h1) h2) h3 (ix2 r l) = x (ix4 b t h c) :=
  (shapeCast_apply _ h3 _ (ix5 (n0 := 3) (n1 := 640) (n2 := 4) (n3 := 4) (n4 := 128) b t kt h l) (by
      refine (rowMajor_val5 _ 1310720 2048 512 128 rfl rfl rfl rfl).trans (Eq.trans ?_ (rowMajor_val2 _ 128 rfl).symm)
      show b.val * 1310720 + t.val * 2048 + kt.val * 512 + h.val * 128 + l.val = r.val * 128 + l.val
      omega)).trans
    ((transpose_apply _ _ h2 (ix5 (n0 := 3) (n1 := 640) (n2 := 4) (n3 := 4) (n4 := 128) b t kt h l) (ix5 (n0 := 3) (n1 := 640) (n2 := 4) (n3 := 4) (n4 := 128) b t h kt l) (fun a => match a with | ⟨0, _⟩ => rfl | ⟨1, _⟩ => rfl | ⟨2, _⟩ => rfl | ⟨3, _⟩ => rfl | ⟨4, _⟩ => rfl)).trans
    (shapeCast_apply x h1 _ (ix4 b t h c) (by
      refine (rowMajor_val4 _ 1310720 2048 512 rfl rfl rfl).trans (Eq.trans ?_ (rowMajor_val5 _ 1310720 2048 512 128 rfl rfl rfl rfl).symm)
      show b.val * 1310720 + t.val * 2048 + h.val * 512 + c.val = b.val * 1310720 + t.val * 2048 + h.val * 512 + kt.val * 128 + l.val
      omega)))

/-- The row layout undone, at an index. -/
theorem unrows4 {α : Type} (y : S30720x128.Idx → α) (h1 : S30720x128.ShapeCasts S3x640x4x4x128) (h2 : S3x640x4x4x128.Transposes [0, 1, 3, 2, 4] S3x640x4x4x128) (h3 : S3x640x4x4x128.ShapeCasts S3x640x4x512)
    (b : Fin 3) (t : Fin 640) (h : Fin 4) (kt : Fin 4) (l : Fin 128) (c : Fin 512) (r : Fin 30720) (hr : r.val = ((b.val * 640 + t.val) * 4 + kt.val) * 4 + h.val) (hc : c.val = kt.val * 128 + l.val) :
    shapeCast S3x640x4x512 (transpose S3x640x4x4x128 [0, 1, 3, 2, 4] (shapeCast S3x640x4x4x128 y h1) h2) h3 (ix4 b t h c) = y (ix2 r l) :=
  (shapeCast_apply _ h3 _ (ix5 (n0 := 3) (n1 := 640) (n2 := 4) (n3 := 4) (n4 := 128) b t h kt l) (by
      refine (rowMajor_val5 _ 1310720 2048 512 128 rfl rfl rfl rfl).trans (Eq.trans ?_ (rowMajor_val4 _ 1310720 2048 512 rfl rfl rfl).symm)
      show b.val * 1310720 + t.val * 2048 + h.val * 512 + kt.val * 128 + l.val = b.val * 1310720 + t.val * 2048 + h.val * 512 + c.val
      omega)).trans
    ((transpose_apply _ _ h2 (ix5 (n0 := 3) (n1 := 640) (n2 := 4) (n3 := 4) (n4 := 128) b t h kt l) (ix5 (n0 := 3) (n1 := 640) (n2 := 4) (n3 := 4) (n4 := 128) b t kt h l) (fun a => match a with | ⟨0, _⟩ => rfl | ⟨1, _⟩ => rfl | ⟨2, _⟩ => rfl | ⟨3, _⟩ => rfl | ⟨4, _⟩ => rfl)).trans
    (shapeCast_apply y h1 _ (ix2 r l) (by
      refine (rowMajor_val2 _ 128 rfl).trans (Eq.trans ?_ (rowMajor_val5 _ 1310720 2048 512 128 rfl rfl rfl rfl).symm)
      show r.val * 128 + l.val = b.val * 1310720 + t.val * 2048 + kt.val * 512 + h.val * 128 + l.val
      omega)))

/-- The buffers that the lines before the region fill. -/
theorem V_v2 (c : Dev nD) : V m c main_v2 = shapeCast S30720x128 (transpose S3x640x4x4x128 [0, 1, 3, 2, 4] (shapeCast S3x640x4x4x128 (m ((c.tc : Thread nD τ).loc main_arg4)) shapeCasts_S3x640x4x512_S3x640x4x4x128) transposes_S3x640x4x4x128_S3x640x4x4x128_0_1_3_2_4) shapeCasts_S3x640x4x4x128_S30720x128 := by
  show StableHlo.after (List.flatten [hostOps0]) _ _ = _
  simp only [List.flatten_cons, List.flatten_nil, List.append_nil]
  after_results_simp
  rfl
theorem V_v5 (c : Dev nD) : V m c main_v5 = shapeCast S30720x128 (transpose S3x640x4x4x128 [0, 1, 3, 2, 4] (shapeCast S3x640x4x4x128 (m ((c.tc : Thread nD τ).loc main_arg6)) shapeCasts_S3x640x4x512_S3x640x4x4x128) transposes_S3x640x4x4x128_S3x640x4x4x128_0_1_3_2_4) shapeCasts_S3x640x4x4x128_S30720x128 := by
  show StableHlo.after (List.flatten [hostOps0]) _ _ = _
  simp only [List.flatten_cons, List.flatten_nil, List.append_nil]
  after_results_simp
  rfl
theorem V_v8 (c : Dev nD) : V m c main_v8 = shapeCast S15360x128 (transpose S3x640x2x4x128 [0, 1, 3, 2, 4] (shapeCast S3x640x4x2x128 (m ((c.tc : Thread nD τ).loc main_arg8)) shapeCasts_S3x640x4x256_S3x640x4x2x128) transposes_S3x640x4x2x128_S3x640x2x4x128_0_1_3_2_4) shapeCasts_S3x640x2x4x128_S15360x128 := by
  show StableHlo.after (List.flatten [hostOps0]) _ _ = _
  simp only [List.flatten_cons, List.flatten_nil, List.append_nil]
  after_results_simp
  rfl

end Cert.Proof.KernelIdeal.Vl

end
-- ==== Proof.RefRun.lean ====
module

public import proofs.«01_k».proof.Proof.RefVal
public import Idealize.ShloMosaic.Lib.Pipeline.ValueKit
public import Idealize.ShloMosaic.Lib.Pointwise.Tactic

@[expose] public section

set_option maxRecDepth 65536

noncomputable section

namespace Cert.Proof.RefVal

open Cert.RefIdeal Cert.RefIdeal.Gen Cert.RefIdeal.Read Cert.Proof
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ) (ρ : Dev nD → PrngReg)

/-- Every window's block is its whole array. -/
theorem idx : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] :=
  (by decide +kernel : ∀ t : Fin grid0.N, _)

/-- What the region that casts the codes leaves: the codes. -/
theorem reg0 (c : Dev nD) : Value.reg_main_v0_0 m c = m ((c.tc : Thread nD τ).loc main_arg0) := by
  unfold Value.reg_main_v0_0
  refine (Cert.RefIdeal.Gen.dats m 0 c).arrAt_eq_of_covers 4 _ (by decide +kernel) fun t hf y => ?_
  blk_simp
  rw [after0_4]
  unfold out0_4
  frame_out
  unfold k0_pay1
  pointwise
  blk_ext! [iblk, V, idx t]
theorem reg1 (c : Dev nD) : Value.reg_main_v0_1 m c = m ((c.tc : Thread nD τ).loc main_arg1) := by
  unfold Value.reg_main_v0_1
  refine (Cert.RefIdeal.Gen.dats m 0 c).arrAt_eq_of_covers 5 _ (by decide +kernel) fun t hf y => ?_
  blk_simp
  rw [after0_5]
  unfold out0_5
  frame_out
  unfold k0_pay2
  pointwise
  blk_ext! [iblk, V, idx t]
theorem reg2 (c : Dev nD) : Value.reg_main_v0_2 m c = m ((c.tc : Thread nD τ).loc main_arg4) := by
  unfold Value.reg_main_v0_2
  refine (Cert.RefIdeal.Gen.dats m 0 c).arrAt_eq_of_covers 6 _ (by decide +kernel) fun t hf y => ?_
  blk_simp
  rw [after0_6]
  unfold out0_6
  frame_out
  unfold k0_pay3
  pointwise
  blk_ext! [iblk, V, idx t]
theorem reg3 (c : Dev nD) : Value.reg_main_v0_3 m c = m ((c.tc : Thread nD τ).loc main_arg6) := by
  unfold Value.reg_main_v0_3
  refine (Cert.RefIdeal.Gen.dats m 0 c).arrAt_eq_of_covers 7 _ (by decide +kernel) fun t hf y => ?_
  blk_simp
  rw [after0_7]
  unfold out0_7
  frame_out
  unfold k0_pay4
  pointwise
  blk_ext! [iblk, V, idx t]

/-- The reference's host part's arguments, as launched. -/
def argOf (c : Dev nD) : Arg where
  x2 := m ((c.tc : Thread nD τ).loc main_arg2)
  x3 := m ((c.tc : Thread nD τ).loc main_arg3)
  x5 := m ((c.tc : Thread nD τ).loc main_arg5)
  x7 := m ((c.tc : Thread nD τ).loc main_arg7)
  x8 := m ((c.tc : Thread nD τ).loc main_arg8)
  r0 := m ((c.tc : Thread nD τ).loc main_arg0)
  r1 := m ((c.tc : Thread nD τ).loc main_arg1)
  r2 := m ((c.tc : Thread nD τ).loc main_arg4)
  r3 := m ((c.tc : Thread nD τ).loc main_arg6)

theorem res_v242 (c : Dev nD) : val_main_v242 (F := Ideal) (Value.exitV m c (Proc.devRef .tc main_arg3)) (Value.exitV m c (Proc.devRef .tc main_arg5)) (Value.exitV m c (Proc.devRef .tc main_arg7)) (Value.exitV m c (Proc.devRef .tc main_arg8)) (Value.exitV m c (Proc.devRef .tc main_v0_1)) (Value.exitV m c (Proc.devRef .tc main_v0_2)) (Value.exitV m c (Proc.devRef .tc main_v0_3)) = fun j : S3x640x4x256.Idx => Spec.tm (Spec.dq (E (argOf m c) (j 0).val)) (j 1).val (j 2).val (j 3).val := by
  rw [Value.exit_main_arg3, Value.exit_main_arg5, Value.exit_main_arg7, Value.exit_main_arg8, Value.exit_main_v0_1, Value.exit_main_v0_2, Value.exit_main_v0_3, reg1, reg2, reg3]
  funext j
  exact r242 (argOf m c) j

theorem res_v244 (c : Dev nD) : val_main_v244 (F := Ideal) (Value.exitV m c (Proc.devRef .tc main_arg2)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_2)) (Value.exitV m c (Proc.devRef .tc main_v0_3)) = fun j : S3x640x4x256.Idx => Spec.tm (Spec.dk (E (argOf m c) (j 0).val)) (j 1).val (j 2).val (j 3).val := by
  rw [Value.exit_main_arg2, Value.exit_main_arg5, Value.exit_main_arg7, Value.exit_main_arg8, Value.exit_main_v0_0, Value.exit_main_v0_2, Value.exit_main_v0_3, reg0, reg2, reg3]
  funext j
  exact r244 (argOf m c) j

theorem res_v246 (c : Dev nD) : val_main_v246 (F := Ideal) (Value.exitV m c (Proc.devRef .tc main_arg2)) (Value.exitV m c (Proc.devRef .tc main_arg3)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_3)) = fun j : S3x640x4x512.Idx => Spec.tm (Spec.dv (E (argOf m c) (j 0).val)) (j 1).val (j 2).val (j 3).val := by
  rw [Value.exit_main_arg2, Value.exit_main_arg3, Value.exit_main_arg7, Value.exit_main_arg8, Value.exit_main_v0_0, Value.exit_main_v0_1, Value.exit_main_v0_3, reg0, reg1, reg3]
  funext j
  exact r246 (argOf m c) j

theorem res_v240 (c : Dev nD) : val_main_v240 (F := Ideal) (Value.exitV m c (Proc.devRef .tc main_arg2)) (Value.exitV m c (Proc.devRef .tc main_arg3)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) = fun j : S3x640x4x256.Idx => Spec.dg (E (argOf m c) (j 0).val) (j 1).val (j 2).val (j 3).val := by
  rw [Value.exit_main_arg2, Value.exit_main_arg3, Value.exit_main_arg5, Value.exit_main_arg7, Value.exit_main_arg8, Value.exit_main_v0_0, Value.exit_main_v0_1, Value.exit_main_v0_2, Value.exit_main_v0_3, reg0, reg1, reg2, reg3]
  funext j
  exact r240 (argOf m c) j

theorem res_v239 (c : Dev nD) : val_main_v239 (F := Ideal) (Value.exitV m c (Proc.devRef .tc main_arg2)) (Value.exitV m c (Proc.devRef .tc main_arg3)) (Value.exitV m c (Proc.devRef .tc main_arg5)) (Value.exitV m c (Proc.devRef .tc main_arg7)) (Value.exitV m c (Proc.devRef .tc main_arg8)) (Value.exitV m c (Proc.devRef .tc main_v0_0)) (Value.exitV m c (Proc.devRef .tc main_v0_1)) (Value.exitV m c (Proc.devRef .tc main_v0_2)) (Value.exitV m c (Proc.devRef .tc main_v0_3)) = fun j : S3x640x4x256.Idx => Spec.tm (Spec.db (E (argOf m c) (j 0).val)) (j 1).val (j 2).val (j 3).val := by
  rw [Value.exit_main_arg2, Value.exit_main_arg3, Value.exit_main_arg5, Value.exit_main_arg7, Value.exit_main_arg8, Value.exit_main_v0_0, Value.exit_main_v0_1, Value.exit_main_v0_2, Value.exit_main_v0_3, reg0, reg1, reg2, reg3]
  funext j
  exact r239 (argOf m c) j

/-- The reference run, its results in the specification's terms. -/
theorem run (ρ : Dev nD → PrngReg) :
    θ_run defs (onTc (τ := τ) (main (F := Ideal))) ⟨m, fun _ => 0, ρ⟩ fun r => ∀ c : Dev nD,
      r.2.mem ((c.tc : Thread nD τ).loc main_v242) = (fun j : S3x640x4x256.Idx => Spec.tm (Spec.dq (E (argOf m c) (j 0).val)) (j 1).val (j 2).val (j 3).val)
      ∧ r.2.mem ((c.tc : Thread nD τ).loc main_v244) = (fun j : S3x640x4x256.Idx => Spec.tm (Spec.dk (E (argOf m c) (j 0).val)) (j 1).val (j 2).val (j 3).val)
      ∧ r.2.mem ((c.tc : Thread nD τ).loc main_v246) = (fun j : S3x640x4x512.Idx => Spec.tm (Spec.dv (E (argOf m c) (j 0).val)) (j 1).val (j 2).val (j 3).val)
      ∧ r.2.mem ((c.tc : Thread nD τ).loc main_v240) = (fun j : S3x640x4x256.Idx => Spec.dg (E (argOf m c) (j 0).val) (j 1).val (j 2).val (j 3).val)
      ∧ r.2.mem ((c.tc : Thread nD τ).loc main_v239) = (fun j : S3x640x4x256.Idx => Spec.tm (Spec.db (E (argOf m c) (j 0).val)) (j 1).val (j 2).val (j 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨h0, h1, h2, h3, h4, ha⟩ := h c
    exact ⟨h0.trans ((val_main_v242_eq (Value.exitV m c)).trans (res_v242 m c)), h1.trans ((val_main_v244_eq (Value.exitV m c)).trans (res_v244 m c)), h2.trans ((val_main_v246_eq (Value.exitV m c)).trans (res_v246 m c)), h3.trans ((val_main_v240_eq (Value.exitV m c)).trans (res_v240 m c)), h4.trans ((val_main_v239_eq (Value.exitV m c)).trans (res_v239 m c)), ha⟩) (Value.run m ρ)

end Cert.Proof.RefVal

end
-- ==== Proof.Final.lean ====
module

public import proofs.«01_k».proof.Proof.Layout
public import proofs.«01_k».proof.Proof.RefRun
public import proofs.«01_k».proof.Defs

@[expose] public section

set_option maxRecDepth 65536

noncomputable section

namespace Cert.Proof.KernelIdeal.Vl

open Cert.KernelIdeal Cert.KernelIdeal.Gen Cert.Proof
open Idealize.ShloMosaic Idealize.ShloMosaic.TcCoe Idealize.ShloMosaic.StableHlo
open Idealize.SL.Sem
open Idealize.ShloMosaic.Pipeline (Dat)
open Spec

variable (m : (ℓ : Loc nD τ sig) → Buf (Elt Ideal) ℓ) (ρ : Dev nD → PrngReg)

/-- The kernel's arguments, as launched. -/
def argOf (c : Dev nD) : RefVal.Arg where
  x2 := m ((c.tc : Thread nD τ).loc main_arg2)
  x3 := m ((c.tc : Thread nD τ).loc main_arg3)
  x5 := m ((c.tc : Thread nD τ).loc main_arg5)
  x7 := m ((c.tc : Thread nD τ).loc main_arg7)
  x8 := m ((c.tc : Thread nD τ).loc main_arg8)
  r0 := m ((c.tc : Thread nD τ).loc main_arg0)
  r1 := m ((c.tc : Thread nD τ).loc main_arg1)
  r2 := m ((c.tc : Thread nD τ).loc main_arg4)
  r3 := m ((c.tc : Thread nD τ).loc main_arg6)

/-- Where each window stands at a grid point. -/
theorem idx : ∀ t : Fin cfg0.N, win0_0.index t = ![(grid0.coords t 0).val, 0, 0, 0] ∧ win0_1.index t = ![(grid0.coords t 0).val, 0, 0, 0] ∧ win0_2.index t = ![(grid0.coords t 0).val, 0] ∧ win0_3.index t = ![(grid0.coords t 0).val, 0] ∧ win0_4.index t = ![(grid0.coords t 0).val, 0] ∧ win0_5.index t = ![(grid0.coords t 0).val, 0, 0] ∧ win0_6.index t = ![0, 0, 0] ∧ win0_7.index t = ![0, 0, 0] ∧ win0_8.index t = ![0, 0, 0] ∧ win0_9.index t = ![(grid0.coords t 0).val, 0] ∧ win0_10.index t = ![(grid0.coords t 0).val, 0] ∧ win0_11.index t = ![(grid0.coords t 0).val, 0] ∧ win0_12.index t = ![(grid0.coords t 0).val, 0] ∧ win0_13.index t = ![(grid0.coords t 0).val, 0] :=
  (by decide +kernel : ∀ t : Fin grid0.N, _)

theorem inp_congr {q q' k k' g g' v v' d d' : ℕ → ℕ → ℕ → EReal} {ds ds' qs qs' ks ks' vs vs' : ℕ → ℕ → EReal}
    (h1 : q = q') (h2 : k = k') (h3 : g = g') (h4 : v = v') (h5 : d = d') (h6 : ds = ds') (h7 : qs = qs') (h8 : ks = ks') (h9 : vs = vs') :
    Inp.mk q k g v d ds qs ks vs = Inp.mk q' k' g' v' d' ds' qs' ks' vs' := by
  subst h1; subst h2; subst h3; subst h4; subst h5; subst h6; subst h7; subst h8; subst h9; rfl

/-- What the windows hold at a grid point, in the arguments' terms. -/
theorem leaf0 (c : Dev nD) (t : Fin cfg0.N) (i : Fin 640) (h : Fin 4) (l : Fin 256) :
    iblk m c 0 t (ix4 (n0 := 1) (n1 := 640) (n2 := 4) (n3 := 256) 0 i h l) = m ((c.tc : Thread nD τ).loc main_arg0) (ix4 (n0 := 3) (n1 := 640) (n2 := 4) (n3 := 256) (grid0.coords t 0) i h l) := by
  refine (congrFun (V_main_arg0 m c) (((cfg0.win 0).blk t).view.emb _)).trans (congrArg _ ?_)
  funext a
  refine Fin.ext ?_
  fin_cases a <;> blk_simp [idx t] <;> (first | rfl | (show _ = _; simp))
theorem leaf1 (c : Dev nD) (t : Fin cfg0.N) (i : Fin 640) (h : Fin 4) (l : Fin 256) :
    iblk m c 1 t (ix4 (n0 := 1) (n1 := 640) (n2 := 4) (n3 := 256) 0 i h l) = m ((c.tc : Thread nD τ).loc main_arg1) (ix4 (n0 := 3) (n1 := 640) (n2 := 4) (n3 := 256) (grid0.coords t 0) i h l) := by
  refine (congrFun (V_main_arg1 m c) (((cfg0.win 1).blk t).view.emb _)).trans (congrArg _ ?_)
  funext a
  refine Fin.ext ?_
  fin_cases a <;> blk_simp [idx t] <;> (first | rfl | (show _ = _; simp))
theorem leaf5 (c : Dev nD) (t : Fin cfg0.N) (i : Fin 640) (h : Fin 4) :
    iblk m c 5 t (ix3 (n0 := 1) (n1 := 640) (n2 := 4) 0 i h) = m ((c.tc : Thread nD τ).loc main_arg7) (ix3 (n0 := 3) (n1 := 640) (n2 := 4) (grid0.coords t 0) i h) := by
  refine (congrFun (V_main_arg7 m c) (((cfg0.win 5).blk t).view.emb _)).trans (congrArg _ ?_)
  funext a
  refine Fin.ext ?_
  fin_cases a <;> blk_simp [idx t] <;> (first | rfl | (show _ = _; simp))
theorem leaf6 (c : Dev nD) (t : Fin cfg0.N) (b : Fin 3) (i : Fin 10) (h : Fin 4) :
    iblk m c 6 t (ix3 (n0 := 3) (n1 := 10) (n2 := 4) b i h) = m ((c.tc : Thread nD τ).loc main_arg2) (ix3 (n0 := 3) (n1 := 10) (n2 := 4) b i h) := by
  refine (congrFun (V_main_arg2 m c) (((cfg0.win 6).blk t).view.emb _)).trans (congrArg _ ?_)
  funext a
  refine Fin.ext ?_
  fin_cases a <;> blk_simp [idx t] <;> (first | rfl | (show _ = _; simp))
theorem leaf7 (c : Dev nD) (t : Fin cfg0.N) (b : Fin 3) (i : Fin 10) (h : Fin 4) :
    iblk m c 7 t (ix3 (n0 := 3) (n1 := 10) (n2 := 4) b i h) = m ((c.tc : Thread nD τ).loc main_arg3) (ix3 (n0 := 3) (n1 := 10) (n2 := 4) b i h) := by
  refine (congrFun (V_main_arg3 m c) (((cfg0.win 7).blk t).view.emb _)).trans (congrArg _ ?_)
  funext a
  refine Fin.ext ?_
  fin_cases a <;> blk_simp [idx t] <;> (first | rfl | (show _ = _; simp))
theorem leaf8 (c : Dev nD) (t : Fin cfg0.N) (b : Fin 3) (i : Fin 10) (h : Fin 4) :
    iblk m c 8 t (ix3 (n0 := 3) (n1 := 10) (n2 := 4) b i h) = m ((c.tc : Thread nD τ).loc main_arg5) (ix3 (n0 := 3) (n1 := 10) (n2 := 4) b i h) := by
  refine (congrFun (V_main_arg5 m c) (((cfg0.win 8).blk t).view.emb _)).trans (congrArg _ ?_)
  funext a
  refine Fin.ext ?_
  fin_cases a <;> blk_simp [idx t] <;> (first | rfl | (show _ = _; simp))
theorem leaf2 (c : Dev nD) (t : Fin cfg0.N) (i : Fin 640) (h : Fin 4) (l : Fin 512) (r : Fin 10240) (s : Fin 128)
    (hr : r.val = 16 * i.val + l.val / 128 * 4 + h.val) (hs : s.val = l.val % 128) :
    iblk m c 2 t (ix2 (n0 := 10240) (n1 := 128) r s) = m ((c.tc : Thread nD τ).loc main_arg4) (ix4 (n0 := 3) (n1 := 640) (n2 := 4) (n3 := 512) (grid0.coords t 0) i h l) := by
  have hb := (grid0.coords t 0).isLt
  have hb' : (grid0.coords t 0).val < 3 := hb
  refine (congrFun (V_v2 m c) (((cfg0.win 2).blk t).view.emb _)).trans ?_
  refine (congrArg _ (?_ : _ = ix2 (n0 := 30720) (n1 := 128) ⟨(grid0.coords t 0).val * 10240 + r.val, by omega⟩ s)).trans
    (rows4 _ _ _ _ (grid0.coords t 0) i h ⟨l.val / 128, by omega⟩ s l _ (by show (grid0.coords t 0).val * 10240 + r.val = (((grid0.coords t 0).val * 640 + i.val) * 4 + l.val / 128) * 4 + h.val; omega) (by show l.val = l.val / 128 * 128 + s.val; omega))
  funext a
  refine Fin.ext ?_
  fin_cases a <;> blk_simp [idx t] <;> (first | rfl | (show _ = _; simp))
theorem leaf3 (c : Dev nD) (t : Fin cfg0.N) (i : Fin 640) (h : Fin 4) (l : Fin 512) (r : Fin 10240) (s : Fin 128)
    (hr : r.val = 16 * i.val + l.val / 128 * 4 + h.val) (hs : s.val = l.val % 128) :
    iblk m c 3 t (ix2 (n0 := 10240) (n1 := 128) r s) = m ((c.tc : Thread nD τ).loc main_arg6) (ix4 (n0 := 3) (n1 := 640) (n2 := 4) (n3 := 512) (grid0.coords t 0) i h l) := by
  have hb := (grid0.coords t 0).isLt
  have hb' : (grid0.coords t 0).val < 3 := hb
  refine (congrFun (V_v5 m c) (((cfg0.win 3).blk t).view.emb _)).trans ?_
  refine (congrArg _ (?_ : _ = ix2 (n0 := 30720) (n1 := 128) ⟨(grid0.coords t 0).val * 10240 + r.val, by omega⟩ s)).trans
    (rows4 _ _ _ _ (grid0.coords t 0) i h ⟨l.val / 128, by omega⟩ s l _ (by show (grid0.coords t 0).val * 10240 + r.val = (((grid0.coords t 0).val * 640 + i.val) * 4 + l.val / 128) * 4 + h.val; omega) (by show l.val = l.val / 128 * 128 + s.val; omega))
  funext a
  refine Fin.ext ?_
  fin_cases a <;> blk_simp [idx t] <;> (first | rfl | (show _ = _; simp))
theorem leaf4 (c : Dev nD) (t : Fin cfg0.N) (i : Fin 640) (h : Fin 4) (l : Fin 256) (r : Fin 5120) (s : Fin 128)
    (hr : r.val = 8 * i.val + l.val / 128 * 4 + h.val) (hs : s.val = l.val % 128) :
    iblk m c 4 t (ix2 (n0 := 5120) (n1 := 128) r s) = m ((c.tc : Thread nD τ).loc main_arg8) (ix4 (n0 := 3) (n1 := 640) (n2 := 4) (n3 := 256) (grid0.coords t 0) i h l) := by
  have hb := (grid0.coords t 0).isLt
  have hb' : (grid0.coords t 0).val < 3 := hb
  refine (congrFun (V_v8 m c) (((cfg0.win 4).blk t).view.emb _)).trans ?_
  refine (congrArg _ (?_ : _ = ix2 (n0 := 15360) (n1 := 128) ⟨(grid0.coords t 0).val * 5120 + r.val, by omega⟩ s)).trans
    (rows2 _ _ _ _ (grid0.coords t 0) i h ⟨l.val / 128, by omega⟩ s l _ (by show (grid0.coords t 0).val * 5120 + r.val = (((grid0.coords t 0).val * 640 + i.val) * 2 + l.val / 128) * 4 + h.val; omega) (by show l.val = l.val / 128 * 128 + s.val; omega))
  funext a
  refine Fin.ext ?_
  fin_cases a <;> blk_simp [idx t] <;> (first | rfl | (show _ = _; simp))

/-- A grid point's arguments are its batch's. -/
theorem Dt0_eq (c : Dev nD) (t : Fin cfg0.N) : Dt0 m c t = RefVal.E (argOf m c) (grid0.coords t 0).val := by
  have hb : (grid0.coords t 0).val < 3 := (grid0.coords t 0).isLt
  refine inp_congr ?_ ?_ ?_ ?_ ?_ ?_ ?_ ?_ ?_
  · funext t' h c'
    unfold RefVal.at4
    by_cases e : t' < 640 ∧ h < 4 ∧ c' < 256
    · rw [dif_pos e, dif_pos ⟨hb, e⟩]; exact leaf0 m c t ⟨t', e.1⟩ ⟨h, e.2.1⟩ ⟨c', e.2.2⟩
    · rw [dif_neg e, dif_neg (fun z => e z.2)]
  · funext t' h c'
    unfold RefVal.at4
    by_cases e : t' < 640 ∧ h < 4 ∧ c' < 256
    · rw [dif_pos e, dif_pos ⟨hb, e⟩]; exact leaf1 m c t ⟨t', e.1⟩ ⟨h, e.2.1⟩ ⟨c', e.2.2⟩
    · rw [dif_neg e, dif_neg (fun z => e z.2)]
  · funext t' h c'
    unfold RefVal.at4
    by_cases e : t' < 640 ∧ h < 4 ∧ c' < 256
    · rw [dif_pos e, dif_pos ⟨hb, e⟩]; exact leaf4 m c t ⟨t', e.1⟩ ⟨h, e.2.1⟩ ⟨c', e.2.2⟩ _ _ rfl rfl
    · rw [dif_neg e, dif_neg (fun z => e z.2)]
  · funext t' h c'
    unfold RefVal.at4
    by_cases e : t' < 640 ∧ h < 4 ∧ c' < 512
    · rw [dif_pos e, dif_pos ⟨hb, e⟩]; exact leaf2 m c t ⟨t', e.1⟩ ⟨h, e.2.1⟩ ⟨c', e.2.2⟩ _ _ rfl rfl
    · rw [dif_neg e, dif_neg (fun z => e z.2)]
  · funext t' h c'
    unfold RefVal.at4
    by_cases e : t' < 640 ∧ h < 4 ∧ c' < 512
    · rw [dif_pos e, dif_pos ⟨hb, e⟩]; exact leaf3 m c t ⟨t', e.1⟩ ⟨h, e.2.1⟩ ⟨c', e.2.2⟩ _ _ rfl rfl
    · rw [dif_neg e, dif_neg (fun z => e z.2)]
  · funext n h
    unfold RefVal.at3
    by_cases e : n < 640 ∧ h < 4
    · rw [dif_pos e, dif_pos ⟨hb, e⟩]; exact leaf5 m c t ⟨n, e.1⟩ ⟨h, e.2⟩
    · rw [dif_neg e, dif_neg (fun z => e z.2)]
  · funext n h
    unfold RefVal.at3
    by_cases e : n < 10 ∧ h < 4
    · rw [dif_pos e, dif_pos ⟨hb, e⟩]; exact leaf6 m c t (grid0.coords t 0) ⟨n, e.1⟩ ⟨h, e.2⟩
    · rw [dif_neg e, dif_neg (fun z => e z.2)]
  · funext n h
    unfold RefVal.at3
    by_cases e : n < 10 ∧ h < 4
    · rw [dif_pos e, dif_pos ⟨hb, e⟩]; exact leaf7 m c t (grid0.coords t 0) ⟨n, e.1⟩ ⟨h, e.2⟩
    · rw [dif_neg e, dif_neg (fun z => e z.2)]
  · funext n h
    unfold RefVal.at3
    by_cases e : n < 10 ∧ h < 4
    · rw [dif_pos e, dif_pos ⟨hb, e⟩]; exact leaf8 m c t (grid0.coords t 0) ⟨n, e.1⟩ ⟨h, e.2⟩
    · rw [dif_neg e, dif_neg (fun z => e z.2)]

theorem block_at (A : RefVal.Arg) (f : Inp → ℕ → ℕ → EReal) (n b r l R L : ℕ) (h0 : R = b * n + r) (hr : r < n) (h1 : L = l) :
    f (RefVal.E A b) r l = f (RefVal.E A (R / n)) (R % n) L := by
  subst h0; subst h1
  rw [show (b * n + r) / n = b by rw [Nat.mul_comm, Nat.mul_add_div (by omega), Nat.div_eq_of_lt hr, Nat.add_zero],
    show (b * n + r) % n = r by rw [Nat.mul_comm, Nat.mul_add_mod, Nat.mod_eq_of_lt hr]]

theorem row3_at (A : RefVal.Arg) (f : Inp → ℕ → ℕ → ℕ → EReal) (b t h c kt l r : ℕ) (hr : r = ((b * 640 + t) * 2 + kt) * 4 + h) (hc : c = kt * 128 + l)
    (ht : t < 640) (hh : h < 4) (hk : kt < 2) : row3 (f (RefVal.E A (r / 5120))) (r % 5120) l = f (RefVal.E A b) t h c := by
  unfold row3
  rw [show r / 5120 = b by omega, show r % 5120 / 8 = t by omega, show r % 5120 % 4 = h by omega, show r % 5120 / 4 % 2 = kt by omega, hc]

theorem row4_at (A : RefVal.Arg) (f : Inp → ℕ → ℕ → ℕ → EReal) (b t h c kt l r : ℕ) (hr : r = ((b * 640 + t) * 4 + kt) * 4 + h) (hc : c = kt * 128 + l)
    (ht : t < 640) (hh : h < 4) (hk : kt < 4) : row4 (f (RefVal.E A (r / 10240))) (r % 10240) l = f (RefVal.E A b) t h c := by
  unfold row4
  rw [show r / 10240 = b by omega, show r % 10240 / 16 = t by omega, show r % 10240 % 4 = h by omega, show r % 10240 / 4 % 4 = kt by omega, hc]

/-- What the region leaves in its five output arrays. -/
def W9 (c : Dev nD) (y : S15360x128.Idx) : EReal := row3 ((fun D => tm (dq D)) (RefVal.E (argOf m c) ((y 0).val / 5120))) ((y 0).val % 5120) (y 1).val
theorem arr9 (c : Dev nD) : (dats m 0 c).arrAt 9 cfg0.N = W9 m c := by
  refine (dats m 0 c).arrAt_eq_of_covers 9 _ (by decide +kernel) fun t hf y => ?_
  blk_simp
  rw [after_9, Dt0_eq]
  refine block_at (argOf m c) (fun D => row3 ((fun D => tm (dq D)) D)) 5120 (grid0.coords t 0).val (y 0).val (y 1).val _ _ ?_ (y 0).isLt ?_
  · blk_simp [idx t]; try rfl
  · blk_simp [idx t]; try simp
def W10 (c : Dev nD) (y : S15360x128.Idx) : EReal := row3 ((fun D => tm (dk D)) (RefVal.E (argOf m c) ((y 0).val / 5120))) ((y 0).val % 5120) (y 1).val
theorem arr10 (c : Dev nD) : (dats m 0 c).arrAt 10 cfg0.N = W10 m c := by
  refine (dats m 0 c).arrAt_eq_of_covers 10 _ (by decide +kernel) fun t hf y => ?_
  blk_simp
  rw [after_10, Dt0_eq]
  refine block_at (argOf m c) (fun D => row3 ((fun D => tm (dk D)) D)) 5120 (grid0.coords t 0).val (y 0).val (y 1).val _ _ ?_ (y 0).isLt ?_
  · blk_simp [idx t]; try rfl
  · blk_simp [idx t]; try simp
def W11 (c : Dev nD) (y : S30720x128.Idx) : EReal := row4 ((fun D => tm (dv D)) (RefVal.E (argOf m c) ((y 0).val / 10240))) ((y 0).val % 10240) (y 1).val
theorem arr11 (c : Dev nD) : (dats m 0 c).arrAt 11 cfg0.N = W11 m c := by
  refine (dats m 0 c).arrAt_eq_of_covers 11 _ (by decide +kernel) fun t hf y => ?_
  blk_simp
  rw [after_11, Dt0_eq]
  refine block_at (argOf m c) (fun D => row4 ((fun D => tm (dv D)) D)) 10240 (grid0.coords t 0).val (y 0).val (y 1).val _ _ ?_ (y 0).isLt ?_
  · blk_simp [idx t]; try rfl
  · blk_simp [idx t]; try simp
def W12 (c : Dev nD) (y : S15360x128.Idx) : EReal := row3 ((fun D => dg D) (RefVal.E (argOf m c) ((y 0).val / 5120))) ((y 0).val % 5120) (y 1).val
theorem arr12 (c : Dev nD) : (dats m 0 c).arrAt 12 cfg0.N = W12 m c := by
  refine (dats m 0 c).arrAt_eq_of_covers 12 _ (by decide +kernel) fun t hf y => ?_
  blk_simp
  rw [after_12, Dt0_eq]
  refine block_at (argOf m c) (fun D => row3 ((fun D => dg D) D)) 5120 (grid0.coords t 0).val (y 0).val (y 1).val _ _ ?_ (y 0).isLt ?_
  · blk_simp [idx t]; try rfl
  · blk_simp [idx t]; try simp
def W13 (c : Dev nD) (y : S15360x128.Idx) : EReal := row3 ((fun D => tm (db D)) (RefVal.E (argOf m c) ((y 0).val / 5120))) ((y 0).val % 5120) (y 1).val
theorem arr13 (c : Dev nD) : (dats m 0 c).arrAt 13 cfg0.N = W13 m c := by
  refine (dats m 0 c).arrAt_eq_of_covers 13 _ (by decide +kernel) fun t hf y => ?_
  blk_simp
  rw [after_13, Dt0_eq]
  refine block_at (argOf m c) (fun D => row3 ((fun D => tm (db D)) D)) 5120 (grid0.coords t 0).val (y 0).val (y 1).val _ _ ?_ (y 0).isLt ?_
  · blk_simp [idx t]; try rfl
  · blk_simp [idx t]; try simp

/-- What the lines after the region make of them. -/
theorem out_v12 (c : Dev nD) : Pipeline.afterTail₀ cfgs (dats m) 0 (V0 m) [hostOps1] c main_v12
    = fun j : S3x640x4x256.Idx => (fun D => tm (dq D)) (RefVal.E (argOf m c) (j 0).val) (j 1).val (j 2).val (j 3).val := by
  have hw : Pipeline.withArrays spec0 c (V0 m c) (fun w => (dats m 0 c).arrAt w cfg0.N) (Proc.devRef .tc main_v9_0) = W9 m c :=
    (Pipeline.withArrays_arr spec0 launch0.win.arr_inj c (V0 m c) _ 9).trans (arr9 m c)
  have ht : Pipeline.afterTail₀ cfgs (dats m) 0 (V0 m) [hostOps1] c main_v12 = shapeCast S3x640x4x256 (transpose S3x640x4x2x128 [0, 1, 3, 2, 4] (shapeCast S3x640x2x4x128 (Pipeline.withArrays spec0 c (V0 m c) (fun w => (dats m 0 c).arrAt w cfg0.N) (Proc.devRef .tc main_v9_0)) shapeCasts_S15360x128_S3x640x2x4x128) transposes_S3x640x2x4x128_S3x640x4x2x128_0_1_3_2_4) shapeCasts_S3x640x4x2x128_S3x640x4x256 := by
    unfold Pipeline.afterTail₀
    simp only [List.flatten_cons, List.flatten_nil, List.append_nil]
    after_results_simp
    rfl
  refine ht.trans ?_
  rw [hw]
  funext j
  have h0 : (j 0).val < 3 := (j 0).isLt
  have h1 : (j 1).val < 640 := (j 1).isLt
  have h2 : (j 2).val < 4 := (j 2).isLt
  have h3 : (j 3).val < 256 := (j 3).isLt
  refine (congrArg _ (eq_ix4 j)).trans ((unrows2 (W9 m c) _ _ _ (j 0) (j 1) (j 2) ⟨(j 3).val / 128, by omega⟩ ⟨(j 3).val % 128, by omega⟩ (j 3)
    ⟨(((j 0).val * 640 + (j 1).val) * 2 + (j 3).val / 128) * 4 + (j 2).val, by omega⟩ rfl (by show (j 3).val = (j 3).val / 128 * 128 + (j 3).val % 128; omega)).trans ?_)
  exact row3_at (argOf m c) (fun D => tm (dq D)) (j 0).val (j 1).val (j 2).val (j 3).val ((j 3).val / 128) ((j 3).val % 128) _ rfl (by omega) h1 h2 (by omega)
theorem out_v15 (c : Dev nD) : Pipeline.afterTail₀ cfgs (dats m) 0 (V0 m) [hostOps1] c main_v15
    = fun j : S3x640x4x256.Idx => (fun D => tm (dk D)) (RefVal.E (argOf m c) (j 0).val) (j 1).val (j 2).val (j 3).val := by
  have hw : Pipeline.withArrays spec0 c (V0 m c) (fun w => (dats m 0 c).arrAt w cfg0.N) (Proc.devRef .tc main_v9_1) = W10 m c :=
    (Pipeline.withArrays_arr spec0 launch0.win.arr_inj c (V0 m c) _ 10).trans (arr10 m c)
  have ht : Pipeline.afterTail₀ cfgs (dats m) 0 (V0 m) [hostOps1] c main_v15 = shapeCast S3x640x4x256 (transpose S3x640x4x2x128 [0, 1, 3, 2, 4] (shapeCast S3x640x2x4x128 (Pipeline.withArrays spec0 c (V0 m c) (fun w => (dats m 0 c).arrAt w cfg0.N) (Proc.devRef .tc main_v9_1)) shapeCasts_S15360x128_S3x640x2x4x128) transposes_S3x640x2x4x128_S3x640x4x2x128_0_1_3_2_4) shapeCasts_S3x640x4x2x128_S3x640x4x256 := by
    unfold Pipeline.afterTail₀
    simp only [List.flatten_cons, List.flatten_nil, List.append_nil]
    after_results_simp
    rfl
  refine ht.trans ?_
  rw [hw]
  funext j
  have h0 : (j 0).val < 3 := (j 0).isLt
  have h1 : (j 1).val < 640 := (j 1).isLt
  have h2 : (j 2).val < 4 := (j 2).isLt
  have h3 : (j 3).val < 256 := (j 3).isLt
  refine (congrArg _ (eq_ix4 j)).trans ((unrows2 (W10 m c) _ _ _ (j 0) (j 1) (j 2) ⟨(j 3).val / 128, by omega⟩ ⟨(j 3).val % 128, by omega⟩ (j 3)
    ⟨(((j 0).val * 640 + (j 1).val) * 2 + (j 3).val / 128) * 4 + (j 2).val, by omega⟩ rfl (by show (j 3).val = (j 3).val / 128 * 128 + (j 3).val % 128; omega)).trans ?_)
  exact row3_at (argOf m c) (fun D => tm (dk D)) (j 0).val (j 1).val (j 2).val (j 3).val ((j 3).val / 128) ((j 3).val % 128) _ rfl (by omega) h1 h2 (by omega)
theorem out_v18 (c : Dev nD) : Pipeline.afterTail₀ cfgs (dats m) 0 (V0 m) [hostOps1] c main_v18
    = fun j : S3x640x4x512.Idx => (fun D => tm (dv D)) (RefVal.E (argOf m c) (j 0).val) (j 1).val (j 2).val (j 3).val := by
  have hw : Pipeline.withArrays spec0 c (V0 m c) (fun w => (dats m 0 c).arrAt w cfg0.N) (Proc.devRef .tc main_v9_2) = W11 m c :=
    (Pipeline.withArrays_arr spec0 launch0.win.arr_inj c (V0 m c) _ 11).trans (arr11 m c)
  have ht : Pipeline.afterTail₀ cfgs (dats m) 0 (V0 m) [hostOps1] c main_v18 = shapeCast S3x640x4x512 (transpose S3x640x4x4x128 [0, 1, 3, 2, 4] (shapeCast S3x640x4x4x128 (Pipeline.withArrays spec0 c (V0 m c) (fun w => (dats m 0 c).arrAt w cfg0.N) (Proc.devRef .tc main_v9_2)) shapeCasts_S30720x128_S3x640x4x4x128) transposes_S3x640x4x4x128_S3x640x4x4x128_0_1_3_2_4) shapeCasts_S3x640x4x4x128_S3x640x4x512 := by
    unfold Pipeline.afterTail₀
    simp only [List.flatten_cons, List.flatten_nil, List.append_nil]
    after_results_simp
    rfl
  refine ht.trans ?_
  rw [hw]
  funext j
  have h0 : (j 0).val < 3 := (j 0).isLt
  have h1 : (j 1).val < 640 := (j 1).isLt
  have h2 : (j 2).val < 4 := (j 2).isLt
  have h3 : (j 3).val < 512 := (j 3).isLt
  refine (congrArg _ (eq_ix4 j)).trans ((unrows4 (W11 m c) _ _ _ (j 0) (j 1) (j 2) ⟨(j 3).val / 128, by omega⟩ ⟨(j 3).val % 128, by omega⟩ (j 3)
    ⟨(((j 0).val * 640 + (j 1).val) * 4 + (j 3).val / 128) * 4 + (j 2).val, by omega⟩ rfl (by show (j 3).val = (j 3).val / 128 * 128 + (j 3).val % 128; omega)).trans ?_)
  exact row4_at (argOf m c) (fun D => tm (dv D)) (j 0).val (j 1).val (j 2).val (j 3).val ((j 3).val / 128) ((j 3).val % 128) _ rfl (by omega) h1 h2 (by omega)
theorem out_v21 (c : Dev nD) : Pipeline.afterTail₀ cfgs (dats m) 0 (V0 m) [hostOps1] c main_v21
    = fun j : S3x640x4x256.Idx => (fun D => dg D) (RefVal.E (argOf m c) (j 0).val) (j 1).val (j 2).val (j 3).val := by
  have hw : Pipeline.withArrays spec0 c (V0 m c) (fun w => (dats m 0 c).arrAt w cfg0.N) (Proc.devRef .tc main_v9_3) = W12 m c :=
    (Pipeline.withArrays_arr spec0 launch0.win.arr_inj c (V0 m c) _ 12).trans (arr12 m c)
  have ht : Pipeline.afterTail₀ cfgs (dats m) 0 (V0 m) [hostOps1] c main_v21 = shapeCast S3x640x4x256 (transpose S3x640x4x2x128 [0, 1, 3, 2, 4] (shapeCast S3x640x2x4x128 (Pipeline.withArrays spec0 c (V0 m c) (fun w => (dats m 0 c).arrAt w cfg0.N) (Proc.devRef .tc main_v9_3)) shapeCasts_S15360x128_S3x640x2x4x128) transposes_S3x640x2x4x128_S3x640x4x2x128_0_1_3_2_4) shapeCasts_S3x640x4x2x128_S3x640x4x256 := by
    unfold Pipeline.afterTail₀
    simp only [List.flatten_cons, List.flatten_nil, List.append_nil]
    after_results_simp
    rfl
  refine ht.trans ?_
  rw [hw]
  funext j
  have h0 : (j 0).val < 3 := (j 0).isLt
  have h1 : (j 1).val < 640 := (j 1).isLt
  have h2 : (j 2).val < 4 := (j 2).isLt
  have h3 : (j 3).val < 256 := (j 3).isLt
  refine (congrArg _ (eq_ix4 j)).trans ((unrows2 (W12 m c) _ _ _ (j 0) (j 1) (j 2) ⟨(j 3).val / 128, by omega⟩ ⟨(j 3).val % 128, by omega⟩ (j 3)
    ⟨(((j 0).val * 640 + (j 1).val) * 2 + (j 3).val / 128) * 4 + (j 2).val, by omega⟩ rfl (by show (j 3).val = (j 3).val / 128 * 128 + (j 3).val % 128; omega)).trans ?_)
  exact row3_at (argOf m c) (fun D => dg D) (j 0).val (j 1).val (j 2).val (j 3).val ((j 3).val / 128) ((j 3).val % 128) _ rfl (by omega) h1 h2 (by omega)
theorem out_v24 (c : Dev nD) : Pipeline.afterTail₀ cfgs (dats m) 0 (V0 m) [hostOps1] c main_v24
    = fun j : S3x640x4x256.Idx => (fun D => tm (db D)) (RefVal.E (argOf m c) (j 0).val) (j 1).val (j 2).val (j 3).val := by
  have hw : Pipeline.withArrays spec0 c (V0 m c) (fun w => (dats m 0 c).arrAt w cfg0.N) (Proc.devRef .tc main_v9_4) = W13 m c :=
    (Pipeline.withArrays_arr spec0 launch0.win.arr_inj c (V0 m c) _ 13).trans (arr13 m c)
  have ht : Pipeline.afterTail₀ cfgs (dats m) 0 (V0 m) [hostOps1] c main_v24 = shapeCast S3x640x4x256 (transpose S3x640x4x2x128 [0, 1, 3, 2, 4] (shapeCast S3x640x2x4x128 (Pipeline.withArrays spec0 c (V0 m c) (fun w => (dats m 0 c).arrAt w cfg0.N) (Proc.devRef .tc main_v9_4)) shapeCasts_S15360x128_S3x640x2x4x128) transposes_S3x640x2x4x128_S3x640x4x2x128_0_1_3_2_4) shapeCasts_S3x640x4x2x128_S3x640x4x256 := by
    unfold Pipeline.afterTail₀
    simp only [List.flatten_cons, List.flatten_nil, List.append_nil]
    after_results_simp
    rfl
  refine ht.trans ?_
  rw [hw]
  funext j
  have h0 : (j 0).val < 3 := (j 0).isLt
  have h1 : (j 1).val < 640 := (j 1).isLt
  have h2 : (j 2).val < 4 := (j 2).isLt
  have h3 : (j 3).val < 256 := (j 3).isLt
  refine (congrArg _ (eq_ix4 j)).trans ((unrows2 (W13 m c) _ _ _ (j 0) (j 1) (j 2) ⟨(j 3).val / 128, by omega⟩ ⟨(j 3).val % 128, by omega⟩ (j 3)
    ⟨(((j 0).val * 640 + (j 1).val) * 2 + (j 3).val / 128) * 4 + (j 2).val, by omega⟩ rfl (by show (j 3).val = (j 3).val / 128 * 128 + (j 3).val % 128; omega)).trans ?_)
  exact row3_at (argOf m c) (fun D => tm (db D)) (j 0).val (j 1).val (j 2).val (j 3).val ((j 3).val / 128) ((j 3).val % 128) _ rfl (by omega) h1 h2 (by omega)

/-- The arguments are as launched. -/
abbrev Kept (m' : (ℓ : Loc nD τ sig) → Buf (Elt Ideal) ℓ) (c : Dev nD) : Prop :=
  m' ((c.tc : Thread nD τ).loc main_arg0) = m ((c.tc : Thread nD τ).loc main_arg0) ∧ m' ((c.tc : Thread nD τ).loc main_arg1) = m ((c.tc : Thread nD τ).loc main_arg1) ∧ m' ((c.tc : Thread nD τ).loc main_arg2) = m ((c.tc : Thread nD τ).loc main_arg2) ∧ m' ((c.tc : Thread nD τ).loc main_arg3) = m ((c.tc : Thread nD τ).loc main_arg3) ∧ m' ((c.tc : Thread nD τ).loc main_arg4) = m ((c.tc : Thread nD τ).loc main_arg4) ∧ m' ((c.tc : Thread nD τ).loc main_arg5) = m ((c.tc : Thread nD τ).loc main_arg5) ∧ m' ((c.tc : Thread nD τ).loc main_arg6) = m ((c.tc : Thread nD τ).loc main_arg6) ∧ m' ((c.tc : Thread nD τ).loc main_arg7) = m ((c.tc : Thread nD τ).loc main_arg7) ∧ m' ((c.tc : Thread nD τ).loc main_arg8) = m ((c.tc : Thread nD τ).loc main_arg8)

/-- The arguments end as launched. -/
theorem args_kept (r) (h : Pipeline.FramePost cfgs (dats m) 0 (Pipeline.afterTail₀ cfgs (dats m) 0 (V0 m) [hostOps1]) r) (c : Dev nD) :
    Kept m r.2.mem c :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 6).trans (((dats m 0 c).arrAt_in 6 rfl _).trans ((A_eq m c 6).trans (V_main_arg2 m c))),
    ((h c).1 7).trans (((dats m 0 c).arrAt_in 7 rfl _).trans ((A_eq m c 7).trans (V_main_arg3 m c))),
    ((h c).2 main_arg4 (Pipeline.mem_restRefs_of main_arg4 (by decide) (by decide))).trans (W_main_arg4 m (dats m) c),
    ((h c).1 8).trans (((dats m 0 c).arrAt_in 8 rfl _).trans ((A_eq m c 8).trans (V_main_arg5 m c))),
    ((h c).2 main_arg6 (Pipeline.mem_restRefs_of main_arg6 (by decide) (by decide))).trans (W_main_arg6 m (dats m) c),
    ((h c).1 5).trans (((dats m 0 c).arrAt_in 5 rfl _).trans ((A_eq m c 5).trans (V_main_arg7 m c))),
    ((h c).2 main_arg8 (Pipeline.mem_restRefs_of main_arg8 (by decide) (by decide))).trans (W_main_arg8 m (dats m) c)⟩

/-- The frame. -/
theorem frame : θ_run defs (onTc (τ := τ) (main (F := Ideal))) ⟨m, fun _ => 0, ρ⟩ (fun r => (∀ c : Dev nD,
    Kept m r.2.mem c) ∧ r.2.sem = fun _ => 0) :=
  (θ_run defs _ _).mono (fun _ h => ⟨fun c => args_kept m _ h.1 c, h.2⟩) (run_main m ρ)

/-- The kernel's run, its results in the specification's terms. -/
theorem run : θ_run defs (onTc (τ := τ) (main (F := Ideal))) ⟨m, fun _ => 0, ρ⟩ (fun r => ∀ c : Dev nD,
    r.2.mem ((c.tc : Thread nD τ).loc main_v12) = (fun j : S3x640x4x256.Idx => (fun D => tm (dq D)) (RefVal.E (argOf m c) (j 0).val) (j 1).val (j 2).val (j 3).val)
    ∧ r.2.mem ((c.tc : Thread nD τ).loc main_v15) = (fun j : S3x640x4x256.Idx => (fun D => tm (dk D)) (RefVal.E (argOf m c) (j 0).val) (j 1).val (j 2).val (j 3).val)
    ∧ r.2.mem ((c.tc : Thread nD τ).loc main_v18) = (fun j : S3x640x4x512.Idx => (fun D => tm (dv D)) (RefVal.E (argOf m c) (j 0).val) (j 1).val (j 2).val (j 3).val)
    ∧ r.2.mem ((c.tc : Thread nD τ).loc main_v21) = (fun j : S3x640x4x256.Idx => (fun D => dg D) (RefVal.E (argOf m c) (j 0).val) (j 1).val (j 2).val (j 3).val)
    ∧ r.2.mem ((c.tc : Thread nD τ).loc main_v24) = (fun j : S3x640x4x256.Idx => (fun D => tm (db D)) (RefVal.E (argOf m c) (j 0).val) (j 1).val (j 2).val (j 3).val)
    ∧ Kept m r.2.mem c) :=
  (θ_run defs _ _).mono (fun _ h c => ⟨((h.1 c).2 main_v12 (Pipeline.mem_restRefs_of main_v12 (by decide) (by decide))).trans (out_v12 m c),
    ((h.1 c).2 main_v15 (Pipeline.mem_restRefs_of main_v15 (by decide) (by decide))).trans (out_v15 m c),
    ((h.1 c).2 main_v18 (Pipeline.mem_restRefs_of main_v18 (by decide) (by decide))).trans (out_v18 m c),
    ((h.1 c).2 main_v21 (Pipeline.mem_restRefs_of main_v21 (by decide) (by decide))).trans (out_v21 m c),
    ((h.1 c).2 main_v24 (Pipeline.mem_restRefs_of main_v24 (by decide) (by decide))).trans (out_v24 m c), args_kept m _ h.1 c⟩) (run_main m ρ)

/-- The two programs' results agree. -/
theorem arg_congr {a b : RefVal.Arg} (h0 : a.x2 = b.x2) (h1 : a.x3 = b.x3) (h2 : a.x5 = b.x5) (h3 : a.x7 = b.x7) (h4 : a.x8 = b.x8) (h5 : a.r0 = b.r0) (h6 : a.r1 = b.r1) (h7 : a.r2 = b.r2) (h8 : a.r3 = b.r3) : a = b := by
  cases a; cases b; congr

theorem arg_eq (m' : (ℓ : Loc Cert.RefIdeal.nD Cert.RefIdeal.τ Cert.RefIdeal.sig) → Buf (Elt Ideal) ℓ) (c : Dev nD)
    (h : m' ((c.tc : Thread Cert.RefIdeal.nD Cert.RefIdeal.τ).loc Cert.RefIdeal.main_arg0) = m ((c.tc : Thread nD τ).loc main_arg0) ∧ m' ((c.tc : Thread Cert.RefIdeal.nD Cert.RefIdeal.τ).loc Cert.RefIdeal.main_arg1) = m ((c.tc : Thread nD τ).loc main_arg1) ∧ m' ((c.tc : Thread Cert.RefIdeal.nD Cert.RefIdeal.τ).loc Cert.RefIdeal.main_arg2) = m ((c.tc : Thread nD τ).loc main_arg2) ∧ m' ((c.tc : Thread Cert.RefIdeal.nD Cert.RefIdeal.τ).loc Cert.RefIdeal.main_arg3) = m ((c.tc : Thread nD τ).loc main_arg3) ∧ m' ((c.tc : Thread Cert.RefIdeal.nD Cert.RefIdeal.τ).loc Cert.RefIdeal.main_arg4) = m ((c.tc : Thread nD τ).loc main_arg4) ∧ m' ((c.tc : Thread Cert.RefIdeal.nD Cert.RefIdeal.τ).loc Cert.RefIdeal.main_arg5) = m ((c.tc : Thread nD τ).loc main_arg5) ∧ m' ((c.tc : Thread Cert.RefIdeal.nD Cert.RefIdeal.τ).loc Cert.RefIdeal.main_arg6) = m ((c.tc : Thread nD τ).loc main_arg6) ∧ m' ((c.tc : Thread Cert.RefIdeal.nD Cert.RefIdeal.τ).loc Cert.RefIdeal.main_arg7) = m ((c.tc : Thread nD τ).loc main_arg7) ∧ m' ((c.tc : Thread Cert.RefIdeal.nD Cert.RefIdeal.τ).loc Cert.RefIdeal.main_arg8) = m ((c.tc : Thread nD τ).loc main_arg8)) : RefVal.argOf m' c = argOf m c := by
  obtain ⟨h0, h1, h2, h3, h4, h5, h6, h7, h8⟩ := h
  exact arg_congr h2 h3 h5 h7 h8 h0 h1 h4 h6

theorem algebraic : Cert.algebraic_KernelIdeal_RefIdeal (hKernelIdeal := Cert.KernelIdeal.Gen.facts) (hRefIdeal := Cert.RefIdeal.Gen.facts) := by
  intro m g m' g' _ hargs
  refine ⟨_, _, _, _, _, run m g, ?_⟩
  refine (θ_run _ _ _).mono (fun _ h c => ?_) (RefVal.run m' g')
  have hc := h c
  rw [arg_eq m m' c (hargs c)] at hc
  exact hc

end Cert.Proof.KernelIdeal.Vl

end
-- ==== Proof.lean ====
/- The proofs of the claims about the kernel, its idealization and the reference. -/
module

public import proofs.«01_k».proof.Defs
public import proofs.«01_k».proof.Proof.Gen.Kernel
public import proofs.«01_k».proof.Proof.Gen.KernelIdeal
public import proofs.«01_k».proof.Proof.Gen.RefIdeal
public import proofs.«01_k».proof.Proof.Gen.RefIdeal.Read
public import proofs.«01_k».proof.Proof.Gen.RefIdeal.Run
public import proofs.«01_k».proof.Proof.Gen.RefIdeal.Frame
public import Idealize.ShloMosaic.Lib.Bf16Pair
public import proofs.«01_k».proof.Proof.RunKernel
public import proofs.«01_k».proof.Proof.Final

@[expose] public section

noncomputable section

namespace Cert.Proof

open Idealize.ShloMosaic

/-- The certificate: the three frames, the preserved rewrite, and the two programs' equal results. -/
theorem claim : Cert.Claim :=
  ⟨Cert.Kernel.Gen.facts, Cert.KernelIdeal.Gen.facts, Cert.RefIdeal.Gen.facts,
    fun m ρ _ => Kernel.Fr.frame m ρ, fun m ρ _ => KernelIdeal.Vl.frame m ρ, fun m ρ _ => Cert.RefIdeal.Gen.frame m ρ,
    ⟨IdealRules.bf16_pair.packStatement _, IdealRules.bf16_pair.statement _ _⟩,
    KernelIdeal.Vl.algebraic⟩

end Cert.Proof

end
